-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8)
      ∧ r.2.mem ((c.tc : Thread Cert.Kernel16.nD Cert.Kernel16.τ).loc Cert.Kernel16.main_arg9) = m ((c.tc : Thread Cert.Kernel16.nD Cert.Kernel16.τ).loc Cert.Kernel16.main_arg9))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
      ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8)
      ∧ r.2.mem ((c.tc : Thread Cert.Reference16Ideal.nD Cert.Reference16Ideal.τ).loc Cert.Reference16Ideal.main_arg9) = m ((c.tc : Thread Cert.Reference16Ideal.nD Cert.Reference16Ideal.τ).loc Cert.Reference16Ideal.main_arg9))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8)
      ∧ r.2.mem ((c.tc : Thread Cert.Kernel17.nD Cert.Kernel17.τ).loc Cert.Kernel17.main_arg9) = m ((c.tc : Thread Cert.Kernel17.nD Cert.Kernel17.τ).loc Cert.Kernel17.main_arg9))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
      ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8)
      ∧ r.2.mem ((c.tc : Thread Cert.Reference17Ideal.nD Cert.Reference17Ideal.τ).loc Cert.Reference17Ideal.main_arg9) = m ((c.tc : Thread Cert.Reference17Ideal.nD Cert.Reference17Ideal.τ).loc Cert.Reference17Ideal.main_arg9))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_v71) = v4 c
          ∧ r.2.mem ((c.tc : Thread Cert.ReferenceIdeal.nD Cert.ReferenceIdeal.τ).loc Cert.ReferenceIdeal.main_v84) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v17) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v40) = v0 c
          ∧ r.2.mem ((c.tc : Thread Cert.Reference11Ideal.nD Cert.Reference11Ideal.τ).loc Cert.Reference11Ideal.main_v41) = v1 c
          ∧ r.2.mem ((c.tc : Thread Cert.Reference11Ideal.nD Cert.Reference11Ideal.τ).loc Cert.Reference11Ideal.main_v42) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v41) = v0 c
          ∧ r.2.mem ((c.tc : Thread Cert.Reference12Ideal.nD Cert.Reference12Ideal.τ).loc Cert.Reference12Ideal.main_v42) = v1 c
          ∧ r.2.mem ((c.tc : Thread Cert.Reference12Ideal.nD Cert.Reference12Ideal.τ).loc Cert.Reference12Ideal.main_v43) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_v32) = v1 c
          ∧ r.2.mem ((c.tc : Thread Cert.Reference13Ideal.nD Cert.Reference13Ideal.τ).loc Cert.Reference13Ideal.main_v13) = v2 c
          ∧ r.2.mem ((c.tc : Thread Cert.Reference13Ideal.nD Cert.Reference13Ideal.τ).loc Cert.Reference13Ideal.main_v19) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_v32) = v1 c
          ∧ r.2.mem ((c.tc : Thread Cert.Reference14Ideal.nD Cert.Reference14Ideal.τ).loc Cert.Reference14Ideal.main_v13) = v2 c
          ∧ r.2.mem ((c.tc : Thread Cert.Reference14Ideal.nD Cert.Reference14Ideal.τ).loc Cert.Reference14Ideal.main_v19) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_v31) = v1 c
          ∧ r.2.mem ((c.tc : Thread Cert.Reference15Ideal.nD Cert.Reference15Ideal.τ).loc Cert.Reference15Ideal.main_v12) = v2 c
          ∧ r.2.mem ((c.tc : Thread Cert.Reference15Ideal.nD Cert.Reference15Ideal.τ).loc Cert.Reference15Ideal.main_v18) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)
      ∧ m' ((c.tc : Thread Cert.Reference16Ideal.nD Cert.Reference16Ideal.τ).loc Cert.Reference16Ideal.main_arg8) = m ((c.tc : Thread Cert.Kernel16Ideal.nD Cert.Kernel16Ideal.τ).loc Cert.Kernel16Ideal.main_arg8)
      ∧ m' ((c.tc : Thread Cert.Reference16Ideal.nD Cert.Reference16Ideal.τ).loc Cert.Reference16Ideal.main_arg9) = m ((c.tc : Thread Cert.Kernel16Ideal.nD Cert.Kernel16Ideal.τ).loc Cert.Kernel16Ideal.main_arg9)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
          ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
          ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v38) = v0 c
          ∧ r.2.mem ((c.tc : Thread Cert.Reference16Ideal.nD Cert.Reference16Ideal.τ).loc Cert.Reference16Ideal.main_v40) = v1 c
          ∧ r.2.mem ((c.tc : Thread Cert.Reference16Ideal.nD Cert.Reference16Ideal.τ).loc Cert.Reference16Ideal.main_v42) = v2 c
          ∧ r.2.mem ((c.tc : Thread Cert.Reference16Ideal.nD Cert.Reference16Ideal.τ).loc Cert.Reference16Ideal.main_v44) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
          ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8)
          ∧ r.2.mem ((c.tc : Thread Cert.Reference16Ideal.nD Cert.Reference16Ideal.τ).loc Cert.Reference16Ideal.main_arg9) = m' ((c.tc : Thread Cert.Reference16Ideal.nD Cert.Reference16Ideal.τ).loc Cert.Reference16Ideal.main_arg9))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)
      ∧ m' ((c.tc : Thread Cert.Reference17Ideal.nD Cert.Reference17Ideal.τ).loc Cert.Reference17Ideal.main_arg9) = m ((c.tc : Thread Cert.Kernel17Ideal.nD Cert.Kernel17Ideal.τ).loc Cert.Kernel17Ideal.main_arg9)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
          ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v37) = v0 c
          ∧ r.2.mem ((c.tc : Thread Cert.Reference17Ideal.nD Cert.Reference17Ideal.τ).loc Cert.Reference17Ideal.main_v39) = v1 c
          ∧ r.2.mem ((c.tc : Thread Cert.Reference17Ideal.nD Cert.Reference17Ideal.τ).loc Cert.Reference17Ideal.main_v41) = v2 c
          ∧ r.2.mem ((c.tc : Thread Cert.Reference17Ideal.nD Cert.Reference17Ideal.τ).loc Cert.Reference17Ideal.main_v43) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8)
          ∧ r.2.mem ((c.tc : Thread Cert.Reference17Ideal.nD Cert.Reference17Ideal.τ).loc Cert.Reference17Ideal.main_arg9) = m' ((c.tc : Thread Cert.Reference17Ideal.nD Cert.Reference17Ideal.τ).loc Cert.Reference17Ideal.main_arg9))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v40) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)) (v2 : (c : Dev Cert.Kernel19Ideal.nD) → Buf (Elt Ideal) ((c.tc : Thread Cert.Kernel19Ideal.nD Cert.Kernel19Ideal.τ).loc Cert.Kernel19Ideal.main_v1_2)) (v3 : (c : Dev Cert.Kernel19Ideal.nD) → Buf (Elt Ideal) ((c.tc : Thread Cert.Kernel19Ideal.nD Cert.Kernel19Ideal.τ).loc Cert.Kernel19Ideal.main_v1_3)) (v4 : (c : Dev Cert.Kernel19Ideal.nD) → Buf (Elt Ideal) ((c.tc : Thread Cert.Kernel19Ideal.nD Cert.Kernel19Ideal.τ).loc Cert.Kernel19Ideal.main_v1_4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_v1_2) = v2 c
          ∧ r.2.mem ((c.tc : Thread Cert.Kernel19Ideal.nD Cert.Kernel19Ideal.τ).loc Cert.Kernel19Ideal.main_v1_3) = v3 c
          ∧ r.2.mem ((c.tc : Thread Cert.Kernel19Ideal.nD Cert.Kernel19Ideal.τ).loc Cert.Kernel19Ideal.main_v1_4) = v4 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v90) = v0 c
          ∧ r.2.mem ((c.tc : Thread Cert.Reference19Ideal.nD Cert.Reference19Ideal.τ).loc Cert.Reference19Ideal.main_v91) = v1 c
          ∧ r.2.mem ((c.tc : Thread Cert.Reference19Ideal.nD Cert.Reference19Ideal.τ).loc Cert.Reference19Ideal.main_v92) = v2 c
          ∧ r.2.mem ((c.tc : Thread Cert.Reference19Ideal.nD Cert.Reference19Ideal.τ).loc Cert.Reference19Ideal.main_v93) = v3 c
          ∧ r.2.mem ((c.tc : Thread Cert.Reference19Ideal.nD Cert.Reference19Ideal.τ).loc Cert.Reference19Ideal.main_v94) = v4 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v7) = v0 c
          ∧ r.2.mem ((c.tc : Thread Cert.Reference21Ideal.nD Cert.Reference21Ideal.τ).loc Cert.Reference21Ideal.main_v9) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v40) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v9) = v0 c
          ∧ r.2.mem ((c.tc : Thread Cert.Reference23Ideal.nD Cert.Reference23Ideal.τ).loc Cert.Reference23Ideal.main_v13) = v1 c
          ∧ r.2.mem ((c.tc : Thread Cert.Reference23Ideal.nD Cert.Reference23Ideal.τ).loc Cert.Reference23Ideal.main_v22) = v2 c
          ∧ r.2.mem ((c.tc : Thread Cert.Reference23Ideal.nD Cert.Reference23Ideal.τ).loc Cert.Reference23Ideal.main_v26) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v11) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v33) = v0 c
          ∧ r.2.mem ((c.tc : Thread Cert.Reference25Ideal.nD Cert.Reference25Ideal.τ).loc Cert.Reference25Ideal.main_v26) = v1 c
          ∧ r.2.mem ((c.tc : Thread Cert.Reference25Ideal.nD Cert.Reference25Ideal.τ).loc Cert.Reference25Ideal.main_v37) = v2 c
          ∧ r.2.mem ((c.tc : Thread Cert.Reference25Ideal.nD Cert.Reference25Ideal.τ).loc Cert.Reference25Ideal.main_v30) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Kernel.lean ====
abbrev S2x4096x3072 : Shape := ⟨3, ![2, 4096, 3072]⟩
abbrev S2x4096x1024 : Shape := ⟨3, ![2, 4096, 1024]⟩
abbrev S3x1024 : Shape := ⟨2, ![3, 1024]⟩
abbrev S1x1024 : Shape := ⟨2, ![1, 1024]⟩
abbrev S1x4096x256 : Shape := ⟨3, ![1, 4096, 256]⟩
abbrev S3x256 : Shape := ⟨2, ![3, 256]⟩
abbrev S1x256 : Shape := ⟨2, ![1, 256]⟩
abbrev S8x256 : Shape := ⟨2, ![8, 256]⟩
abbrev S16x256 : Shape := ⟨2, ![16, 256]⟩
abbrev S1x256x256 : Shape := ⟨3, ![1, 256, 256]⟩
abbrev S256x256 : Shape := ⟨2, ![256, 256]⟩
abbrev S1x16x256 : Shape := ⟨3, ![1, 16, 256]⟩
abbrev S272x256 : Shape := ⟨2, ![272, 256]⟩
abbrev S32x8x256 : Shape := ⟨3, ![32, 8, 256]⟩
abbrev S256 : Shape := ⟨1, ![256]⟩

abbrev nBuf : Space → Nat
  | .hbm => 10
  | .vmem => 24
  | .smem => 0
  | _ => 0

abbrev bufTy : (tb : Table) → Fin (tcTables nBuf tb) → BufTy
  | .hbm, ⟨0, _⟩ => ⟨S2x4096x3072, .bf16⟩
  | .hbm, ⟨1, _⟩ => ⟨S2x4096x1024, .bf16⟩
  | .hbm, ⟨2, _⟩ => ⟨S3x1024, .f32⟩
  | .hbm, ⟨3, _⟩ => ⟨S1x1024, .f32⟩
  | .hbm, ⟨4, _⟩ => ⟨S2x4096x1024, .bf16⟩
  | .hbm, ⟨5, _⟩ => ⟨S2x4096x1024, .bf16⟩
  | .hbm, ⟨6, _⟩ => ⟨S2x4096x1024, .bf16⟩
  | .hbm, ⟨7, _⟩ => ⟨S2x4096x1024, .bf16⟩
  | .hbm, ⟨8, _⟩ => ⟨S3x1024, .f32⟩
  | .hbm, ⟨9, _⟩ => ⟨S1x1024, .f32⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x4096x256, .bf16⟩
  | .local _ .vmem, ⟨13, _⟩ => ⟨S1x4096x256, .bf16⟩
  | .local _ .vmem, ⟨14, _⟩ => ⟨S1x4096x256, .bf16⟩
  | .local _ .vmem, ⟨15, _⟩ => ⟨S1x4096x256, .bf16⟩
  | .local _ .vmem, ⟨16, _⟩ => ⟨S1x4096x256, .bf16⟩
  | .local _ .vmem, ⟨17, _⟩ => ⟨S1x4096x256, .bf16⟩
  | .local _ .vmem, ⟨18, _⟩ => ⟨S1x4096x256, .bf16⟩
  | .local _ .vmem, ⟨19, _⟩ => ⟨S1x4096x256, .bf16⟩
  | .local _ .vmem, ⟨20, _⟩ => ⟨S3x256, .f32⟩
  | .local _ .vmem, ⟨21, _⟩ => ⟨S3x256, .f32⟩
  | .local _ .vmem, ⟨22, _⟩ => ⟨S1x256, .f32⟩
  | .local _ .vmem, ⟨23, _⟩ => ⟨S1x256, .f32⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c15_i32 : BitVec 32 := 15#32
  let c0_i32 : BitVec 32 := 0#32
  let c1_i32 : BitVec 32 := 1#32
  let arg14 : BitVec 32 := Scf.iv c0_i32 c1_i32 k0_t1
  let v33 : BitVec 32 := Scalar.subi c15_i32 arg14
  let c256_i32 : BitVec 32 := 256#32
  let v34 : BitVec 32 := Scalar.muli v33 c256_i32
  v34
def k0_off1 (k0_t1 : Fin k0_t1_loop.trips) : Fin 3 → Nat :=
  let c0_25 : Index := 0#32
  let c15_i32 : BitVec 32 := 15#32
  let c0_i32 : BitVec 32 := 0#32
  let c1_i32 : BitVec 32 := 1#32
  let arg14 : BitVec 32 := Scf.iv c0_i32 c1_i32 k0_t1
  let v33 : BitVec 32 := Scalar.subi c15_i32 arg14
  let c256_i32 : BitVec 32 := 256#32
  let v34 : BitVec 32 := Scalar.muli v33 c256_i32
  let v35 : BitVec 32 := v34
  let v36 : Index := Scalar.indexCast v35
  let c0_26 : Index := 0#32
  ![0, v36.toNat, 0]
def k0_mult2 (k0_t1 : Fin k0_t1_loop.trips) : BitVec 32 :=
  let c15_i32 : BitVec 32 := 15#32
  let c0_i32 : BitVec 32 := 0#32
  let c1_i32 : BitVec 32 := 1#32
  let arg14 : BitVec 32 := Scf.iv c0_i32 c1_i32 k0_t1
  let v33 : BitVec 32 := Scalar.subi c15_i32 arg14
  let c256_i32 : BitVec 32 := 256#32
  let v34 : BitVec 32 := Scalar.muli v33 c256_i32
  let v35 : BitVec 32 := v34
  let c16_i32_29 : BitVec 32 := 16#32
  let v45 : BitVec 32 := Scalar.subi v35 c16_i32_29
  let c0_i32_30 : BitVec 32 := 0#32
  let v46 : BitVec 32 := Scalar.maxsi v45 c0_i32_30
  v46
def k0_off2 (k0_t1 : Fin k0_t1_loop.trips) : Fin 3 → Nat :=
  let c0_31 : Index := 0#32
  let c15_i32 : BitVec 32 := 15#32
  let c0_i32 : BitVec 32 := 0#32
  let c1_i32 : BitVec 32 := 1#32
  let arg14 : BitVec 32 := Scf.iv c0_i32 c1_i32 k0_t1
  let v33 : BitVec 32 := Scalar.subi c15_i32 arg14
  let c256_i32 : BitVec 32 := 256#32
  let v34 : BitVec 32 := Scalar.muli v33 c256_i32
  let v35 : BitVec 32 := v34
  let c16_i32_29 : BitVec 32 := 16#32
  let v45 : BitVec 32 := Scalar.subi v35 c16_i32_29
  let c0_i32_30 : BitVec 32 := 0#32
  let v46 : BitVec 32 := Scalar.maxsi v45 c0_i32_30
  let v47 : BitVec 32 := v46
  let v48 : Index := Scalar.indexCast v47
  let c0_32 : Index := 0#32
  ![0, v48.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4096x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S2x4096x3072 : Shape := ⟨3, ![2, 4096, 3072]⟩
abbrev S2x4096x1024 : Shape := ⟨3, ![2, 4096, 1024]⟩
abbrev S3x1024 : Shape := ⟨2, ![3, 1024]⟩
abbrev S1x1024 : Shape := ⟨2, ![1, 1024]⟩
abbrev S1024 : Shape := ⟨1, ![1024]⟩
abbrev S_ : Shape := ⟨0, ![]⟩
abbrev S2x2x1024 : Shape := ⟨3, ![2, 2, 1024]⟩
abbrev S2x4098x1024 : Shape := ⟨3, ![2, 4098, 1024]⟩
abbrev S1x1x1024 : Shape := ⟨3, ![1, 1, 1024]⟩

abbrev nBuf : Space → Nat
  | .hbm => 106
  | .vmem => 0
  | .smem => 0
  | _ => 0

abbrev bufTy : (tb : Table) → Fin (tcTables nBuf tb) → BufTy
  | .hbm, ⟨0, _⟩ => ⟨S2x4096x3072, .bf16⟩
  | .hbm, ⟨1, _⟩ => ⟨S2x4096x1024, .bf16⟩
  | .hbm, ⟨2, _⟩ => ⟨S3x1024, .f32⟩
  | .hbm, ⟨3, _⟩ => ⟨S1x1024, .f32⟩
  | .hbm, ⟨4, _⟩ => ⟨S2x4096x3072, .f32⟩
  | .hbm, ⟨5, _⟩ => ⟨S1024, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S_, .f32⟩
  | .hbm, ⟨11, _⟩ => ⟨S2x2x1024, .f32⟩
  | .hbm, ⟨12, _⟩ => ⟨S2x4098x1024, .f32⟩
  | .hbm, ⟨13, _⟩ => ⟨S_, .f32⟩
  | .hbm, ⟨14, _⟩ => ⟨S2x2x1024, .f32⟩
  | .hbm, ⟨15, _⟩ => ⟨S1x1024, .f32⟩
  | .hbm, ⟨16, _⟩ => ⟨S1024, .f32⟩
  | .hbm, ⟨17, _⟩ => ⟨S2x4096x1024, .f32⟩
  | .hbm, ⟨18, _⟩ => ⟨S1x1x1024, .f32⟩
  | .hbm, ⟨19, _⟩ => ⟨S2x4096x1024, .f32⟩
  | .hbm, ⟨20, _⟩ => ⟨S2x4096x1024, .f32⟩
  | .hbm, ⟨21, _⟩ => ⟨S_, .f32⟩
  | .hbm, ⟨22, _⟩ => ⟨S2x4096x1024, .f32⟩
  | .hbm, ⟨23, _⟩ => ⟨S2x4096x1024, .f32⟩
  | .hbm, ⟨24, _⟩ => ⟨S1x1024, .f32⟩
  | .hbm, ⟨25, _⟩ => ⟨S1024, .f32⟩
  | .hbm, ⟨26, _⟩ => ⟨S2x4096x1024, .f32⟩
  | .hbm, ⟨27, _⟩ => ⟨S1x1x1024, .f32⟩
  | .hbm, ⟨28, _⟩ => ⟨S2x4096x1024, .f32⟩
  | .hbm, ⟨29, _⟩ => ⟨S2x4096x1024, .f32⟩
  | .hbm, ⟨30, _⟩ => ⟨S2x4096x1024, .f32⟩
  | .hbm, ⟨31, _⟩ => ⟨S1x1024, .f32⟩
  | .hbm, ⟨32, _⟩ => ⟨S1024, .f32⟩
  | .hbm, ⟨33, _⟩ => ⟨S2x4096x1024, .f32⟩
  | .hbm, ⟨34, _⟩ => ⟨S1x1x1024, .f32⟩
  | .hbm, ⟨35, _⟩ => ⟨S2x4096x1024, .f32⟩
  | .hbm, ⟨36, _⟩ => ⟨S2x4096x1024, .f32⟩
  | .hbm, ⟨37, _⟩ => ⟨S2x4096x1024, .f32⟩
  | .hbm, ⟨38, _⟩ => ⟨S1x1x1024, .f32⟩
  | .hbm, ⟨39, _⟩ => ⟨S2x4096x1024, .f32⟩
  | .hbm, ⟨40, _⟩ => ⟨S2x4096x1024, .f32⟩
  | .hbm, ⟨41, _⟩ => ⟨S2x4096x1024, .f32⟩
  | .hbm, ⟨42, _⟩ => ⟨S2x4096x1024, .f32⟩
  | .hbm, ⟨43, _⟩ => ⟨S2x4096x1024, .f32⟩
  | .hbm, ⟨44, _⟩ => ⟨S2x4096x1024, .f32⟩
  | .hbm, ⟨45, _⟩ => ⟨S_, .f32⟩
  | .hbm, ⟨46, _⟩ => ⟨S1024, .f32⟩
  | .hbm, ⟨47, _⟩ => ⟨S1x1x1024, .f32⟩
  | .hbm, ⟨48, _⟩ => ⟨S_, .f32⟩
  | .hbm, ⟨49, _⟩ => ⟨S1024, .f32⟩
  | .hbm, ⟨50, _⟩ => ⟨S2x4096x1024, .f32⟩
  | .hbm, ⟨51, _⟩ => ⟨S2x4096x1024, .f32⟩
  | .hbm, ⟨52, _⟩ => ⟨S2x4096x1024, .f32⟩
  | .hbm, ⟨53, _⟩ => ⟨S_, .f32⟩
  | .hbm, ⟨54, _⟩ => ⟨S1024, .f32⟩
  | .hbm, ⟨55, _⟩ => ⟨S1x1x1024, .f32⟩
  | .hbm, ⟨56, _⟩ => ⟨S_, .f32⟩
  | .hbm, ⟨57, _⟩ => ⟨S1024, .f32⟩
  | .hbm, ⟨58, _⟩ => ⟨S_, .f32⟩
  | .hbm, ⟨59, _⟩ => ⟨S2x4098x1024, .f32⟩
  | .hbm, ⟨60, _⟩ => ⟨S1x1024, .f32⟩
  | .hbm, ⟨61, _⟩ => ⟨S_, .f32⟩
  | .hbm, ⟨62, _⟩ => ⟨S3x1024, .f32⟩
  | .hbm, ⟨63, _⟩ => ⟨S2x4096x1024, .f32⟩
  | .hbm, ⟨64, _⟩ => ⟨S2x4096x1024, .f32⟩
  | .hbm, ⟨65, _⟩ => ⟨S2x4096x1024, .f32⟩
  | .hbm, ⟨66, _⟩ => ⟨S_, .f32⟩
  | .hbm, ⟨67, _⟩ => ⟨S1024, .f32⟩
  | .hbm, ⟨68, _⟩ => ⟨S1x1x1024, .f32⟩
  | .hbm, ⟨69, _⟩ => ⟨S_, .f32⟩
  | .hbm, ⟨70, _⟩ => ⟨S1024, .f32⟩
  | .hbm, ⟨71, _⟩ => ⟨S_, .f32⟩
  | .hbm, ⟨72, _⟩ => ⟨S2x4098x1024, .f32⟩
  | .hbm, ⟨73, _⟩ => ⟨S2x4098x1024, .f32⟩
  | .hbm, ⟨74, _⟩ => ⟨S1x1024, .f32⟩
  | .hbm, ⟨75, _⟩ => ⟨S_, .f32⟩
  | .hbm, ⟨76, _⟩ => ⟨S3x1024, .f32⟩
  | .hbm, ⟨77, _⟩ => ⟨S3x1024, .f32⟩
  | .hbm, ⟨78, _⟩ => ⟨S2x4096x1024, .f32⟩
  | .hbm, ⟨79, _⟩ => ⟨S2x4096x1024, .f32⟩
  | .hbm, ⟨80, _⟩ => ⟨S2x4096x1024, .f32⟩
  | .hbm, ⟨81, _⟩ => ⟨S_, .f32⟩
  | .hbm, ⟨82, _⟩ => ⟨S1024, .f32⟩
  | .hbm, ⟨83, _⟩ => ⟨S1x1x1024, .f32⟩
  | .hbm, ⟨84, _⟩ => ⟨S_, .f32⟩
  | .hbm, ⟨85, _⟩ => ⟨S1024, .f32⟩
  | .hbm, ⟨86, _⟩ => ⟨S_, .f32⟩
  | .hbm, ⟨87, _⟩ => ⟨S2x4098x1024, .f32⟩
  | .hbm, ⟨88, _⟩ => ⟨S2x4098x1024, .f32⟩
  | .hbm, ⟨89, _⟩ => ⟨S1x1024, .f32⟩
  | .hbm, ⟨90, _⟩ => ⟨S_, .f32⟩
  | .hbm, ⟨91, _⟩ => ⟨S3x1024, .f32⟩
  | .hbm, ⟨92, _⟩ => ⟨S3x1024, .f32⟩
  | .hbm, ⟨93, _⟩ => ⟨S2x2x1024, .f32⟩
  | .hbm, ⟨94, _⟩ => ⟨S2x4096x1024, .f32⟩
  | .hbm, ⟨95, _⟩ => ⟨S2x4096x1024, .f32⟩
  | .hbm, ⟨96, _⟩ => ⟨S2x4096x1024, .f32⟩
  | .hbm, ⟨97, _⟩ => ⟨S2x4096x3072, .f32⟩
  | .hbm, ⟨98, _⟩ => ⟨S2x4096x1024, .f32⟩
  | .hbm, ⟨99, _⟩ => ⟨S2x4096x1024, .f32⟩
  | .hbm, ⟨100, _⟩ => ⟨S2x4096x1024, .f32⟩
  | .hbm, ⟨101, _⟩ => ⟨S2x4096x1024, .bf16⟩
  | .hbm, ⟨102, _⟩ => ⟨S2x4096x1024, .bf16⟩
  | .hbm, ⟨103, _⟩ => ⟨S2x4096x1024, .bf16⟩
  | .hbm, ⟨104, _⟩ => ⟨S2x4096x1024, .bf16⟩
  | .hbm, ⟨105, _⟩ => ⟨S1x1024, .f32⟩
  | _, _ => ⟨S2x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_cst_13 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_15 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩

abbrev nD : Nat := 1
abbrev τ : Topo := Topo.v7x

variable {F : FTy → Type} [FloatOps F]
-- ==== Kernel2.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x1024, .bf16⟩
  | .hbm, ⟨3, _⟩ => ⟨S5632x1024, .f32⟩
  | .hbm, ⟨4, _⟩ => ⟨S5632x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S2048x1408, .bf16⟩
  | .local _ .vmem, ⟨7, _⟩ => ⟨S2048x1408, .bf16⟩
  | .local _ .vmem, ⟨8, _⟩ => ⟨S2048x1024, .bf16⟩
  | .local _ .vmem, ⟨9, _⟩ => ⟨S2048x1024, .bf16⟩
  | .local _ .vmem, ⟨10, _⟩ => ⟨S1408x1024, .f32⟩
  | .local _ .vmem, ⟨11, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg1.toNat]

abbrev stage1_0 : Fin 2 → Memref sig .tc .vmem S2048x1408 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1408x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference4Ideal.lean ====
abbrev S8192x2816 : Shape := ⟨2, ![8192, 2816]⟩
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x1024, .bf16⟩
  | .hbm, ⟨3, _⟩ => ⟨S8192x5632, .bf16⟩
  | .hbm, ⟨4, _⟩ => ⟨S_, .f32⟩
  | .hbm, ⟨5, _⟩ => ⟨S1024x5632, .f32⟩
  | .hbm, ⟨6, _⟩ => ⟨S8192x1024, .f32⟩
  | .hbm, ⟨7, _⟩ => ⟨S8192x5632, .f32⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S5632x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel5.lean ====
abbrev S8192x1024 : Shape := ⟨2, ![8192, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S3072x1024, .f32⟩
  | .hbm, ⟨5, _⟩ => ⟨S3072x1024, .f32⟩
  | .hbm, ⟨6, _⟩ => ⟨S3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S1024x1024, .f32⟩
  | .local _ .vmem, ⟨10, _⟩ => ⟨S2048x1024, .bf16⟩
  | .local _ .vmem, ⟨11, _⟩ => ⟨S2048x1024, .bf16⟩
  | .local _ .vmem, ⟨12, _⟩ => ⟨S2048x1024, .bf16⟩
  | .local _ .vmem, ⟨13, _⟩ => ⟨S2048x1024, .bf16⟩
  | .local _ .vmem, ⟨14, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev grid1 : Pipeline.Grid := ⟨3, ![1, 1, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]

abbrev grid2 : Pipeline.Grid := ⟨3, ![1, 1, 4], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]
-- ==== Reference5Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x3072, .bf16⟩
  | .hbm, ⟨5, _⟩ => ⟨S_, .f32⟩
  | .hbm, ⟨6, _⟩ => ⟨S1024x3072, .f32⟩
  | .hbm, ⟨7, _⟩ => ⟨S8192x1024, .f32⟩
  | .hbm, ⟨8, _⟩ => ⟨S8192x3072, .f32⟩
  | .hbm, ⟨9, _⟩ => ⟨S8192x3072, .f32⟩
  | .hbm, ⟨10, _⟩ => ⟨S3072x1024, .f32⟩
  | .hbm, ⟨11, _⟩ => ⟨S1024x3072, .f32⟩
  | .hbm, ⟨12, _⟩ => ⟨S3072x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1024x5632 : Shape := ⟨2, ![1024, 5632]⟩
abbrev S1x1024 : Shape := ⟨2, ![1, 1024]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S1x1024, .f32⟩
  | .hbm, ⟨4, _⟩ => ⟨S8192x1024, .bf16⟩
  | .hbm, ⟨5, _⟩ => ⟨S8192x5632, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S512x1024, .bf16⟩
  | .local _ .vmem, ⟨5, _⟩ => ⟨S512x1024, .bf16⟩
  | .local _ .vmem, ⟨6, _⟩ => ⟨S512x5632, .bf16⟩
  | .local _ .vmem, ⟨7, _⟩ => ⟨S512x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1024, .f32⟩
  | .hbm, ⟨21, _⟩ => ⟨S1024x5632, .f32⟩
  | .hbm, ⟨22, _⟩ => ⟨S8192x5632, .f32⟩
  | .hbm, ⟨23, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S1024x3072 : Shape := ⟨2, ![1024, 3072]⟩
abbrev S1x1024 : Shape := ⟨2, ![1, 1024]⟩
abbrev S8192x3072 : Shape := ⟨2, ![8192, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .bf16⟩
  | .hbm, ⟨3, _⟩ => ⟨S1x1024, .f32⟩
  | .hbm, ⟨4, _⟩ => ⟨S8192x1024, .bf16⟩
  | .hbm, ⟨5, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S8192x1024 : Shape := ⟨2, ![8192, 1024]⟩
abbrev S1024 : Shape := ⟨1, ![1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1024, .f32⟩
  | .hbm, ⟨21, _⟩ => ⟨S1024x3072, .f32⟩
  | .hbm, ⟨22, _⟩ => ⟨S8192x3072, .f32⟩
  | .hbm, ⟨23, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x1792 : Shape := ⟨2, ![8192, 1792]⟩
abbrev S8192x1024 : Shape := ⟨2, ![8192, 1024]⟩
abbrev S1792x1024 : Shape := ⟨2, ![1792, 1024]⟩
abbrev S2048x896 : Shape := ⟨2, ![2048, 896]⟩
abbrev S2048x1024 : Shape := ⟨2, ![2048, 1024]⟩
abbrev S896x1024 : Shape := ⟨2, ![896, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1792, .bf16⟩
  | .hbm, ⟨1, _⟩ => ⟨S8192x1024, .bf16⟩
  | .hbm, ⟨2, _⟩ => ⟨S1792x1024, .f32⟩
  | .local _ .vmem, ⟨0, _⟩ => ⟨S2048x896, .bf16⟩
  | .local _ .vmem, ⟨1, _⟩ => ⟨S2048x896, .bf16⟩
  | .local _ .vmem, ⟨2, _⟩ => ⟨S2048x1024, .bf16⟩
  | .local _ .vmem, ⟨3, _⟩ => ⟨S2048x1024, .bf16⟩
  | .local _ .vmem, ⟨4, _⟩ => ⟨S896x1024, .f32⟩
  | .local _ .vmem, ⟨5, _⟩ => ⟨S896x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1792 : Shape := ⟨2, ![8192, 1792]⟩
abbrev S8192x1024 : Shape := ⟨2, ![8192, 1024]⟩
abbrev S_ : Shape := ⟨0, ![]⟩
abbrev S1024x1792 : Shape := ⟨2, ![1024, 1792]⟩
abbrev S1792x1024 : Shape := ⟨2, ![1792, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S8192x1024, .bf16⟩
  | .hbm, ⟨2, _⟩ => ⟨S_, .f32⟩
  | .hbm, ⟨3, _⟩ => ⟨S1024x1792, .f32⟩
  | .hbm, ⟨4, _⟩ => ⟨S8192x1024, .f32⟩
  | .hbm, ⟨5, _⟩ => ⟨S8192x1792, .f32⟩
  | .hbm, ⟨6, _⟩ => ⟨S8192x1792, .f32⟩
  | .hbm, ⟨7, _⟩ => ⟨S1792x1024, .f32⟩
  | .hbm, ⟨8, _⟩ => ⟨S1024x1792, .f32⟩
  | .hbm, ⟨9, _⟩ => ⟨S1792x1024, .f32⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S8192x1792 : Shape := ⟨2, ![8192, 1792]⟩
abbrev S1024x1792 : Shape := ⟨2, ![1024, 1792]⟩
abbrev S8192x1024 : Shape := ⟨2, ![8192, 1024]⟩
abbrev S1024 : Shape := ⟨1, ![1024]⟩
abbrev S1x1024 : Shape := ⟨2, ![1, 1024]⟩
abbrev S512x1792 : Shape := ⟨2, ![512, 1792]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1792, .bf16⟩
  | .hbm, ⟨1, _⟩ => ⟨S1024x1792, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S512x1792, .bf16⟩
  | .local _ .vmem, ⟨1, _⟩ => ⟨S512x1792, .bf16⟩
  | .local _ .vmem, ⟨2, _⟩ => ⟨S1024x1792, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S8192x1792 : Shape := ⟨2, ![8192, 1792]⟩
abbrev S1024x1792 : Shape := ⟨2, ![1024, 1792]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S1024x1792, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1024x1792, .f32⟩
  | .hbm, ⟨26, _⟩ => ⟨S8192x1792, .f32⟩
  | .hbm, ⟨27, _⟩ => ⟨S8192x1792, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .bf16⟩
  | .hbm, ⟨56, _⟩ => ⟨S1x1024, .f32⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel12.lean ====
abbrev S8192x2816 : Shape := ⟨2, ![8192, 2816]⟩
abbrev S1024x5632 : Shape := ⟨2, ![1024, 5632]⟩
abbrev S8192x1024 : Shape := ⟨2, ![8192, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S1024x2816 : Shape := ⟨2, ![1024, 2816]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x5632, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference12Ideal.lean ====
abbrev S8192x2816 : Shape := ⟨2, ![8192, 2816]⟩
abbrev S1024x5632 : Shape := ⟨2, ![1024, 5632]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩

abbrev nBuf : Space → Nat
  | .hbm => 59
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .bf16⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x5632, .f32⟩
  | .hbm, ⟨27, _⟩ => ⟨S8192x5632, .f32⟩
  | .hbm, ⟨28, _⟩ => ⟨S8192x5632, .bf16⟩
  | .hbm, ⟨29, _⟩ => ⟨S8192x5632, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S1x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel13.lean ====
abbrev S1 : Shape := ⟨1, ![1]⟩
abbrev S448x512 : Shape := ⟨2, ![448, 512]⟩
abbrev S1x1024x448 : Shape := ⟨3, ![1, 1024, 448]⟩
abbrev S1x512x448 : Shape := ⟨3, ![1, 512, 448]⟩
abbrev S512x448 : Shape := ⟨2, ![512, 448]⟩

abbrev nBuf : Space → Nat
  | .hbm => 9
  | .vmem => 16
  | .smem => 1
  | _ => 0

abbrev bufTy : (tb : Table) → Fin (tcTables nBuf tb) → BufTy
  | .hbm, ⟨0, _⟩ => ⟨S448x512, .f32⟩
  | .hbm, ⟨1, _⟩ => ⟨S448x512, .f32⟩
  | .hbm, ⟨2, _⟩ => ⟨S1x1024x448, .f32⟩
  | .hbm, ⟨3, _⟩ => ⟨S1x1024x448, .f32⟩
  | .hbm, ⟨4, _⟩ => ⟨S1x1024x448, .f32⟩
  | .hbm, ⟨5, _⟩ => ⟨S1x1024x448, .f32⟩
  | .hbm, ⟨6, _⟩ => ⟨S1x1024x448, .f32⟩
  | .hbm, ⟨7, _⟩ => ⟨S1x1024x448, .f32⟩
  | .hbm, ⟨8, _⟩ => ⟨S1x1024x448, .f32⟩
  | .local _ .vmem, ⟨0, _⟩ => ⟨S448x512, .f32⟩
  | .local _ .vmem, ⟨1, _⟩ => ⟨S448x512, .f32⟩
  | .local _ .vmem, ⟨2, _⟩ => ⟨S1x512x448, .f32⟩
  | .local _ .vmem, ⟨3, _⟩ => ⟨S1x512x448, .f32⟩
  | .local _ .vmem, ⟨4, _⟩ => ⟨S1x512x448, .f32⟩
  | .local _ .vmem, ⟨5, _⟩ => ⟨S1x512x448, .f32⟩
  | .local _ .vmem, ⟨6, _⟩ => ⟨S1x512x448, .f32⟩
  | .local _ .vmem, ⟨7, _⟩ => ⟨S1x512x448, .f32⟩
  | .local _ .vmem, ⟨8, _⟩ => ⟨S1x512x448, .f32⟩
  | .local _ .vmem, ⟨9, _⟩ => ⟨S1x512x448, .f32⟩
  | .local _ .vmem, ⟨10, _⟩ => ⟨S1x512x448, .f32⟩
  | .local _ .vmem, ⟨11, _⟩ => ⟨S1x512x448, .f32⟩
  | .local _ .vmem, ⟨12, _⟩ => ⟨S1x512x448, .f32⟩
  | .local _ .vmem, ⟨13, _⟩ => ⟨S1x512x448, .f32⟩
  | .local _ .vmem, ⟨14, _⟩ => ⟨S1x512x448, .f32⟩
  | .local _ .vmem, ⟨15, _⟩ => ⟨S1x512x448, .f32⟩
  | .local _ .smem, ⟨0, _⟩ => ⟨S1, .i32⟩
  | _, _ => ⟨S448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 1 → Memref sig .tc .vmem S448x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S448x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x512x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x448 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x448 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference13Ideal.lean ====
abbrev S1 : Shape := ⟨1, ![1]⟩
abbrev S448x512 : Shape := ⟨2, ![448, 512]⟩
abbrev S1x1024x448 : Shape := ⟨3, ![1, 1024, 448]⟩
abbrev S_ : Shape := ⟨0, ![]⟩
abbrev S448x1024 : Shape := ⟨2, ![448, 1024]⟩
abbrev S1024x448 : Shape := ⟨2, ![1024, 448]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S448x512, .f32⟩
  | .hbm, ⟨2, _⟩ => ⟨S448x512, .f32⟩
  | .hbm, ⟨3, _⟩ => ⟨S1x1024x448, .f32⟩
  | .hbm, ⟨4, _⟩ => ⟨S1x1024x448, .f32⟩
  | .hbm, ⟨5, _⟩ => ⟨S1x1024x448, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S448x512, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S448x512, .f32⟩
  | .hbm, ⟨14, _⟩ => ⟨S448x1024, .f32⟩
  | .hbm, ⟨15, _⟩ => ⟨S1024x448, .f32⟩
  | .hbm, ⟨16, _⟩ => ⟨S1x1024x448, .f32⟩
  | .hbm, ⟨17, _⟩ => ⟨S_, .f32⟩
  | .hbm, ⟨18, _⟩ => ⟨S1x1024x448, .f32⟩
  | .hbm, ⟨19, _⟩ => ⟨S1x1024x448, .f32⟩
  | .hbm, ⟨20, _⟩ => ⟨S_, .f32⟩
  | .hbm, ⟨21, _⟩ => ⟨S1x1024x448, .f32⟩
  | .hbm, ⟨22, _⟩ => ⟨S1x1024x448, .f32⟩
  | .hbm, ⟨23, _⟩ => ⟨S1x1024x448, .f32⟩
  | .hbm, ⟨24, _⟩ => ⟨S_, .f32⟩
  | .hbm, ⟨25, _⟩ => ⟨S1x1024x448, .f32⟩
  | .hbm, ⟨26, _⟩ => ⟨S1x1024x448, .f32⟩
  | .hbm, ⟨27, _⟩ => ⟨S1x1024x448, .f32⟩
  | .hbm, ⟨28, _⟩ => ⟨S_, .f32⟩
  | .hbm, ⟨29, _⟩ => ⟨S1x1024x448, .f32⟩
  | .hbm, ⟨30, _⟩ => ⟨S1x1024x448, .f32⟩
  | .hbm, ⟨31, _⟩ => ⟨S1x1024x448, .f32⟩
  | .hbm, ⟨32, _⟩ => ⟨S_, .f32⟩
  | .hbm, ⟨33, _⟩ => ⟨S1x1024x448, .f32⟩
  | .hbm, ⟨34, _⟩ => ⟨S1x1024x448, .f32⟩
  | .hbm, ⟨35, _⟩ => ⟨S_, .f32⟩
  | .hbm, ⟨36, _⟩ => ⟨S1x1024x448, .f32⟩
  | .hbm, ⟨37, _⟩ => ⟨S1x1024x448, .f32⟩
  | .hbm, ⟨38, _⟩ => ⟨S1x1024x448, .f32⟩
  | .hbm, ⟨39, _⟩ => ⟨S_, .f32⟩
  | .hbm, ⟨40, _⟩ => ⟨S1x1024x448, .f32⟩
  | .hbm, ⟨41, _⟩ => ⟨S1x1024x448, .f32⟩
  | .hbm, ⟨42, _⟩ => ⟨S1x1024x448, .f32⟩
  | .hbm, ⟨43, _⟩ => ⟨S_, .f32⟩
  | .hbm, ⟨44, _⟩ => ⟨S1x1024x448, .f32⟩
  | .hbm, ⟨45, _⟩ => ⟨S1x1024x448, .f32⟩
  | .hbm, ⟨46, _⟩ => ⟨S1x1024x448, .f32⟩
  | .hbm, ⟨47, _⟩ => ⟨S_, .f32⟩
  | .hbm, ⟨48, _⟩ => ⟨S1x1024x448, .f32⟩
  | .hbm, ⟨49, _⟩ => ⟨S1x1024x448, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Kernel14.lean ====
abbrev S1 : Shape := ⟨1, ![1]⟩
abbrev S768x512 : Shape := ⟨2, ![768, 512]⟩
abbrev S1x1024x768 : Shape := ⟨3, ![1, 1024, 768]⟩
abbrev S128x512 : Shape := ⟨2, ![128, 512]⟩
abbrev S1x512x128 : Shape := ⟨3, ![1, 512, 128]⟩
abbrev S512x128 : Shape := ⟨2, ![512, 128]⟩

abbrev nBuf : Space → Nat
  | .hbm => 9
  | .vmem => 18
  | .smem => 1
  | _ => 0

abbrev bufTy : (tb : Table) → Fin (tcTables nBuf tb) → BufTy
  | .hbm, ⟨0, _⟩ => ⟨S768x512, .f32⟩
  | .hbm, ⟨1, _⟩ => ⟨S768x512, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .hbm, ⟨8, _⟩ => ⟨S1x1024x768, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .smem, ⟨0, _⟩ => ⟨S1, .i32⟩
  | _, _ => ⟨S768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![6, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference14Ideal.lean ====
abbrev S1 : Shape := ⟨1, ![1]⟩
abbrev S768x512 : Shape := ⟨2, ![768, 512]⟩
abbrev S1x1024x768 : Shape := ⟨3, ![1, 1024, 768]⟩
abbrev S_ : Shape := ⟨0, ![]⟩
abbrev S768x1024 : Shape := ⟨2, ![768, 1024]⟩
abbrev S1024x768 : Shape := ⟨2, ![1024, 768]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S768x512, .f32⟩
  | .hbm, ⟨2, _⟩ => ⟨S768x512, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S768x512, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S768x512, .f32⟩
  | .hbm, ⟨14, _⟩ => ⟨S768x1024, .f32⟩
  | .hbm, ⟨15, _⟩ => ⟨S1024x768, .f32⟩
  | .hbm, ⟨16, _⟩ => ⟨S1x1024x768, .f32⟩
  | .hbm, ⟨17, _⟩ => ⟨S_, .f32⟩
  | .hbm, ⟨18, _⟩ => ⟨S1x1024x768, .f32⟩
  | .hbm, ⟨19, _⟩ => ⟨S1x1024x768, .f32⟩
  | .hbm, ⟨20, _⟩ => ⟨S_, .f32⟩
  | .hbm, ⟨21, _⟩ => ⟨S1x1024x768, .f32⟩
  | .hbm, ⟨22, _⟩ => ⟨S1x1024x768, .f32⟩
  | .hbm, ⟨23, _⟩ => ⟨S1x1024x768, .f32⟩
  | .hbm, ⟨24, _⟩ => ⟨S_, .f32⟩
  | .hbm, ⟨25, _⟩ => ⟨S1x1024x768, .f32⟩
  | .hbm, ⟨26, _⟩ => ⟨S1x1024x768, .f32⟩
  | .hbm, ⟨27, _⟩ => ⟨S1x1024x768, .f32⟩
  | .hbm, ⟨28, _⟩ => ⟨S_, .f32⟩
  | .hbm, ⟨29, _⟩ => ⟨S1x1024x768, .f32⟩
  | .hbm, ⟨30, _⟩ => ⟨S1x1024x768, .f32⟩
  | .hbm, ⟨31, _⟩ => ⟨S1x1024x768, .f32⟩
  | .hbm, ⟨32, _⟩ => ⟨S_, .f32⟩
  | .hbm, ⟨33, _⟩ => ⟨S1x1024x768, .f32⟩
  | .hbm, ⟨34, _⟩ => ⟨S1x1024x768, .f32⟩
  | .hbm, ⟨35, _⟩ => ⟨S_, .f32⟩
  | .hbm, ⟨36, _⟩ => ⟨S1x1024x768, .f32⟩
  | .hbm, ⟨37, _⟩ => ⟨S1x1024x768, .f32⟩
  | .hbm, ⟨38, _⟩ => ⟨S1x1024x768, .f32⟩
  | .hbm, ⟨39, _⟩ => ⟨S_, .f32⟩
  | .hbm, ⟨40, _⟩ => ⟨S1x1024x768, .f32⟩
  | .hbm, ⟨41, _⟩ => ⟨S1x1024x768, .f32⟩
  | .hbm, ⟨42, _⟩ => ⟨S1x1024x768, .f32⟩
  | .hbm, ⟨43, _⟩ => ⟨S_, .f32⟩
  | .hbm, ⟨44, _⟩ => ⟨S1x1024x768, .f32⟩
  | .hbm, ⟨45, _⟩ => ⟨S1x1024x768, .f32⟩
  | .hbm, ⟨46, _⟩ => ⟨S1x1024x768, .f32⟩
  | .hbm, ⟨47, _⟩ => ⟨S_, .f32⟩
  | .hbm, ⟨48, _⟩ => ⟨S1x1024x768, .f32⟩
  | .hbm, ⟨49, _⟩ => ⟨S1x1024x768, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Kernel15.lean ====
abbrev S1 : Shape := ⟨1, ![1]⟩
abbrev S256x512 : Shape := ⟨2, ![256, 512]⟩
abbrev S1x256x1024 : Shape := ⟨3, ![1, 256, 1024]⟩
abbrev S1x256x512 : Shape := ⟨3, ![1, 256, 512]⟩

abbrev nBuf : Space → Nat
  | .hbm => 9
  | .vmem => 16
  | .smem => 1
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .local _ .vmem, ⟨0, _⟩ => ⟨S256x512, .f32⟩
  | .local _ .vmem, ⟨1, _⟩ => ⟨S256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .smem, ⟨0, _⟩ => ⟨S1, .i32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference15Ideal.lean ====
abbrev S1 : Shape := ⟨1, ![1]⟩
abbrev S256x512 : Shape := ⟨2, ![256, 512]⟩
abbrev S1x256x1024 : Shape := ⟨3, ![1, 256, 1024]⟩
abbrev S_ : Shape := ⟨0, ![]⟩
abbrev S256x1024 : Shape := ⟨2, ![256, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S256x512, .f32⟩
  | .hbm, ⟨2, _⟩ => ⟨S256x512, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S256x512, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S256x512, .f32⟩
  | .hbm, ⟨14, _⟩ => ⟨S256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S1x256x1024, .f32⟩
  | .hbm, ⟨38, _⟩ => ⟨S_, .f32⟩
  | .hbm, ⟨39, _⟩ => ⟨S1x256x1024, .f32⟩
  | .hbm, ⟨40, _⟩ => ⟨S1x256x1024, .f32⟩
  | .hbm, ⟨41, _⟩ => ⟨S1x256x1024, .f32⟩
  | .hbm, ⟨42, _⟩ => ⟨S_, .f32⟩
  | .hbm, ⟨43, _⟩ => ⟨S1x256x1024, .f32⟩
  | .hbm, ⟨44, _⟩ => ⟨S1x256x1024, .f32⟩
  | .hbm, ⟨45, _⟩ => ⟨S1x256x1024, .f32⟩
  | .hbm, ⟨46, _⟩ => ⟨S_, .f32⟩
  | .hbm, ⟨47, _⟩ => ⟨S1x256x1024, .f32⟩
  | .hbm, ⟨48, _⟩ => ⟨S1x256x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel16.lean ====
abbrev S1 : Shape := ⟨1, ![1]⟩
abbrev S1408x512 : Shape := ⟨2, ![1408, 512]⟩
abbrev S2x1024x1408 : Shape := ⟨3, ![2, 1024, 1408]⟩
abbrev S128x512 : Shape := ⟨2, ![128, 512]⟩
abbrev S1x512x128 : Shape := ⟨3, ![1, 512, 128]⟩
abbrev S512x128 : Shape := ⟨2, ![512, 128]⟩

abbrev nBuf : Space → Nat
  | .hbm => 13
  | .vmem => 18
  | .smem => 1
  | _ => 0

abbrev bufTy : (tb : Table) → Fin (tcTables nBuf tb) → BufTy
  | .hbm, ⟨0, _⟩ => ⟨S1408x512, .f32⟩
  | .hbm, ⟨1, _⟩ => ⟨S1408x512, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S2x1024x1408, .f32⟩
  | .hbm, ⟨12, _⟩ => ⟨S2x1024x1408, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .smem, ⟨0, _⟩ => ⟨S1, .i32⟩
  | _, _ => ⟨S1408x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference16Ideal.lean ====
abbrev S1 : Shape := ⟨1, ![1]⟩
abbrev S1408x512 : Shape := ⟨2, ![1408, 512]⟩
abbrev S2x1024x1408 : Shape := ⟨3, ![2, 1024, 1408]⟩
abbrev S_ : Shape := ⟨0, ![]⟩
abbrev S1408x1024 : Shape := ⟨2, ![1408, 1024]⟩
abbrev S1024x1408 : Shape := ⟨2, ![1024, 1408]⟩
abbrev S1x1024x1408 : Shape := ⟨3, ![1, 1024, 1408]⟩

abbrev nBuf : Space → Nat
  | .hbm => 66
  | .vmem => 0
  | .smem => 0
  | _ => 0

abbrev bufTy : (tb : Table) → Fin (tcTables nBuf tb) → BufTy
  | .hbm, ⟨0, _⟩ => ⟨S1, .i32⟩
  | .hbm, ⟨1, _⟩ => ⟨S1408x512, .f32⟩
  | .hbm, ⟨2, _⟩ => ⟨S1408x512, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .hbm, ⟨9, _⟩ => ⟨S2x1024x1408, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1408x512, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S1408x512, .f32⟩
  | .hbm, ⟨18, _⟩ => ⟨S1408x1024, .f32⟩
  | .hbm, ⟨19, _⟩ => ⟨S1024x1408, .f32⟩
  | .hbm, ⟨20, _⟩ => ⟨S1x1024x1408, .f32⟩
  | .hbm, ⟨21, _⟩ => ⟨S1x1024x1408, .f32⟩
  | .hbm, ⟨22, _⟩ => ⟨S1x1024x1408, .f32⟩
  | .hbm, ⟨23, _⟩ => ⟨S1x1024x1408, .f32⟩
  | .hbm, ⟨24, _⟩ => ⟨S1x1024x1408, .f32⟩
  | .hbm, ⟨25, _⟩ => ⟨S_, .f32⟩
  | .hbm, ⟨26, _⟩ => ⟨S1x1024x1408, .f32⟩
  | .hbm, ⟨27, _⟩ => ⟨S1x1024x1408, .f32⟩
  | .hbm, ⟨28, _⟩ => ⟨S_, .f32⟩
  | .hbm, ⟨29, _⟩ => ⟨S1x1024x1408, .f32⟩
  | .hbm, ⟨30, _⟩ => ⟨S1x1024x1408, .f32⟩
  | .hbm, ⟨31, _⟩ => ⟨S1x1024x1408, .f32⟩
  | .hbm, ⟨32, _⟩ => ⟨S_, .f32⟩
  | .hbm, ⟨33, _⟩ => ⟨S1x1024x1408, .f32⟩
  | .hbm, ⟨34, _⟩ => ⟨S1x1024x1408, .f32⟩
  | .hbm, ⟨35, _⟩ => ⟨S1x1024x1408, .f32⟩
  | .hbm, ⟨36, _⟩ => ⟨S_, .f32⟩
  | .hbm, ⟨37, _⟩ => ⟨S1x1024x1408, .f32⟩
  | .hbm, ⟨38, _⟩ => ⟨S1x1024x1408, .f32⟩
  | .hbm, ⟨39, _⟩ => ⟨S1x1024x1408, .f32⟩
  | .hbm, ⟨40, _⟩ => ⟨S_, .f32⟩
  | .hbm, ⟨41, _⟩ => ⟨S1x1024x1408, .f32⟩
  | .hbm, ⟨42, _⟩ => ⟨S1x1024x1408, .f32⟩
  | .hbm, ⟨43, _⟩ => ⟨S_, .f32⟩
  | .hbm, ⟨44, _⟩ => ⟨S1x1024x1408, .f32⟩
  | .hbm, ⟨45, _⟩ => ⟨S1x1024x1408, .f32⟩
  | .hbm, ⟨46, _⟩ => ⟨S1x1024x1408, .f32⟩
  | .hbm, ⟨47, _⟩ => ⟨S_, .f32⟩
  | .hbm, ⟨48, _⟩ => ⟨S1x1024x1408, .f32⟩
  | .hbm, ⟨49, _⟩ => ⟨S1x1024x1408, .f32⟩
  | .hbm, ⟨50, _⟩ => ⟨S1x1024x1408, .f32⟩
  | .hbm, ⟨51, _⟩ => ⟨S_, .f32⟩
  | .hbm, ⟨52, _⟩ => ⟨S1x1024x1408, .f32⟩
  | .hbm, ⟨53, _⟩ => ⟨S1x1024x1408, .f32⟩
  | .hbm, ⟨54, _⟩ => ⟨S1x1024x1408, .f32⟩
  | .hbm, ⟨55, _⟩ => ⟨S_, .f32⟩
  | .hbm, ⟨56, _⟩ => ⟨S1x1024x1408, .f32⟩
  | .hbm, ⟨57, _⟩ => ⟨S1x1024x1408, .f32⟩
  | .hbm, ⟨58, _⟩ => ⟨S1x1024x1408, .f32⟩
  | .hbm, ⟨59, _⟩ => ⟨S2x1024x1408, .f32⟩
  | .hbm, ⟨60, _⟩ => ⟨S1x1024x1408, .f32⟩
  | .hbm, ⟨61, _⟩ => ⟨S2x1024x1408, .f32⟩
  | .hbm, ⟨62, _⟩ => ⟨S1x1024x1408, .f32⟩
  | .hbm, ⟨63, _⟩ => ⟨S2x1024x1408, .f32⟩
  | .hbm, ⟨64, _⟩ => ⟨S1x1024x1408, .f32⟩
  | .hbm, ⟨65, _⟩ => ⟨S2x1024x1408, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Kernel17.lean ====
abbrev S1 : Shape := ⟨1, ![1]⟩
abbrev S704x512 : Shape := ⟨2, ![704, 512]⟩
abbrev S2x704x1024 : Shape := ⟨3, ![2, 704, 1024]⟩
abbrev S352x512 : Shape := ⟨2, ![352, 512]⟩
abbrev S1x352x512 : Shape := ⟨3, ![1, 352, 512]⟩

abbrev nBuf : Space → Nat
  | .hbm => 13
  | .vmem => 18
  | .smem => 1
  | _ => 0

abbrev bufTy : (tb : Table) → Fin (tcTables nBuf tb) → BufTy
  | .hbm, ⟨0, _⟩ => ⟨S704x512, .f32⟩
  | .hbm, ⟨1, _⟩ => ⟨S704x512, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .hbm, ⟨12, _⟩ => ⟨S2x704x1024, .f32⟩
  | .local _ .vmem, ⟨0, _⟩ => ⟨S352x512, .f32⟩
  | .local _ .vmem, ⟨1, _⟩ => ⟨S352x512, .f32⟩
  | .local _ .vmem, ⟨2, _⟩ => ⟨S352x512, .f32⟩
  | .local _ .vmem, ⟨3, _⟩ => ⟨S352x512, .f32⟩
  | .local _ .vmem, ⟨4, _⟩ => ⟨S1x352x512, .f32⟩
  | .local _ .vmem, ⟨5, _⟩ => ⟨S1x352x512, .f32⟩
  | .local _ .vmem, ⟨6, _⟩ => ⟨S1x352x512, .f32⟩
  | .local _ .vmem, ⟨7, _⟩ => ⟨S1x352x512, .f32⟩
  | .local _ .vmem, ⟨8, _⟩ => ⟨S1x352x512, .f32⟩
  | .local _ .vmem, ⟨9, _⟩ => ⟨S1x352x512, .f32⟩
  | .local _ .vmem, ⟨10, _⟩ => ⟨S1x352x512, .f32⟩
  | .local _ .vmem, ⟨11, _⟩ => ⟨S1x352x512, .f32⟩
  | .local _ .vmem, ⟨12, _⟩ => ⟨S1x352x512, .f32⟩
  | .local _ .vmem, ⟨13, _⟩ => ⟨S1x352x512, .f32⟩
  | .local _ .vmem, ⟨14, _⟩ => ⟨S1x352x512, .f32⟩
  | .local _ .vmem, ⟨15, _⟩ => ⟨S1x352x512, .f32⟩
  | .local _ .vmem, ⟨16, _⟩ => ⟨S1x352x512, .f32⟩
  | .local _ .vmem, ⟨17, _⟩ => ⟨S1x352x512, .f32⟩
  | .local _ .smem, ⟨0, _⟩ => ⟨S1, .i32⟩
  | _, _ => ⟨S704x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S352x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S352x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x352x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference17Ideal.lean ====
abbrev S1 : Shape := ⟨1, ![1]⟩
abbrev S704x512 : Shape := ⟨2, ![704, 512]⟩
abbrev S2x704x1024 : Shape := ⟨3, ![2, 704, 1024]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 65
  | .vmem => 0
  | .smem => 0
  | _ => 0

abbrev bufTy : (tb : Table) → Fin (tcTables nBuf tb) → BufTy
  | .hbm, ⟨0, _⟩ => ⟨S1, .i32⟩
  | .hbm, ⟨1, _⟩ => ⟨S704x512, .f32⟩
  | .hbm, ⟨2, _⟩ => ⟨S704x512, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S704x512, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S704x512, .f32⟩
  | .hbm, ⟨18, _⟩ => ⟨S704x1024, .f32⟩
  | .hbm, ⟨19, _⟩ => ⟨S1x704x1024, .f32⟩
  | .hbm, ⟨20, _⟩ => ⟨S1x704x1024, .f32⟩
  | .hbm, ⟨21, _⟩ => ⟨S1x704x1024, .f32⟩
  | .hbm, ⟨22, _⟩ => ⟨S1x704x1024, .f32⟩
  | .hbm, ⟨23, _⟩ => ⟨S1x704x1024, .f32⟩
  | .hbm, ⟨24, _⟩ => ⟨S_, .f32⟩
  | .hbm, ⟨25, _⟩ => ⟨S1x704x1024, .f32⟩
  | .hbm, ⟨26, _⟩ => ⟨S1x704x1024, .f32⟩
  | .hbm, ⟨27, _⟩ => ⟨S_, .f32⟩
  | .hbm, ⟨28, _⟩ => ⟨S1x704x1024, .f32⟩
  | .hbm, ⟨29, _⟩ => ⟨S1x704x1024, .f32⟩
  | .hbm, ⟨30, _⟩ => ⟨S1x704x1024, .f32⟩
  | .hbm, ⟨31, _⟩ => ⟨S_, .f32⟩
  | .hbm, ⟨32, _⟩ => ⟨S1x704x1024, .f32⟩
  | .hbm, ⟨33, _⟩ => ⟨S1x704x1024, .f32⟩
  | .hbm, ⟨34, _⟩ => ⟨S1x704x1024, .f32⟩
  | .hbm, ⟨35, _⟩ => ⟨S_, .f32⟩
  | .hbm, ⟨36, _⟩ => ⟨S1x704x1024, .f32⟩
  | .hbm, ⟨37, _⟩ => ⟨S1x704x1024, .f32⟩
  | .hbm, ⟨38, _⟩ => ⟨S1x704x1024, .f32⟩
  | .hbm, ⟨39, _⟩ => ⟨S_, .f32⟩
  | .hbm, ⟨40, _⟩ => ⟨S1x704x1024, .f32⟩
  | .hbm, ⟨41, _⟩ => ⟨S1x704x1024, .f32⟩
  | .hbm, ⟨42, _⟩ => ⟨S_, .f32⟩
  | .hbm, ⟨43, _⟩ => ⟨S1x704x1024, .f32⟩
  | .hbm, ⟨44, _⟩ => ⟨S1x704x1024, .f32⟩
  | .hbm, ⟨45, _⟩ => ⟨S1x704x1024, .f32⟩
  | .hbm, ⟨46, _⟩ => ⟨S_, .f32⟩
  | .hbm, ⟨47, _⟩ => ⟨S1x704x1024, .f32⟩
  | .hbm, ⟨48, _⟩ => ⟨S1x704x1024, .f32⟩
  | .hbm, ⟨49, _⟩ => ⟨S1x704x1024, .f32⟩
  | .hbm, ⟨50, _⟩ => ⟨S_, .f32⟩
  | .hbm, ⟨51, _⟩ => ⟨S1x704x1024, .f32⟩
  | .hbm, ⟨52, _⟩ => ⟨S1x704x1024, .f32⟩
  | .hbm, ⟨53, _⟩ => ⟨S1x704x1024, .f32⟩
  | .hbm, ⟨54, _⟩ => ⟨S_, .f32⟩
  | .hbm, ⟨55, _⟩ => ⟨S1x704x1024, .f32⟩
  | .hbm, ⟨56, _⟩ => ⟨S1x704x1024, .f32⟩
  | .hbm, ⟨57, _⟩ => ⟨S1x704x1024, .f32⟩
  | .hbm, ⟨58, _⟩ => ⟨S2x704x1024, .f32⟩
  | .hbm, ⟨59, _⟩ => ⟨S1x704x1024, .f32⟩
  | .hbm, ⟨60, _⟩ => ⟨S2x704x1024, .f32⟩
  | .hbm, ⟨61, _⟩ => ⟨S1x704x1024, .f32⟩
  | .hbm, ⟨62, _⟩ => ⟨S2x704x1024, .f32⟩
  | .hbm, ⟨63, _⟩ => ⟨S1x704x1024, .f32⟩
  | .hbm, ⟨64, _⟩ => ⟨S2x704x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Kernel18.lean ====
abbrev S8192x3072 : Shape := ⟨2, ![8192, 3072]⟩
abbrev S3x1024 : Shape := ⟨2, ![3, 1024]⟩
abbrev S1x1024 : Shape := ⟨2, ![1, 1024]⟩
abbrev S1024x1024 : Shape := ⟨2, ![1024, 1024]⟩
abbrev S8192x1024 : Shape := ⟨2, ![8192, 1024]⟩
abbrev S512x3072 : Shape := ⟨2, ![512, 3072]⟩
abbrev S16x3072 : Shape := ⟨2, ![16, 3072]⟩
abbrev S512x1024 : Shape := ⟨2, ![512, 1024]⟩
abbrev S512x256 : Shape := ⟨2, ![512, 256]⟩
abbrev S16x256 : Shape := ⟨2, ![16, 256]⟩
abbrev S528x256 : Shape := ⟨2, ![528, 256]⟩
abbrev S3x256 : Shape := ⟨2, ![3, 256]⟩
abbrev S1x256 : Shape := ⟨2, ![1, 256]⟩
abbrev S256x1024 : Shape := ⟨2, ![256, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x3072, .bf16⟩
  | .hbm, ⟨1, _⟩ => ⟨S3x1024, .f32⟩
  | .hbm, ⟨2, _⟩ => ⟨S1x1024, .f32⟩
  | .hbm, ⟨3, _⟩ => ⟨S1024x1024, .bf16⟩
  | .hbm, ⟨4, _⟩ => ⟨S8192x1024, .f32⟩
  | .hbm, ⟨5, _⟩ => ⟨S8192x1024, .f32⟩
  | .local _ .vmem, ⟨0, _⟩ => ⟨S512x3072, .bf16⟩
  | .local _ .vmem, ⟨1, _⟩ => ⟨S512x3072, .bf16⟩
  | .local _ .vmem, ⟨2, _⟩ => ⟨S16x3072, .bf16⟩
  | .local _ .vmem, ⟨3, _⟩ => ⟨S16x3072, .bf16⟩
  | .local _ .vmem, ⟨4, _⟩ => ⟨S3x1024, .f32⟩
  | .local _ .vmem, ⟨5, _⟩ => ⟨S1x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S8192x3072 : Shape := ⟨2, ![8192, 3072]⟩
abbrev S3x1024 : Shape := ⟨2, ![3, 1024]⟩
abbrev S1x1024 : Shape := ⟨2, ![1, 1024]⟩
abbrev S1024x1024 : Shape := ⟨2, ![1024, 1024]⟩
abbrev S8192x1024 : Shape := ⟨2, ![8192, 1024]⟩
abbrev S2x4096x3072 : Shape := ⟨3, ![2, 4096, 3072]⟩
abbrev S1024 : Shape := ⟨1, ![1024]⟩
abbrev S2x4096x1024 : Shape := ⟨3, ![2, 4096, 1024]⟩
abbrev S_ : Shape := ⟨0, ![]⟩
abbrev S2x2x1024 : Shape := ⟨3, ![2, 2, 1024]⟩
abbrev S2x4098x1024 : Shape := ⟨3, ![2, 4098, 1024]⟩
abbrev S1x1x1024 : Shape := ⟨3, ![1, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3x1024, .f32⟩
  | .hbm, ⟨2, _⟩ => ⟨S1x1024, .f32⟩
  | .hbm, ⟨3, _⟩ => ⟨S1024x1024, .bf16⟩
  | .hbm, ⟨4, _⟩ => ⟨S8192x1024, .f32⟩
  | .hbm, ⟨5, _⟩ => ⟨S8192x3072, .f32⟩
  | .hbm, ⟨6, _⟩ => ⟨S2x4096x3072, .f32⟩
  | .hbm, ⟨7, _⟩ => ⟨S1024, .f32⟩
  | .hbm, ⟨8, _⟩ => ⟨S2x4096x1024, .f32⟩
  | .hbm, ⟨9, _⟩ => ⟨S2x4096x1024, .f32⟩
  | .hbm, ⟨10, _⟩ => ⟨S2x4096x1024, .f32⟩
  | .hbm, ⟨11, _⟩ => ⟨S2x4096x1024, .f32⟩
  | .hbm, ⟨12, _⟩ => ⟨S_, .f32⟩
  | .hbm, ⟨13, _⟩ => ⟨S2x2x1024, .f32⟩
  | .hbm, ⟨14, _⟩ => ⟨S2x4098x1024, .f32⟩
  | .hbm, ⟨15, _⟩ => ⟨S1x1024, .f32⟩
  | .hbm, ⟨16, _⟩ => ⟨S1024, .f32⟩
  | .hbm, ⟨17, _⟩ => ⟨S2x4096x1024, .f32⟩
  | .hbm, ⟨18, _⟩ => ⟨S1x1x1024, .f32⟩
  | .hbm, ⟨19, _⟩ => ⟨S2x4096x1024, .f32⟩
  | .hbm, ⟨20, _⟩ => ⟨S2x4096x1024, .f32⟩
  | .hbm, ⟨21, _⟩ => ⟨S_, .f32⟩
  | .hbm, ⟨22, _⟩ => ⟨S2x4096x1024, .f32⟩
  | .hbm, ⟨23, _⟩ => ⟨S2x4096x1024, .f32⟩
  | .hbm, ⟨24, _⟩ => ⟨S1x1024, .f32⟩
  | .hbm, ⟨25, _⟩ => ⟨S1024, .f32⟩
  | .hbm, ⟨26, _⟩ => ⟨S2x4096x1024, .f32⟩
  | .hbm, ⟨27, _⟩ => ⟨S1x1x1024, .f32⟩
  | .hbm, ⟨28, _⟩ => ⟨S2x4096x1024, .f32⟩
  | .hbm, ⟨29, _⟩ => ⟨S2x4096x1024, .f32⟩
  | .hbm, ⟨30, _⟩ => ⟨S2x4096x1024, .f32⟩
  | .hbm, ⟨31, _⟩ => ⟨S1x1024, .f32⟩
  | .hbm, ⟨32, _⟩ => ⟨S1024, .f32⟩
  | .hbm, ⟨33, _⟩ => ⟨S2x4096x1024, .f32⟩
  | .hbm, ⟨34, _⟩ => ⟨S1x1x1024, .f32⟩
  | .hbm, ⟨35, _⟩ => ⟨S2x4096x1024, .f32⟩
  | .hbm, ⟨36, _⟩ => ⟨S2x4096x1024, .f32⟩
  | .hbm, ⟨37, _⟩ => ⟨S2x4096x1024, .f32⟩
  | .hbm, ⟨38, _⟩ => ⟨S1x1x1024, .f32⟩
  | .hbm, ⟨39, _⟩ => ⟨S2x4096x1024, .f32⟩
  | .hbm, ⟨40, _⟩ => ⟨S2x4096x1024, .f32⟩
  | .hbm, ⟨41, _⟩ => ⟨S2x4096x1024, .f32⟩
  | .hbm, ⟨42, _⟩ => ⟨S8192x1024, .f32⟩
  | .hbm, ⟨43, _⟩ => ⟨S8192x1024, .bf16⟩
  | .hbm, ⟨44, _⟩ => ⟨S8192x1024, .f32⟩
  | .hbm, ⟨45, _⟩ => ⟨S1024x1024, .f32⟩
  | .hbm, ⟨46, _⟩ => ⟨S8192x1024, .f32⟩
  | .hbm, ⟨47, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩

abbrev nD : Nat := 1
abbrev τ : Topo := Topo.v7x

variable {F : FTy → Type} [FloatOps F]
-- ==== Kernel19.lean ====
abbrev S8192x5632 : Shape := ⟨2, ![8192, 5632]⟩
abbrev S3x5632 : Shape := ⟨2, ![3, 5632]⟩
abbrev S1x5632 : Shape := ⟨2, ![1, 5632]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S1x1 : Shape := ⟨2, ![1, 1]⟩
abbrev S512x5632 : Shape := ⟨2, ![512, 5632]⟩
abbrev S16x5632 : Shape := ⟨2, ![16, 5632]⟩
abbrev S512x1024 : Shape := ⟨2, ![512, 1024]⟩
abbrev S512x256 : Shape := ⟨2, ![512, 256]⟩
abbrev S16x256 : Shape := ⟨2, ![16, 256]⟩
abbrev S528x256 : Shape := ⟨2, ![528, 256]⟩
abbrev S3x256 : Shape := ⟨2, ![3, 256]⟩
abbrev S1x256 : Shape := ⟨2, ![1, 256]⟩
abbrev S256x1024 : Shape := ⟨2, ![256, 1024]⟩
abbrev S512 : Shape := ⟨1, ![512]⟩
abbrev S512x1 : Shape := ⟨2, ![512, 1]⟩
abbrev S1 : Shape := ⟨1, ![1]⟩

abbrev nBuf : Space → Nat
  | .hbm => 13
  | .vmem => 20
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S1x5632, .f32⟩
  | .hbm, ⟨3, _⟩ => ⟨S2816x1024, .bf16⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1, .f32⟩
  | .hbm, ⟨11, _⟩ => ⟨S1x1024, .f32⟩
  | .hbm, ⟨12, _⟩ => ⟨S8192x5632, .bf16⟩
  | .local _ .vmem, ⟨0, _⟩ => ⟨S512x5632, .bf16⟩
  | .local _ .vmem, ⟨1, _⟩ => ⟨S512x5632, .bf16⟩
  | .local _ .vmem, ⟨2, _⟩ => ⟨S16x5632, .bf16⟩
  | .local _ .vmem, ⟨3, _⟩ => ⟨S16x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1, .f32⟩
  | .local _ .vmem, ⟨17, _⟩ => ⟨S1x1024, .f32⟩
  | .local _ .vmem, ⟨18, _⟩ => ⟨S512x5632, .bf16⟩
  | .local _ .vmem, ⟨19, _⟩ => ⟨S512x5632, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference19Ideal.lean ====
abbrev S8192x5632 : Shape := ⟨2, ![8192, 5632]⟩
abbrev S3x5632 : Shape := ⟨2, ![3, 5632]⟩
abbrev S1x5632 : Shape := ⟨2, ![1, 5632]⟩
abbrev S2816x1024 : Shape := ⟨2, ![2816, 1024]⟩
abbrev S8192x1024 : Shape := ⟨2, ![8192, 1024]⟩
abbrev S1024 : Shape := ⟨1, ![1024]⟩
abbrev S2x4096x5632 : Shape := ⟨3, ![2, 4096, 5632]⟩
abbrev S5632 : Shape := ⟨1, ![5632]⟩
abbrev S_ : Shape := ⟨0, ![]⟩
abbrev S2x2x5632 : Shape := ⟨3, ![2, 2, 5632]⟩
abbrev S2x4098x5632 : Shape := ⟨3, ![2, 4098, 5632]⟩
abbrev S1x1x5632 : Shape := ⟨3, ![1, 1, 5632]⟩
abbrev S8192x2816 : Shape := ⟨2, ![8192, 2816]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S8192x5632, .bf16⟩
  | 1 => ⟨S3x5632, .f32⟩
  | 2 => ⟨S1x5632, .f32⟩
  | 3 => ⟨S2816x1024, .bf16⟩
  | 4 => ⟨S8192x1024, .f32⟩
  | 5 => ⟨S1024, .f32⟩
  | 6 => ⟨S8192x1024, .f32⟩
  | 7 => ⟨S8192x5632, .f32⟩
  | 8 => ⟨S2x4096x5632, .f32⟩
  | 9 => ⟨S5632, .f32⟩
  | 10 => ⟨S_, .f32⟩
  | 11 => ⟨S2x2x5632, .f32⟩
  | 12 => ⟨S2x4098x5632, .f32⟩
  | 13 => ⟨S1x5632, .f32⟩
  | 14 => ⟨S5632, .f32⟩
  | 15 => ⟨S2x4096x5632, .f32⟩
  | 16 => ⟨S1x1x5632, .f32⟩
  | 17 => ⟨S2x4096x5632, .f32⟩
  | 18 => ⟨S2x4096x5632, .f32⟩
  | 19 => ⟨S_, .f32⟩
  | 20 => ⟨S2x4096x5632, .f32⟩
  | 21 => ⟨S2x4096x5632, .f32⟩
  | 22 => ⟨S1x5632, .f32⟩
  | 23 => ⟨S5632, .f32⟩
  | 24 => ⟨S2x4096x5632, .f32⟩
  | 25 => ⟨S1x1x5632, .f32⟩
  | 26 => ⟨S2x4096x5632, .f32⟩
  | 27 => ⟨S2x4096x5632, .f32⟩
  | 28 => ⟨S2x4096x5632, .f32⟩
  | 29 => ⟨S1x5632, .f32⟩
  | 30 => ⟨S5632, .f32⟩
  | 31 => ⟨S2x4096x5632, .f32⟩
  | 32 => ⟨S1x1x5632, .f32⟩
  | 33 => ⟨S2x4096x5632, .f32⟩
  | 34 => ⟨S2x4096x5632, .f32⟩
  | 35 => ⟨S2x4096x5632, .f32⟩
  | 36 => ⟨S1x1x5632, .f32⟩
  | 37 => ⟨S2x4096x5632, .f32⟩
  | 38 => ⟨S2x4096x5632, .f32⟩
  | 39 => ⟨S8192x5632, .f32⟩
  | 40 => ⟨S8192x2816, .f32⟩
  | 41 => ⟨S8192x2816, .f32⟩
  | 42 => ⟨S8192x2816, .f32⟩
  | 43 => ⟨S8192x2816, .f32⟩
  | 44 => ⟨S_, .f32⟩
  | 45 => ⟨S8192x2816, .f32⟩
  | 46 => ⟨S8192x2816, .f32⟩
  | 47 => ⟨S_, .f32⟩
  | 48 => ⟨S8192x2816, .f32⟩
  | 49 => ⟨S8192x2816, .f32⟩
  | 50 => ⟨S8192x2816, .f32⟩
  | 51 => ⟨S8192x2816, .f32⟩
  | 52 => ⟨S8192x2816, .bf16⟩
  | 53 => ⟨S8192x2816, .f32⟩
  | 54 => ⟨S2816x1024, .f32⟩
  | 55 => ⟨S8192x1024, .f32⟩
  | 56 => ⟨S8192x1024, .f32⟩
  | 57 => ⟨S8192x1024, .f32⟩
  | 58 => ⟨S_, .f32⟩
  | 59 => ⟨S8192, .f32⟩
  | 60 => ⟨S8192x1, .f32⟩
  | 61 => ⟨S_, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x1, .f32⟩
  | 68 => ⟨S8192x1, .f32⟩
  | 69 => ⟨S_, .f32⟩
  | 70 => ⟨S8192x1, .f32⟩
  | 71 => ⟨S8192x1, .f32⟩
  | 72 => ⟨S8192x1024, .f32⟩
  | 73 => ⟨S8192x1024, .f32⟩
  | 74 => ⟨S1x1024, .f32⟩
  | 75 => ⟨S8192x1024, .f32⟩
  | 76 => ⟨S8192x1024, .f32⟩
  | 77 => ⟨S8192x1024, .f32⟩
  | 78 => ⟨S8192x1024, .f32⟩
  | 79 => ⟨S_, .f32⟩
  | 80 => ⟨S8192x1024, .f32⟩
  | 81 => ⟨S8192x1024, .f32⟩
  | 82 => ⟨S_, .f32⟩
  | 83 => ⟨S8192, .f32⟩
  | 84 => ⟨S_, .f32⟩
  | 85 => ⟨S8192, .f32⟩
  | 86 => ⟨S8192, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S8192, .f32⟩
  | 95 => ⟨S_, .f32⟩
  | 96 => ⟨S8192, .f32⟩
  | 97 => ⟨S8192, .f32⟩
  | 98 => ⟨S8192x1024, .f32⟩
  | 99 => ⟨S8192x1024, .f32⟩
  | 100 => ⟨S8192x1024, .f32⟩
  | 101 => ⟨S_, .f32⟩
  | 102 => ⟨S1024, .f32⟩
  | 103 => ⟨S1x1024, .f32⟩
  | 104 => ⟨S8192x1024, .f32⟩
  | 105 => ⟨S8192x1024, .f32⟩
  | 106 => ⟨S_, .f32⟩
  | 107 => ⟨S1024, .f32⟩
  | 108 => ⟨S8192x1024, .f32⟩
  | 109 => ⟨S_, .f32⟩
  | 110 => ⟨S8192, .f32⟩
  | 111 => ⟨S8192x1, .f32⟩
  | 112 => ⟨S8192x1024, .f32⟩
  | 113 => ⟨S8192x1024, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192, .f32⟩
  | 120 => ⟨S8192x1024, .f32⟩
  | 121 => ⟨S8192x1024, .f32⟩
  | 122 => ⟨S8192x1024, .f32⟩
  | 123 => ⟨S8192x1024, .f32⟩
  | 124 => ⟨S8192x1024, .f32⟩
  | 125 => ⟨S8192x1024, .bf16⟩
  | 126 => ⟨S1x1, .f32⟩
  | 127 => ⟨S1x1024, .f32⟩
  | _ => ⟨S8192x5632, .bf16⟩

abbrev hbmTy0_1 (i : Nat) : BufTy := match i % 128 with
  | 0 => ⟨S8192x5632, .bf16⟩
  | _ => ⟨S8192x5632, .bf16⟩

abbrev hbmTy (i : Nat) : BufTy := match i / 128 with
  | 0 => hbmTy0_0 i
  | 1 => hbmTy0_1 i
  | _ => ⟨S8192x5632, .bf16⟩

abbrev bufTy : (tb : Table) → Fin (tcTables nBuf tb) → BufTy
  | .hbm, ⟨i, _⟩ => hbmTy i
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_1 : Ref sig .tc := ⟨.hbm, 58, rfl⟩
abbrev main_v41 : Ref sig .tc := ⟨.hbm, 59, rfl⟩
abbrev main_v42 : Ref sig .tc := ⟨.hbm, 60, rfl⟩
abbrev main_cst_2 : Ref sig .tc := ⟨.hbm, 61, rfl⟩
abbrev main_v43 : Ref sig .tc := ⟨.hbm, 62, rfl⟩
abbrev main_v44 : Ref sig .tc := ⟨.hbm, 63, rfl⟩
abbrev main_cst_3 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_5 : Ref sig .tc := ⟨.hbm, 79, rfl⟩
abbrev main_v58 : Ref sig .tc := ⟨.hbm, 80, rfl⟩
abbrev main_v59 : Ref sig .tc := ⟨.hbm, 81, rfl⟩
abbrev main_cst_6 : Ref sig .tc := ⟨.hbm, 82, rfl⟩
abbrev main_v60 : Ref sig .tc := ⟨.hbm, 83, rfl⟩
abbrev main_cst_7 : Ref sig .tc := ⟨.hbm, 84, rfl⟩
abbrev main_v61 : Ref sig .tc := ⟨.hbm, 85, rfl⟩
abbrev main_v62 : Ref sig .tc := ⟨.hbm, 86, rfl⟩
abbrev main_cst_8 : Ref sig .tc := ⟨.hbm, 87, rfl⟩
abbrev main_v63 : Ref sig .tc := ⟨.hbm, 88, rfl⟩
abbrev main_cst_9 : Ref sig .tc := ⟨.hbm, 89, rfl⟩
abbrev main_v64 : Ref sig .tc := ⟨.hbm, 90, rfl⟩
abbrev main_cst_10 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_cst_12 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_13 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_14 : Ref sig .tc := ⟨.hbm, 106, rfl⟩
abbrev main_v76 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_16 : Ref sig .tc := ⟨.hbm, 115, rfl⟩
abbrev main_v83 : Ref sig .tc := ⟨.hbm, 116, rfl⟩
abbrev main_v84 : Ref sig .tc := ⟨.hbm, 117, rfl⟩
abbrev main_cst_17 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]
-- ==== Kernel21.lean ====
abbrev S2x4096x1792 : Shape := ⟨3, ![2, 4096, 1792]⟩
abbrev S256x2048 : Shape := ⟨2, ![256, 2048]⟩
abbrev S2x8x4096x128 : Shape := ⟨4, ![2, 8, 4096, 128]⟩
abbrev S1x512x256 : Shape := ⟨3, ![1, 512, 256]⟩
abbrev S1x8x512x128 : Shape := ⟨4, ![1, 8, 512, 128]⟩
abbrev S512x256 : Shape := ⟨2, ![512, 256]⟩
abbrev S512x2048 : Shape := ⟨2, ![512, 2048]⟩
abbrev S512x128 : Shape := ⟨2, ![512, 128]⟩
abbrev S1x1x512x128 : Shape := ⟨4, ![1, 1, 512, 128]⟩

abbrev nBuf : Space → Nat
  | .hbm => 4
  | .vmem => 7
  | .smem => 0
  | _ => 0

abbrev bufTy : (tb : Table) → Fin (tcTables nBuf tb) → BufTy
  | .hbm, ⟨0, _⟩ => ⟨S2x4096x1792, .bf16⟩
  | .hbm, ⟨1, _⟩ => ⟨S256x2048, .bf16⟩
  | .hbm, ⟨2, _⟩ => ⟨S2x8x4096x128, .f32⟩
  | .hbm, ⟨3, _⟩ => ⟨S2x8x4096x128, .f32⟩
  | .local _ .vmem, ⟨0, _⟩ => ⟨S1x512x256, .bf16⟩
  | .local _ .vmem, ⟨1, _⟩ => ⟨S1x512x256, .bf16⟩
  | .local _ .vmem, ⟨2, _⟩ => ⟨S256x2048, .bf16⟩
  | .local _ .vmem, ⟨3, _⟩ => ⟨S1x8x512x128, .f32⟩
  | .local _ .vmem, ⟨4, _⟩ => ⟨S1x8x512x128, .f32⟩
  | .local _ .vmem, ⟨5, _⟩ => ⟨S1x8x512x128, .f32⟩
  | .local _ .vmem, ⟨6, _⟩ => ⟨S1x8x512x128, .f32⟩
  | _, _ => ⟨S2x4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference21Ideal.lean ====
abbrev S2x4096x1792 : Shape := ⟨3, ![2, 4096, 1792]⟩
abbrev S256x2048 : Shape := ⟨2, ![256, 2048]⟩
abbrev S2x4096x256 : Shape := ⟨3, ![2, 4096, 256]⟩
abbrev S256x2x8x128 : Shape := ⟨4, ![256, 2, 8, 128]⟩
abbrev S2x8x128x2x4096 : Shape := ⟨5, ![2, 8, 128, 2, 4096]⟩
abbrev S2x2x8x4096x128 : Shape := ⟨5, ![2, 2, 8, 4096, 128]⟩
abbrev S1x2x8x4096x128 : Shape := ⟨5, ![1, 2, 8, 4096, 128]⟩
abbrev S2x8x4096x128 : Shape := ⟨4, ![2, 8, 4096, 128]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x1792, .bf16⟩
  | .hbm, ⟨1, _⟩ => ⟨S256x2048, .bf16⟩
  | .hbm, ⟨2, _⟩ => ⟨S2x4096x256, .bf16⟩
  | .hbm, ⟨3, _⟩ => ⟨S2x4096x256, .f32⟩
  | .hbm, ⟨4, _⟩ => ⟨S256x2048, .f32⟩
  | .hbm, ⟨5, _⟩ => ⟨S256x2x8x128, .f32⟩
  | .hbm, ⟨6, _⟩ => ⟨S2x8x128x2x4096, .f32⟩
  | .hbm, ⟨7, _⟩ => ⟨S2x2x8x4096x128, .f32⟩
  | .hbm, ⟨8, _⟩ => ⟨S1x2x8x4096x128, .f32⟩
  | .hbm, ⟨9, _⟩ => ⟨S2x8x4096x128, .f32⟩
  | .hbm, ⟨10, _⟩ => ⟨S1x2x8x4096x128, .f32⟩
  | .hbm, ⟨11, _⟩ => ⟨S2x8x4096x128, .f32⟩
  | _, _ => ⟨S2x4096x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel22.lean ====
abbrev S2x8x4096x128 : Shape := ⟨4, ![2, 8, 4096, 128]⟩
abbrev S2x4096x1792 : Shape := ⟨3, ![2, 4096, 1792]⟩
abbrev S1024x256 : Shape := ⟨2, ![1024, 256]⟩
abbrev S1x256 : Shape := ⟨2, ![1, 256]⟩
abbrev S256x256 : Shape := ⟨2, ![256, 256]⟩
abbrev S2x4096x256 : Shape := ⟨3, ![2, 4096, 256]⟩
abbrev S1x8x512x128 : Shape := ⟨4, ![1, 8, 512, 128]⟩
abbrev S1x512x256 : Shape := ⟨3, ![1, 512, 256]⟩
abbrev S1x1x512x128 : Shape := ⟨4, ![1, 1, 512, 128]⟩
abbrev S512x128 : Shape := ⟨2, ![512, 128]⟩
abbrev S512x1024 : Shape := ⟨2, ![512, 1024]⟩
abbrev S512x256 : Shape := ⟨2, ![512, 256]⟩

abbrev nBuf : Space → Nat
  | .hbm => 9
  | .vmem => 13
  | .smem => 0
  | _ => 0

abbrev bufTy : (tb : Table) → Fin (tcTables nBuf tb) → BufTy
  | .hbm, ⟨0, _⟩ => ⟨S2x8x4096x128, .f32⟩
  | .hbm, ⟨1, _⟩ => ⟨S2x8x4096x128, .f32⟩
  | .hbm, ⟨2, _⟩ => ⟨S2x4096x1792, .bf16⟩
  | .hbm, ⟨3, _⟩ => ⟨S1024x256, .bf16⟩
  | .hbm, ⟨4, _⟩ => ⟨S1024x256, .bf16⟩
  | .hbm, ⟨5, _⟩ => ⟨S1x256, .f32⟩
  | .hbm, ⟨6, _⟩ => ⟨S256x256, .bf16⟩
  | .hbm, ⟨7, _⟩ => ⟨S1x256, .f32⟩
  | .hbm, ⟨8, _⟩ => ⟨S2x4096x256, .bf16⟩
  | .local _ .vmem, ⟨0, _⟩ => ⟨S1x8x512x128, .f32⟩
  | .local _ .vmem, ⟨1, _⟩ => ⟨S1x8x512x128, .f32⟩
  | .local _ .vmem, ⟨2, _⟩ => ⟨S1x8x512x128, .f32⟩
  | .local _ .vmem, ⟨3, _⟩ => ⟨S1x8x512x128, .f32⟩
  | .local _ .vmem, ⟨4, _⟩ => ⟨S1x512x256, .bf16⟩
  | .local _ .vmem, ⟨5, _⟩ => ⟨S1x512x256, .bf16⟩
  | .local _ .vmem, ⟨6, _⟩ => ⟨S1024x256, .bf16⟩
  | .local _ .vmem, ⟨7, _⟩ => ⟨S1024x256, .bf16⟩
  | .local _ .vmem, ⟨8, _⟩ => ⟨S1x256, .f32⟩
  | .local _ .vmem, ⟨9, _⟩ => ⟨S256x256, .bf16⟩
  | .local _ .vmem, ⟨10, _⟩ => ⟨S1x256, .f32⟩
  | .local _ .vmem, ⟨11, _⟩ => ⟨S1x512x256, .bf16⟩
  | .local _ .vmem, ⟨12, _⟩ => ⟨S1x512x256, .bf16⟩
  | _, _ => ⟨S2x8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference22Ideal.lean ====
abbrev S2x8x4096x128 : Shape := ⟨4, ![2, 8, 4096, 128]⟩
abbrev S2x4096x1792 : Shape := ⟨3, ![2, 4096, 1792]⟩
abbrev S1024x256 : Shape := ⟨2, ![1024, 256]⟩
abbrev S1x256 : Shape := ⟨2, ![1, 256]⟩
abbrev S256x256 : Shape := ⟨2, ![256, 256]⟩
abbrev S8x128x256 : Shape := ⟨3, ![8, 128, 256]⟩
abbrev S2x4096x256 : Shape := ⟨3, ![2, 4096, 256]⟩
abbrev S256 : Shape := ⟨1, ![256]⟩
abbrev S1x1x256 : Shape := ⟨3, ![1, 1, 256]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S2x8x4096x128, .f32⟩
  | .hbm, ⟨1, _⟩ => ⟨S2x8x4096x128, .f32⟩
  | .hbm, ⟨2, _⟩ => ⟨S2x4096x1792, .bf16⟩
  | .hbm, ⟨3, _⟩ => ⟨S1024x256, .bf16⟩
  | .hbm, ⟨4, _⟩ => ⟨S1024x256, .bf16⟩
  | .hbm, ⟨5, _⟩ => ⟨S1x256, .f32⟩
  | .hbm, ⟨6, _⟩ => ⟨S256x256, .bf16⟩
  | .hbm, ⟨7, _⟩ => ⟨S1x256, .f32⟩
  | .hbm, ⟨8, _⟩ => ⟨S1024x256, .f32⟩
  | .hbm, ⟨9, _⟩ => ⟨S8x128x256, .f32⟩
  | .hbm, ⟨10, _⟩ => ⟨S2x4096x256, .f32⟩
  | .hbm, ⟨11, _⟩ => ⟨S1024x256, .f32⟩
  | .hbm, ⟨12, _⟩ => ⟨S8x128x256, .f32⟩
  | .hbm, ⟨13, _⟩ => ⟨S2x4096x256, .f32⟩
  | .hbm, ⟨14, _⟩ => ⟨S2x4096x256, .f32⟩
  | .hbm, ⟨15, _⟩ => ⟨S256, .f32⟩
  | .hbm, ⟨16, _⟩ => ⟨S2x4096x256, .bf16⟩
  | .hbm, ⟨17, _⟩ => ⟨S2x4096x256, .f32⟩
  | .hbm, ⟨18, _⟩ => ⟨S1x1x256, .f32⟩
  | .hbm, ⟨19, _⟩ => ⟨S2x4096x256, .f32⟩
  | .hbm, ⟨20, _⟩ => ⟨S2x4096x256, .f32⟩
  | .hbm, ⟨21, _⟩ => ⟨S2x4096x256, .f32⟩
  | .hbm, ⟨22, _⟩ => ⟨S2x4096x256, .f32⟩
  | .hbm, ⟨23, _⟩ => ⟨S2x4096x256, .f32⟩
  | .hbm, ⟨24, _⟩ => ⟨S_, .f32⟩
  | .hbm, ⟨25, _⟩ => ⟨S2x4096x256, .f32⟩
  | .hbm, ⟨26, _⟩ => ⟨S2x4096x256, .f32⟩
  | .hbm, ⟨27, _⟩ => ⟨S2x4096x256, .f32⟩
  | .hbm, ⟨28, _⟩ => ⟨S_, .f32⟩
  | .hbm, ⟨29, _⟩ => ⟨S2x4096x256, .f32⟩
  | .hbm, ⟨30, _⟩ => ⟨S2x4096x256, .f32⟩
  | .hbm, ⟨31, _⟩ => ⟨S2x4096x256, .f32⟩
  | .hbm, ⟨32, _⟩ => ⟨S_, .f32⟩
  | .hbm, ⟨33, _⟩ => ⟨S2x4096x256, .f32⟩
  | .hbm, ⟨34, _⟩ => ⟨S2x4096x256, .f32⟩
  | .hbm, ⟨35, _⟩ => ⟨S_, .f32⟩
  | .hbm, ⟨36, _⟩ => ⟨S2x4096x256, .f32⟩
  | .hbm, ⟨37, _⟩ => ⟨S2x4096x256, .f32⟩
  | .hbm, ⟨38, _⟩ => ⟨S2x4096x256, .f32⟩
  | .hbm, ⟨39, _⟩ => ⟨S256x256, .f32⟩
  | .hbm, ⟨40, _⟩ => ⟨S2x4096x256, .f32⟩
  | .hbm, ⟨41, _⟩ => ⟨S256, .f32⟩
  | .hbm, ⟨42, _⟩ => ⟨S1x1x256, .f32⟩
  | .hbm, ⟨43, _⟩ => ⟨S2x4096x256, .f32⟩
  | .hbm, ⟨44, _⟩ => ⟨S2x4096x256, .f32⟩
  | .hbm, ⟨45, _⟩ => ⟨S2x4096x256, .f32⟩
  | .hbm, ⟨46, _⟩ => ⟨S2x4096x256, .f32⟩
  | .hbm, ⟨47, _⟩ => ⟨S_, .f32⟩
  | .hbm, ⟨48, _⟩ => ⟨S2x4096x256, .f32⟩
  | .hbm, ⟨49, _⟩ => ⟨S2x4096x256, .f32⟩
  | .hbm, ⟨50, _⟩ => ⟨S_, .f32⟩
  | .hbm, ⟨51, _⟩ => ⟨S2x4096x256, .f32⟩
  | .hbm, ⟨52, _⟩ => ⟨S2x4096x256, .f32⟩
  | .hbm, ⟨53, _⟩ => ⟨S2x4096x256, .f32⟩
  | .hbm, ⟨54, _⟩ => ⟨S2x4096x256, .bf16⟩
  | _, _ => ⟨S2x8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel23.lean ====
abbrev S16x64 : Shape := ⟨2, ![16, 64]⟩
abbrev S16x1 : Shape := ⟨2, ![16, 1]⟩

abbrev nBuf : Space → Nat
  | .hbm => 7
  | .vmem => 7
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16x1, .f32⟩
  | .hbm, ⟨3, _⟩ => ⟨S16x64, .f32⟩
  | .hbm, ⟨4, _⟩ => ⟨S16x64, .f32⟩
  | .hbm, ⟨5, _⟩ => ⟨S16x64, .f32⟩
  | .hbm, ⟨6, _⟩ => ⟨S16x64, .f32⟩
  | .local _ .vmem, ⟨0, _⟩ => ⟨S16x64, .f32⟩
  | .local _ .vmem, ⟨1, _⟩ => ⟨S16x64, .f32⟩
  | .local _ .vmem, ⟨2, _⟩ => ⟨S16x1, .f32⟩
  | .local _ .vmem, ⟨3, _⟩ => ⟨S16x64, .f32⟩
  | .local _ .vmem, ⟨4, _⟩ => ⟨S16x64, .f32⟩
  | .local _ .vmem, ⟨5, _⟩ => ⟨S16x64, .f32⟩
  | .local _ .vmem, ⟨6, _⟩ => ⟨S16x64, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference23Ideal.lean ====
abbrev S16x64 : Shape := ⟨2, ![16, 64]⟩
abbrev S16x1 : Shape := ⟨2, ![16, 1]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16x1, .f32⟩
  | .hbm, ⟨3, _⟩ => ⟨S_, .f32⟩
  | .hbm, ⟨4, _⟩ => ⟨S16x64, .f32⟩
  | .hbm, ⟨5, _⟩ => ⟨S16x64, .f32⟩
  | .hbm, ⟨6, _⟩ => ⟨S16x1, .f32⟩
  | .hbm, ⟨7, _⟩ => ⟨S16x64, .f32⟩
  | .hbm, ⟨8, _⟩ => ⟨S16x64, .f32⟩
  | .hbm, ⟨9, _⟩ => ⟨S16x64, .f32⟩
  | .hbm, ⟨10, _⟩ => ⟨S16x64, .f32⟩
  | .hbm, ⟨11, _⟩ => ⟨S16x64, .f32⟩
  | .hbm, ⟨12, _⟩ => ⟨S16x64, .f32⟩
  | .hbm, ⟨13, _⟩ => ⟨S16x64, .f32⟩
  | .hbm, ⟨14, _⟩ => ⟨S16x64, .f32⟩
  | .hbm, ⟨15, _⟩ => ⟨S16x64, .f32⟩
  | .hbm, ⟨16, _⟩ => ⟨S16x64, .f32⟩
  | .hbm, ⟨17, _⟩ => ⟨S16x64, .f32⟩
  | .hbm, ⟨18, _⟩ => ⟨S16x64, .f32⟩
  | .hbm, ⟨19, _⟩ => ⟨S16x64, .f32⟩
  | .hbm, ⟨20, _⟩ => ⟨S16x64, .f32⟩
  | .hbm, ⟨21, _⟩ => ⟨S_, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S16x64, .f32⟩
  | .hbm, ⟨27, _⟩ => ⟨S16x64, .f32⟩
  | .hbm, ⟨28, _⟩ => ⟨S16x64, .f32⟩
  | .hbm, ⟨29, _⟩ => ⟨S16x64, .f32⟩
  | .hbm, ⟨30, _⟩ => ⟨S16x64, .f32⟩
  | .hbm, ⟨31, _⟩ => ⟨S16x64, .f32⟩
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== Kernel24.lean ====
abbrev S1x1024 : Shape := ⟨2, ![1, 1024]⟩
abbrev S256x1024 : Shape := ⟨2, ![256, 1024]⟩
abbrev S256x2048 : Shape := ⟨2, ![256, 2048]⟩

abbrev nBuf : Space → Nat
  | .hbm => 5
  | .vmem => 5
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S256x2048, .bf16⟩
  | .local _ .vmem, ⟨0, _⟩ => ⟨S1x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .bf16⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference24Ideal.lean ====
abbrev S1x1024 : Shape := ⟨2, ![1, 1024]⟩
abbrev S256x1024 : Shape := ⟨2, ![256, 1024]⟩
abbrev S256x2048 : Shape := ⟨2, ![256, 2048]⟩

abbrev nBuf : Space → Nat
  | .hbm => 16
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S256x2048, .f32⟩
  | .hbm, ⟨15, _⟩ => ⟨S256x2048, .bf16⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel25.lean ====
abbrev S256x2048 : Shape := ⟨2, ![256, 2048]⟩
abbrev S1x1024 : Shape := ⟨2, ![1, 1024]⟩
abbrev S256x1024 : Shape := ⟨2, ![256, 1024]⟩
abbrev S1024 : Shape := ⟨1, ![1024]⟩

abbrev nBuf : Space → Nat
  | .hbm => 9
  | .vmem => 9
  | .smem => 0
  | _ => 0

abbrev bufTy : (tb : Table) → Fin (tcTables nBuf tb) → BufTy
  | .hbm, ⟨0, _⟩ => ⟨S256x2048, .f32⟩
  | .hbm, ⟨1, _⟩ => ⟨S1x1024, .f32⟩
  | .hbm, ⟨2, _⟩ => ⟨S1x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S1x1024, .f32⟩
  | .hbm, ⟨8, _⟩ => ⟨S1x1024, .f32⟩
  | .local _ .vmem, ⟨0, _⟩ => ⟨S256x2048, .f32⟩
  | .local _ .vmem, ⟨1, _⟩ => ⟨S1x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference25Ideal.lean ====
abbrev S256x2048 : Shape := ⟨2, ![256, 2048]⟩
abbrev S1x1024 : Shape := ⟨2, ![1, 1024]⟩
abbrev S256x1024 : Shape := ⟨2, ![256, 1024]⟩
abbrev S_ : Shape := ⟨0, ![]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x1024, .f32⟩
  | .hbm, ⟨2, _⟩ => ⟨S1x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S256x2048, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S1x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Proof.Trip.lean ====
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

/-! ## The block's rows as functions of a natural row number -/

/-- Row `t`, lane `l` of a block of 4096 rows; 0 past its end. -/
def rd (x : Vec Ideal S1x4096x256 .bf16) (t : ℕ) (l : Fin 256) : EReal :=
  if h : t < 4096 then x (ix3 0 ⟨t, h⟩ l) else 0

theorem rd_eq (x : Vec Ideal S1x4096x256 .bf16) {u : Fin 1} {p : Fin 4096} {q l : Fin 256} {t : ℕ} (ht : p.val = t) (hl : q.val = l.val) :
    x (ix3 u p q) = rd x t l := by
  subst ht
  obtain rfl : q = l := Fin.ext hl
  obtain rfl : u = 0 := Subsingleton.elim _ _
  unfold rd
  rw [dif_pos p.isLt]

/-- The product of the last two thirds of the projection, row `t`. -/
def qv (x1 x2 : Vec Ideal S1x4096x256 .bf16) (t : ℕ) (l : Fin 256) : EReal := rd x1 t l * rd x2 t l

/-- The same, `s` rows earlier; 0 before the first row. -/
def qm (x1 x2 : Vec Ideal S1x4096x256 .bf16) (s t : ℕ) (l : Fin 256) : EReal := if s ≤ t then qv x1 x2 (t - s) l else 0

/-- The causal convolution of `qv` over three rows. -/
def CQ (x1 x2 : Vec Ideal S1x4096x256 .bf16) (v0 : Vec Ideal S3x256 .f32) (v1 : Vec Ideal S1x256 .f32) (t : ℕ) (l : Fin 256) : EReal :=
  v1 (ix2 0 l) + v0 (ix2 0 l) * qm x1 x2 2 t l + v0 (ix2 1 l) * qm x1 x2 1 t l + v0 (ix2 2 l) * qv x1 x2 t l

/-- The gradient at the convolution: the cotangent times the gate. -/
def DV (x0 x3 : Vec Ideal S1x4096x256 .bf16) (t : ℕ) (l : Fin 256) : EReal := rd x3 t l * rd x0 t l

/-- The gradient at the convolution's input: the reversed convolution of `DV`. -/
def DQ (x0 x3 : Vec Ideal S1x4096x256 .bf16) (v0 : Vec Ideal S3x256 .f32) (t : ℕ) (l : Fin 256) : EReal :=
  v0 (ix2 2 l) * DV x0 x3 t l + v0 (ix2 1 l) * DV x0 x3 (t + 1) l + v0 (ix2 0 l) * DV x0 x3 (t + 2) l

/-! ## One trip's values at an index -/

theorem trips_eq : k0_t1_loop.trips = 16 := by decide +kernel
theorem off1_eq : ∀ k : Fin k0_t1_loop.trips, k0_off1 k = ![0, (15 - k.val) * 256, 0] := by decide +kernel
theorem off2_eq : ∀ k : Fin k0_t1_loop.trips, k0_off2 k = ![0, (15 - k.val) * 256 - 16, 0] := by decide +kernel
theorem off1_0 (k) : k0_off1 k 0 = 0 := by rw [off1_eq]; rfl
theorem off1_1 (k) : k0_off1 k 1 = (15 - k.val) * 256 := by rw [off1_eq]; rfl
theorem off1_2 (k) : k0_off1 k 2 = 0 := by rw [off1_eq]; rfl
theorem off2_1 (k) : k0_off2 k 1 = (15 - k.val) * 256 - 16 := by rw [off2_eq]; rfl
theorem off2_2 (k) : k0_off2 k 2 = 0 := by rw [off2_eq]; rfl

/-- The factor of the rows before a block: 0 at the first block, which is the last trip's, else 1. -/
theorem mask_int : ∀ k : Fin k0_t1_loop.trips, (Scalar.extui (Scalar.cmpi CmpIPredicate.sgt (Scalar.muli (Scalar.subi (15#32) (Scf.iv 0#32 1#32 k.val)) 256#32) 0#32) : BitVec 32).toInt
    = if k.val = 15 then 0 else 1 := by decide +kernel

variable (x0 x1 x2 x3 : Vec Ideal S1x4096x256 .bf16) (v0 : Vec Ideal S3x256 .f32) (v1 : Vec Ideal S1x256 .f32) (k : Fin k0_t1_loop.trips)

abbrev R1 : Rect S1x4096x256 := Rect.unit (s := S1x4096x256) (k0_off1 k) S1x256x256.size (k0_off1_inb k)
abbrev R2 : Rect S1x4096x256 := Rect.unit (s := S1x4096x256) (k0_off2 k) S1x16x256.size (k0_off2_inb k)

theorem pay2_at (a l : Fin 256) :
    k0_pay2 (F := Ideal) (View.ld x1 (R1 k)) (View.ld x2 (R1 k)) (ix2 a l) = qv x1 x2 ((15 - k.val) * 256 + a.val) l := by
  pointwise [k0_pay2]
  rw [rd_eq x1 (t := (15 - k.val) * 256 + a.val) (l := l) (by simp only [off1_1]) (by simp only [off1_2]; omega),
    rd_eq x2 (t := (15 - k.val) * 256 + a.val) (l := l) (by simp only [off1_1]) (by simp only [off1_2]; omega)]
  rfl

theorem row_ge (κ a s : ℕ) (hk : κ < 16) (h : ¬ κ = 15) (hs : s ≤ 2) : s ≤ (15 - κ) * 256 + a := by omega

theorem qm_pos (s t : ℕ) (h : s ≤ t) (l : Fin 256) : qm x1 x2 s t l = rd x1 (t - s) l * rd x2 (t - s) l := if_pos h
theorem qm_neg (s t : ℕ) (h : ¬ s ≤ t) (l : Fin 256) : qm x1 x2 s t l = 0 := if_neg h

/-- The factor as a value. -/
theorem mask_val0 (h : k.val = 15) : (((Scalar.extui (Scalar.cmpi CmpIPredicate.sgt (Scalar.muli (Scalar.subi (15#32) (Scf.iv 0#32 1#32 k.val)) 256#32) 0#32) : BitVec 32).toInt : ℝ) : EReal) = 0 := by
  rw [mask_int k, if_pos h]; simp
theorem mask_val1 (h : ¬ k.val = 15) : (((Scalar.extui (Scalar.cmpi CmpIPredicate.sgt (Scalar.muli (Scalar.subi (15#32) (Scf.iv 0#32 1#32 k.val)) 256#32) 0#32) : BitVec 32).toInt : ℝ) : EReal) = 1 := by
  rw [mask_int k, if_neg h]; simp

set_option maxHeartbeats 2000000 in
theorem pay4_at (a l : Fin 256) :
    k0_pay4 (F := Ideal) 0#32 1#32 k (View.ld x1 (R1 k)) (View.ld x2 (R1 k)) (View.ld x1 (R2 k)) (View.ld x2 (R2 k)) (ix2 a l)
      = qm x1 x2 1 ((15 - k.val) * 256 + a.val) l := by
  pointwise [k0_pay4, k0_pay3, k0_pay2]
  have hk : k.val < 16 := lt_of_lt_of_eq k.isLt trips_eq
  split
  · rename_i h
    by_cases h15 : k.val = 15
    · rw [qm_neg x1 x2 _ _ (by omega), mask_val0 k h15, mul_zero]
    · have hr := row_ge k.val a.val 1 hk h15 (by decide)
      rw [qm_pos x1 x2 _ _ hr, mask_val1 k h15, mul_one]
      rw [rd_eq x1 (t := (15 - k.val) * 256 + a.val - 1) (l := l) (by simp only [off2_1]; omega) (by simp only [off2_2]; omega),
        rd_eq x2 (t := (15 - k.val) * 256 + a.val - 1) (l := l) (by simp only [off2_1]; omega) (by simp only [off2_2]; omega)]
  · rename_i h
    rw [qm_pos x1 x2 _ _ (by omega)]
    rw [rd_eq x1 (t := (15 - k.val) * 256 + a.val - 1) (l := l) (by simp only [off1_1]; omega) (by simp only [off1_2]; omega),
        rd_eq x2 (t := (15 - k.val) * 256 + a.val - 1) (l := l) (by simp only [off1_1]; omega) (by simp only [off1_2]; omega)]

set_option maxHeartbeats 2000000 in
theorem pay5_at (a l : Fin 256) :
    k0_pay5 (F := Ideal) 0#32 1#32 k (View.ld x1 (R1 k)) (View.ld x2 (R1 k)) (View.ld x1 (R2 k)) (View.ld x2 (R2 k)) (ix2 a l)
      = qm x1 x2 2 ((15 - k.val) * 256 + a.val) l := by
  pointwise [k0_pay5, k0_pay3, k0_pay2]
  have hk : k.val < 16 := lt_of_lt_of_eq k.isLt trips_eq
  split
  · rename_i h
    by_cases h15 : k.val = 15
    · rw [qm_neg x1 x2 _ _ (by omega), mask_val0 k h15, mul_zero]
    · have hr := row_ge k.val a.val 2 hk h15 (by decide)
      rw [qm_pos x1 x2 _ _ hr, mask_val1 k h15, mul_one]
      rw [rd_eq x1 (t := (15 - k.val) * 256 + a.val - 2) (l := l) (by simp only [off2_1]; omega) (by simp only [off2_2]; omega),
        rd_eq x2 (t := (15 - k.val) * 256 + a.val - 2) (l := l) (by simp only [off2_1]; omega) (by simp only [off2_2]; omega)]
  · rename_i h
    rw [qm_pos x1 x2 _ _ (by omega)]
    rw [rd_eq x1 (t := (15 - k.val) * 256 + a.val - 2) (l := l) (by simp only [off1_1]; omega) (by simp only [off1_2]; omega),
        rd_eq x2 (t := (15 - k.val) * 256 + a.val - 2) (l := l) (by simp only [off1_1]; omega) (by simp only [off1_2]; omega)]

theorem pay6_at (a l : Fin 256) :
    k0_pay6 (F := Ideal) v0 v1 0#32 1#32 k (View.ld x1 (R1 k)) (View.ld x2 (R1 k)) (View.ld x1 (R2 k)) (View.ld x2 (R2 k)) (ix2 a l)
      = v1 (ix2 0 l) + v0 (ix2 0 l) * qm x1 x2 2 ((15 - k.val) * 256 + a.val) l + v0 (ix2 1 l) * qm x1 x2 1 ((15 - k.val) * 256 + a.val) l := by
  rw [← pay4_at x1 x2 k a l, ← pay5_at x1 x2 k a l]
  pointwise [k0_pay6]

theorem pay12_at (u v : FVec Ideal S256x256 .f32) (w) (a : Fin 1) (b l : Fin 256) :
    k0_pay12 (F := Ideal) u v (k0_pay7 v0) w (ix3 a b l) = w (ix3 0 b l) * (v (ix2 b l) + v0 (ix2 2 l) * u (ix2 b l)) := by
  pointwise [k0_pay12, k0_pay11, k0_pay8, k0_pay7]

theorem pay10_at (u v : FVec Ideal S256x256 .f32) (w) (a : Fin 1) (b l : Fin 256) :
    k0_pay10 (F := Ideal) u v (k0_pay7 v0) w (ix3 a b l) = w (ix3 0 b l) * (v (ix2 b l) + v0 (ix2 2 l) * u (ix2 b l)) := by
  pointwise [k0_pay10, k0_pay9, k0_pay8, k0_pay7]

theorem ld_at (x : Vec Ideal S1x4096x256 .bf16) (a : Fin 1) (b l : Fin 256) :
    View.ld x (R1 k) (ix3 a b l) = rd x ((15 - k.val) * 256 + b.val) l := by
  pointwise
  exact rd_eq x (by simp only [off1_1]) (by simp only [off1_2]; omega)

theorem pay13_at (a l : Fin 256) :
    k0_pay13 (F := Ideal) (View.ld x3 (R1 k)) (View.ld x0 (R1 k)) (ix2 a l) = DV x0 x3 ((15 - k.val) * 256 + a.val) l := by
  pointwise [k0_pay13, k0_pay11, k0_pay9]
  rw [rd_eq x3 (t := (15 - k.val) * 256 + a.val) (l := l) (by simp only [off1_1]) (by simp only [off1_2]; omega),
    rd_eq x0 (t := (15 - k.val) * 256 + a.val) (l := l) (by simp only [off1_1]) (by simp only [off1_2]; omega)]
  rfl

theorem pay14_at (cr : FVec Ideal S16x256 .f32) (hcr : ∀ (a : Fin 16) (l : Fin 256), cr (ix2 a l) = DV x0 x3 ((16 - k.val) * 256 + a.val) l) (a l : Fin 256) :
    k0_pay14 (F := Ideal) v0 cr (View.ld x3 (R1 k)) (View.ld x0 (R1 k)) (ix2 a l) = DQ x0 x3 v0 ((15 - k.val) * 256 + a.val) l := by
  have hk : k.val < 16 := lt_of_lt_of_eq k.isLt trips_eq
  have key : ∀ (s : ℕ) (hs : s ≤ 2) (hm : 272 - s ≤ 272), (if h : (a.val + 272 - (272 - s)) % 272 < 256 then
      k0_pay13 (F := Ideal) (View.ld x3 (R1 k)) (View.ld x0 (R1 k)) (ix2 ⟨(a.val + 272 - (272 - s)) % 272, h⟩ l)
      else cr (ix2 ⟨(a.val + 272 - (272 - s)) % 272 - 256, by omega⟩ l)) = DV x0 x3 ((15 - k.val) * 256 + a.val + s) l := by
    intro s hs hm
    split
    · rename_i h
      rw [pay13_at]; dsimp only; congr 1; omega
    · rename_i h
      rw [hcr]; dsimp only; congr 1; omega
  have k1 := key 1 (by omega) (by omega)
  have k2 := key 2 (by omega) (by omega)
  unfold DQ
  rw [← pay13_at, ← k1, ← k2]
  pointwise [k0_pay14]

theorem pay18_at (u : FVec Ideal S256x256 .bf16) (a : Fin 1) (b l : Fin 256) : k0_pay18 (F := Ideal) u (ix3 a b l) = u (ix2 b l) := by
  pointwise [k0_pay18]

theorem pay15_at (cr : FVec Ideal S16x256 .f32) (y0 y1 y2) (a l : Fin 256) :
    k0_pay15 (F := Ideal) v0 cr y0 y1 y2 (ix2 a l) = k0_pay14 (F := Ideal) v0 cr y0 y1 (ix2 a l) * y2 (ix3 0 a l) := by
  pointwise [k0_pay15]

theorem pay19_at (u : FVec Ideal S256x256 .f32) (w) (a : Fin 1) (b l : Fin 256) : k0_pay19 (F := Ideal) u w (ix3 a b l) = u (ix2 b l) * w (ix3 0 b l) := by
  pointwise [k0_pay19]

theorem pay20_at (u : FVec Ideal S256x256 .f32) (a : Fin 16) (l : Fin 256) : k0_pay20 (F := Ideal) u (ix2 a l) = u (ix2 ⟨a.val, by omega⟩ l) := by
  pointwise [k0_pay20]

theorem pay21_at (c : FVec Ideal S8x256 .f32) (u v : FVec Ideal S256x256 .f32) (a : Fin 8) (l : Fin 256) :
    k0_pay21 (F := Ideal) c u v (ix2 a l) = c (ix2 a l) + ∑ g : Fin 32, v (ix2 ⟨g.val * 8 + a.val, by omega⟩ l) * u (ix2 ⟨g.val * 8 + a.val, by omega⟩ l) := by
  pointwise [k0_pay21]

theorem pay22_at (c : FVec Ideal S8x256 .f32) (u v : FVec Ideal S256x256 .f32) (a : Fin 8) (l : Fin 256) :
    k0_pay22 (F := Ideal) c u v (ix2 a l) = c (ix2 a l) + ∑ g : Fin 32, v (ix2 ⟨g.val * 8 + a.val, by omega⟩ l) * u (ix2 ⟨g.val * 8 + a.val, by omega⟩ l) := by
  pointwise [k0_pay22]

theorem pay23_at (c : FVec Ideal S8x256 .f32) (u v : FVec Ideal S256x256 .f32) (a : Fin 8) (l : Fin 256) :
    k0_pay23 (F := Ideal) c u v (ix2 a l) = c (ix2 a l) + ∑ g : Fin 32, v (ix2 ⟨g.val * 8 + a.val, by omega⟩ l) * u (ix2 ⟨g.val * 8 + a.val, by omega⟩ l) := by
  pointwise [k0_pay23]

theorem pay24_at (c : FVec Ideal S8x256 .f32) (v : FVec Ideal S256x256 .f32) (a : Fin 8) (l : Fin 256) :
    k0_pay24 (F := Ideal) c v (ix2 a l) = c (ix2 a l) + ∑ g : Fin 32, v (ix2 ⟨g.val * 8 + a.val, by omega⟩ l) := by
  pointwise [k0_pay24]

theorem pay16_at (a : Fin 8) (l : Fin 256) : k0_pay16 (F := Ideal) (ix2 a l) = 0 := by pointwise [k0_pay16]
theorem pay17_at (a : Fin 16) (l : Fin 256) : k0_pay17 (F := Ideal) (ix2 a l) = 0 := by pointwise [k0_pay17]

end Cert.KernelIdeal.Val
end
-- ==== Proof.Loop.lean ====
module

public import proofs.«01_k».proof.Proof.Gen.KernelIdeal.Value
public import proofs.«01_k».proof.Proof.Trip
public import Idealize.ShloMosaic.Lib.Pipeline.ValueKit
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

variable (x0 x1 x2 x3 : Vec Ideal S1x4096x256 .bf16) (v0 : Vec Ideal S3x256 .f32) (v1 : Vec Ideal S1x256 .f32) (k : Fin k0_t1_loop.trips)

/-! ## The loop over the blocks of rows, from the last to the first -/

section Canon

theorem canon_step (L : List (View.Piece (Elt Ideal) S1x4096x256 .bf16)) (w : (R1 k).shape.Idx → Elt Ideal .bf16) (S : ℕ → Fin 256 → EReal)
    (hw : ∀ (a : Fin 1) (b l : Fin 256), w (ix3 a b l) = S ((15 - k.val) * 256 + b.val) l)
    (hL : ∀ (a : Fin 1) (t : Fin 4096) (l : Fin 256), (16 - k.val) * 256 ≤ t.val → View.canon L (ix3 a t l) = S t.val l) :
    ∀ (a : Fin 1) (t : Fin 4096) (l : Fin 256), (16 - (k.val + 1)) * 256 ≤ t.val → View.canon (⟨R1 k, w⟩ :: L) (ix3 a t l) = S t.val l := by
  intro a t l ht
  have hk : k.val < 16 := lt_of_lt_of_eq k.isLt trips_eq
  generalize hκ : k.val = κ at *
  by_cases h : t.val < (16 - κ) * 256
  · have e : (ix3 a t l : S1x4096x256.Idx) = (R1 k).emb (ix3 (0 : Fin 1) (⟨t.val - (15 - κ) * 256, by omega⟩ : Fin 256) l) := by
      funext d
      apply Fin.ext
      rw [Idealize.ShloMosaic.ValueKit.rect_emb_unit_val]
      fin_cases d
      · show a.val = k0_off1 k 0 + 0
        rw [off1_0]; omega
      · show t.val = k0_off1 k 1 + (t.val - (15 - κ) * 256)
        rw [off1_1, hκ]; omega
      · show l.val = k0_off1 k 2 + l.val
        rw [off1_2]; omega
    rw [e, View.canon_cons_emb, hw]
    dsimp only
    congr 1; omega
  · rw [View.canon_cons_of_not_mem, hL a t l (by omega)]
    rw [Rect.mem_set_unit]
    intro hm
    have h1 := hm 1
    simp only [off1_1, hκ] at h1
    have h2 : t.val < (15 - κ) * 256 + 256 := h1.2
    omega

end Canon

/-- What is known before trip `n`: the first sixteen rows of the block above, the four sums over the
blocks done, and the rows written. -/
structure LoopInv (x0 x1 x2 x3 : Vec Ideal S1x4096x256 .bf16) (v0 : Vec Ideal S3x256 .f32) (v1 : Vec Ideal S1x256 .f32) (n : ℕ)
    (s : (FVec Ideal S16x256 .f32 × FVec Ideal S8x256 .f32 × FVec Ideal S8x256 .f32 × FVec Ideal S8x256 .f32 × FVec Ideal S8x256 .f32) × List (View.Piece (Elt Ideal) S1x4096x256 .bf16) × List (View.Piece (Elt Ideal) S1x4096x256 .bf16) × List (View.Piece (Elt Ideal) S1x4096x256 .bf16) × List (View.Piece (Elt Ideal) S1x4096x256 .bf16)) : Prop where
  carry : ∀ (a : Fin 16) (l : Fin 256), s.1.1 (ix2 a l) = DV x0 x3 ((16 - n) * 256 + a.val) l
  a0 : ∀ (a : Fin 8) (l : Fin 256), s.1.2.1 (ix2 a l) = ∑ j ∈ Finset.range n, ∑ g : Fin 32, DV x0 x3 ((15 - j) * 256 + (g.val * 8 + a.val)) l * qm x1 x2 2 ((15 - j) * 256 + (g.val * 8 + a.val)) l
  a1 : ∀ (a : Fin 8) (l : Fin 256), s.1.2.2.1 (ix2 a l) = ∑ j ∈ Finset.range n, ∑ g : Fin 32, DV x0 x3 ((15 - j) * 256 + (g.val * 8 + a.val)) l * qm x1 x2 1 ((15 - j) * 256 + (g.val * 8 + a.val)) l
  a2 : ∀ (a : Fin 8) (l : Fin 256), s.1.2.2.2.1 (ix2 a l) = ∑ j ∈ Finset.range n, ∑ g : Fin 32, DV x0 x3 ((15 - j) * 256 + (g.val * 8 + a.val)) l * qv x1 x2 ((15 - j) * 256 + (g.val * 8 + a.val)) l
  a3 : ∀ (a : Fin 8) (l : Fin 256), s.1.2.2.2.2 (ix2 a l) = ∑ j ∈ Finset.range n, ∑ g : Fin 32, DV x0 x3 ((15 - j) * 256 + (g.val * 8 + a.val)) l
  sc : ∀ (a : Fin 1) (t : Fin 4096) (l : Fin 256), (16 - n) * 256 ≤ t.val → View.canon s.2.1 (ix3 a t l) = rd x0 t.val l * CQ x1 x2 v0 v1 t.val l
  dbg : ∀ (a : Fin 1) (t : Fin 4096) (l : Fin 256), (16 - n) * 256 ≤ t.val → View.canon s.2.2.1 (ix3 a t l) = rd x3 t.val l * CQ x1 x2 v0 v1 t.val l
  dcg : ∀ (a : Fin 1) (t : Fin 4096) (l : Fin 256), (16 - n) * 256 ≤ t.val → View.canon s.2.2.2.1 (ix3 a t l) = DQ x0 x3 v0 t.val l * rd x2 t.val l
  dhx : ∀ (a : Fin 1) (t : Fin 4096) (l : Fin 256), (16 - n) * 256 ≤ t.val → View.canon s.2.2.2.2 (ix3 a t l) = DQ x0 x3 v0 t.val l * rd x1 t.val l

abbrev init0 : FVec Ideal S16x256 .f32 × FVec Ideal S8x256 .f32 × FVec Ideal S8x256 .f32 × FVec Ideal S8x256 .f32 × FVec Ideal S8x256 .f32 := (k0_pay17, k0_pay16, k0_pay16, k0_pay16, k0_pay16)

theorem loop_inv (c : Dev nD) (i : grid0.Coords) (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S3x256 .f32) (harg6 : arg6.IsWhole) (arg7 : Memref sig .tc .vmem S1x256 .f32) (harg7 : arg7.IsWhole) (arg8 : Memref sig .tc .vmem S1x4096x256 .bf16) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x256 .bf16) (harg11 : arg11.IsWhole) (arg12 : Memref sig .tc .vmem S3x256 .f32) (harg12 : arg12.IsWhole) (arg13 : Memref sig .tc .vmem S1x256 .f32) (harg13 : arg13.IsWhole) : ∀ n ≤ 16,
    LoopInv x0 x1 x2 x3 v0 v1 n (st_k0_t1 (F := Ideal) Variants.none c none i arg2 harg2 arg3 harg3 arg4 harg4 arg5 harg5 arg6 harg6 arg7 harg7 arg8 harg8 arg9 harg9 arg10 harg10 arg11 harg11 arg12 harg12 arg13 harg13 v0 v1 (harg2.unread x0) (harg3.unread x1) (harg4.unread x2) (harg5.unread x3) init0 n) := by
  intro n
  induction n with
  | zero =>
    intro _
    refine ⟨?_, ?_, ?_, ?_, ?_, ?_, ?_, ?_, ?_⟩
    · intro a l
      refine (pay17_at a l).trans ?_
      unfold DV rd
      rw [dif_neg (by omega), dif_neg (by omega), mul_zero]
    · intro a l; exact (pay16_at a l).trans (by simp)
    · intro a l; exact (pay16_at a l).trans (by simp)
    · intro a l; exact (pay16_at a l).trans (by simp)
    · intro a l; exact (pay16_at a l).trans (by simp)
    all_goals (intro a t l ht; omega)
  | succ n ih =>
    intro hn
    have hi := ih (by omega)
    obtain ⟨k, rfl⟩ : ∃ k : Fin k0_t1_loop.trips, k.val = n := ⟨⟨n, lt_of_lt_of_eq (by omega) trips_eq.symm⟩, rfl⟩
    have hk : k.val < 16 := lt_of_lt_of_eq k.isLt trips_eq
    have h16 : 16 - (k.val + 1) = 15 - k.val := by omega
    rw [st_k0_t1_succ]
    generalize st_k0_t1 (F := Ideal) Variants.none c none i arg2 harg2 arg3 harg3 arg4 harg4 arg5 harg5 arg6 harg6 arg7 harg7 arg8 harg8 arg9 harg9 arg10 harg10 arg11 harg11 arg12 harg12 arg13 harg13 v0 v1 (harg2.unread x0) (harg3.unread x1) (harg4.unread x2) (harg5.unread x3) init0 k.val = s at hi ⊢
    unfold tripR_k0_t1 tripL_k0_t1; unfold trip_k0_t1; dsimp only; simp only [View.readAt_eq_ld, Memref.IsWhole.read_unread]
    unfold trip_k0_t1.sl.r trip_k0_t1.sl.r_1 trip_k0_t1.sl.r_2 trip_k0_t1.sl.r_3 trip_k0_t1.sl.r_4 trip_k0_t1.sl.r_5 trip_k0_t1.sl.r_6
    dsimp only
    simp only [View.readAt_eq_ld, Memref.IsWhole.read_unread]
    refine ⟨?_, ?_, ?_, ?_, ?_, ?_, ?_, ?_, ?_⟩
    · intro a l
      rw [h16]
      dsimp only
      rw [pay20_at, pay13_at]
    · intro a l
      dsimp only
      rw [pay21_at, hi.a0, Finset.sum_range_succ]
      congr 1
      refine Finset.sum_congr rfl fun g _ => ?_
      rw [pay13_at, pay5_at]
    · intro a l
      dsimp only
      rw [pay22_at, hi.a1, Finset.sum_range_succ]
      congr 1
      refine Finset.sum_congr rfl fun g _ => ?_
      rw [pay13_at, pay4_at]
    · intro a l
      dsimp only
      rw [pay23_at, hi.a2, Finset.sum_range_succ]
      congr 1
      refine Finset.sum_congr rfl fun g _ => ?_
      rw [pay13_at, pay2_at]
    · intro a l
      dsimp only
      rw [pay24_at, hi.a3, Finset.sum_range_succ]
      congr 1
      refine Finset.sum_congr rfl fun g _ => ?_
      rw [pay13_at]
    · dsimp only [List.cons_append, List.nil_append]
      refine canon_step k _ _ (fun t l => rd x0 t l * CQ x1 x2 v0 v1 t l) (fun a b l => ?_) hi.sc
      rw [pay12_at, ld_at, pay6_at, pay2_at]
      rfl
    · dsimp only [List.cons_append, List.nil_append]
      refine canon_step k _ _ (fun t l => rd x3 t l * CQ x1 x2 v0 v1 t l) (fun a b l => ?_) hi.dbg
      rw [pay10_at, ld_at, pay6_at, pay2_at]
      rfl
    · dsimp only [List.cons_append, List.nil_append]
      refine canon_step k _ _ (fun t l => DQ x0 x3 v0 t l * rd x2 t l) (fun a b l => ?_) hi.dcg
      rw [pay18_at, pay15_at, ld_at, pay14_at x0 x3 v0 k _ hi.carry]
    · dsimp only [List.cons_append, List.nil_append]
      refine canon_step k _ _ (fun t l => DQ x0 x3 v0 t l * rd x1 t l) (fun a b l => ?_) hi.dhx
      rw [pay19_at, ld_at, pay14_at x0 x3 v0 k _ hi.carry]

end Cert.KernelIdeal.Val
end
-- ==== Proof.Outs.lean ====
module

public import proofs.«01_k».proof.Proof.Gen.KernelIdeal.Value
public import proofs.«01_k».proof.Proof.Loop
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

/-! ## The four sums over all rows -/

theorem sum_rows {M : Type} [AddCommMonoid M] (f : ℕ → M) :
    ∑ r : Fin 8, ∑ j ∈ Finset.range 16, ∑ g : Fin 32, f ((15 - j) * 256 + (g.val * 8 + r.val)) = ∑ t : Fin 4096, f t.val := by
  have e1 : ∑ t : Fin 4096, f t.val = ∑ j ∈ Finset.range 16, ∑ b ∈ Finset.range 256, f (j * 256 + b) := by
    rw [Finset.sum_fin_eq_sum_range, ← Finset.sum_range_mul_split 16 256 f]
    exact Finset.sum_congr rfl fun t ht => dif_pos (Finset.mem_range.mp ht)
  rw [e1, ← Finset.sum_range_reflect, Finset.sum_comm]
  refine Finset.sum_congr rfl fun j hj => ?_
  rw [Finset.sum_comm]
  have e2 := Finset.sum_range_mul_split 32 8 (fun b => f ((15 - j) * 256 + b))
  rw [show 16 - 1 - j = 15 - j by omega, show 256 = 32 * 8 by rfl, e2, Finset.sum_range]
  refine Finset.sum_congr rfl fun g _ => ?_
  rw [Finset.sum_range]

/-- The gradient of tap `2 - s` at lane `l` from one block: the sum over all rows of the gradient at
the convolution times the convolution's input `s` rows earlier. -/
def DWs (x0 x1 x2 x3 : Vec Ideal S1x4096x256 .bf16) (s : ℕ) (l : Fin 256) : EReal := ∑ t : Fin 4096, DV x0 x3 t.val l * qm x1 x2 s t.val l

/-- The gradient of the bias at lane `l` from one block. -/
def DBs (x0 x3 : Vec Ideal S1x4096x256 .bf16) (l : Fin 256) : EReal := ∑ t : Fin 4096, DV x0 x3 t.val l

theorem qm_zero (x1 x2 : Vec Ideal S1x4096x256 .bf16) (t : ℕ) (l : Fin 256) : qm x1 x2 0 t l = qv x1 x2 t l := if_pos (Nat.zero_le t)

theorem pay27_at (c : FVec Ideal S8x256 .f32) (u : FVec Ideal S1x256 .f32) (a : Fin 1) (l : Fin 256) :
    k0_pay27 (F := Ideal) c u (ix2 a l) = u (ix2 a l) + ∑ x : Fin 8, c (ix2 x l) := by pointwise [k0_pay27]
theorem pay28_at (c : FVec Ideal S8x256 .f32) (u : FVec Ideal S1x256 .f32) (a : Fin 1) (l : Fin 256) :
    k0_pay28 (F := Ideal) c u (ix2 a l) = u (ix2 a l) + ∑ x : Fin 8, c (ix2 x l) := by pointwise [k0_pay28]
theorem pay29_at (c : FVec Ideal S8x256 .f32) (u : FVec Ideal S1x256 .f32) (a : Fin 1) (l : Fin 256) :
    k0_pay29 (F := Ideal) c u (ix2 a l) = u (ix2 a l) + ∑ x : Fin 8, c (ix2 x l) := by pointwise [k0_pay29]
theorem pay1_at (c : FVec Ideal S8x256 .f32) (u : FVec Ideal S1x256 .f32) (a : Fin 1) (l : Fin 256) :
    k0_pay1 (F := Ideal) c u (ix2 a l) = u (ix2 a l) + ∑ x : Fin 8, c (ix2 x l) := by pointwise [k0_pay1]
theorem pay25_at (a : Fin 3) (l : Fin 256) : k0_pay25 (F := Ideal) (ix2 a l) = 0 := by pointwise [k0_pay25]
theorem pay26_at (a : Fin 1) (l : Fin 256) : k0_pay26 (F := Ideal) (ix2 a l) = 0 := by pointwise [k0_pay26]

theorem row_not_mem (r : Fin 3) (o : ℕ) (h : r.val < o) (inb) (l : Fin 256) :
    (ix2 r l : S3x256.Idx) ∉ (Rect.unit (s := S3x256) ![o, 0] ![1, 256] inb).set := by
  rw [Rect.mem_set_unit]
  intro hm
  have h0 : o ≤ r.val := (hm 0).1
  omega

theorem row_emb (r : Fin 3) (inb) (l : Fin 256) :
    (ix2 r l : S3x256.Idx) = (Rect.unit (s := S3x256) ![r.val, 0] ![1, 256] inb).emb (ix2 (0 : Fin 1) l) := by
  funext d
  apply Fin.ext
  rw [Idealize.ShloMosaic.ValueKit.rect_emb_unit_val]
  fin_cases d
  · rfl
  · show l.val = 0 + l.val; omega

theorem canon_skip (r : Fin 3) (o : ℕ) (h : r.val < o) (inb) (w : S1x256.Idx → Elt Ideal .f32) (L : List (View.Piece (Elt Ideal) S3x256 .f32)) (l : Fin 256) :
    View.canon ((⟨Rect.unit ![o, 0] ![1, 256] inb, w⟩ : View.Piece (Elt Ideal) S3x256 .f32) :: L) (ix2 r l) = View.canon L (ix2 r l) :=
  View.canon_cons_of_not_mem _ _ (row_not_mem r o h inb l)

theorem canon_hit (r : Fin 3) (inb) (w : S1x256.Idx → Elt Ideal .f32) (L : List (View.Piece (Elt Ideal) S3x256 .f32)) (l : Fin 256) :
    View.canon ((⟨Rect.unit ![r.val, 0] ![1, 256] inb, w⟩ : View.Piece (Elt Ideal) S3x256 .f32) :: L) (ix2 r l) = w (ix2 0 l) := by
  rw [row_emb r inb l]
  exact View.canon_cons_emb _ _ _ _

/-- Three rows stored one by one over anything. -/
theorem rows_canon (w0 w1 w2 : S1x256.Idx → Elt Ideal .f32) (L : List (View.Piece (Elt Ideal) S3x256 .f32)) (S : Fin 3 → Fin 256 → EReal)
    (h0 : ∀ l, w0 (ix2 0 l) = S 0 l) (h1 : ∀ l, w1 (ix2 0 l) = S 1 l) (h2 : ∀ l, w2 (ix2 0 l) = S 2 l) (r : Fin 3) (l : Fin 256) :
    View.canon ((⟨Rect.unit ![2, 0] ![1, 256] inb_S3x256_S1x256_2_0, w2⟩ : View.Piece (Elt Ideal) S3x256 .f32) ::
      ⟨Rect.unit ![1, 0] ![1, 256] inb_S3x256_S1x256_1_0, w1⟩ :: ⟨Rect.unit ![0, 0] ![1, 256] inb_S3x256_S1x256_0_0, w0⟩ :: L) (ix2 r l) = S r l :=
  match r with
  | 0 => (canon_skip 0 2 (by decide) inb_S3x256_S1x256_2_0 w2 _ l).trans ((canon_skip 0 1 (by decide) inb_S3x256_S1x256_1_0 w1 _ l).trans
      ((canon_hit 0 inb_S3x256_S1x256_0_0 w0 L l).trans (h0 l)))
  | 1 => (canon_skip 1 2 (by decide) inb_S3x256_S1x256_2_0 w2 _ l).trans ((canon_hit 1 inb_S3x256_S1x256_1_0 w1 _ l).trans (h1 l))
  | 2 => (canon_hit 2 inb_S3x256_S1x256_2_0 w2 _ l).trans (h2 l)

/-- A row of a block of three, loaded alone. -/
theorem ld_row (x : Vec Ideal S3x256 .f32) (r : Fin 3) (inb) (a : Fin 1) (l : Fin 256) :
    View.ld x (Rect.unit (s := S3x256) ![r.val, 0] ![1, 256] inb) (ix2 a l) = x (ix2 r l) := by
  pointwise

/-! ## What one grid point leaves in each output block -/

/-- The loop's final state. -/
theorem loop_end (c : Dev nD) (i : grid0.Coords) (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S3x256 .f32) (harg6 : arg6.IsWhole) (arg7 : Memref sig .tc .vmem S1x256 .f32) (harg7 : arg7.IsWhole) (arg8 : Memref sig .tc .vmem S1x4096x256 .bf16) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x256 .bf16) (harg11 : arg11.IsWhole) (arg12 : Memref sig .tc .vmem S3x256 .f32) (harg12 : arg12.IsWhole) (arg13 : Memref sig .tc .vmem S1x256 .f32) (harg13 : arg13.IsWhole) (x0 x1 x2 x3 : Vec Ideal S1x4096x256 .bf16) (v0 : Vec Ideal S3x256 .f32) (v1 : Vec Ideal S1x256 .f32) :
    LoopInv x0 x1 x2 x3 v0 v1 16 (st_k0_t1 (F := Ideal) Variants.none c none i arg2 harg2 arg3 harg3 arg4 harg4 arg5 harg5 arg6 harg6 arg7 harg7 arg8 harg8 arg9 harg9 arg10 harg10 arg11 harg11 arg12 harg12 arg13 harg13 v0 v1 (harg2.unread x0) (harg3.unread x1) (harg4.unread x2) (harg5.unread x3)
      (k0_pay17, k0_pay16, k0_pay16, k0_pay16, k0_pay16) (Scf.trips (0#32) (Scalar.addi 0#32 16#32) 1#32)) :=
  loop_inv x0 x1 x2 x3 v0 v1 c i arg2 harg2 arg3 harg3 arg4 harg4 arg5 harg5 arg6 harg6 arg7 harg7 arg8 harg8 arg9 harg9 arg10 harg10 arg11 harg11 arg12 harg12 arg13 harg13 16 le_rfl

section Sums
variable {x0 x1 x2 x3 : Vec Ideal S1x4096x256 .bf16} {v0 : Vec Ideal S3x256 .f32} {v1 : Vec Ideal S1x256 .f32} {s : (FVec Ideal S16x256 .f32 × FVec Ideal S8x256 .f32 × FVec Ideal S8x256 .f32 × FVec Ideal S8x256 .f32 × FVec Ideal S8x256 .f32) × List (View.Piece (Elt Ideal) S1x4096x256 .bf16) × List (View.Piece (Elt Ideal) S1x4096x256 .bf16) × List (View.Piece (Elt Ideal) S1x4096x256 .bf16) × List (View.Piece (Elt Ideal) S1x4096x256 .bf16)}
  (h : LoopInv x0 x1 x2 x3 v0 v1 16 s)
include h
theorem sum_a0 (l : Fin 256) : ∑ x : Fin 8, s.1.2.1 (ix2 x l) = DWs x0 x1 x2 x3 2 l := by
  simp only [h.a0]; exact sum_rows fun t => DV x0 x3 t l * qm x1 x2 2 t l
theorem sum_a1 (l : Fin 256) : ∑ x : Fin 8, s.1.2.2.1 (ix2 x l) = DWs x0 x1 x2 x3 1 l := by
  simp only [h.a1]; exact sum_rows fun t => DV x0 x3 t l * qm x1 x2 1 t l
theorem sum_a2 (l : Fin 256) : ∑ x : Fin 8, s.1.2.2.2.1 (ix2 x l) = DWs x0 x1 x2 x3 0 l := by
  simp only [h.a2, ← qm_zero]; exact sum_rows fun t => DV x0 x3 t l * qm x1 x2 0 t l
theorem sum_a3 (l : Fin 256) : ∑ x : Fin 8, s.1.2.2.2.2 (ix2 x l) = DBs x0 x3 l := by
  simp only [h.a3]; exact sum_rows fun t => DV x0 x3 t l
end Sums

theorem outA6 (c : Dev nD) (i : grid0.Coords) (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S3x256 .f32) (harg6 : arg6.IsWhole) (arg7 : Memref sig .tc .vmem S1x256 .f32) (harg7 : arg7.IsWhole) (arg8 : Memref sig .tc .vmem S1x4096x256 .bf16) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x256 .bf16) (harg11 : arg11.IsWhole) (arg12 : Memref sig .tc .vmem S3x256 .f32) (harg12 : arg12.IsWhole) (arg13 : Memref sig .tc .vmem S1x256 .f32) (harg13 : arg13.IsWhole) (hc0 : cond0_0 i) (x0 x1 x2 x3 : Vec Ideal S1x4096x256 .bf16) (v0 : Vec Ideal S3x256 .f32) (v1 : Vec Ideal S1x256 .f32) (a : Fin 1) (t : Fin 4096) (l : Fin 256) :
    out0_A_6 (F := Ideal) c i arg2 harg2 arg3 harg3 arg4 harg4 arg5 harg5 arg6 harg6 arg7 harg7 arg8 harg8 arg9 harg9 arg10 harg10 arg11 harg11 arg12 harg12 arg13 harg13 hc0 x0 x1 x2 x3 v0 v1 (ix3 a t l) = rd x0 t.val l * CQ x1 x2 v0 v1 t.val l := by
  frame_out
  exact (loop_end c i arg2 harg2 arg3 harg3 arg4 harg4 arg5 harg5 arg6 harg6 arg7 harg7 arg8 harg8 arg9 harg9 arg10 harg10 arg11 harg11 arg12 harg12 arg13 harg13 x0 x1 x2 x3 v0 v1).sc a t l (by omega)

theorem outA7 (c : Dev nD) (i : grid0.Coords) (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S3x256 .f32) (harg6 : arg6.IsWhole) (arg7 : Memref sig .tc .vmem S1x256 .f32) (harg7 : arg7.IsWhole) (arg8 : Memref sig .tc .vmem S1x4096x256 .bf16) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x256 .bf16) (harg11 : arg11.IsWhole) (arg12 : Memref sig .tc .vmem S3x256 .f32) (harg12 : arg12.IsWhole) (arg13 : Memref sig .tc .vmem S1x256 .f32) (harg13 : arg13.IsWhole) (hc0 : cond0_0 i) (x0 x1 x2 x3 : Vec Ideal S1x4096x256 .bf16) (v0 : Vec Ideal S3x256 .f32) (v1 : Vec Ideal S1x256 .f32) (a : Fin 1) (t : Fin 4096) (l : Fin 256) :
    out0_A_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 v0 v1 (ix3 a t l) = rd x3 t.val l * CQ x1 x2 v0 v1 t.val l := by
  frame_out
  exact (loop_end c i arg2 harg2 arg3 harg3 arg4 harg4 arg5 harg5 arg6 harg6 arg7 harg7 arg8 harg8 arg9 harg9 arg10 harg10 arg11 harg11 arg12 harg12 arg13 harg13 x0 x1 x2 x3 v0 v1).dbg a t l (by omega)

theorem outA8 (c : Dev nD) (i : grid0.Coords) (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S3x256 .f32) (harg6 : arg6.IsWhole) (arg7 : Memref sig .tc .vmem S1x256 .f32) (harg7 : arg7.IsWhole) (arg8 : Memref sig .tc .vmem S1x4096x256 .bf16) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x256 .bf16) (harg11 : arg11.IsWhole) (arg12 : Memref sig .tc .vmem S3x256 .f32) (harg12 : arg12.IsWhole) (arg13 : Memref sig .tc .vmem S1x256 .f32) (harg13 : arg13.IsWhole) (hc0 : cond0_0 i) (x0 x1 x2 x3 : Vec Ideal S1x4096x256 .bf16) (v0 : Vec Ideal S3x256 .f32) (v1 : Vec Ideal S1x256 .f32) (a : Fin 1) (t : Fin 4096) (l : Fin 256) :
    out0_A_8 (F := Ideal) c i arg2 harg2 arg3 harg3 arg4 harg4 arg5 harg5 arg6 harg6 arg7 harg7 arg8 harg8 arg9 harg9 arg10 harg10 arg11 harg11 arg12 harg12 arg13 harg13 hc0 x0 x1 x2 x3 v0 v1 (ix3 a t l) = DQ x0 x3 v0 t.val l * rd x2 t.val l := by
  frame_out
  exact (loop_end c i arg2 harg2 arg3 harg3 arg4 harg4 arg5 harg5 arg6 harg6 arg7 harg7 arg8 harg8 arg9 harg9 arg10 harg10 arg11 harg11 arg12 harg12 arg13 harg13 x0 x1 x2 x3 v0 v1).dcg a t l (by omega)

theorem outA9 (c : Dev nD) (i : grid0.Coords) (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S3x256 .f32) (harg6 : arg6.IsWhole) (arg7 : Memref sig .tc .vmem S1x256 .f32) (harg7 : arg7.IsWhole) (arg8 : Memref sig .tc .vmem S1x4096x256 .bf16) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x256 .bf16) (harg11 : arg11.IsWhole) (arg12 : Memref sig .tc .vmem S3x256 .f32) (harg12 : arg12.IsWhole) (arg13 : Memref sig .tc .vmem S1x256 .f32) (harg13 : arg13.IsWhole) (hc0 : cond0_0 i) (x0 x1 x2 x3 : Vec Ideal S1x4096x256 .bf16) (v0 : Vec Ideal S3x256 .f32) (v1 : Vec Ideal S1x256 .f32) (a : Fin 1) (t : Fin 4096) (l : Fin 256) :
    out0_A_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 v0 v1 (ix3 a t l) = DQ x0 x3 v0 t.val l * rd x1 t.val l := by
  frame_out
  exact (loop_end c i arg2 harg2 arg3 harg3 arg4 harg4 arg5 harg5 arg6 harg6 arg7 harg7 arg8 harg8 arg9 harg9 arg10 harg10 arg11 harg11 arg12 harg12 arg13 harg13 x0 x1 x2 x3 v0 v1).dhx a t l (by omega)

theorem outA10 (c : Dev nD) (i : grid0.Coords) (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S3x256 .f32) (harg6 : arg6.IsWhole) (arg7 : Memref sig .tc .vmem S1x256 .f32) (harg7 : arg7.IsWhole) (arg8 : Memref sig .tc .vmem S1x4096x256 .bf16) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x256 .bf16) (harg11 : arg11.IsWhole) (arg12 : Memref sig .tc .vmem S3x256 .f32) (harg12 : arg12.IsWhole) (arg13 : Memref sig .tc .vmem S1x256 .f32) (harg13 : arg13.IsWhole) (hc0 : cond0_0 i) (x0 x1 x2 x3 : Vec Ideal S1x4096x256 .bf16) (v0 : Vec Ideal S3x256 .f32) (v1 : Vec Ideal S1x256 .f32) (r : Fin 3) (l : Fin 256) :
    out0_A_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 v0 v1 (ix2 r l) = 0 + DWs x0 x1 x2 x3 (2 - r.val) l := by
  frame_out
  have h := loop_end c i arg2 harg2 arg3 harg3 arg4 harg4 arg5 harg5 arg6 harg6 arg7 harg7 arg8 harg8 arg9 harg9 arg10 harg10 arg11 harg11 arg12 harg12 arg13 harg13 x0 x1 x2 x3 v0 v1
  have e0 : ∀ l, View.ld (k0_pay25 (F := Ideal)) (Rect.unit (s := S3x256) ![0, 0] ![1, 256] inb_S3x256_S1x256_0_0) (ix2 0 l) = 0 := fun l => (ld_row _ 0 _ _ _).trans (pay25_at _ _)
  have e1 : ∀ l, View.ld (k0_pay25 (F := Ideal)) (Rect.unit (s := S3x256) ![1, 0] ![1, 256] inb_S3x256_S1x256_1_0) (ix2 0 l) = 0 := fun l => (ld_row _ 1 _ _ _).trans (pay25_at _ _)
  have e2 : ∀ l, View.ld (k0_pay25 (F := Ideal)) (Rect.unit (s := S3x256) ![2, 0] ![1, 256] inb_S3x256_S1x256_2_0) (ix2 0 l) = 0 := fun l => (ld_row _ 2 _ _ _).trans (pay25_at _ _)
  refine rows_canon _ _ _ _ (fun r l => 0 + DWs x0 x1 x2 x3 (2 - r.val) l) (fun l => ?_) (fun l => ?_) (fun l => ?_) r l
  · rw [View.readCov_fill _ _ _ _ _ (by decide)]
    refine (pay27_at _ _ _ _).trans ?_
    rw [sum_a0 h l]
    exact congrArg (· + _) (e0 l)
  · rw [View.readCov_skip (h := by decide), View.readCov_fill _ _ _ _ _ (by decide)]
    refine (pay28_at _ _ _ _).trans ?_
    rw [sum_a1 h l]
    exact congrArg (· + _) (e1 l)
  · rw [View.readCov_skip (h := by decide), View.readCov_skip (h := by decide), View.readCov_fill _ _ _ _ _ (by decide)]
    refine (pay29_at _ _ _ _).trans ?_
    rw [sum_a2 h l]
    exact congrArg (· + _) (e2 l)

theorem outA11 (c : Dev nD) (i : grid0.Coords) (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S3x256 .f32) (harg6 : arg6.IsWhole) (arg7 : Memref sig .tc .vmem S1x256 .f32) (harg7 : arg7.IsWhole) (arg8 : Memref sig .tc .vmem S1x4096x256 .bf16) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x256 .bf16) (harg11 : arg11.IsWhole) (arg12 : Memref sig .tc .vmem S3x256 .f32) (harg12 : arg12.IsWhole) (arg13 : Memref sig .tc .vmem S1x256 .f32) (harg13 : arg13.IsWhole) (hc0 : cond0_0 i) (x0 x1 x2 x3 : Vec Ideal S1x4096x256 .bf16) (v0 : Vec Ideal S3x256 .f32) (v1 : Vec Ideal S1x256 .f32) (a : Fin 1) (l : Fin 256) :
    out0_A_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 v0 v1 (ix2 a l) = 0 + DBs x0 x3 l := by
  frame_out
  have h := loop_end c i arg2 harg2 arg3 harg3 arg4 harg4 arg5 harg5 arg6 harg6 arg7 harg7 arg8 harg8 arg9 harg9 arg10 harg10 arg11 harg11 arg12 harg12 arg13 harg13 x0 x1 x2 x3 v0 v1
  rw [pay1_at, sum_a3 h l, pay26_at]

theorem outB6 (c : Dev nD) (i : grid0.Coords) (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S3x256 .f32) (harg6 : arg6.IsWhole) (arg7 : Memref sig .tc .vmem S1x256 .f32) (harg7 : arg7.IsWhole) (arg8 : Memref sig .tc .vmem S1x4096x256 .bf16) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x256 .bf16) (harg11 : arg11.IsWhole) (arg12 : Memref sig .tc .vmem S3x256 .f32) (harg12 : arg12.IsWhole) (arg13 : Memref sig .tc .vmem S1x256 .f32) (harg13 : arg13.IsWhole) (hc0 : ¬cond0_0 i) (x0 x1 x2 x3 : Vec Ideal S1x4096x256 .bf16) (v0 : Vec Ideal S3x256 .f32) (v1 : Vec Ideal S1x256 .f32) (xo10 : Vec Ideal S3x256 .f32) (xo11 : Vec Ideal S1x256 .f32) (a : Fin 1) (t : Fin 4096) (l : Fin 256) :
    out0_B_6 (F := Ideal) c i arg2 harg2 arg3 harg3 arg4 harg4 arg5 harg5 arg6 harg6 arg7 harg7 arg8 harg8 arg9 harg9 arg10 harg10 arg11 harg11 arg12 harg12 arg13 harg13 hc0 x0 x1 x2 x3 v0 v1 xo10 xo11 (ix3 a t l) = rd x0 t.val l * CQ x1 x2 v0 v1 t.val l := by
  frame_out
  exact (loop_end c i arg2 harg2 arg3 harg3 arg4 harg4 arg5 harg5 arg6 harg6 arg7 harg7 arg8 harg8 arg9 harg9 arg10 harg10 arg11 harg11 arg12 harg12 arg13 harg13 x0 x1 x2 x3 v0 v1).sc a t l (by omega)

theorem outB7 (c : Dev nD) (i : grid0.Coords) (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S3x256 .f32) (harg6 : arg6.IsWhole) (arg7 : Memref sig .tc .vmem S1x256 .f32) (harg7 : arg7.IsWhole) (arg8 : Memref sig .tc .vmem S1x4096x256 .bf16) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x256 .bf16) (harg11 : arg11.IsWhole) (arg12 : Memref sig .tc .vmem S3x256 .f32) (harg12 : arg12.IsWhole) (arg13 : Memref sig .tc .vmem S1x256 .f32) (harg13 : arg13.IsWhole) (hc0 : ¬cond0_0 i) (x0 x1 x2 x3 : Vec Ideal S1x4096x256 .bf16) (v0 : Vec Ideal S3x256 .f32) (v1 : Vec Ideal S1x256 .f32) (xo10 : Vec Ideal S3x256 .f32) (xo11 : Vec Ideal S1x256 .f32) (a : Fin 1) (t : Fin 4096) (l : Fin 256) :
    out0_B_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 v0 v1 xo10 xo11 (ix3 a t l) = rd x3 t.val l * CQ x1 x2 v0 v1 t.val l := by
  frame_out
  exact (loop_end c i arg2 harg2 arg3 harg3 arg4 harg4 arg5 harg5 arg6 harg6 arg7 harg7 arg8 harg8 arg9 harg9 arg10 harg10 arg11 harg11 arg12 harg12 arg13 harg13 x0 x1 x2 x3 v0 v1).dbg a t l (by omega)

theorem outB8 (c : Dev nD) (i : grid0.Coords) (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S3x256 .f32) (harg6 : arg6.IsWhole) (arg7 : Memref sig .tc .vmem S1x256 .f32) (harg7 : arg7.IsWhole) (arg8 : Memref sig .tc .vmem S1x4096x256 .bf16) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x256 .bf16) (harg11 : arg11.IsWhole) (arg12 : Memref sig .tc .vmem S3x256 .f32) (harg12 : arg12.IsWhole) (arg13 : Memref sig .tc .vmem S1x256 .f32) (harg13 : arg13.IsWhole) (hc0 : ¬cond0_0 i) (x0 x1 x2 x3 : Vec Ideal S1x4096x256 .bf16) (v0 : Vec Ideal S3x256 .f32) (v1 : Vec Ideal S1x256 .f32) (xo10 : Vec Ideal S3x256 .f32) (xo11 : Vec Ideal S1x256 .f32) (a : Fin 1) (t : Fin 4096) (l : Fin 256) :
    out0_B_8 (F := Ideal) c i arg2 harg2 arg3 harg3 arg4 harg4 arg5 harg5 arg6 harg6 arg7 harg7 arg8 harg8 arg9 harg9 arg10 harg10 arg11 harg11 arg12 harg12 arg13 harg13 hc0 x0 x1 x2 x3 v0 v1 xo10 xo11 (ix3 a t l) = DQ x0 x3 v0 t.val l * rd x2 t.val l := by
  frame_out
  exact (loop_end c i arg2 harg2 arg3 harg3 arg4 harg4 arg5 harg5 arg6 harg6 arg7 harg7 arg8 harg8 arg9 harg9 arg10 harg10 arg11 harg11 arg12 harg12 arg13 harg13 x0 x1 x2 x3 v0 v1).dcg a t l (by omega)

theorem outB9 (c : Dev nD) (i : grid0.Coords) (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S3x256 .f32) (harg6 : arg6.IsWhole) (arg7 : Memref sig .tc .vmem S1x256 .f32) (harg7 : arg7.IsWhole) (arg8 : Memref sig .tc .vmem S1x4096x256 .bf16) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x256 .bf16) (harg11 : arg11.IsWhole) (arg12 : Memref sig .tc .vmem S3x256 .f32) (harg12 : arg12.IsWhole) (arg13 : Memref sig .tc .vmem S1x256 .f32) (harg13 : arg13.IsWhole) (hc0 : ¬cond0_0 i) (x0 x1 x2 x3 : Vec Ideal S1x4096x256 .bf16) (v0 : Vec Ideal S3x256 .f32) (v1 : Vec Ideal S1x256 .f32) (xo10 : Vec Ideal S3x256 .f32) (xo11 : Vec Ideal S1x256 .f32) (a : Fin 1) (t : Fin 4096) (l : Fin 256) :
    out0_B_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 v0 v1 xo10 xo11 (ix3 a t l) = DQ x0 x3 v0 t.val l * rd x1 t.val l := by
  frame_out
  exact (loop_end c i arg2 harg2 arg3 harg3 arg4 harg4 arg5 harg5 arg6 harg6 arg7 harg7 arg8 harg8 arg9 harg9 arg10 harg10 arg11 harg11 arg12 harg12 arg13 harg13 x0 x1 x2 x3 v0 v1).dhx a t l (by omega)

theorem outB10 (c : Dev nD) (i : grid0.Coords) (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S3x256 .f32) (harg6 : arg6.IsWhole) (arg7 : Memref sig .tc .vmem S1x256 .f32) (harg7 : arg7.IsWhole) (arg8 : Memref sig .tc .vmem S1x4096x256 .bf16) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x256 .bf16) (harg11 : arg11.IsWhole) (arg12 : Memref sig .tc .vmem S3x256 .f32) (harg12 : arg12.IsWhole) (arg13 : Memref sig .tc .vmem S1x256 .f32) (harg13 : arg13.IsWhole) (hc0 : ¬cond0_0 i) (x0 x1 x2 x3 : Vec Ideal S1x4096x256 .bf16) (v0 : Vec Ideal S3x256 .f32) (v1 : Vec Ideal S1x256 .f32) (xo10 : Vec Ideal S3x256 .f32) (xo11 : Vec Ideal S1x256 .f32) (r : Fin 3) (l : Fin 256) :
    out0_B_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 v0 v1 xo10 xo11 (ix2 r l) = xo10 (ix2 r l) + DWs x0 x1 x2 x3 (2 - r.val) l := by
  frame_out
  have h := loop_end c i arg2 harg2 arg3 harg3 arg4 harg4 arg5 harg5 arg6 harg6 arg7 harg7 arg8 harg8 arg9 harg9 arg10 harg10 arg11 harg11 arg12 harg12 arg13 harg13 x0 x1 x2 x3 v0 v1
  refine rows_canon _ _ _ _ (fun r l => xo10 (ix2 r l) + DWs x0 x1 x2 x3 (2 - r.val) l) (fun l => ?_) (fun l => ?_) (fun l => ?_) r l
  · refine (pay27_at _ _ _ _).trans ?_
    rw [sum_a0 h l]
    exact congrArg (· + _) (ld_row xo10 0 _ _ _)
  · refine (pay28_at _ _ _ _).trans ?_
    rw [sum_a1 h l]
    exact congrArg (· + _) (ld_row xo10 1 _ _ _)
  · refine (pay29_at _ _ _ _).trans ?_
    rw [sum_a2 h l]
    exact congrArg (· + _) (ld_row xo10 2 _ _ _)

theorem outB11 (c : Dev nD) (i : grid0.Coords) (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S3x256 .f32) (harg6 : arg6.IsWhole) (arg7 : Memref sig .tc .vmem S1x256 .f32) (harg7 : arg7.IsWhole) (arg8 : Memref sig .tc .vmem S1x4096x256 .bf16) (harg8 : arg8.IsWhole) (arg9 : Memref sig .tc .vmem S1x4096x256 .bf16) (harg9 : arg9.IsWhole) (arg10 : Memref sig .tc .vmem S1x4096x256 .bf16) (harg10 : arg10.IsWhole) (arg11 : Memref sig .tc .vmem S1x4096x256 .bf16) (harg11 : arg11.IsWhole) (arg12 : Memref sig .tc .vmem S3x256 .f32) (harg12 : arg12.IsWhole) (arg13 : Memref sig .tc .vmem S1x256 .f32) (harg13 : arg13.IsWhole) (hc0 : ¬cond0_0 i) (x0 x1 x2 x3 : Vec Ideal S1x4096x256 .bf16) (v0 : Vec Ideal S3x256 .f32) (v1 : Vec Ideal S1x256 .f32) (xo10 : Vec Ideal S3x256 .f32) (xo11 : Vec Ideal S1x256 .f32) (a : Fin 1) (l : Fin 256) :
    out0_B_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 v0 v1 xo10 xo11 (ix2 a l) = xo11 (ix2 a l) + DBs x0 x3 l := by
  frame_out
  have h := loop_end c i arg2 harg2 arg3 harg3 arg4 harg4 arg5 harg5 arg6 harg6 arg7 harg7 arg8 harg8 arg9 harg9 arg10 harg10 arg11 harg11 arg12 harg12 arg13 harg13 x0 x1 x2 x3 v0 v1
  rw [pay1_at, sum_a3 h l]

end Cert.KernelIdeal.Val
end
-- ==== Proof.Final.lean ====
module

public import proofs.«01_k».proof.Proof.Gen.KernelIdeal.Value
public import proofs.«01_k».proof.Proof.Outs
public import Idealize.ShloMosaic.Lib.Pipeline.ValueKit
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

/-! ## Arrays read at natural-number indices -/

/-- An array of rank three at natural indices; 0 outside it. -/
def at3 {n0 n1 n2 : ℕ} (X : (⟨3, ![n0, n1, n2]⟩ : Shape).Idx → EReal) (a b c : ℕ) : EReal :=
  if h : a < n0 ∧ b < n1 ∧ c < n2 then X (ix3 ⟨a, h.1⟩ ⟨b, h.2.1⟩ ⟨c, h.2.2⟩) else 0

theorem at3_eq {n0 n1 n2 : ℕ} (X : (⟨3, ![n0, n1, n2]⟩ : Shape).Idx → EReal) (p : Fin n0) (q : Fin n1) (r : Fin n2) {a b c : ℕ}
    (ha : p.val = a) (hb : q.val = b) (hc : r.val = c) : X (ix3 p q r) = at3 X a b c := by
  subst ha hb hc
  unfold at3
  rw [dif_pos ⟨p.isLt, q.isLt, r.isLt⟩]

theorem at3_row {n0 n1 n2 : ℕ} (X : (⟨3, ![n0, n1, n2]⟩ : Shape).Idx → EReal) (a b c : ℕ) (h : ¬ b < n1) : at3 X a b c = 0 :=
  dif_neg fun hh => h hh.2.1

/-- An array of rank two at natural indices; 0 outside it. -/
def at2 {n0 n1 : ℕ} (X : (⟨2, ![n0, n1]⟩ : Shape).Idx → EReal) (a b : ℕ) : EReal :=
  if h : a < n0 ∧ b < n1 then X (ix2 ⟨a, h.1⟩ ⟨b, h.2⟩) else 0

theorem at2_eq {n0 n1 : ℕ} (X : (⟨2, ![n0, n1]⟩ : Shape).Idx → EReal) (p : Fin n0) (q : Fin n1) {a b : ℕ}
    (ha : p.val = a) (hb : q.val = b) : X (ix2 p q) = at2 X a b := by
  subst ha hb
  unfold at2
  rw [dif_pos ⟨p.isLt, q.isLt⟩]

/-! ## The results over the argument arrays, at natural indices -/

section Spec
variable (P : (⟨3, ![2, 4096, 3072]⟩ : Shape).Idx → EReal) (D : (⟨3, ![2, 4096, 1024]⟩ : Shape).Idx → EReal)
  (W : (⟨2, ![3, 1024]⟩ : Shape).Idx → EReal) (B : (⟨2, ![1, 1024]⟩ : Shape).Idx → EReal)

def aq (b t c : ℕ) : EReal := at3 P b t (1024 + c) * at3 P b t (2048 + c)
def aqm (s b t c : ℕ) : EReal := if s ≤ t then aq P b (t - s) c else 0
def acq (b t c : ℕ) : EReal := at2 B 0 c + at2 W 0 c * aqm P 2 b t c + at2 W 1 c * aqm P 1 b t c + at2 W 2 c * aq P b t c
def adv (b t c : ℕ) : EReal := at3 D b t c * at3 P b t c
def adq (b t c : ℕ) : EReal := at2 W 2 c * adv P D b t c + at2 W 1 c * adv P D b (t + 1) c + at2 W 0 c * adv P D b (t + 2) c
def adw (s b c : ℕ) : EReal := ∑ t : Fin 4096, adv P D b t.val c * aqm P s b t.val c
def adb (b c : ℕ) : EReal := ∑ t : Fin 4096, adv P D b t.val c

abbrev Gsc : S2x4096x1024.Idx → EReal := fun y => at3 P (y 0).val (y 1).val (y 2).val * acq P W B (y 0).val (y 1).val (y 2).val
abbrev Gbg : S2x4096x1024.Idx → EReal := fun y => at3 D (y 0).val (y 1).val (y 2).val * acq P W B (y 0).val (y 1).val (y 2).val
abbrev Gcg : S2x4096x1024.Idx → EReal := fun y => adq P D W (y 0).val (y 1).val (y 2).val * at3 P (y 0).val (y 1).val (2048 + (y 2).val)
abbrev Ghx : S2x4096x1024.Idx → EReal := fun y => adq P D W (y 0).val (y 1).val (y 2).val * at3 P (y 0).val (y 1).val (1024 + (y 2).val)
abbrev Gdw : S3x1024.Idx → EReal := fun y => adw P D (2 - (y 0).val) 0 (y 1).val + adw P D (2 - (y 0).val) 1 (y 1).val
abbrev Gdb : S1x1024.Idx → EReal := fun y => adb P D 0 (y 1).val + adb P D 1 (y 1).val
end Spec

/-! ## The blocks at a grid point -/

variable (m : (ℓ : Loc nD τ sig) → Buf (Elt Ideal) ℓ)

theorem idx_val : ∀ t : Fin cfg0.N, win0_0.index t = ![t.val % 2, 0, t.val / 2] ∧ win0_1.index t = ![t.val % 2, 0, 4 + t.val / 2]
    ∧ win0_2.index t = ![t.val % 2, 0, 8 + t.val / 2] ∧ win0_3.index t = ![t.val % 2, 0, t.val / 2] ∧ win0_4.index t = ![0, t.val / 2] ∧ win0_5.index t = ![0, t.val / 2]
    ∧ win0_6.index t = ![t.val % 2, 0, t.val / 2] ∧ win0_7.index t = ![t.val % 2, 0, t.val / 2] ∧ win0_8.index t = ![t.val % 2, 0, t.val / 2] ∧ win0_9.index t = ![t.val % 2, 0, t.val / 2]
    ∧ win0_10.index t = ![0, t.val / 2] ∧ win0_11.index t = ![0, t.val / 2] ∧ t.val / 2 < 4 :=
  (by decide +kernel : ∀ t : Fin grid0.N, _)

variable (c : Dev nD) (t : Fin cfg0.N)

abbrev argP : (⟨3, ![2, 4096, 3072]⟩ : Shape).Idx → EReal := m ((c : Thread nD τ).loc main_arg0)
abbrev argD : (⟨3, ![2, 4096, 1024]⟩ : Shape).Idx → EReal := m ((c : Thread nD τ).loc main_arg1)
abbrev argW : (⟨2, ![3, 1024]⟩ : Shape).Idx → EReal := m ((c : Thread nD τ).loc main_arg2)
abbrev argB : (⟨2, ![1, 1024]⟩ : Shape).Idx → EReal := m ((c : Thread nD τ).loc main_arg3)

theorem rd0 (T : ℕ) (l : Fin 256) : rd (iblk m c 0 t) T l = at3 (argP m c) (t.val % 2) T (t.val / 2 * 256 + l.val) := by
  by_cases h : T < 4096
  · unfold rd
    rw [dif_pos h]
    obtain ⟨h0, h1, h2, h3, -, -, -, -, -, -, -, -, hl⟩ := idx_val t
    refine Eq.trans ?_ (at3_eq (argP m c) ⟨t.val % 2, by omega⟩ ⟨T, h⟩ ⟨t.val / 2 * 256 + l.val, by omega⟩ rfl rfl rfl)
    blk_ext [iblk, V, h0]
  · unfold rd
    rw [dif_neg h, at3_row _ _ _ _ h]

theorem rd1 (T : ℕ) (l : Fin 256) : rd (iblk m c 1 t) T l = at3 (argP m c) (t.val % 2) T (1024 + (t.val / 2 * 256 + l.val)) := by
  by_cases h : T < 4096
  · unfold rd
    rw [dif_pos h]
    obtain ⟨h0, h1, h2, h3, -, -, -, -, -, -, -, -, hl⟩ := idx_val t
    refine Eq.trans ?_ (at3_eq (argP m c) ⟨t.val % 2, by omega⟩ ⟨T, h⟩ ⟨1024 + (t.val / 2 * 256 + l.val), by omega⟩ rfl rfl rfl)
    blk_ext [iblk, V, h1]
  · unfold rd
    rw [dif_neg h, at3_row _ _ _ _ h]

theorem rd2 (T : ℕ) (l : Fin 256) : rd (iblk m c 2 t) T l = at3 (argP m c) (t.val % 2) T (2048 + (t.val / 2 * 256 + l.val)) := by
  by_cases h : T < 4096
  · unfold rd
    rw [dif_pos h]
    obtain ⟨h0, h1, h2, h3, -, -, -, -, -, -, -, -, hl⟩ := idx_val t
    refine Eq.trans ?_ (at3_eq (argP m c) ⟨t.val % 2, by omega⟩ ⟨T, h⟩ ⟨2048 + (t.val / 2 * 256 + l.val), by omega⟩ rfl rfl rfl)
    blk_ext [iblk, V, h2]
  · unfold rd
    rw [dif_neg h, at3_row _ _ _ _ h]

theorem rd3 (T : ℕ) (l : Fin 256) : rd (iblk m c 3 t) T l = at3 (argD m c) (t.val % 2) T (t.val / 2 * 256 + l.val) := by
  by_cases h : T < 4096
  · unfold rd
    rw [dif_pos h]
    obtain ⟨h0, h1, h2, h3, -, -, -, -, -, -, -, -, hl⟩ := idx_val t
    refine Eq.trans ?_ (at3_eq (argD m c) ⟨t.val % 2, by omega⟩ ⟨T, h⟩ ⟨t.val / 2 * 256 + l.val, by omega⟩ rfl rfl rfl)
    blk_ext [iblk, V, h3]
  · unfold rd
    rw [dif_neg h, at3_row _ _ _ _ h]

theorem blkW (k : Fin 3) (l : Fin 256) : iblk m c 4 t (ix2 k l) = at2 (argW m c) k.val (t.val / 2 * 256 + l.val) := by
  obtain ⟨-, -, -, -, h4, -, -, -, -, -, -, -, hl⟩ := idx_val t
  refine Eq.trans ?_ (at2_eq (argW m c) k ⟨t.val / 2 * 256 + l.val, by omega⟩ rfl rfl)
  blk_ext [iblk, V, h4]

theorem blkB (k : Fin 1) (l : Fin 256) : iblk m c 5 t (ix2 k l) = at2 (argB m c) 0 (t.val / 2 * 256 + l.val) := by
  obtain ⟨-, -, -, -, -, h5, -, -, -, -, -, -, hl⟩ := idx_val t
  refine Eq.trans ?_ (at2_eq (argB m c) k ⟨t.val / 2 * 256 + l.val, by omega⟩ (by omega) rfl)
  blk_ext [iblk, V, h5]

theorem qv_blk (T : ℕ) (l : Fin 256) : qv (iblk m c 1 t) (iblk m c 2 t) T l = aq (argP m c) (t.val % 2) T (t.val / 2 * 256 + l.val) := by
  unfold qv aq; rw [rd1, rd2]

theorem qm_blk (s T : ℕ) (l : Fin 256) : qm (iblk m c 1 t) (iblk m c 2 t) s T l = aqm (argP m c) s (t.val % 2) T (t.val / 2 * 256 + l.val) := by
  unfold qm aqm; rw [qv_blk]

theorem CQ_blk (T : ℕ) (l : Fin 256) : CQ (iblk m c 1 t) (iblk m c 2 t) (iblk m c 4 t) (iblk m c 5 t) T l
    = acq (argP m c) (argW m c) (argB m c) (t.val % 2) T (t.val / 2 * 256 + l.val) := by
  unfold CQ acq; rw [qm_blk, qm_blk, qv_blk, blkW, blkW, blkW, blkB]; rfl

theorem DV_blk (T : ℕ) (l : Fin 256) : DV (iblk m c 0 t) (iblk m c 3 t) T l = adv (argP m c) (argD m c) (t.val % 2) T (t.val / 2 * 256 + l.val) := by
  unfold DV adv; rw [rd0, rd3]

theorem DQ_blk (T : ℕ) (l : Fin 256) : DQ (iblk m c 0 t) (iblk m c 3 t) (iblk m c 4 t) T l
    = adq (argP m c) (argD m c) (argW m c) (t.val % 2) T (t.val / 2 * 256 + l.val) := by
  unfold DQ adq; rw [DV_blk, DV_blk, DV_blk, blkW, blkW, blkW]; rfl

theorem DW_blk (s : ℕ) (l : Fin 256) : DWs (iblk m c 0 t) (iblk m c 1 t) (iblk m c 2 t) (iblk m c 3 t) s l
    = adw (argP m c) (argD m c) s (t.val % 2) (t.val / 2 * 256 + l.val) := by
  unfold DWs adw; exact Finset.sum_congr rfl fun T _ => by rw [DV_blk, qm_blk]

theorem DB_blk (l : Fin 256) : DBs (iblk m c 0 t) (iblk m c 3 t) l = adb (argP m c) (argD m c) (t.val % 2) (t.val / 2 * 256 + l.val) := by
  unfold DBs adb; exact Finset.sum_congr rfl fun T _ => by rw [DV_blk]

/-! ## The result arrays -/

theorem out6_at (a : Fin 1) (T : Fin 4096) (l : Fin 256) :
    (outsAt0 m c t.val t.isLt).1 (ix3 a T l) = Gsc (argP m c) (argW m c) (argB m c) (ix3 ⟨t.val % 2, by omega⟩ T ⟨t.val / 2 * 256 + l.val, by have := (idx_val t).2.2.2.2.2.2.2.2.2.2.2.2; omega⟩) := by
  by_cases h : t.val % 2 = 0
  · rw [outsAt0_A m c t h]
    dsimp only
    refine (outA6 ..).trans ?_
    rw [rd0, CQ_blk]
    rfl
  · rw [outsAt0_B m c t h]
    dsimp only
    refine (outB6 ..).trans ?_
    rw [rd0, CQ_blk]
    rfl

theorem final6 : (dats m 0 c).arrAt 6 (cfgs 0).N = Gsc (argP m c) (argW m c) (argB m c) := by
  refine (dats m 0 c).arrAt_eq_of_covers 6 _ (by decide +kernel) fun t hf y => ?_
  blk_simp
  rw [after0_6]
  refine Eq.trans ?_ ((out6_at m c t (y 0) (y 1) (y 2)).trans ?_)
  · exact congrArg _ (eq_ix3 _)
  · obtain ⟨-, -, -, -, -, -, h6, h7, h8, h9, -, -, -⟩ := idx_val t
    refine congrArg (Gsc (argP m c) (argW m c) (argB m c)) ?_
    blk_ext [h6]

theorem out7_at (a : Fin 1) (T : Fin 4096) (l : Fin 256) :
    (outsAt0 m c t.val t.isLt).2.1 (ix3 a T l) = Gbg (argP m c) (argD m c) (argW m c) (argB m c) (ix3 ⟨t.val % 2, by omega⟩ T ⟨t.val / 2 * 256 + l.val, by have := (idx_val t).2.2.2.2.2.2.2.2.2.2.2.2; omega⟩) := by
  by_cases h : t.val % 2 = 0
  · rw [outsAt0_A m c t h]
    dsimp only
    refine (outA7 ..).trans ?_
    rw [rd3, CQ_blk]
    rfl
  · rw [outsAt0_B m c t h]
    dsimp only
    refine (outB7 ..).trans ?_
    rw [rd3, CQ_blk]
    rfl

theorem final7 : (dats m 0 c).arrAt 7 (cfgs 0).N = Gbg (argP m c) (argD m c) (argW m c) (argB m c) := by
  refine (dats m 0 c).arrAt_eq_of_covers 7 _ (by decide +kernel) fun t hf y => ?_
  blk_simp
  rw [after0_7]
  refine Eq.trans ?_ ((out7_at m c t (y 0) (y 1) (y 2)).trans ?_)
  · exact congrArg _ (eq_ix3 _)
  · obtain ⟨-, -, -, -, -, -, h6, h7, h8, h9, -, -, -⟩ := idx_val t
    refine congrArg (Gbg (argP m c) (argD m c) (argW m c) (argB m c)) ?_
    blk_ext [h7]

theorem out8_at (a : Fin 1) (T : Fin 4096) (l : Fin 256) :
    (outsAt0 m c t.val t.isLt).2.2.1 (ix3 a T l) = Gcg (argP m c) (argD m c) (argW m c) (ix3 ⟨t.val % 2, by omega⟩ T ⟨t.val / 2 * 256 + l.val, by have := (idx_val t).2.2.2.2.2.2.2.2.2.2.2.2; omega⟩) := by
  by_cases h : t.val % 2 = 0
  · rw [outsAt0_A m c t h]
    dsimp only
    refine (outA8 ..).trans ?_
    rw [DQ_blk, rd2]
    rfl
  · rw [outsAt0_B m c t h]
    dsimp only
    refine (outB8 ..).trans ?_
    rw [DQ_blk, rd2]
    rfl

theorem final8 : (dats m 0 c).arrAt 8 (cfgs 0).N = Gcg (argP m c) (argD m c) (argW m c) := by
  refine (dats m 0 c).arrAt_eq_of_covers 8 _ (by decide +kernel) fun t hf y => ?_
  blk_simp
  rw [after0_8]
  refine Eq.trans ?_ ((out8_at m c t (y 0) (y 1) (y 2)).trans ?_)
  · exact congrArg _ (eq_ix3 _)
  · obtain ⟨-, -, -, -, -, -, h6, h7, h8, h9, -, -, -⟩ := idx_val t
    refine congrArg (Gcg (argP m c) (argD m c) (argW m c)) ?_
    blk_ext [h8]

theorem out9_at (a : Fin 1) (T : Fin 4096) (l : Fin 256) :
    (outsAt0 m c t.val t.isLt).2.2.2.1 (ix3 a T l) = Ghx (argP m c) (argD m c) (argW m c) (ix3 ⟨t.val % 2, by omega⟩ T ⟨t.val / 2 * 256 + l.val, by have := (idx_val t).2.2.2.2.2.2.2.2.2.2.2.2; omega⟩) := by
  by_cases h : t.val % 2 = 0
  · rw [outsAt0_A m c t h]
    dsimp only
    refine (outA9 ..).trans ?_
    rw [DQ_blk, rd1]
    rfl
  · rw [outsAt0_B m c t h]
    dsimp only
    refine (outB9 ..).trans ?_
    rw [DQ_blk, rd1]
    rfl

theorem final9 : (dats m 0 c).arrAt 9 (cfgs 0).N = Ghx (argP m c) (argD m c) (argW m c) := by
  refine (dats m 0 c).arrAt_eq_of_covers 9 _ (by decide +kernel) fun t hf y => ?_
  blk_simp
  rw [after0_9]
  refine Eq.trans ?_ ((out9_at m c t (y 0) (y 1) (y 2)).trans ?_)
  · exact congrArg _ (eq_ix3 _)
  · obtain ⟨-, -, -, -, -, -, h6, h7, h8, h9, -, -, -⟩ := idx_val t
    refine congrArg (Ghx (argP m c) (argD m c) (argW m c)) ?_
    blk_ext [h9]

theorem out10_A (h : t.val % 2 = 0) (r : Fin 3) (l : Fin 256) :
    (outsAt0 m c t.val t.isLt).2.2.2.2.1 (ix2 r l) = adw (argP m c) (argD m c) (2 - r.val) (t.val % 2) (t.val / 2 * 256 + l.val) := by
  rw [outsAt0_A m c t h]
  dsimp only
  refine (outA10 ..).trans ?_
  rw [DW_blk, zero_add]

theorem out10_B (h : t.val % 2 = 1) (r : Fin 3) (l : Fin 256) :
    (outsAt0 m c t.val t.isLt).2.2.2.2.1 (ix2 r l) = adw (argP m c) (argD m c) (2 - r.val) 0 (t.val / 2 * 256 + l.val) + adw (argP m c) (argD m c) (2 - r.val) 1 (t.val / 2 * 256 + l.val) := by
  rw [outsAt0_B m c t (by omega)]
  dsimp only
  refine (outB10 ..).trans ?_
  rw [DW_blk, h]
  congr 1
  have hl : t.val - 1 < cfg0.N := by have := t.isLt; omega
  refine (out10_A m c ⟨t.val - 1, hl⟩ (by dsimp only; omega) r l).trans ?_
  congr 1 <;> dsimp only <;> omega

theorem final10 : (dats m 0 c).arrAt 10 (cfgs 0).N = Gdw (argP m c) (argD m c) := by
  refine (dats m 0 c).arrAt_eq_of_covers 10 _ (by decide +kernel) fun t hf y => ?_
  blk_simp
  rw [after0_10]
  refine Eq.trans (congrArg _ (eq_ix2 _)) ((out10_B m c t ((flush0_10 t).mp hf) (y 0) (y 1)).trans ?_)
  obtain ⟨-, -, -, -, -, -, -, -, -, -, h10, h11, hl⟩ := idx_val t
  have e : (win0_10.blk t).view.emb y = ix2 (y 0) ⟨t.val / 2 * 256 + (y 1).val, by have : (y 1).val < 256 := (y 1).isLt; omega⟩ := by
    blk_ext [h10]
  exact (congrArg (Gdw (argP m c) (argD m c)) e).symm

theorem out11_A (h : t.val % 2 = 0) (r : Fin 1) (l : Fin 256) :
    (outsAt0 m c t.val t.isLt).2.2.2.2.2 (ix2 r l) = adb (argP m c) (argD m c) (t.val % 2) (t.val / 2 * 256 + l.val) := by
  rw [outsAt0_A m c t h]
  dsimp only
  refine (outA11 ..).trans ?_
  rw [DB_blk, zero_add]

theorem out11_B (h : t.val % 2 = 1) (r : Fin 1) (l : Fin 256) :
    (outsAt0 m c t.val t.isLt).2.2.2.2.2 (ix2 r l) = adb (argP m c) (argD m c) 0 (t.val / 2 * 256 + l.val) + adb (argP m c) (argD m c) 1 (t.val / 2 * 256 + l.val) := by
  rw [outsAt0_B m c t (by omega)]
  dsimp only
  refine (outB11 ..).trans ?_
  rw [DB_blk, h]
  congr 1
  have hl : t.val - 1 < cfg0.N := by have := t.isLt; omega
  refine (out11_A m c ⟨t.val - 1, hl⟩ (by dsimp only; omega) r l).trans ?_
  congr 1 <;> dsimp only <;> omega

theorem final11 : (dats m 0 c).arrAt 11 (cfgs 0).N = Gdb (argP m c) (argD m c) := by
  refine (dats m 0 c).arrAt_eq_of_covers 11 _ (by decide +kernel) fun t hf y => ?_
  blk_simp
  rw [after0_11]
  refine Eq.trans (congrArg _ (eq_ix2 _)) ((out11_B m c t ((flush0_11 t).mp hf) (y 0) (y 1)).trans ?_)
  obtain ⟨-, -, -, -, -, -, -, -, -, -, h10, h11, hl⟩ := idx_val t
  have e : (win0_11.blk t).view.emb y = ix2 (y 0) ⟨t.val / 2 * 256 + (y 1).val, by have : (y 1).val < 256 := (y 1).isLt; omega⟩ := by
    blk_ext [h11]
  exact (congrArg (Gdb (argP m c) (argD m c)) e).symm

end Cert.KernelIdeal.Val
end
-- ==== Proof.Ref.lean ====
module

public import proofs.«01_k».proof.Proof.Final
public import proofs.«01_k».proof.Proof.Gen.ReferenceIdeal.Run
public import Idealize.ShloMosaic.Lib.Pointwise

@[expose] public section

set_option maxRecDepth 16384

noncomputable section

namespace Cert.ReferenceIdeal.Val

open Cert.ReferenceIdeal Cert.ReferenceIdeal.Gen Idealize.ShloMosaic Idealize.ShloMosaic.TcCoe Idealize.SL.Sem Idealize.ShloMosaic.StableHlo
open Cert.KernelIdeal.Val (at3 at2 at3_eq at2_eq at3_row aq aqm acq adv adq adw adb)

/-! ## The stages of the reference -/

section
variable (P : FVec Ideal S2x4096x3072 .bf16) (D : FVec Ideal S2x4096x1024 .bf16) (W : FVec Ideal S3x1024 .f32) (B : FVec Ideal S1x1024 .f32)

def sb : FVec Ideal S2x4096x1024 .f32 := extractStridedSlice S2x4096x1024 ![0, 0, 0] (extf .f32 P bitsLt_bf16_f32) slices_S2x4096x3072_S2x4096x1024_0_0_0
def sc : FVec Ideal S2x4096x1024 .f32 := extractStridedSlice S2x4096x1024 ![0, 0, 1024] (extf .f32 P bitsLt_bf16_f32) slices_S2x4096x3072_S2x4096x1024_0_0_1024
def sh : FVec Ideal S2x4096x1024 .f32 := extractStridedSlice S2x4096x1024 ![0, 0, 2048] (extf .f32 P bitsLt_bf16_f32) slices_S2x4096x3072_S2x4096x1024_0_0_2048
def ed : FVec Ideal S2x4096x1024 .f32 := extf .f32 D bitsLt_bf16_f32
def cat : FVec Ideal S2x4098x1024 .f32 := concatenate S2x4098x1024 1 [⟨S2x2x1024, (broadcastInDim S2x2x1024 ![] bcast_S_S2x2x1024 (constant S_ .f32 0x00000000#32))⟩, ⟨S2x4096x1024, mulf (sc P) (sh P)⟩] concatenates_S2x2x1024_S2x4096x1024_S2x4098x1024_d1
def rw0 : FVec Ideal S2x4096x1024 .f32 := (broadcastInDim S2x4096x1024 ![0, 1, 2] bcast_S1x1x1024_S2x4096x1024_0_1_2 (broadcastInDim S1x1x1024 ![2] bcast_S1024_S1x1x1024_2 (shapeCast _ (extractStridedSlice S1x1024 ![0, 0] W slices_S3x1024_S1x1024_0_0) shapeCasts_S1x1024_S1024)))
def sl0 : FVec Ideal S2x4096x1024 .f32 := (extractStridedSlice S2x4096x1024 ![0, 0, 0] (cat P) slices_S2x4098x1024_S2x4096x1024_0_0_0)
def rw1 : FVec Ideal S2x4096x1024 .f32 := (broadcastInDim S2x4096x1024 ![0, 1, 2] bcast_S1x1x1024_S2x4096x1024_0_1_2 (broadcastInDim S1x1x1024 ![2] bcast_S1024_S1x1x1024_2 (shapeCast _ (extractStridedSlice S1x1024 ![1, 0] W slices_S3x1024_S1x1024_1_0) shapeCasts_S1x1024_S1024)))
def sl1 : FVec Ideal S2x4096x1024 .f32 := (extractStridedSlice S2x4096x1024 ![0, 1, 0] (cat P) slices_S2x4098x1024_S2x4096x1024_0_1_0)
def rw2 : FVec Ideal S2x4096x1024 .f32 := (broadcastInDim S2x4096x1024 ![0, 1, 2] bcast_S1x1x1024_S2x4096x1024_0_1_2 (broadcastInDim S1x1x1024 ![2] bcast_S1024_S1x1x1024_2 (shapeCast _ (extractStridedSlice S1x1024 ![2, 0] W slices_S3x1024_S1x1024_2_0) shapeCasts_S1x1024_S1024)))
def sl2 : FVec Ideal S2x4096x1024 .f32 := (extractStridedSlice S2x4096x1024 ![0, 2, 0] (cat P) slices_S2x4098x1024_S2x4096x1024_0_2_0)
def rb : FVec Ideal S2x4096x1024 .f32 := broadcastInDim S2x4096x1024 ![0, 1, 2] bcast_S1x1x1024_S2x4096x1024_0_1_2 (broadcastInDim S1x1x1024 ![2] bcast_S1024_S1x1x1024_2 (shapeCast _ B shapeCasts_S1x1024_S1024))
def cq : FVec Ideal S2x4096x1024 .f32 := addf (rb B) (addf (addf (addf (broadcastInDim S2x4096x1024 ![] bcast_S_S2x4096x1024 (constant S_ .f32 0x00000000#32)) (mulf (rw0 W) (sl0 P))) (mulf (rw1 W) (sl1 P))) (mulf (rw2 W) (sl2 P)))
def dv : FVec Ideal S2x4096x1024 .f32 := mulf (sb P) (ed D)
def pd2 : FVec Ideal S2x4098x1024 .f32 := (pad S2x4098x1024 ![0, 2, 0] ![0, 0, 0] ![0, 0, 0] (mulf (rw2 W) (dv P D)) (constant S_ .f32 0x00000000#32) pads_S2x4096x1024_S2x4098x1024_000_200_000 h_S_)
def pd1 : FVec Ideal S2x4098x1024 .f32 := (pad S2x4098x1024 ![0, 1, 0] ![0, 1, 0] ![0, 0, 0] (mulf (rw1 W) (dv P D)) (constant S_ .f32 0x00000000#32) pads_S2x4096x1024_S2x4098x1024_000_110_000 h_S_)
def pd0 : FVec Ideal S2x4098x1024 .f32 := (pad S2x4098x1024 ![0, 0, 0] ![0, 2, 0] ![0, 0, 0] (mulf (rw0 W) (dv P D)) (constant S_ .f32 0x00000000#32) pads_S2x4096x1024_S2x4098x1024_000_020_000 h_S_)
def dx : FVec Ideal S2x4096x1024 .f32 := extractStridedSlice S2x4096x1024 ![0, 2, 0] (addf (addf (pd2 P D W) (pd1 P D W)) (pd0 P D W)) slices_S2x4098x1024_S2x4096x1024_0_2_0
def rd0 : FVec Ideal S1x1024 .f32 := broadcastInDim S1x1024 ![1] bcast_S1024_S1x1024_1 (Host.reduceAdd (shapeCast _ (Host.reduceAdd (mulf (dv P D) (sl0 P)) (constant S_ .f32 0x00000000#32) reducesTo_S2x4096x1024_S1024_d0_1 h_S_) shapeCasts_S1024_S1x1x1024) (constant S_ .f32 0x00000000#32) reducesTo_S1x1x1024_S1024_d0_1 h_S_)
def rd1 : FVec Ideal S1x1024 .f32 := broadcastInDim S1x1024 ![1] bcast_S1024_S1x1024_1 (Host.reduceAdd (shapeCast _ (Host.reduceAdd (mulf (dv P D) (sl1 P)) (constant S_ .f32 0x00000000#32) reducesTo_S2x4096x1024_S1024_d0_1 h_S_) shapeCasts_S1024_S1x1x1024) (constant S_ .f32 0x00000000#32) reducesTo_S1x1x1024_S1024_d0_1 h_S_)
def rd2 : FVec Ideal S1x1024 .f32 := broadcastInDim S1x1024 ![1] bcast_S1024_S1x1024_1 (Host.reduceAdd (shapeCast _ (Host.reduceAdd (mulf (dv P D) (sl2 P)) (constant S_ .f32 0x00000000#32) reducesTo_S2x4096x1024_S1024_d0_1 h_S_) shapeCasts_S1024_S1x1x1024) (constant S_ .f32 0x00000000#32) reducesTo_S1x1x1024_S1024_d0_1 h_S_)
def dw : FVec Ideal S3x1024 .f32 := addf (addf (pad S3x1024 ![2, 0] ![0, 0] ![0, 0] (rd2 P D) (constant S_ .f32 0x00000000#32) pads_S1x1024_S3x1024_200_000 h_S_) (pad S3x1024 ![1, 0] ![1, 0] ![0, 0] (rd1 P D) (constant S_ .f32 0x00000000#32) pads_S1x1024_S3x1024_110_000 h_S_)) (pad S3x1024 ![0, 0] ![2, 0] ![0, 0] (rd0 P D) (constant S_ .f32 0x00000000#32) pads_S1x1024_S3x1024_020_000 h_S_)
def db : FVec Ideal S1x1024 .f32 := shapeCast _ (Host.reduceAdd (shapeCast _ (Host.reduceAdd (dv P D) (constant S_ .f32 0x00000000#32) reducesTo_S2x4096x1024_S1024_d0_1 h_S_) shapeCasts_S1024_S1x1x1024) (constant S_ .f32 0x00000000#32) reducesTo_S1x1x1024_S1024_d0_1 h_S_) shapeCasts_S1024_S1x1024

variable (b : Fin 2) (t : Fin 4096) (j : Fin 1024)

theorem sb_at : sb P (ix3 b t j) = at3 P b.val t.val j.val := by
  refine Eq.trans ?_ (at3_eq P b t ⟨j.val, by omega⟩ rfl rfl rfl)
  pointwise [sb]
theorem sc_at : sc P (ix3 b t j) = at3 P b.val t.val (1024 + j.val) := by
  refine Eq.trans ?_ (at3_eq P b t ⟨1024 + j.val, by omega⟩ rfl rfl rfl)
  pointwise [sc]
theorem sh_at : sh P (ix3 b t j) = at3 P b.val t.val (2048 + j.val) := by
  refine Eq.trans ?_ (at3_eq P b t ⟨2048 + j.val, by omega⟩ rfl rfl rfl)
  pointwise [sh]
theorem ed_at : ed D (ix3 b t j) = at3 D b.val t.val j.val := at3_eq D b t j rfl rfl rfl
theorem rb_at : rb B (ix3 b t j) = at2 B 0 j.val := by
  refine Eq.trans ?_ (at2_eq B 0 j rfl rfl)
  pointwise [rb]
theorem rw0_at : rw0 W (ix3 b t j) = at2 W 0 j.val := by
  refine Eq.trans ?_ (at2_eq W 0 j rfl rfl)
  pointwise [rw0]
theorem rw1_at : rw1 W (ix3 b t j) = at2 W 1 j.val := by
  refine Eq.trans ?_ (at2_eq W 1 j rfl rfl)
  pointwise [rw1]
theorem rw2_at : rw2 W (ix3 b t j) = at2 W 2 j.val := by
  refine Eq.trans ?_ (at2_eq W 2 j rfl rfl)
  pointwise [rw2]
theorem cat_at (u : Fin 4098) : cat P (ix3 b u j) = if 2 ≤ u.val then aq P b.val (u.val - 2) j.val else 0 := by
  by_cases h : u.val < 2
  · rw [if_neg (by omega)]
    pointwise [cat]
    rw [dif_pos h]
  · rw [if_pos (by omega)]
    unfold aq
    rw [← sc_at P b ⟨u.val - 2, by omega⟩ j, ← sh_at P b ⟨u.val - 2, by omega⟩ j]
    pointwise [cat]
    rw [dif_neg h]
theorem sl0_at : sl0 P (ix3 b t j) = aqm P 2 b.val t.val j.val := by
  unfold aqm
  refine Eq.trans ?_ ((cat_at P b j ⟨0 + t.val, by omega⟩).trans ?_)
  · pointwise [sl0]
  · dsimp only
    by_cases h : 2 ≤ t.val
    · rw [if_pos h, if_pos (by omega)]
      congr 1; omega
    · rw [if_neg h, if_neg (by omega)]
theorem sl1_at : sl1 P (ix3 b t j) = aqm P 1 b.val t.val j.val := by
  unfold aqm
  refine Eq.trans ?_ ((cat_at P b j ⟨1 + t.val, by omega⟩).trans ?_)
  · pointwise [sl1]
  · dsimp only
    by_cases h : 1 ≤ t.val
    · rw [if_pos h, if_pos (by omega)]
      congr 1; omega
    · rw [if_neg h, if_neg (by omega)]
theorem sl2_at : sl2 P (ix3 b t j) = aq P b.val t.val j.val := by

  refine Eq.trans ?_ ((cat_at P b j ⟨2 + t.val, by omega⟩).trans ?_)
  · pointwise [sl2]
  · dsimp only
    rw [if_pos (by omega)]; congr 1; omega
theorem cq_at : cq P W B (ix3 b t j) = acq P W B b.val t.val j.val := by
  unfold acq
  rw [← rb_at B b t j, ← rw0_at W b t j, ← rw1_at W b t j, ← rw2_at W b t j, ← sl0_at P b t j, ← sl1_at P b t j, ← sl2_at P b t j]
  pointwise [cq]
  rw [← add_assoc, ← add_assoc]
theorem dv_at : dv P D (ix3 b t j) = adv P D b.val t.val j.val := by
  unfold adv
  rw [mul_comm, ← sb_at, ← ed_at]
  pointwise [dv]
theorem pd2_at (u : Fin 4098) (h : u.val = 2 + t.val) : pd2 P D W (ix3 b u j) = at2 W 2 j.val * adv P D b.val (t.val + 0) j.val := by
  by_cases h1 : t.val + 0 < 4096
  · have e := dv_at P D b ⟨t.val + 0, h1⟩ j
    dsimp only at e
    rw [← e, ← rw2_at W b ⟨t.val + 0, h1⟩ j]
    pointwise [pd2]
    rw [dif_pos (by omega)]
    have e2 : (⟨u.val - 2, by omega⟩ : Fin 4096) = ⟨t.val + 0, h1⟩ := Fin.ext (by dsimp only; omega)
    rw [e2]; rfl
  · rw [show adv P D b.val (t.val + 0) j.val = 0 from by unfold adv; rw [at3_row _ _ _ _ h1, at3_row _ _ _ _ h1, mul_zero], mul_zero]
    pointwise [pd2]
    rw [dif_neg (by omega)]
theorem pd1_at (u : Fin 4098) (h : u.val = 2 + t.val) : pd1 P D W (ix3 b u j) = at2 W 1 j.val * adv P D b.val (t.val + 1) j.val := by
  by_cases h1 : t.val + 1 < 4096
  · have e := dv_at P D b ⟨t.val + 1, h1⟩ j
    dsimp only at e
    rw [← e, ← rw1_at W b ⟨t.val + 1, h1⟩ j]
    pointwise [pd1]
    rw [dif_pos (by omega)]
    have e2 : (⟨u.val - 1, by omega⟩ : Fin 4096) = ⟨t.val + 1, h1⟩ := Fin.ext (by dsimp only; omega)
    rw [e2]
  · rw [show adv P D b.val (t.val + 1) j.val = 0 from by unfold adv; rw [at3_row _ _ _ _ h1, at3_row _ _ _ _ h1, mul_zero], mul_zero]
    pointwise [pd1]
    rw [dif_neg (by omega)]
theorem pd0_at (u : Fin 4098) (h : u.val = 2 + t.val) : pd0 P D W (ix3 b u j) = at2 W 0 j.val * adv P D b.val (t.val + 2) j.val := by
  by_cases h1 : t.val + 2 < 4096
  · have e := dv_at P D b ⟨t.val + 2, h1⟩ j
    dsimp only at e
    rw [← e, ← rw0_at W b ⟨t.val + 2, h1⟩ j]
    pointwise [pd0]
    rw [dif_pos (by omega)]
    have e2 : (⟨u.val, by omega⟩ : Fin 4096) = ⟨t.val + 2, h1⟩ := Fin.ext (by dsimp only; omega)
    rw [e2]
  · rw [show adv P D b.val (t.val + 2) j.val = 0 from by unfold adv; rw [at3_row _ _ _ _ h1, at3_row _ _ _ _ h1, mul_zero], mul_zero]
    pointwise [pd0]
    rw [dif_neg (by omega)]
theorem dx_at : dx P D W (ix3 b t j) = adq P D W b.val t.val j.val := by
  unfold adq
  have e2 := pd2_at P D W b t j ⟨2 + t.val, by omega⟩ rfl
  have e1 := pd1_at P D W b t j ⟨2 + t.val, by omega⟩ rfl
  have e0 := pd0_at P D W b t j ⟨2 + t.val, by omega⟩ rfl
  rw [add_zero] at e2
  rw [← e2, ← e1, ← e0]
  pointwise [dx]

/-- The host's sum over the first two of three axes, at an index of the third. -/
theorem sum_two {n0 n1 n2 : ℕ} (h : (⟨3, ![n0, n1, n2]⟩ : Shape).ReducesTo [0, 1] (⟨1, ![n2]⟩ : Shape)) (v : (⟨3, ![n0, n1, n2]⟩ : Shape).Idx → EReal)
    (init : EReal) (l : Fin n2) : Ideal.hostReduceAdd h v init (ix1 l) = init + ∑ p : Fin n0, ∑ q : Fin n1, v (ix3 p q l) := by
  unfold Ideal.hostReduceAdd
  congr 1
  refine (Finset.sum_filter_eq_sum_of_fiber _ (fun k : Fin n0 × Fin n1 => ix3 k.1 k.2 l) ?_ ?_ v).trans ?_
  · intro x y e
    exact Prod.ext (congrFun e 0) (congrFun e 1)
  · intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · exact Fintype.sum_prod_type _

theorem sum_one (v : FVec Ideal S1024 .f32) : Host.reduceAdd (shapeCast _ v shapeCasts_S1024_S1x1x1024) (constant S_ .f32 0x00000000#32) reducesTo_S1x1x1024_S1024_d0_1 h_S_ (ix1 j) = v (ix1 j) := by
  pointwise []
  rw [sum_two, zero_add, Fin.sum_univ_one, Fin.sum_univ_one]
  pointwise []

theorem sum_rows2 (v : FVec Ideal S2x4096x1024 .f32) (g : ℕ → ℕ → EReal) (h : ∀ b t, v (ix3 b t j) = g b.val t.val) :
    Host.reduceAdd v (constant S_ .f32 0x00000000#32) reducesTo_S2x4096x1024_S1024_d0_1 h_S_ (ix1 j) = (∑ t : Fin 4096, g 0 t.val) + ∑ t : Fin 4096, g 1 t.val := by
  pointwise []
  rw [sum_two, zero_add, Fin.sum_univ_two]
  congr 1 <;> exact Finset.sum_congr rfl fun t _ => h _ t
theorem rd0_at (a : Fin 1) : rd0 P D (ix2 a j) = adw P D 2 0 j.val + adw P D 2 1 j.val := by
  unfold adw
  refine Eq.trans ?_ (sum_rows2 j (mulf (dv P D) (sl0 P)) (fun b t => adv P D b t j.val * aqm P 2 b t j.val) ?_)
  · refine Eq.trans ?_ (sum_one j _)
    unfold rd0
    generalize Host.reduceAdd (F := Ideal) _ _ reducesTo_S1x1x1024_S1024_d0_1 h_S_ = v
    pointwise []
  · intro b t
    rw [← dv_at P D b t j, ← sl0_at P b t j]
    pointwise []
theorem rd1_at (a : Fin 1) : rd1 P D (ix2 a j) = adw P D 1 0 j.val + adw P D 1 1 j.val := by
  unfold adw
  refine Eq.trans ?_ (sum_rows2 j (mulf (dv P D) (sl1 P)) (fun b t => adv P D b t j.val * aqm P 1 b t j.val) ?_)
  · refine Eq.trans ?_ (sum_one j _)
    unfold rd1
    generalize Host.reduceAdd (F := Ideal) _ _ reducesTo_S1x1x1024_S1024_d0_1 h_S_ = v
    pointwise []
  · intro b t
    rw [← dv_at P D b t j, ← sl1_at P b t j]
    pointwise []
theorem rd2_at (a : Fin 1) : rd2 P D (ix2 a j) = adw P D 0 0 j.val + adw P D 0 1 j.val := by
  unfold adw
  refine Eq.trans ?_ (sum_rows2 j (mulf (dv P D) (sl2 P)) (fun b t => adv P D b t j.val * aqm P 0 b t j.val) ?_)
  · refine Eq.trans ?_ (sum_one j _)
    unfold rd2
    generalize Host.reduceAdd (F := Ideal) _ _ reducesTo_S1x1x1024_S1024_d0_1 h_S_ = v
    pointwise []
  · intro b t
    rw [show aqm P 0 b.val t.val j.val = aq P b.val t.val j.val from if_pos (Nat.zero_le _), ← dv_at P D b t j, ← sl2_at P b t j]
    pointwise []
theorem db_at (a : Fin 1) : db P D (ix2 a j) = adb P D 0 j.val + adb P D 1 j.val := by
  unfold adb
  refine Eq.trans ?_ (sum_rows2 j (dv P D) (fun b t => adv P D b t j.val) fun b t => dv_at P D b t j)
  refine Eq.trans ?_ (sum_one j _)
  unfold db
  generalize Host.reduceAdd (F := Ideal) _ _ reducesTo_S1x1x1024_S1024_d0_1 h_S_ = v
  pointwise []
theorem dw_at (r : Fin 3) : dw P D (ix2 r j) = adw P D (2 - r.val) 0 j.val + adw P D (2 - r.val) 1 j.val := by
  match r with
  | 0 =>
    refine Eq.trans ?_ (rd0_at P D j 0)
    pointwise [dw]
  | 1 =>
    refine Eq.trans ?_ (rd1_at P D j 0)
    pointwise [dw]
  | 2 =>
    refine Eq.trans ?_ (rd2_at P D j 0)
    pointwise [dw]

/-! ## The results at an index -/

theorem out_sc (y : S2x4096x1024.Idx) : truncf .bf16 (mulf (sb P) (cq P W B)) bitsLt_bf16_f32 y = Cert.KernelIdeal.Val.Gsc P W B y := by
  rw [eq_ix3 y]
  exact congrArg₂ (· * ·) (sb_at P _ _ _) (cq_at P W B _ _ _)
theorem out_bg (y : S2x4096x1024.Idx) : truncf .bf16 (extractStridedSlice S2x4096x1024 ![0, 0, 0] (concatenate S2x4096x3072 2 [⟨S2x4096x1024, mulf (ed D) (cq P W B)⟩, ⟨S2x4096x1024, mulf (dx P D W) (sh P)⟩, ⟨S2x4096x1024, mulf (sc P) (dx P D W)⟩] concatenates_S2x4096x1024_S2x4096x1024_S2x4096x1024_S2x4096x3072_d2) slices_S2x4096x3072_S2x4096x1024_0_0_0) bitsLt_bf16_f32 y = Cert.KernelIdeal.Val.Gbg P D W B y := by
  rw [eq_ix3 y]
  refine Eq.trans ?_ (show (mulf (ed D) (cq P W B) : FVec Ideal S2x4096x1024 .f32) (ix3 (y 0) (y 1) (y 2)) = _ from congrArg₂ (· * ·) (ed_at D _ _ _) (cq_at P W B _ _ _))
  pointwise []
theorem out_cg (y : S2x4096x1024.Idx) : truncf .bf16 (extractStridedSlice S2x4096x1024 ![0, 0, 1024] (concatenate S2x4096x3072 2 [⟨S2x4096x1024, mulf (ed D) (cq P W B)⟩, ⟨S2x4096x1024, mulf (dx P D W) (sh P)⟩, ⟨S2x4096x1024, mulf (sc P) (dx P D W)⟩] concatenates_S2x4096x1024_S2x4096x1024_S2x4096x1024_S2x4096x3072_d2) slices_S2x4096x3072_S2x4096x1024_0_0_1024) bitsLt_bf16_f32 y = Cert.KernelIdeal.Val.Gcg P D W y := by
  rw [eq_ix3 y]
  refine Eq.trans ?_ (show (mulf (dx P D W) (sh P) : FVec Ideal S2x4096x1024 .f32) (ix3 (y 0) (y 1) (y 2)) = _ from congrArg₂ (· * ·) (dx_at P D W _ _ _) (sh_at P _ _ _))
  pointwise []
theorem out_hx (y : S2x4096x1024.Idx) : truncf .bf16 (extractStridedSlice S2x4096x1024 ![0, 0, 2048] (concatenate S2x4096x3072 2 [⟨S2x4096x1024, mulf (ed D) (cq P W B)⟩, ⟨S2x4096x1024, mulf (dx P D W) (sh P)⟩, ⟨S2x4096x1024, mulf (sc P) (dx P D W)⟩] concatenates_S2x4096x1024_S2x4096x1024_S2x4096x1024_S2x4096x3072_d2) slices_S2x4096x3072_S2x4096x1024_0_0_2048) bitsLt_bf16_f32 y = Cert.KernelIdeal.Val.Ghx P D W y := by
  rw [eq_ix3 y]
  refine Eq.trans ?_ (show (mulf (sc P) (dx P D W) : FVec Ideal S2x4096x1024 .f32) (ix3 (y 0) (y 1) (y 2)) = _ from (mul_comm _ _).trans (congrArg₂ (· * ·) (dx_at P D W _ _ _) (sc_at P _ _ _)))
  generalize y 0 = p, y 1 = q, y 2 = r
  clear y
  change Fin 2 at p
  change Fin 4096 at q
  change Fin 1024 at r
  pointwise []
  rw [dif_neg (by omega), dif_neg (by omega)]
  have e : (⟨2048 + r.val - 1024 - 1024, by omega⟩ : Fin 1024) = r := Fin.ext (by dsimp only; omega)
  rw [e]
theorem out_dw (y : S3x1024.Idx) : dw P D y = Cert.KernelIdeal.Val.Gdw P D y := by
  rw [eq_ix2 y]
  exact dw_at P D _ _
theorem out_db (y : S1x1024.Idx) : db P D y = Cert.KernelIdeal.Val.Gdb P D y := by
  rw [eq_ix2 y]
  exact db_at P D _ _
end
end Cert.ReferenceIdeal.Val
end
-- ==== Proof.OdActBwd.lean ====
/- The claims about the gradient of the short gated convolution: the reference's run leaves its arguments unchanged, and
   kernel and reference leave equal results. -/
module

public import proofs.«01_k».proof.Defs
public import proofs.«01_k».proof.Proof.Final
public import proofs.«01_k».proof.Proof.Ref

@[expose] public section

set_option maxRecDepth 16384

noncomputable section

namespace Cert.Proof

open Idealize.ShloMosaic Idealize.SL.Sem

/-- The reference ends with its arguments unchanged; it declares no semaphore. -/
theorem frame_reference [Cert.ReferenceIdeal.Facts] : Cert.quiescent_ReferenceIdeal := fun m ρ _ =>
  (θ_run Cert.ReferenceIdeal.defs _ _).mono (fun r h => ⟨fun c => (h c).2.2.2.2.2.2, Idealize.ShloMosaic.sem_eq_zero_of_no_sems (by decide) r.2⟩)
    (Cert.ReferenceIdeal.Value.run (F := Ideal) m ρ)

section
open Cert.KernelIdeal Cert.KernelIdeal.Val
variable (m : (ℓ : Loc nD τ sig) → Buf (Elt Ideal) ℓ) (c : Dev nD)

/-- The gate's output. -/
abbrev G0 := Gsc (argP m c) (argW m c) (argB m c)
/-- The gradient by the first gate. -/
abbrev G1 := Gbg (argP m c) (argD m c) (argW m c) (argB m c)
/-- The gradient by the second gate. -/
abbrev G2 := Gcg (argP m c) (argD m c) (argW m c)
/-- The gradient by the convolution's input. -/
abbrev G3 := Ghx (argP m c) (argD m c) (argW m c)
/-- The gradient by the taps. -/
abbrev G4 := Gdw (argP m c) (argD m c)
/-- The gradient by the bias. -/
abbrev G5 := Gdb (argP m c) (argD m c)
end

/-- Kernel and reference leave equal results. -/
theorem algebraic : Cert.algebraic_KernelIdeal_ReferenceIdeal := by
  intro m ρ m' ρ' _ hag
  refine ⟨fun c => G0 m c, fun c => G1 m c, fun c => G2 m c, fun c => G3 m c, fun c => G4 m c, fun c => G5 m c, ?_, ?_⟩
  · exact (θ_run Cert.KernelIdeal.defs _ _).mono
      (fun r h c => ⟨(h c).1.trans (Cert.KernelIdeal.Val.final6 m c), (h c).2.1.trans (Cert.KernelIdeal.Val.final7 m c), (h c).2.2.1.trans (Cert.KernelIdeal.Val.final8 m c),
        (h c).2.2.2.1.trans (Cert.KernelIdeal.Val.final9 m c), (h c).2.2.2.2.1.trans (Cert.KernelIdeal.Val.final10 m c), (h c).2.2.2.2.2.1.trans (Cert.KernelIdeal.Val.final11 m c),
        (h c).2.2.2.2.2.2⟩) (Cert.KernelIdeal.Value.run_blocks (F := Ideal) m ρ)
  · refine (θ_run Cert.ReferenceIdeal.defs _ _).mono (fun r h c => ?_) (Cert.ReferenceIdeal.Value.run (F := Ideal) m' ρ')
    obtain ⟨h0, h1, h2, h3, h4, h5, hr⟩ := h c
    obtain ⟨a0, a1, a2, a3⟩ := hag c
    refine ⟨h0.trans ?_, h1.trans ?_, h2.trans ?_, h3.trans ?_, h4.trans ?_, h5.trans ?_, hr⟩
    · rw [a0, a2, a3]; exact funext fun y => Cert.ReferenceIdeal.Val.out_sc _ _ _ y
    · unfold Cert.ReferenceIdeal.Value.res_main_v81; rw [a0, a1, a2, a3]; exact funext fun y => Cert.ReferenceIdeal.Val.out_bg _ _ _ _ y
    · unfold Cert.ReferenceIdeal.Value.res_main_v82; rw [a0, a1, a2, a3]; exact funext fun y => Cert.ReferenceIdeal.Val.out_cg _ _ _ _ y
    · unfold Cert.ReferenceIdeal.Value.res_main_v83; rw [a0, a1, a2, a3]; exact funext fun y => Cert.ReferenceIdeal.Val.out_hx _ _ _ _ y
    · rw [a0, a1]; exact funext fun y => Cert.ReferenceIdeal.Val.out_dw _ _ y
    · rw [a0, a1]; exact funext fun y => Cert.ReferenceIdeal.Val.out_db _ _ y

end Cert.Proof

end
-- ==== Proof.Prod.lean ====
/- The three products of matrices that the step is made of, as sums over the shared axis: of rows with rows, of columns
   with columns, and of rows with columns. -/
module

public import Idealize.ShloMosaic.Lib.Pipeline.ValueKit
public import Idealize.ShloMosaic.Lib.Pointwise

@[expose] public section

noncomputable section

namespace Cert.Prod

open Idealize.ShloMosaic

/-- A matrix of extended reals, whatever the format it is kept in. -/
abbrev Mat (φ : FTy) (M N : ℕ) := FVec Ideal ⟨2, ![M, N]⟩ φ

variable {φ ψ : FTy} {M K N : ℕ}

/-- Entry (i, j) of `a` times the transpose of `b`. -/
def ntAt (a : Mat φ M K) (b : Mat ψ N K) (i : Fin M) (j : Fin N) : EReal := ∑ k : Fin K, (a (ix2 i k) : EReal) * b (ix2 j k)

/-- Entry (i, j) of the transpose of `a` times `b`. -/
def tnAt (a : Mat φ K M) (b : Mat ψ K N) (i : Fin M) (j : Fin N) : EReal := ∑ k : Fin K, (a (ix2 k i) : EReal) * b (ix2 k j)

/-- Entry (i, j) of `a` times `b`. -/
def nnAt (a : Mat φ M K) (b : Mat ψ K N) (i : Fin M) (j : Fin N) : EReal := ∑ k : Fin K, (a (ix2 i k) : EReal) * b (ix2 k j)

/-- The reciprocal of a row's root mean square: the row's length and the small constant as the two words that name them. -/
def rmsAt (h : Mat .f32 M 1024) (i : Fin M) : EReal :=
  Ideal.rsqrt (Ideal.div (∑ k : Fin 1024, (h (ix2 i k) : EReal) * h (ix2 i k)) (Ideal.ofBits .f32 1149239296#32) + Ideal.ofBits .f32 897988541#32)

/-- A row over its root mean square, scaled column by column. -/
def normAt (h : Mat .f32 M 1024) (g : FVec Ideal ⟨1, ![1024]⟩ .f32) (i : Fin M) (k : Fin 1024) : EReal :=
  (h (ix2 i k) : EReal) * rmsAt h i * g (ix1 k)

end Cert.Prod

end
-- ==== Proof.DownInput.lean ====
/- The gradient of a feed-forward layer's down projection by its input. -/
module

public import proofs.«01_k».proof.Defs
public import proofs.«01_k».proof.Proof.Prod
public import proofs.«01_k».proof.Proof.Gen.Kernel2Ideal.Value
public import proofs.«01_k».proof.Proof.Gen.Reference2Ideal.Run

@[expose] public section

set_option maxRecDepth 16384

noncomputable section

namespace Cert.Kernel2Ideal.Val

open Cert.Kernel2Ideal Cert.Kernel2Ideal.Gen Idealize.ShloMosaic Idealize.ShloMosaic.TcCoe Idealize.SL.Sem Cert.Prod

variable (m : (ℓ : Loc nD τ sig) → Buf (Elt Ideal) ℓ)

/-- The block indices of the three windows at each point of the grid. -/
theorem idx_val : ∀ t : Fin cfg0.N, win0_0.index t = ![t.val, 0] ∧ win0_1.index t = ![0, 0] ∧ win0_2.index t = ![t.val, 0] :=
  (by decide +kernel : ∀ t : Fin grid0.N, _)

/-- The result array. -/
abbrev G (c : Dev nD) : Vec Ideal S8192x2816 .bf16 := fun y =>
  ntAt (φ := .bf16) (ψ := .bf16) (m ((c : Thread nD τ).loc main_arg0)) (m ((c : Thread nD τ).loc main_arg1)) (y 0) (y 1)

set_option maxHeartbeats 1600000 in
/-- What a point leaves in its block: each strip of columns is a product with a strip of the weight's rows. -/
theorem point (c : Dev nD) (t : Fin cfg0.N) (y) :
    out0_2 (iblk m c 0 t) (iblk m c 1 t) y = G m c (((cfg0.win 2).blk t).view.emb y) := by
  canon_tiles x h
  all_goals (open_payloads; pointwise [G, ntAt]; blk_point [iblk, V, idx_val t])

/-- The kernel leaves it. -/
theorem final (c : Dev nD) : (dats m 0 c).arrAt 2 (cfgs 0).N = G m c := by
  refine (dats m 0 c).arrAt_eq_of_covers 2 _ (by decide +kernel) fun t hf y => ?_
  blk_simp; rw [after0_2]
  exact point m c t y

end Cert.Kernel2Ideal.Val

namespace Cert.Proof

open Idealize.ShloMosaic Idealize.SL.Sem Cert.Prod

/-- The reference ends with its arguments unchanged; it declares no semaphore. -/
theorem frame_reference2 [Cert.Reference2Ideal.Facts] : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- Kernel and reference leave equal results. -/
theorem algebraic2 : Cert.algebraic_Kernel2Ideal_Reference2Ideal := by
  intro m ρ m' ρ' _ hag
  refine ⟨fun c => Cert.Kernel2Ideal.Val.G m c, ?_, ?_⟩
  · exact (θ_run Cert.Kernel2Ideal.defs _ _).mono (fun r h c => ⟨(h c).1.trans (Cert.Kernel2Ideal.Val.final m c), (h c).2⟩)
      (Cert.Kernel2Ideal.Value.run_blocks (F := Ideal) m ρ)
  · refine (θ_run Cert.Reference2Ideal.defs _ _).mono (fun r h c => ⟨(h c).1.trans ?_, (h c).2⟩) (Cert.Reference2Ideal.Value.run (F := Ideal) m' ρ')
    obtain ⟨a0, a1⟩ := hag c
    rw [a0, a1]
    funext y
    pointwise [Cert.Kernel2Ideal.Val.G, ntAt]

end Cert.Proof

end
-- ==== Proof.DownWeight.lean ====
/- The gradient of a feed-forward layer's down projection by its weight: the kernel's four points per block of rows add up the
   whole contraction, which the reference takes at once. -/
module

public import proofs.«01_k».proof.Defs
public import proofs.«01_k».proof.Proof.Prod
public import proofs.«01_k».proof.Proof.Gen.Kernel3Ideal.Value
public import proofs.«01_k».proof.Proof.Gen.Reference3Ideal.Run

@[expose] public section

set_option maxRecDepth 16384

noncomputable section

namespace Cert.Kernel3Ideal.Val

open Cert.Kernel3Ideal Cert.Kernel3Ideal.Gen Idealize.ShloMosaic Idealize.ShloMosaic.TcCoe Idealize.SL.Sem Cert.Prod

variable (m : (ℓ : Loc nD τ sig) → Buf (Elt Ideal) ℓ)

/-- The block indices of the three windows at each point of the grid. -/
theorem idx_val : ∀ t : Fin cfg0.N, win0_0.index t = ![t.val % 4, t.val / 4] ∧ win0_1.index t = ![t.val % 4, 0] ∧ win0_2.index t = ![t.val / 4, 0] :=
  (by decide +kernel : ∀ t : Fin grid0.N, _)

/-- The block starts at zero. -/
theorem hzero (j : S1408x1024.Idx) : k0_pay1 (F := Ideal) j = 0 := by
  pointwise! [k0_pay1]

/-- A point adds its product to what the block held. -/
theorem hpay (v3 : Vec Ideal S1408x1024 .f32) (v5 : Vec Ideal S2048x1408 .bf16) (v6 : Vec Ideal S2048x1024 .bf16) (j : S1408x1024.Idx) :
    k0_pay2 v3 v5 v6 j = v3 j + k0_pay2 (fun _ => 0) v5 v6 j := by
  pointwise [k0_pay2]

/-- The result array. -/
abbrev G (c : Dev nD) : Vec Ideal S2816x1024 .f32 := fun y =>
  tnAt (φ := .bf16) (ψ := .bf16) (m ((c : Thread nD τ).loc main_arg0)) (m ((c : Thread nD τ).loc main_arg1)) (y 0) (y 1)

/-- The kernel leaves it. -/
theorem final (c : Dev nD) : (dats m 0 c).arrAt 2 (cfgs 0).N = G m c := by
  refine (dats m 0 c).arrAt_eq_of_covers 2 _ (by decide +kernel) fun t hf y => ?_
  blk_simp
  rw [after0_2, Pipeline.eq_sum_fin_of_reset_step_apply_of_flush (fun n h => (outsAt0 m c n h)) 4 (fun _ => 0) _
    (fun t h j => by rw [outsAt0_A m c t h]; frame_out; rw [hpay, hzero])
    (fun t h j => by rw [outsAt0_B m c t h]; frame_out; rw [hpay])
    t ((flush0_2 t).mp hf) _, zero_add]
  pointwise [k0_pay2, G, tnAt]
  refine Fin.sum_mul_add_congr fun s k hl => ?_
  blk_point [iblk, V, idx_val t, idx_val ⟨_, Pipeline.run_point_lt_of_flush t ((flush0_2 t).mp hf) s⟩]

end Cert.Kernel3Ideal.Val

namespace Cert.Proof

open Idealize.ShloMosaic Idealize.SL.Sem Cert.Prod

/-- The reference ends with its arguments unchanged; it declares no semaphore. -/
theorem frame_reference3 [Cert.Reference3Ideal.Facts] : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- Kernel and reference leave equal results. -/
theorem algebraic3 : Cert.algebraic_Kernel3Ideal_Reference3Ideal := by
  intro m ρ m' ρ' _ hag
  refine ⟨fun c => Cert.Kernel3Ideal.Val.G m c, ?_, ?_⟩
  · exact (θ_run Cert.Kernel3Ideal.defs _ _).mono (fun r h c => ⟨(h c).1.trans (Cert.Kernel3Ideal.Val.final m c), (h c).2⟩)
      (Cert.Kernel3Ideal.Value.run_blocks (F := Ideal) m ρ)
  · refine (θ_run Cert.Reference3Ideal.defs _ _).mono (fun r h c => ⟨(h c).1.trans ?_, (h c).2⟩) (Cert.Reference3Ideal.Value.run (F := Ideal) m' ρ')
    obtain ⟨a0, a1⟩ := hag c
    rw [a0, a1]
    funext y
    pointwise [Cert.Kernel3Ideal.Val.G, tnAt]
    exact Finset.sum_congr rfl fun k _ => mul_comm _ _

end Cert.Proof

end
-- ==== Proof.UpWeight.lean ====
/- The gradient of a feed-forward layer's up projection by its weight, transposed. Two launches write one array: the first its
   rows for the gate, the second, over a copy of what the first left, its rows for the value. -/
module

public import proofs.«01_k».proof.Defs
public import proofs.«01_k».proof.Proof.Prod
public import proofs.«01_k».proof.Proof.Gen.Kernel4Ideal.Frame
public import proofs.«01_k».proof.Proof.Gen.Reference4Ideal.Run

@[expose] public section

set_option maxRecDepth 16384

noncomputable section

namespace Cert.Kernel4Ideal.Val

open Cert.Kernel4Ideal Cert.Kernel4Ideal.Gen Idealize.ShloMosaic Idealize.ShloMosaic.TcCoe Idealize.SL.Sem Cert.Prod
open Idealize.SL Idealize.SL.RA Idealize.SL.BI Idealize.SL.BI.BIBase Idealize.SL.BI.Laws Idealize.SL.ProofMode
open scoped Idealize.SL.BI
open Idealize.ShloMosaic.Rounds
open Idealize.ShloMosaic.Pipeline (Dat)

local notation "𝕄" => MT nD τ sig Unit (Elt Ideal) ℕ (UR sig nD τ) ℕ

variable (m : (ℓ : Loc nD τ sig) → Buf (Elt Ideal) ℓ)

/-! ### One launch -/

section
variable (V : (c : Dev nD) → (b : Ref sig .tc) → Buf (Elt Ideal) ((c : Thread nD τ).loc b)) (c : Dev nD)

/-- The block indices of the first launch's windows at each point of the grid. -/
theorem idx0 : ∀ t : Fin cfg0.N, win0_0.index t = ![t.val % 4, t.val / 4] ∧ win0_1.index t = ![t.val % 4, 0] ∧ win0_2.index t = ![t.val / 4, 0] :=
  (by decide +kernel : ∀ t : Fin grid0.N, _)

/-- The block indices of the second launch's windows. -/
theorem idx1 : ∀ t : Fin cfg1.N, win1_0.index t = ![t.val % 4, t.val / 4] ∧ win1_1.index t = ![t.val % 4, 0] ∧ win1_2.index t = ![t.val / 4 + 2, 0] :=
  (by decide +kernel : ∀ t : Fin grid1.N, _)

/-- A block starts at zero. -/
theorem hzero (j : S1408x1024.Idx) : k0_pay1 (F := Ideal) j = 0 := by
  pointwise! [k0_pay1]

theorem hzero' (j : S1408x1024.Idx) : k1_pay1 (F := Ideal) j = 0 := by
  pointwise! [k1_pay1]

/-- A point adds its product to what the block held. -/
theorem hpay (v3 : Vec Ideal S1408x1024 .f32) (v5 : Vec Ideal S2048x1408 .bf16) (v6 : Vec Ideal S2048x1024 .bf16) (j : S1408x1024.Idx) :
    k0_pay2 v3 v5 v6 j = v3 j + k0_pay2 (fun _ => 0) v5 v6 j := by
  pointwise [k0_pay2]

theorem hpay' (v3 : Vec Ideal S1408x1024 .f32) (v5 : Vec Ideal S2048x1408 .bf16) (v6 : Vec Ideal S2048x1024 .bf16) (j : S1408x1024.Idx) :
    k1_pay2 v3 v5 v6 j = v3 j + k1_pay2 (fun _ => 0) v5 v6 j := by
  pointwise [k1_pay2]

/-- The row of a half that a row of the whole lies at. -/
abbrev half (i : Fin 5632) : Fin 2816 := ⟨i.val % 2816, Nat.mod_lt _ (by decide)⟩

theorem half_hi (i : Fin 5632) (h : 2816 ≤ (i : ℕ)) : half i = ⟨i.val - 2816, by omega⟩ := Fin.ext (by show i.val % 2816 = i.val - 2816; omega)

theorem half_lo (i : Fin 5632) (h : ¬ 2816 ≤ (i : ℕ)) : half i = ⟨i.val, by omega⟩ := Fin.ext (by show i.val % 2816 = i.val; omega)

/-- What a launch leaves in the rows it writes. -/
abbrev H (a : Mat .bf16 8192 2816) (z : Mat .bf16 8192 1024) : Vec Ideal S5632x1024 .f32 := fun y => tnAt a z (half (y 0)) (y 1)

/-- The first launch writes the first half of the rows. -/
theorem part0 : (dat0 V c).arrAt 2 cfg0.N = fun i => if ¬ 2816 ≤ (i 0 : ℕ) then H (V c main_arg0) (V c main_arg2) i else V c main_v0 i := by
  refine (dat0 V c).arrAt_eq_of_coversWhere 2 _ (fun β => ¬ 2 ≤ β (0 : Fin _)) (by decide +kernel) (fun t hf y => ?_)
    (fun j => by blk_simp [Pipeline.Window.cell_apply]; omega)
  have ht := lt_of_lt_of_eq t.isLt N_0
  have hy : (y 0).val < 1408 := (y 0).isLt
  have e : ((cfg0.win 2).blk t).view.emb y = ix2 (⟨1408 * (t.val / 4) + (y 0).val, by omega⟩ : Fin 5632) (y 1) := by blk_ext [idx0 t]
  rw [e]
  blk_simp
  rw [after0_2, Pipeline.eq_sum_fin_of_reset_step_apply_of_flush (fun n h => (outsAt0 V c n h)) 4 (fun _ => 0) _
    (fun t h j => by rw [outsAt0_A V c t h]; frame_out; rw [hpay, hzero])
    (fun t h j => by rw [outsAt0_B V c t h]; frame_out; rw [hpay])
    t ((flush0_2 t).mp hf) _, zero_add]
  pointwise [k0_pay2, H, tnAt]
  refine Fin.sum_mul_add_congr fun s k hl => ?_
  blk_point [iblk0, idx0 t, idx0 ⟨_, Pipeline.run_point_lt_of_flush t ((flush0_2 t).mp hf) s⟩]

/-- The second launch writes the second half. -/
theorem part1 : (dat1 V c).arrAt 2 cfg1.N = fun i => if 2816 ≤ (i 0 : ℕ) then H (V c main_arg1) (V c main_arg2) i else V c main_v1 i := by
  refine (dat1 V c).arrAt_eq_of_coversWhere 2 _ (fun β => 2 ≤ β (0 : Fin _)) (by decide +kernel) (fun t hf y => ?_)
    (fun j => by blk_simp [Pipeline.Window.cell_apply]; omega)
  have ht := lt_of_lt_of_eq t.isLt N_1
  have hy : (y 0).val < 1408 := (y 0).isLt
  have e : ((cfg1.win 2).blk t).view.emb y = ix2 (⟨1408 * (t.val / 4) + (y 0).val + 2816, by omega⟩ : Fin 5632) (y 1) := by blk_ext [idx1 t]
  rw [e]
  blk_simp
  rw [after1_2, Pipeline.eq_sum_fin_of_reset_step_apply_of_flush (fun n h => (outsAt1 V c n h)) 4 (fun _ => 0) _
    (fun t h j => by rw [outsAt1_A V c t h]; frame_out; rw [hpay', hzero'])
    (fun t h j => by rw [outsAt1_B V c t h]; frame_out; rw [hpay'])
    t ((flush1_2 t).mp hf) _, zero_add]
  pointwise [k1_pay2, H, tnAt]
  refine Fin.sum_mul_add_congr fun s k hl => ?_
  blk_point [iblk1, idx1 t, idx1 ⟨_, Pipeline.run_point_lt_of_flush t ((flush1_2 t).mp hf) s⟩]

end

/-! ### The two launches -/

variable (ρ : Dev nD → PrngReg)

/-- The result array. -/
abbrev G (c : Dev nD) : Vec Ideal S5632x1024 .f32 := fun y =>
  if 2816 ≤ (y 0 : ℕ) then H (m ((c : Thread nD τ).loc main_arg1)) (m ((c : Thread nD τ).loc main_arg2)) y
  else H (m ((c : Thread nD τ).loc main_arg0)) (m ((c : Thread nD τ).loc main_arg2)) y

/-- What the second launch leaves in the result's buffer. -/
theorem final (c : Dev nD) : W3 m ρ c (Proc.devRef .tc main_v1) = G m c := by
  refine (W3_arr m ρ c 2).trans ((part1 (V2 m ρ) c).trans (funext fun y => ?_))
  have h1 : V2 m ρ c main_arg1 = m ((c : Thread nD τ).loc main_arg1) := W2_args m ρ c main_arg1 (by decide)
  have h2 : V2 m ρ c main_arg2 = m ((c : Thread nD τ).loc main_arg2) := W2_args m ρ c main_arg2 (by decide)
  have h3 : V2 m ρ c main_v1 = W1 m ρ c (Proc.devRef .tc main_v0) := by
    show StableHlo.after hostOps1 (W1 m ρ c) (Proc.devRef .tc main_v1) = _
    after_results
    rfl
  have h4 : W1 m ρ c (Proc.devRef .tc main_v0) = _ := (W1_arr m ρ c 2).trans (part0 (V0 m ρ) c)
  rw [h1, h2, h3, h4]
  by_cases h : 2816 ≤ (y 0 : ℕ)
  · simp only [G, if_pos h]
  · exact ((if_neg h).trans (if_pos h)).trans (if_neg h).symm

-- the implicit arguments of the theorem on a program of several launches are found by unifying its conclusion with this one
set_option backward.isDefEq.respectTransparency.types false in
/-- The program ends, faultless, with the result's buffer and the arguments so. -/
theorem run : θ_run defs (onTc (τ := τ) (main (F := Ideal))) ⟨m, fun _ => 0, ρ⟩ (fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v1 (by decide))).trans (final m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.Kernel4Ideal.Val

namespace Cert.Proof

open Idealize.ShloMosaic Idealize.SL.Sem Cert.Prod

/-- The reference ends with its arguments unchanged; it declares no semaphore. -/
theorem frame_reference4 [Cert.Reference4Ideal.Facts] : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- Kernel and reference leave equal results. -/
theorem algebraic4 : Cert.algebraic_Kernel4Ideal_Reference4Ideal := by
  intro m ρ m' ρ' _ hag
  refine ⟨fun c => Cert.Kernel4Ideal.Val.G m c, ?_, ?_⟩
  · exact (θ_run Cert.Kernel4Ideal.defs _ _).mono (fun r h c => h c)
      (Cert.Kernel4Ideal.Val.run m ρ)
  · refine (θ_run Cert.Reference4Ideal.defs _ _).mono (fun r h c => ⟨(h c).1.trans ?_, (h c).2⟩) (Cert.Reference4Ideal.Value.run (F := Ideal) m' ρ')
    obtain ⟨a0, a1, a2⟩ := hag c
    rw [a0, a1, a2]
    funext y
    pointwise [Cert.Kernel4Ideal.Val.G, Cert.Kernel4Ideal.Val.H, tnAt]
    by_cases h2 : 2816 ≤ (y 0 : ℕ)
    · rw [if_pos h2, Cert.Kernel4Ideal.Val.half_hi (y 0) h2]
      refine Finset.sum_congr rfl fun k _ => ?_
      rw [dif_neg (by omega)]
    · rw [if_neg h2, Cert.Kernel4Ideal.Val.half_lo (y 0) h2]
      refine Finset.sum_congr rfl fun k _ => ?_
      rw [dif_pos (by omega)]

end Cert.Proof

end
-- ==== Proof.InWeight.lean ====
/- The gradient of the short convolution's input projection by its weight, transposed. Three launches write one array, each over
   a copy of what the one before left: the rows of the two gates, then those of the input. -/
module

public import proofs.«01_k».proof.Defs
public import proofs.«01_k».proof.Proof.Prod
public import proofs.«01_k».proof.Proof.Gen.Kernel5Ideal.Frame
public import proofs.«01_k».proof.Proof.Gen.Reference5Ideal.Run

@[expose] public section

set_option maxRecDepth 16384

noncomputable section

namespace Cert.Kernel5Ideal.Val

open Cert.Kernel5Ideal Cert.Kernel5Ideal.Gen Idealize.ShloMosaic Idealize.ShloMosaic.TcCoe Idealize.SL.Sem Cert.Prod
open Idealize.SL Idealize.SL.RA Idealize.SL.BI Idealize.SL.BI.BIBase Idealize.SL.BI.Laws Idealize.SL.ProofMode
open scoped Idealize.SL.BI
open Idealize.ShloMosaic.Rounds
open Idealize.ShloMosaic.Pipeline (Dat)

local notation "𝕄" => MT nD τ sig Unit (Elt Ideal) ℕ (UR sig nD τ) ℕ

variable (m : (ℓ : Loc nD τ sig) → Buf (Elt Ideal) ℓ)

/-! ### One launch -/

section
variable (V : (c : Dev nD) → (b : Ref sig .tc) → Buf (Elt Ideal) ((c : Thread nD τ).loc b)) (c : Dev nD)

/-- The row of a third that a row of the whole lies at. -/
abbrev third (i : Fin 3072) : Fin 1024 := ⟨i.val % 1024, Nat.mod_lt _ (by decide)⟩

theorem third2 (i : Fin 3072) (h : (i : ℕ) / 1024 = 2) : third i = ⟨i.val - 1024 - 1024, by omega⟩ :=
  Fin.ext (by show i.val % 1024 = i.val - 1024 - 1024; omega)

theorem third1 (i : Fin 3072) (h : (i : ℕ) / 1024 = 1) : third i = ⟨i.val - 1024, by omega⟩ :=
  Fin.ext (by show i.val % 1024 = i.val - 1024; omega)

theorem third_lt (i : Fin 3072) (h2 : ¬ (i : ℕ) / 1024 = 2) (h1 : ¬ (i : ℕ) / 1024 = 1) : i.val < 1024 := by omega

theorem third0 (i : Fin 3072) (h2 : ¬ (i : ℕ) / 1024 = 2) (h1 : ¬ (i : ℕ) / 1024 = 1) : third i = ⟨i.val, third_lt i h2 h1⟩ :=
  Fin.ext (by show i.val % 1024 = i.val; omega)

/-- What a launch leaves in the rows it writes. -/
abbrev H (a : Mat .bf16 8192 1024) (z : Mat .bf16 8192 1024) : Vec Ideal S3072x1024 .f32 := fun y => tnAt a z (third (y 0)) (y 1)

/-- The block indices of the first launch's windows at each point of the grid. -/
theorem idx0 : ∀ t : Fin cfg0.N, win0_0.index t = ![t.val, 0] ∧ win0_1.index t = ![t.val, 0] ∧ win0_2.index t = ![0, 0] :=
  (by decide +kernel : ∀ t : Fin grid0.N, _)

/-- Its block starts at zero. -/
theorem hzero0 (j : S1024x1024.Idx) : k0_pay1 (F := Ideal) j = 0 := by
  pointwise! [k0_pay1]

/-- A point adds its product to what the block held. -/
theorem hpay0 (v3 : Vec Ideal S1024x1024 .f32) (v5 v6 : Vec Ideal S2048x1024 .bf16) (j : S1024x1024.Idx) :
    k0_pay2 v3 v5 v6 j = v3 j + k0_pay2 (fun _ => 0) v5 v6 j := by
  pointwise [k0_pay2]

/-- The first launch writes the first third of the rows. -/
theorem part0 : (dat0 V c).arrAt 2 cfg0.N = fun i => if (i 0 : ℕ) / 1024 = 0 then H (V c main_arg0) (V c main_arg3) i else V c main_v0 i := by
  refine (dat0 V c).arrAt_eq_of_coversWhere 2 _ (fun β => β (0 : Fin _) = 0) (by decide +kernel) (fun t hf y => ?_)
    (fun j => by blk_simp [Pipeline.Window.cell_apply])
  have ht := lt_of_lt_of_eq t.isLt N_0
  have hy : (y 0).val < 1024 := (y 0).isLt
  have hm := (flush0_2 t).mp hf
  have e : ((cfg0.win 2).blk t).view.emb y = ix2 (⟨1024 * 0 + (y 0).val, by omega⟩ : Fin 3072) (y 1) := by blk_ext [idx0 t]
  rw [e]
  blk_simp
  rw [after0_2, Pipeline.eq_sum_fin_of_reset_step_apply_of_flush (fun n h => (outsAt0 V c n h)) 4 (fun _ => 0) _
    (fun t h j => by rw [outsAt0_A V c t h]; frame_out; rw [hpay0, hzero0])
    (fun t h j => by rw [outsAt0_B V c t h]; frame_out; rw [hpay0])
    t ((flush0_2 t).mp hf) _, zero_add]
  pointwise [k0_pay2, H, tnAt]
  refine Fin.sum_mul_add_congr fun s k hl => ?_
  blk_point [iblk0, idx0 t, idx0 ⟨_, Pipeline.run_point_lt_of_flush t ((flush0_2 t).mp hf) s⟩]

/-- The block indices of the second launch's windows at each point of the grid. -/
theorem idx1 : ∀ t : Fin cfg1.N, win1_0.index t = ![t.val, 0] ∧ win1_1.index t = ![t.val, 0] ∧ win1_2.index t = ![1, 0] :=
  (by decide +kernel : ∀ t : Fin grid1.N, _)

/-- Its block starts at zero. -/
theorem hzero1 (j : S1024x1024.Idx) : k1_pay1 (F := Ideal) j = 0 := by
  pointwise! [k1_pay1]

/-- A point adds its product to what the block held. -/
theorem hpay1 (v3 : Vec Ideal S1024x1024 .f32) (v5 v6 : Vec Ideal S2048x1024 .bf16) (j : S1024x1024.Idx) :
    k1_pay2 v3 v5 v6 j = v3 j + k1_pay2 (fun _ => 0) v5 v6 j := by
  pointwise [k1_pay2]

/-- The second launch writes the second third of the rows. -/
theorem part1 : (dat1 V c).arrAt 2 cfg1.N = fun i => if (i 0 : ℕ) / 1024 = 1 then H (V c main_arg1) (V c main_arg3) i else V c main_v1 i := by
  refine (dat1 V c).arrAt_eq_of_coversWhere 2 _ (fun β => β (0 : Fin _) = 1) (by decide +kernel) (fun t hf y => ?_)
    (fun j => by blk_simp [Pipeline.Window.cell_apply])
  have ht := lt_of_lt_of_eq t.isLt N_1
  have hy : (y 0).val < 1024 := (y 0).isLt
  have hm := (flush1_2 t).mp hf
  have e : ((cfg1.win 2).blk t).view.emb y = ix2 (⟨1024 * 1 + (y 0).val, by omega⟩ : Fin 3072) (y 1) := by blk_ext [idx1 t]
  rw [e]
  blk_simp
  rw [after1_2, Pipeline.eq_sum_fin_of_reset_step_apply_of_flush (fun n h => (outsAt1 V c n h)) 4 (fun _ => 0) _
    (fun t h j => by rw [outsAt1_A V c t h]; frame_out; rw [hpay1, hzero1])
    (fun t h j => by rw [outsAt1_B V c t h]; frame_out; rw [hpay1])
    t ((flush1_2 t).mp hf) _, zero_add]
  pointwise [k1_pay2, H, tnAt]
  refine Fin.sum_mul_add_congr fun s k hl => ?_
  blk_point [iblk1, idx1 t, idx1 ⟨_, Pipeline.run_point_lt_of_flush t ((flush1_2 t).mp hf) s⟩]

/-- The block indices of the third launch's windows at each point of the grid. -/
theorem idx2 : ∀ t : Fin cfg2.N, win2_0.index t = ![t.val, 0] ∧ win2_1.index t = ![t.val, 0] ∧ win2_2.index t = ![2, 0] :=
  (by decide +kernel : ∀ t : Fin grid2.N, _)

/-- Its block starts at zero. -/
theorem hzero2 (j : S1024x1024.Idx) : k2_pay1 (F := Ideal) j = 0 := by
  pointwise! [k2_pay1]

/-- A point adds its product to what the block held. -/
theorem hpay2 (v3 : Vec Ideal S1024x1024 .f32) (v5 v6 : Vec Ideal S2048x1024 .bf16) (j : S1024x1024.Idx) :
    k2_pay2 v3 v5 v6 j = v3 j + k2_pay2 (fun _ => 0) v5 v6 j := by
  pointwise [k2_pay2]

/-- The third launch writes the third third of the rows. -/
theorem part2 : (dat2 V c).arrAt 2 cfg2.N = fun i => if (i 0 : ℕ) / 1024 = 2 then H (V c main_arg2) (V c main_arg3) i else V c main_v2 i := by
  refine (dat2 V c).arrAt_eq_of_coversWhere 2 _ (fun β => β (0 : Fin _) = 2) (by decide +kernel) (fun t hf y => ?_)
    (fun j => by blk_simp [Pipeline.Window.cell_apply])
  have ht := lt_of_lt_of_eq t.isLt N_2
  have hy : (y 0).val < 1024 := (y 0).isLt
  have hm := (flush2_2 t).mp hf
  have e : ((cfg2.win 2).blk t).view.emb y = ix2 (⟨1024 * 2 + (y 0).val, by omega⟩ : Fin 3072) (y 1) := by blk_ext [idx2 t]
  rw [e]
  blk_simp
  rw [after2_2, Pipeline.eq_sum_fin_of_reset_step_apply_of_flush (fun n h => (outsAt2 V c n h)) 4 (fun _ => 0) _
    (fun t h j => by rw [outsAt2_A V c t h]; frame_out; rw [hpay2, hzero2])
    (fun t h j => by rw [outsAt2_B V c t h]; frame_out; rw [hpay2])
    t ((flush2_2 t).mp hf) _, zero_add]
  pointwise [k2_pay2, H, tnAt]
  refine Fin.sum_mul_add_congr fun s k hl => ?_
  blk_point [iblk2, idx2 t, idx2 ⟨_, Pipeline.run_point_lt_of_flush t ((flush2_2 t).mp hf) s⟩]

end

/-! ### The three launches -/

variable (ρ : Dev nD → PrngReg)

/-- The result array. -/
abbrev G (c : Dev nD) : Vec Ideal S3072x1024 .f32 := fun y =>
  if (y 0 : ℕ) / 1024 = 2 then H (m ((c : Thread nD τ).loc main_arg2)) (m ((c : Thread nD τ).loc main_arg3)) y
  else if (y 0 : ℕ) / 1024 = 1 then H (m ((c : Thread nD τ).loc main_arg1)) (m ((c : Thread nD τ).loc main_arg3)) y
  else H (m ((c : Thread nD τ).loc main_arg0)) (m ((c : Thread nD τ).loc main_arg3)) y

/-- What the last launch leaves in the result's buffer. -/
theorem final (c : Dev nD) : W5 m ρ c (Proc.devRef .tc main_v2) = G m c := by
  refine (W5_arr m ρ c 2).trans ((part2 (V4 m ρ) c).trans (funext fun y => ?_))
  have h1 : V4 m ρ c main_arg2 = m ((c : Thread nD τ).loc main_arg2) := W4_args m ρ c main_arg2 (by decide)
  have h2 : V4 m ρ c main_arg3 = m ((c : Thread nD τ).loc main_arg3) := W4_args m ρ c main_arg3 (by decide)
  have h3 : V4 m ρ c main_v2 = W3 m ρ c (Proc.devRef .tc main_v1) := by
    show StableHlo.after hostOps2 (W3 m ρ c) (Proc.devRef .tc main_v2) = _
    after_results
    rfl
  have h4 : W3 m ρ c (Proc.devRef .tc main_v1) = _ := (W3_arr m ρ c 2).trans (part1 (V2 m ρ) c)
  have h5 : V2 m ρ c main_arg1 = m ((c : Thread nD τ).loc main_arg1) := W2_args m ρ c main_arg1 (by decide)
  have h6 : V2 m ρ c main_arg3 = m ((c : Thread nD τ).loc main_arg3) := W2_args m ρ c main_arg3 (by decide)
  have h7 : V2 m ρ c main_v1 = W1 m ρ c (Proc.devRef .tc main_v0) := by
    show StableHlo.after hostOps1 (W1 m ρ c) (Proc.devRef .tc main_v1) = _
    after_results
    rfl
  have h8 : W1 m ρ c (Proc.devRef .tc main_v0) = _ := (W1_arr m ρ c 2).trans (part0 (V0 m ρ) c)
  rw [h1, h2, h3, h4, h5, h6, h7, h8]
  have hy : (y 0).val < 3072 := (y 0).isLt
  by_cases h2 : (y 0 : ℕ) / 1024 = 2
  · exact (if_pos h2).trans (if_pos h2).symm
  by_cases h1 : (y 0 : ℕ) / 1024 = 1
  · exact ((if_neg h2).trans (if_pos h1)).trans ((if_neg h2).trans (if_pos h1)).symm
  · have h0 : (y 0 : ℕ) / 1024 = 0 := by omega
    exact ((if_neg h2).trans ((if_neg h1).trans (if_pos h0))).trans ((if_neg h2).trans (if_neg h1)).symm

-- the implicit arguments of the theorem on a program of several launches are found by unifying its conclusion with this one
set_option backward.isDefEq.respectTransparency.types false in
/-- The program ends, faultless, with the result's buffer and the arguments so. -/
theorem run : θ_run defs (onTc (τ := τ) (main (F := Ideal))) ⟨m, fun _ => 0, ρ⟩ (fun r => ∀ c : Dev nD,
      r.2.mem ((c.tc : Thread nD τ).loc main_v2) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v2 (by decide))).trans (final m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.Kernel5Ideal.Val

namespace Cert.Proof

open Idealize.ShloMosaic Idealize.SL.Sem Cert.Prod

/-- The reference ends with its arguments unchanged; it declares no semaphore. -/
theorem frame_reference5 [Cert.Reference5Ideal.Facts] : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- Kernel and reference leave equal results. -/
theorem algebraic5 : Cert.algebraic_Kernel5Ideal_Reference5Ideal := by
  intro m ρ m' ρ' _ hag
  refine ⟨fun c => Cert.Kernel5Ideal.Val.G m c, ?_, ?_⟩
  · exact (θ_run Cert.Kernel5Ideal.defs _ _).mono (fun r h c => h c)
      (Cert.Kernel5Ideal.Val.run m ρ)
  · refine (θ_run Cert.Reference5Ideal.defs _ _).mono (fun r h c => ⟨(h c).1.trans ?_, (h c).2⟩) (Cert.Reference5Ideal.Value.run (F := Ideal) m' ρ')
    obtain ⟨a0, a1, a2, a3⟩ := hag c
    rw [a0, a1, a2, a3]
    funext y
    pointwise [Cert.Kernel5Ideal.Val.G, Cert.Kernel5Ideal.Val.H, tnAt]
    by_cases h2 : (y 0 : ℕ) / 1024 = 2
    · rw [if_pos h2, Cert.Kernel5Ideal.Val.third2 (y 0) h2]
      refine Finset.sum_congr rfl fun k _ => ?_
      rw [dif_neg (by omega), dif_neg (by omega)]
    by_cases h1 : (y 0 : ℕ) / 1024 = 1
    · rw [if_neg h2, if_pos h1, Cert.Kernel5Ideal.Val.third1 (y 0) h1]
      refine Finset.sum_congr rfl fun k _ => ?_
      rw [dif_neg (by omega), dif_pos (by omega)]
    · rw [if_neg h2, if_neg h1, Cert.Kernel5Ideal.Val.third0 (y 0) h2 h1]
      refine Finset.sum_congr rfl fun k _ => ?_
      rw [dif_pos (Cert.Kernel5Ideal.Val.third_lt (y 0) h2 h1)]

end Cert.Proof

end
-- ==== Proof.NormUp.lean ====
/- The norm and the up projection of a feed-forward layer. -/
module

public import proofs.«01_k».proof.Defs
public import proofs.«01_k».proof.Proof.Prod
public import proofs.«01_k».proof.Proof.Gen.Kernel6Ideal.Value
public import proofs.«01_k».proof.Proof.Gen.Reference6Ideal.Run

@[expose] public section

set_option maxRecDepth 16384

noncomputable section

namespace Cert.Kernel6Ideal.Val

open Cert.Kernel6Ideal Cert.Kernel6Ideal.Gen Idealize.ShloMosaic Idealize.ShloMosaic.TcCoe Idealize.SL.Sem Cert.Prod

variable (m : (ℓ : Loc nD τ sig) → Buf (Elt Ideal) ℓ)

/-- The block indices of the five windows at each point of the grid. -/
theorem idx_val : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The normed rows. -/
abbrev Gz (c : Dev nD) : Vec Ideal S8192x1024 .bf16 := fun y =>
  normAt (m ((c : Thread nD τ).loc main_arg0)) (m ((c : Thread nD τ).loc main_arg1)) (y 0) (y 1)

/-- Their product with the weight. -/
abbrev G (c : Dev nD) : Vec Ideal S8192x5632 .bf16 := fun y =>
  nnAt (φ := .bf16) (ψ := .bf16) (Gz m c) (m ((c : Thread nD τ).loc main_arg2)) (y 0) (y 1)

/-- The row of the arrays at which row `i` of point `t`'s blocks lies. -/
abbrev row (t : Fin cfg0.N) (i : Fin 512) : Fin 8192 := ⟨512 * t.val + i.val, by have := lt_of_lt_of_eq t.isLt N_0; omega⟩

theorem blk0 (c : Dev nD) (t : Fin cfg0.N) (y : S512x1024.Idx) :
    iblk m c 0 t y = m ((c : Thread nD τ).loc main_arg0) (ix2 (row t (y 0)) (y 1)) := by
  blk_ext [iblk, V, idx_val t]

theorem blk1 (c : Dev nD) (t : Fin cfg0.N) (y : S1x1024.Idx) :
    iblk m c 1 t y = m ((c : Thread nD τ).loc main_arg1) (ix1 (y 1)) := by
  blk_simp [iblk, idx_val t]
  entry_read
  pointwise
  blk_ext [idx_val t]

theorem blk2 (c : Dev nD) (t : Fin cfg0.N) (y : S1024x5632.Idx) :
    iblk m c 2 t y = m ((c : Thread nD τ).loc main_arg2) y := by
  blk_ext [iblk, V, idx_val t]

theorem emb3 (t : Fin cfg0.N) (y : S512x1024.Idx) : ((cfg0.win 3).blk t).view.emb y = ix2 (row t (y 0)) (y 1) := by
  blk_ext [idx_val t]

theorem emb4 (t : Fin cfg0.N) (y : S512x5632.Idx) : ((cfg0.win 4).blk t).view.emb y = ix2 (row t (y 0)) (y 1) := by
  blk_ext [idx_val t]

/-- What a point leaves in its block of normed rows. -/
theorem point3 (c : Dev nD) (t : Fin cfg0.N) (y : S512x1024.Idx) :
    k0_pay3 (iblk m c 0 t) (iblk m c 1 t) y = Gz m c (((cfg0.win 3).blk t).view.emb y) := by
  rw [emb3 t y]
  pointwise [k0_pay3, Gz, normAt, rmsAt]
  simp only [blk0, blk1]
  rfl

set_option maxHeartbeats 1600000 in
/-- What a point leaves in its block of the product: each strip of columns is a product with a strip of the weight's columns. -/
theorem point4 (c : Dev nD) (t : Fin cfg0.N) (y : S512x5632.Idx) :
    out0_4 (iblk m c 0 t) (iblk m c 1 t) (iblk m c 2 t) y = G m c (((cfg0.win 4).blk t).view.emb y) := by
  rw [emb4 t y]
  canon_tiles x h
  all_goals
    have e0 : y 0 = x 0 := Fin.ext h0
    have e1 := fun h => (Fin.ext h1.symm : (⟨_, h⟩ : Fin 5632) = y 1)
    open_payloads
    pointwise [G, Gz, nnAt, normAt, rmsAt]
    simp only [blk0, blk1, blk2, e0, e1]
    rfl

/-- The kernel leaves the normed rows. -/
theorem final3 (c : Dev nD) : (dats m 0 c).arrAt 3 (cfgs 0).N = Gz m c := by
  refine (dats m 0 c).arrAt_eq_of_covers 3 _ (by decide +kernel) fun t hf y => ?_
  blk_simp; rw [after0_3]; frame_out
  exact point3 m c t y

/-- The kernel leaves their product. -/
theorem final4 (c : Dev nD) : (dats m 0 c).arrAt 4 (cfgs 0).N = G m c := by
  refine (dats m 0 c).arrAt_eq_of_covers 4 _ (by decide +kernel) fun t hf y => ?_
  blk_simp; rw [after0_4]
  exact point4 m c t y

end Cert.Kernel6Ideal.Val

namespace Cert.Proof

open Idealize.ShloMosaic Idealize.SL.Sem Cert.Prod

/-- The reference ends with its arguments unchanged; it declares no semaphore. -/
theorem frame_reference6 [Cert.Reference6Ideal.Facts] : Cert.quiescent_Reference6Ideal := fun m ρ _ =>
  (θ_run Cert.Reference6Ideal.defs _ _).mono (fun r h => ⟨fun c => (h c).2.2, Idealize.ShloMosaic.sem_eq_zero_of_no_sems (by decide) r.2⟩)
    (Cert.Reference6Ideal.Value.run (F := Ideal) m ρ)

/-- Kernel and reference leave equal results. -/
theorem algebraic6 : Cert.algebraic_Kernel6Ideal_Reference6Ideal := by
  intro m ρ m' ρ' _ hag
  refine ⟨fun c => Cert.Kernel6Ideal.Val.Gz m c, fun c => Cert.Kernel6Ideal.Val.G m c, ?_, ?_⟩
  · exact (θ_run Cert.Kernel6Ideal.defs _ _).mono (fun r h c => ⟨(h c).1.trans (Cert.Kernel6Ideal.Val.final3 m c),
        (h c).2.1.trans (Cert.Kernel6Ideal.Val.final4 m c), (h c).2.2⟩)
      (Cert.Kernel6Ideal.Value.run_blocks (F := Ideal) m ρ)
  · refine (θ_run Cert.Reference6Ideal.defs _ _).mono (fun r h c => ⟨(h c).1.trans ?_, (h c).2.1.trans ?_, (h c).2.2⟩)
      (Cert.Reference6Ideal.Value.run (F := Ideal) m' ρ')
    all_goals
      obtain ⟨a0, a1, a2⟩ := hag c
      rw [a0, a1]
      try rw [a2]
      funext y
      pointwise [Cert.Kernel6Ideal.Val.G, Cert.Kernel6Ideal.Val.Gz, nnAt, normAt, rmsAt]

end Cert.Proof

end
-- ==== Proof.NormIn.lean ====
/- The norm and the input projection of the short convolution. -/
module

public import proofs.«01_k».proof.Defs
public import proofs.«01_k».proof.Proof.Prod
public import proofs.«01_k».proof.Proof.Gen.Kernel7Ideal.Value
public import proofs.«01_k».proof.Proof.Gen.Reference7Ideal.Run

@[expose] public section

set_option maxRecDepth 16384

noncomputable section

namespace Cert.Kernel7Ideal.Val

open Cert.Kernel7Ideal Cert.Kernel7Ideal.Gen Idealize.ShloMosaic Idealize.ShloMosaic.TcCoe Idealize.SL.Sem Cert.Prod

variable (m : (ℓ : Loc nD τ sig) → Buf (Elt Ideal) ℓ)

/-- The block indices of the five windows at each point of the grid. -/
theorem idx_val : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The normed rows. -/
abbrev Gz (c : Dev nD) : Vec Ideal S8192x1024 .bf16 := fun y =>
  normAt (m ((c : Thread nD τ).loc main_arg0)) (m ((c : Thread nD τ).loc main_arg1)) (y 0) (y 1)

/-- Their product with the weight. -/
abbrev G (c : Dev nD) : Vec Ideal S8192x3072 .bf16 := fun y =>
  nnAt (φ := .bf16) (ψ := .bf16) (Gz m c) (m ((c : Thread nD τ).loc main_arg2)) (y 0) (y 1)

/-- The row of the arrays at which row `i` of point `t`'s blocks lies. -/
abbrev row (t : Fin cfg0.N) (i : Fin 512) : Fin 8192 := ⟨512 * t.val + i.val, by have := lt_of_lt_of_eq t.isLt N_0; omega⟩

theorem blk0 (c : Dev nD) (t : Fin cfg0.N) (y : S512x1024.Idx) :
    iblk m c 0 t y = m ((c : Thread nD τ).loc main_arg0) (ix2 (row t (y 0)) (y 1)) := by
  blk_ext [iblk, V, idx_val t]

theorem blk1 (c : Dev nD) (t : Fin cfg0.N) (y : S1x1024.Idx) :
    iblk m c 1 t y = m ((c : Thread nD τ).loc main_arg1) (ix1 (y 1)) := by
  blk_simp [iblk, idx_val t]
  entry_read
  pointwise
  blk_ext [idx_val t]

theorem blk2 (c : Dev nD) (t : Fin cfg0.N) (y : S1024x3072.Idx) :
    iblk m c 2 t y = m ((c : Thread nD τ).loc main_arg2) y := by
  blk_ext [iblk, V, idx_val t]

theorem emb3 (t : Fin cfg0.N) (y : S512x1024.Idx) : ((cfg0.win 3).blk t).view.emb y = ix2 (row t (y 0)) (y 1) := by
  blk_ext [idx_val t]

theorem emb4 (t : Fin cfg0.N) (y : S512x3072.Idx) : ((cfg0.win 4).blk t).view.emb y = ix2 (row t (y 0)) (y 1) := by
  blk_ext [idx_val t]

/-- What a point leaves in its block of normed rows. -/
theorem point3 (c : Dev nD) (t : Fin cfg0.N) (y : S512x1024.Idx) :
    k0_pay4 (iblk m c 0 t) (iblk m c 1 t) y = Gz m c (((cfg0.win 3).blk t).view.emb y) := by
  rw [emb3 t y]
  pointwise [k0_pay4, Gz, normAt, rmsAt]
  simp only [blk0, blk1]
  rfl

set_option maxHeartbeats 1600000 in
/-- What a point leaves in its block of the product: each strip of columns is a product with a strip of the weight's columns. -/
theorem point4 (c : Dev nD) (t : Fin cfg0.N) (y : S512x3072.Idx) :
    out0_4 (iblk m c 0 t) (iblk m c 1 t) (iblk m c 2 t) y = G m c (((cfg0.win 4).blk t).view.emb y) := by
  rw [emb4 t y]
  canon_tiles x h
  all_goals
    have e0 : y 0 = x 0 := Fin.ext h0
    have e1 := fun h => (Fin.ext h1.symm : (⟨_, h⟩ : Fin 3072) = y 1)
    open_payloads
    pointwise [G, Gz, nnAt, normAt, rmsAt]
    simp only [blk0, blk1, blk2, e0, e1]
    rfl

/-- The kernel leaves the normed rows. -/
theorem final3 (c : Dev nD) : (dats m 0 c).arrAt 3 (cfgs 0).N = Gz m c := by
  refine (dats m 0 c).arrAt_eq_of_covers 3 _ (by decide +kernel) fun t hf y => ?_
  blk_simp; rw [after0_3]; frame_out
  exact point3 m c t y

/-- The kernel leaves their product. -/
theorem final4 (c : Dev nD) : (dats m 0 c).arrAt 4 (cfgs 0).N = G m c := by
  refine (dats m 0 c).arrAt_eq_of_covers 4 _ (by decide +kernel) fun t hf y => ?_
  blk_simp; rw [after0_4]
  exact point4 m c t y

end Cert.Kernel7Ideal.Val

namespace Cert.Proof

open Idealize.ShloMosaic Idealize.SL.Sem Cert.Prod

/-- The reference ends with its arguments unchanged; it declares no semaphore. -/
theorem frame_reference7 [Cert.Reference7Ideal.Facts] : Cert.quiescent_Reference7Ideal := fun m ρ _ =>
  (θ_run Cert.Reference7Ideal.defs _ _).mono (fun r h => ⟨fun c => (h c).2.2, Idealize.ShloMosaic.sem_eq_zero_of_no_sems (by decide) r.2⟩)
    (Cert.Reference7Ideal.Value.run (F := Ideal) m ρ)

/-- Kernel and reference leave equal results. -/
theorem algebraic7 : Cert.algebraic_Kernel7Ideal_Reference7Ideal := by
  intro m ρ m' ρ' _ hag
  refine ⟨fun c => Cert.Kernel7Ideal.Val.Gz m c, fun c => Cert.Kernel7Ideal.Val.G m c, ?_, ?_⟩
  · exact (θ_run Cert.Kernel7Ideal.defs _ _).mono (fun r h c => ⟨(h c).1.trans (Cert.Kernel7Ideal.Val.final3 m c),
        (h c).2.1.trans (Cert.Kernel7Ideal.Val.final4 m c), (h c).2.2⟩)
      (Cert.Kernel7Ideal.Value.run_blocks (F := Ideal) m ρ)
  · refine (θ_run Cert.Reference7Ideal.defs _ _).mono (fun r h c => ⟨(h c).1.trans ?_, (h c).2.1.trans ?_, (h c).2.2⟩)
      (Cert.Reference7Ideal.Value.run (F := Ideal) m' ρ')
    all_goals
      obtain ⟨a0, a1, a2⟩ := hag c
      rw [a0, a1]
      try rw [a2]
      funext y
      pointwise [Cert.Kernel7Ideal.Val.G, Cert.Kernel7Ideal.Val.Gz, nnAt, normAt, rmsAt]

end Cert.Proof

end
-- ==== Proof.OutInput.lean ====
/- The gradient of the mixers' output projections by their input. -/
module

public import proofs.«01_k».proof.Defs
public import proofs.«01_k».proof.Proof.Prod
public import proofs.«01_k».proof.Proof.Gen.Kernel8Ideal.Value
public import proofs.«01_k».proof.Proof.Gen.Reference8Ideal.Run

@[expose] public section

set_option maxRecDepth 16384

noncomputable section

namespace Cert.Kernel8Ideal.Val

open Cert.Kernel8Ideal Cert.Kernel8Ideal.Gen Idealize.ShloMosaic Idealize.ShloMosaic.TcCoe Idealize.SL.Sem Cert.Prod

variable (m : (ℓ : Loc nD τ sig) → Buf (Elt Ideal) ℓ)

/-- The block indices of the three windows at each point of the grid. -/
theorem idx_val : ∀ t : Fin cfg0.N, win0_0.index t = ![t.val, 0] ∧ win0_1.index t = ![0, 0] ∧ win0_2.index t = ![t.val, 0] :=
  (by decide +kernel : ∀ t : Fin grid0.N, _)

/-- The result array. -/
abbrev G (c : Dev nD) : Vec Ideal S8192x1024 .bf16 := fun y =>
  ntAt (φ := .bf16) (ψ := .bf16) (m ((c : Thread nD τ).loc main_arg0)) (m ((c : Thread nD τ).loc main_arg1)) (y 0) (y 1)

set_option maxHeartbeats 1600000 in
/-- What a point leaves in its block: each strip of columns is a product with a strip of the weight's rows. -/
theorem point (c : Dev nD) (t : Fin cfg0.N) (y) :
    out0_2 (iblk m c 0 t) (iblk m c 1 t) y = G m c (((cfg0.win 2).blk t).view.emb y) := by
  canon_tiles x h
  all_goals (open_payloads; pointwise [G, ntAt]; blk_point [iblk, V, idx_val t])

/-- The kernel leaves it. -/
theorem final (c : Dev nD) : (dats m 0 c).arrAt 2 (cfgs 0).N = G m c := by
  refine (dats m 0 c).arrAt_eq_of_covers 2 _ (by decide +kernel) fun t hf y => ?_
  blk_simp; rw [after0_2]
  exact point m c t y

end Cert.Kernel8Ideal.Val

namespace Cert.Proof

open Idealize.ShloMosaic Idealize.SL.Sem Cert.Prod

/-- The reference ends with its arguments unchanged; it declares no semaphore. -/
theorem frame_reference8 [Cert.Reference8Ideal.Facts] : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

/-- Kernel and reference leave equal results. -/
theorem algebraic8 : Cert.algebraic_Kernel8Ideal_Reference8Ideal := by
  intro m ρ m' ρ' _ hag
  refine ⟨fun c => Cert.Kernel8Ideal.Val.G m c, ?_, ?_⟩
  · exact (θ_run Cert.Kernel8Ideal.defs _ _).mono (fun r h c => ⟨(h c).1.trans (Cert.Kernel8Ideal.Val.final m c), (h c).2⟩)
      (Cert.Kernel8Ideal.Value.run_blocks (F := Ideal) m ρ)
  · refine (θ_run Cert.Reference8Ideal.defs _ _).mono (fun r h c => ⟨(h c).1.trans ?_, (h c).2⟩) (Cert.Reference8Ideal.Value.run (F := Ideal) m' ρ')
    obtain ⟨a0, a1⟩ := hag c
    rw [a0, a1]
    funext y
    pointwise [Cert.Kernel8Ideal.Val.G, ntAt]

end Cert.Proof

end
-- ==== Proof.OutWeight.lean ====
/- The gradient of the mixers' output projections by their weight. -/
module

public import proofs.«01_k».proof.Defs
public import proofs.«01_k».proof.Proof.Prod
public import proofs.«01_k».proof.Proof.Gen.Kernel9Ideal.Value
public import proofs.«01_k».proof.Proof.Gen.Reference9Ideal.Run

@[expose] public section

set_option maxRecDepth 16384

noncomputable section

namespace Cert.Kernel9Ideal.Val

open Cert.Kernel9Ideal Cert.Kernel9Ideal.Gen Idealize.ShloMosaic Idealize.ShloMosaic.TcCoe Idealize.SL.Sem Cert.Prod

variable (m : (ℓ : Loc nD τ sig) → Buf (Elt Ideal) ℓ)

/-- The block indices of the three windows at each point of the grid. -/
theorem idx_val : ∀ t : Fin cfg0.N, win0_0.index t = ![t.val, 0] ∧ win0_1.index t = ![t.val, 0] ∧ win0_2.index t = ![0, 0] :=
  (by decide +kernel : ∀ t : Fin grid0.N, _)

/-- The block starts at zero. -/
theorem hzero (j : S1024x1024.Idx) : k0_pay1 (F := Ideal) j = 0 := by
  pointwise! [k0_pay1]

/-- A point adds its product to what the block held. -/
theorem hpay (v3 : Vec Ideal S1024x1024 .f32) (v5 : Vec Ideal S2048x1024 .bf16) (v6 : Vec Ideal S2048x1024 .bf16) (j : S1024x1024.Idx) :
    k0_pay2 v3 v5 v6 j = v3 j + k0_pay2 (fun _ => 0) v5 v6 j := by
  pointwise [k0_pay2]

/-- The result array. -/
abbrev G (c : Dev nD) : Vec Ideal S1024x1024 .f32 := fun y =>
  tnAt (φ := .bf16) (ψ := .bf16) (m ((c : Thread nD τ).loc main_arg0)) (m ((c : Thread nD τ).loc main_arg1)) (y 0) (y 1)

/-- The kernel leaves it. -/
theorem final (c : Dev nD) : (dats m 0 c).arrAt 2 (cfgs 0).N = G m c := by
  refine (dats m 0 c).arrAt_eq_of_after_last 2 t0_3 (by decide +kernel) _ fun j => ?_
  blk_simp
  rw [after0_2, Pipeline.eq_sum_fin_of_reset_step_apply_last (fun n h => (outsAt0 m c n h)) 4 (fun _ => 0) _
    (fun t h j => by rw [outsAt0_A m c t h]; frame_out; rw [hpay, hzero])
    (fun t h j => by rw [outsAt0_B m c t h]; frame_out; rw [hpay])
    (le_of_eq N_0) t0_3 rfl j, zero_add]
  pointwise [k0_pay2, G, tnAt]
  refine Fin.sum_mul_add_congr fun s k hl => ?_
  blk_point [iblk, V, idx_val s]

end Cert.Kernel9Ideal.Val

namespace Cert.Proof

open Idealize.ShloMosaic Idealize.SL.Sem Cert.Prod

/-- The reference ends with its arguments unchanged; it declares no semaphore. -/
theorem frame_reference9 [Cert.Reference9Ideal.Facts] : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

/-- Kernel and reference leave equal results. -/
theorem algebraic9 : Cert.algebraic_Kernel9Ideal_Reference9Ideal := by
  intro m ρ m' ρ' _ hag
  refine ⟨fun c => Cert.Kernel9Ideal.Val.G m c, ?_, ?_⟩
  · exact (θ_run Cert.Kernel9Ideal.defs _ _).mono (fun r h c => ⟨(h c).1.trans (Cert.Kernel9Ideal.Val.final m c), (h c).2⟩)
      (Cert.Kernel9Ideal.Value.run_blocks (F := Ideal) m ρ)
  · refine (θ_run Cert.Reference9Ideal.defs _ _).mono (fun r h c => ⟨(h c).1.trans ?_, (h c).2⟩) (Cert.Reference9Ideal.Value.run (F := Ideal) m' ρ')
    obtain ⟨a0, a1⟩ := hag c
    rw [a0, a1]
    funext y
    pointwise [Cert.Kernel9Ideal.Val.G, tnAt]
    exact Finset.sum_congr rfl fun k _ => mul_comm _ _

end Cert.Proof

end
-- ==== Proof.EvInWeight.lean ====
/- The gradient of the even layer's input projection by its weight, transposed. -/
module

public import proofs.«01_k».proof.Defs
public import proofs.«01_k».proof.Proof.Prod
public import proofs.«01_k».proof.Proof.Gen.Kernel10Ideal.Value
public import proofs.«01_k».proof.Proof.Gen.Reference10Ideal.Run

@[expose] public section

set_option maxRecDepth 16384

noncomputable section

namespace Cert.Kernel10Ideal.Val

open Cert.Kernel10Ideal Cert.Kernel10Ideal.Gen Idealize.ShloMosaic Idealize.ShloMosaic.TcCoe Idealize.SL.Sem Cert.Prod

variable (m : (ℓ : Loc nD τ sig) → Buf (Elt Ideal) ℓ)

/-- The block indices of the three windows at each point of the grid. -/
theorem idx_val : ∀ t : Fin cfg0.N, win0_0.index t = ![t.val % 4, t.val / 4] ∧ win0_1.index t = ![t.val % 4, 0] ∧ win0_2.index t = ![t.val / 4, 0] :=
  (by decide +kernel : ∀ t : Fin grid0.N, _)

/-- The block starts at zero. -/
theorem hzero (j : S896x1024.Idx) : k0_pay1 (F := Ideal) j = 0 := by
  pointwise! [k0_pay1]

/-- A point adds its product to what the block held. -/
theorem hpay (v3 : Vec Ideal S896x1024 .f32) (v5 : Vec Ideal S2048x896 .bf16) (v6 : Vec Ideal S2048x1024 .bf16) (j : S896x1024.Idx) :
    k0_pay2 v3 v5 v6 j = v3 j + k0_pay2 (fun _ => 0) v5 v6 j := by
  pointwise [k0_pay2]

/-- The result array. -/
abbrev G (c : Dev nD) : Vec Ideal S1792x1024 .f32 := fun y =>
  tnAt (φ := .bf16) (ψ := .bf16) (m ((c : Thread nD τ).loc main_arg0)) (m ((c : Thread nD τ).loc main_arg1)) (y 0) (y 1)

/-- The kernel leaves it. -/
theorem final (c : Dev nD) : (dats m 0 c).arrAt 2 (cfgs 0).N = G m c := by
  refine (dats m 0 c).arrAt_eq_of_covers 2 _ (by decide +kernel) fun t hf y => ?_
  blk_simp
  rw [after0_2, Pipeline.eq_sum_fin_of_reset_step_apply_of_flush (fun n h => (outsAt0 m c n h)) 4 (fun _ => 0) _
    (fun t h j => by rw [outsAt0_A m c t h]; frame_out; rw [hpay, hzero])
    (fun t h j => by rw [outsAt0_B m c t h]; frame_out; rw [hpay])
    t ((flush0_2 t).mp hf) _, zero_add]
  pointwise [k0_pay2, G, tnAt]
  refine Fin.sum_mul_add_congr fun s k hl => ?_
  blk_point [iblk, V, idx_val t, idx_val ⟨_, Pipeline.run_point_lt_of_flush t ((flush0_2 t).mp hf) s⟩]

end Cert.Kernel10Ideal.Val

namespace Cert.Proof

open Idealize.ShloMosaic Idealize.SL.Sem Cert.Prod

/-- The reference ends with its arguments unchanged; it declares no semaphore. -/
theorem frame_reference10 [Cert.Reference10Ideal.Facts] : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

/-- Kernel and reference leave equal results. -/
theorem algebraic10 : Cert.algebraic_Kernel10Ideal_Reference10Ideal := by
  intro m ρ m' ρ' _ hag
  refine ⟨fun c => Cert.Kernel10Ideal.Val.G m c, ?_, ?_⟩
  · exact (θ_run Cert.Kernel10Ideal.defs _ _).mono (fun r h c => ⟨(h c).1.trans (Cert.Kernel10Ideal.Val.final m c), (h c).2⟩)
      (Cert.Kernel10Ideal.Value.run_blocks (F := Ideal) m ρ)
  · refine (θ_run Cert.Reference10Ideal.defs _ _).mono (fun r h c => ⟨(h c).1.trans ?_, (h c).2⟩) (Cert.Reference10Ideal.Value.run (F := Ideal) m' ρ')
    obtain ⟨a0, a1⟩ := hag c
    rw [a0, a1]
    funext y
    pointwise [Cert.Kernel10Ideal.Val.G, tnAt]

end Cert.Proof

end
-- ==== Proof.NormBwd.lean ====
/- The gradient of a row over its root mean square. With `r` the reciprocal of the root mean square `√u`, one program adds
   to the residual's gradient `r * (d - (x * r) * mean)` with the mean of `d * (x * r)`, the other differentiates the
   square root and the squares one after the other; the two agree on all rows, infinite entries included. -/
module

public import proofs.«01_k».proof.Proof.Prod

@[expose] public section

noncomputable section

namespace Cert.Prod

open Idealize.ShloMosaic

/-- The word of a row's length. -/
theorem word_len : Ideal.ofBits .f32 1149239296#32 = ((1024 : ℝ) : EReal) := by
  simp [Ideal.ofBits, Ideal.ieee, -EReal.coe_mul, -EReal.coe_neg]; norm_num

/-- The word of minus a half. -/
theorem word_neg_half : Ideal.ofBits .f32 3204448256#32 = ((-(1 / 2) : ℝ) : EReal) := by
  simp [Ideal.ofBits, Ideal.ieee, -EReal.coe_mul, -EReal.coe_neg]; norm_num

/-- The small constant is a positive real number. -/
theorem word_eps : ∃ e : ℝ, 0 < e ∧ Ideal.ofBits .f32 897988541#32 = (e : EReal) := by
  refine ⟨_, ?_, by simp [Ideal.ofBits, Ideal.ieee, -EReal.coe_mul]; rfl⟩
  norm_num

/-- A real factor that is not negative moves out of a sum of extended reals. -/
theorem sum_mul_real {n : ℕ} (f : Fin n → EReal) (c : ℝ) (hc : 0 ≤ c) : ∑ k, f k * (c : EReal) = (∑ k, f k) * (c : EReal) := by
  induction n with
  | zero => simp
  | succ n ih =>
    rw [Fin.sum_univ_succ, Fin.sum_univ_succ, ih, EReal.right_distrib_of_nonneg_of_ne_top (by exact_mod_cast hc) (EReal.coe_ne_top c)]

/-- Twice minus a half of a number is its negative. -/
theorem neg_half_twice (w : EReal) : ((-(1 / 2) : ℝ) : EReal) * w + ((-(1 / 2) : ℝ) : EReal) * w = -w := by
  induction w with
  | bot => rw [EReal.coe_mul_bot_of_neg (by norm_num)]; rfl
  | top => rw [EReal.coe_mul_top_of_neg (by norm_num)]; rfl
  | coe a => norm_cast; ring

/-- The mean of squares and the small constant make a positive number. -/
theorem meanSq_pos {n : ℕ} (x : Fin n → EReal) :
    0 < Ideal.div (∑ j, x j * x j) (Ideal.ofBits .f32 1149239296#32) + Ideal.ofBits .f32 897988541#32 := by
  obtain ⟨e, he, hw⟩ := word_eps
  have hs : (0 : EReal) ≤ ∑ j, x j * x j := Finset.sum_nonneg fun j _ => by
    rcases le_total 0 (x j) with h | h
    · exact mul_nonneg h h
    · rw [← neg_mul_neg]; exact mul_nonneg (EReal.neg_nonneg.mpr h) (EReal.neg_nonneg.mpr h)
  rw [word_len, hw, Ideal.div, if_neg (by norm_num), ← EReal.coe_inv]
  have h1 : (0 : EReal) ≤ (∑ j, x j * x j) * ((1024⁻¹ : ℝ) : EReal) := mul_nonneg hs (by exact_mod_cast (by norm_num : (0:ℝ) ≤ 1024⁻¹))
  exact lt_of_lt_of_le (by exact_mod_cast he : (0 : EReal) < e) (le_add_of_nonneg_left h1)

/-- The two ways of writing the gradient of a normed row, at entry `k`: `d` the gradient of the normed row times the scale,
    `x` the row, `h` the gradient that reaches the row past the norm, `u` the mean of squares with the small constant. -/
theorem bwd_entry (x d : Fin 1024 → EReal) (h u : EReal) (hu : 0 < u) (k : Fin 1024) :
    h + Ideal.rsqrt u * (d k - x k * Ideal.rsqrt u * Ideal.div (∑ j, d j * (x j * Ideal.rsqrt u)) (Ideal.ofBits .f32 1149239296#32))
    = h + d k * Ideal.rsqrt u
      + x k * Ideal.div ((∑ j, x j * d j) * (Ideal.ofBits .f32 3204448256#32 * Ideal.div (Ideal.rsqrt u) u)) (Ideal.ofBits .f32 1149239296#32)
      + Ideal.div ((∑ j, x j * d j) * (Ideal.ofBits .f32 3204448256#32 * Ideal.div (Ideal.rsqrt u) u)) (Ideal.ofBits .f32 1149239296#32) * x k := by
  rw [word_len, word_neg_half]
  induction u with
  | bot => simp at hu
  | top => simp [Ideal.div]
  | coe a =>
    have ha : 0 < a := by exact_mod_cast hu
    have hr : Ideal.rsqrt (a : EReal) = (((√a)⁻¹ : ℝ) : EReal) := by
      rw [Ideal.rsqrt_coe, if_neg (not_lt.mpr ha.le), if_neg ha.ne']
    have hp : 0 < (√a)⁻¹ := inv_pos.mpr (Real.sqrt_pos.mpr ha)
    have hd : Ideal.div (((√a)⁻¹ : ℝ) : EReal) (a : EReal) = (((√a)⁻¹ * (√a)⁻¹ * (√a)⁻¹ : ℝ) : EReal) := by
      rw [Ideal.div, if_neg (by exact_mod_cast ha.ne'), ← EReal.coe_inv, ← EReal.coe_mul]
      congr 1
      rw [show (√a)⁻¹ * (√a)⁻¹ = a⁻¹ by rw [← mul_inv, Real.mul_self_sqrt ha.le], mul_comm]
    have hc : ∀ z : EReal, Ideal.div z ((1024 : ℝ) : EReal) = z * ((1024⁻¹ : ℝ) : EReal) := fun z => by
      rw [Ideal.div, if_neg (by norm_num), ← EReal.coe_inv]
    rw [hr, hd]
    generalize (√a)⁻¹ = ρ at hp
    simp only [hc, ← mul_assoc, sum_mul_real _ ρ hp.le]
    simp only [mul_comm (d _) (x _)]
    generalize (∑ j, x j * d j) = S
    rw [EReal.mul_sub_of_nonneg_of_ne_top (by exact_mod_cast hp.le) (EReal.coe_ne_top ρ), sub_eq_add_neg, ← neg_half_twice,
      add_assoc h, add_assoc h, add_assoc (d k * _)]
    push_cast
    refine congrArg (h + ·) (congr (congrArg _ (mul_comm _ _)) (congr (congrArg _ ?_) ?_))
    · ac_rfl
    · ac_rfl

variable {M : ℕ}

/-- Entry (i, j) of `a` times the transpose of the left half of `w`'s columns, plus `b` times that of the right half. -/
def halvesAt (a b : Mat .bf16 M 2816) (w : Mat .bf16 1024 5632) (i : Fin M) (j : Fin 1024) : EReal :=
  (∑ k : Fin 2816, (a (ix2 i k) : EReal) * w (ix2 j ⟨k.val, by omega⟩))
    + ∑ k : Fin 2816, (b (ix2 i k) : EReal) * w (ix2 j ⟨2816 + k.val, by omega⟩)

/-- A row's entry of the gradient that leaves a norm: `z` the gradient of the scaled normed rows, `x` the rows, `g` the
    scale, `h` the gradient that reaches the rows past the norm. -/
def normBwdAt (z : Fin M → Fin 1024 → EReal) (x : Mat .f32 M 1024) (g : FVec Ideal ⟨1, ![1024]⟩ .f32) (h : Mat .f32 M 1024)
    (i : Fin M) (k : Fin 1024) : EReal :=
  h (ix2 i k) + rmsAt x i * (z i k * g (ix1 k) - x (ix2 i k) * rmsAt x i
    * Ideal.div (∑ j : Fin 1024, z i j * g (ix1 j) * (x (ix2 i j) * rmsAt x i)) (Ideal.ofBits .f32 1149239296#32))

/-- An entry of the gradient of a norm's scale, from the gradient `z` of the scaled normed rows. -/
def scaleBwdAt (z : Fin M → Fin 1024 → EReal) (x : Mat .f32 M 1024) (k : Fin 1024) : EReal :=
  ∑ i : Fin M, z i k * (x (ix2 i k) * rmsAt x i)

/-- The gradient that leaves a norm, written by differentiating the root and the squares one after the other. -/
theorem normBwdAt_eq (z : Fin M → Fin 1024 → EReal) (x : Mat .f32 M 1024) (g : FVec Ideal ⟨1, ![1024]⟩ .f32) (h : Mat .f32 M 1024)
    (i : Fin M) (k : Fin 1024) : normBwdAt z x g h i k
    = h (ix2 i k) + z i k * g (ix1 k) * rmsAt x i
      + x (ix2 i k) * Ideal.div ((∑ j : Fin 1024, x (ix2 i j) * (z i j * g (ix1 j))) * (Ideal.ofBits .f32 3204448256#32 * Ideal.div (rmsAt x i)
          (Ideal.div (∑ j : Fin 1024, (x (ix2 i j) : EReal) * x (ix2 i j)) (Ideal.ofBits .f32 1149239296#32) + Ideal.ofBits .f32 897988541#32)))
          (Ideal.ofBits .f32 1149239296#32)
      + Ideal.div ((∑ j : Fin 1024, x (ix2 i j) * (z i j * g (ix1 j))) * (Ideal.ofBits .f32 3204448256#32 * Ideal.div (rmsAt x i)
          (Ideal.div (∑ j : Fin 1024, (x (ix2 i j) : EReal) * x (ix2 i j)) (Ideal.ofBits .f32 1149239296#32) + Ideal.ofBits .f32 897988541#32)))
          (Ideal.ofBits .f32 1149239296#32) * x (ix2 i k) :=
  bwd_entry (fun j => x (ix2 i j)) (fun j => z i j * g (ix1 j)) (h (ix2 i k)) _ (meanSq_pos fun j => x (ix2 i j)) k

end Cert.Prod

end
-- ==== Proof.EvInBwd.lean ====
/- The gradient that leaves the input norm of an even layer: the gradient of the projection goes through the weight, then
   through the norm, and joins the gradient of the residual; beside it the gradient of the norm's scale. -/
module

public import proofs.«01_k».proof.Defs
public import proofs.«01_k».proof.Proof.NormBwd
public import proofs.«01_k».proof.Proof.Gen.Kernel11Ideal.Value
public import proofs.«01_k».proof.Proof.Gen.Reference11Ideal.Run

@[expose] public section

set_option maxRecDepth 16384

noncomputable section

namespace Cert.Kernel11Ideal.Val

open Cert.Kernel11Ideal Cert.Kernel11Ideal.Gen Idealize.ShloMosaic Idealize.ShloMosaic.TcCoe Idealize.SL.Sem Cert.Prod

variable (m : (ℓ : Loc nD τ sig) → Buf (Elt Ideal) ℓ)

/-- The block indices of the eight windows at each point of the grid. -/
theorem idx_val : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

/-- The gradient of the scaled normed rows. -/
abbrev Z (c : Dev nD) : Fin 8192 → Fin 1024 → EReal :=
  ntAt (φ := .bf16) (ψ := .bf16) (m ((c : Thread nD τ).loc main_arg0)) (m ((c : Thread nD τ).loc main_arg1))

/-- The rows that the norm reads. -/
abbrev X (c : Dev nD) : Mat .f32 8192 1024 := m ((c : Thread nD τ).loc main_arg2)

/-- The gradient of the rows. -/
abbrev G (c : Dev nD) : Vec Ideal S8192x1024 .f32 := fun y =>
  normBwdAt (Z m c) (X m c) (m ((c : Thread nD τ).loc main_arg3)) (m ((c : Thread nD τ).loc main_arg4)) (y 0) (y 1)

/-- The same in the short format. -/
abbrev Gb (c : Dev nD) : Vec Ideal S8192x1024 .bf16 := fun y =>
  normBwdAt (Z m c) (X m c) (m ((c : Thread nD τ).loc main_arg3)) (m ((c : Thread nD τ).loc main_arg4)) (y 0) (y 1)

/-- The gradient of the scale. -/
abbrev Gs (c : Dev nD) : Vec Ideal S1x1024 .f32 := fun y => scaleBwdAt (Z m c) (X m c) (y 1)

/-- The row of the arrays at which row `i` of point `t`'s blocks lies. -/
abbrev row (t : Fin cfg0.N) (i : Fin 512) : Fin 8192 := ⟨t.val * 512 + i.val, by have := lt_of_lt_of_eq t.isLt N_0; omega⟩

theorem blk0 (c : Dev nD) (t : Fin cfg0.N) (y : S512x1792.Idx) :
    iblk m c 0 t y = m ((c : Thread nD τ).loc main_arg0) (ix2 (row t (y 0)) (y 1)) := by
  blk_ext [iblk, V, idx_val t]

theorem blk1 (c : Dev nD) (t : Fin cfg0.N) (y : S1024x1792.Idx) :
    iblk m c 1 t y = m ((c : Thread nD τ).loc main_arg1) y := by
  blk_ext [iblk, V, idx_val t]

theorem blk2 (c : Dev nD) (t : Fin cfg0.N) (y : S512x1024.Idx) :
    iblk m c 2 t y = m ((c : Thread nD τ).loc main_arg2) (ix2 (row t (y 0)) (y 1)) := by
  blk_ext [iblk, V, idx_val t]

theorem blk3 (c : Dev nD) (t : Fin cfg0.N) (y : S1x1024.Idx) :
    iblk m c 3 t y = m ((c : Thread nD τ).loc main_arg3) (ix1 (y 1)) := by
  blk_simp [iblk, idx_val t]
  entry_read
  pointwise
  blk_ext [idx_val t]

theorem blk4 (c : Dev nD) (t : Fin cfg0.N) (y : S512x1024.Idx) :
    iblk m c 4 t y = m ((c : Thread nD τ).loc main_arg4) (ix2 (row t (y 0)) (y 1)) := by
  blk_ext [iblk, V, idx_val t]

theorem emb5 (t : Fin cfg0.N) (y : S512x1024.Idx) : ((cfg0.win 5).blk t).view.emb y = ix2 (row t (y 0)) (y 1) := by
  blk_ext [idx_val t]

theorem emb6 (t : Fin cfg0.N) (y : S512x1024.Idx) : ((cfg0.win 6).blk t).view.emb y = ix2 (row t (y 0)) (y 1) := by
  blk_ext [idx_val t]

/-- What a point leaves in its block of gradients. -/
theorem point5 (c : Dev nD) (t : Fin cfg0.N) (y : S512x1024.Idx) :
    k0_pay7 (iblk m c 0 t) (iblk m c 1 t) (iblk m c 2 t) (iblk m c 3 t) (iblk m c 4 t) y
      = G m c (((cfg0.win 5).blk t).view.emb y) := by
  rw [emb5 t y]
  pointwise [k0_pay3, k0_pay4, k0_pay5, k0_pay7, G, X, normBwdAt, ntAt, rmsAt]
  simp only [blk0, blk1, blk2, blk3, blk4]
  rfl

/-- What a point leaves in its block of the short gradients. -/
theorem point6 (c : Dev nD) (t : Fin cfg0.N) (y : S512x1024.Idx) :
    k0_pay8 (iblk m c 0 t) (iblk m c 1 t) (iblk m c 2 t) (iblk m c 3 t) (iblk m c 4 t) y
      = Gb m c (((cfg0.win 6).blk t).view.emb y) := by
  rw [emb6 t y]
  pointwise [k0_pay3, k0_pay4, k0_pay5, k0_pay7, k0_pay8, Gb, X, normBwdAt, ntAt, rmsAt]
  simp only [blk0, blk1, blk2, blk3, blk4]
  rfl

/-- What a point adds to the gradient of the scale: its rows' terms. -/
theorem part7 (c : Dev nD) (t : Fin cfg0.N) (j : S1x1024.Idx) :
    k0_pay2 (k0_pay6 (iblk m c 0 t) (iblk m c 1 t) (iblk m c 2 t)) (fun _ => 0) j
      = ∑ i : Fin 512, Z m c (row t i) (j 1) * (X m c (ix2 (row t i) (j 1)) * rmsAt (X m c) (row t i)) := by
  pointwise [k0_pay2, k0_pay3, k0_pay4, k0_pay5, k0_pay6, Z, X, ntAt, rmsAt]
  simp only [blk0, blk1, blk2]
  rfl

/-- The first point fills the scale's gradient with zeros. -/
theorem zero7 (j : S1x1024.Idx) : k0_pay1 (F := Ideal) j = 0 := by
  pointwise! [k0_pay1]

/-- Each point adds its part to what the buffer held. -/
theorem pay7 (v : FVec Ideal S1x1024 .f32) (w : Vec Ideal S1x1024 .f32) (j : S1x1024.Idx) :
    k0_pay2 v w j = w j + k0_pay2 v (fun _ => 0) j := by
  pointwise [k0_pay2]

/-- The kernel leaves the gradient of the rows. -/
theorem final5 (c : Dev nD) : (dats m 0 c).arrAt 5 (cfgs 0).N = G m c := by
  refine (dats m 0 c).arrAt_eq_of_covers 5 _ (by decide +kernel) fun t hf y => ?_
  blk_simp; rw [after0_5]
  by_cases h : t.val % 16 = 0
  · rw [outsAt0_A m c t h]; dsimp only; frame_out; exact point5 m c t y
  · rw [outsAt0_B m c t h]; dsimp only; frame_out; exact point5 m c t y

/-- The kernel leaves the same in the short format. -/
theorem final6 (c : Dev nD) : (dats m 0 c).arrAt 6 (cfgs 0).N = Gb m c := by
  refine (dats m 0 c).arrAt_eq_of_covers 6 _ (by decide +kernel) fun t hf y => ?_
  blk_simp; rw [after0_6]
  by_cases h : t.val % 16 = 0
  · rw [outsAt0_A m c t h]; dsimp only; frame_out; exact point6 m c t y
  · rw [outsAt0_B m c t h]; dsimp only; frame_out; exact point6 m c t y

/-- The kernel leaves the gradient of the scale. -/
theorem final7 (c : Dev nD) : (dats m 0 c).arrAt 7 (cfgs 0).N = Gs m c := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => 0) _
    (fun t h j => by rw [outsAt0_A m c t h]; frame_out; rw [pay7, zero7])
    (fun t h j => by rw [outsAt0_B m c t h]; frame_out; rw [pay7])
    (le_of_eq N_0) t0_15 rfl j, zero_add]
  simp only [part7, Gs, scaleBwdAt]
  refine Fin.sum_mul_add_congr fun s k hl => ?_
  rfl

end Cert.Kernel11Ideal.Val

namespace Cert.Proof

open Idealize.ShloMosaic Idealize.SL.Sem Cert.Prod

/-- The reference ends with its arguments unchanged; it declares no semaphore. -/
theorem frame_reference11 [Cert.Reference11Ideal.Facts] : Cert.quiescent_Reference11Ideal := fun m ρ _ =>
  (θ_run Cert.Reference11Ideal.defs _ _).mono (fun r h => ⟨fun c => (h c).2.2.2, Idealize.ShloMosaic.sem_eq_zero_of_no_sems (by decide) r.2⟩)
    (Cert.Reference11Ideal.Value.run (F := Ideal) m ρ)

/-- Kernel and reference leave equal results. -/
theorem algebraic11 : Cert.algebraic_Kernel11Ideal_Reference11Ideal := by
  intro m ρ m' ρ' _ hag
  refine ⟨fun c => Cert.Kernel11Ideal.Val.G m c, fun c => Cert.Kernel11Ideal.Val.Gb m c, fun c => Cert.Kernel11Ideal.Val.Gs m c, ?_, ?_⟩
  · exact (θ_run Cert.Kernel11Ideal.defs _ _).mono (fun r h c => ⟨(h c).1.trans (Cert.Kernel11Ideal.Val.final5 m c),
        (h c).2.1.trans (Cert.Kernel11Ideal.Val.final6 m c), (h c).2.2.1.trans (Cert.Kernel11Ideal.Val.final7 m c), (h c).2.2.2⟩)
      (Cert.Kernel11Ideal.Value.run_blocks (F := Ideal) m ρ)
  · refine (θ_run Cert.Reference11Ideal.defs _ _).mono
      (fun r h c => ⟨(h c).1.trans ?_, (h c).2.1.trans ?_, (h c).2.2.1.trans ?_, (h c).2.2.2⟩)
      (Cert.Reference11Ideal.Value.run (F := Ideal) m' ρ')
    all_goals
      obtain ⟨a0, a1, a2, a3, a4⟩ := hag c
      try unfold Cert.Reference11Ideal.Value.res_main_v40
      try unfold Cert.Reference11Ideal.Value.res_main_v41
      rw [a0, a1, a2]
      try rw [a3, a4]
      funext y
    · refine Eq.trans ?_ (normBwdAt_eq _ _ _ _ _ _).symm
      pointwise [Cert.Kernel11Ideal.Val.Z, Cert.Kernel11Ideal.Val.X, ntAt, rmsAt, Fin.sum_univ_one]
    · refine Eq.trans ?_ (normBwdAt_eq _ _ _ _ _ _).symm
      pointwise [Cert.Kernel11Ideal.Val.Z, Cert.Kernel11Ideal.Val.X, ntAt, rmsAt, Fin.sum_univ_one]
    · show _ = scaleBwdAt _ _ _
      pointwise [Cert.Kernel11Ideal.Val.Z, Cert.Kernel11Ideal.Val.X, scaleBwdAt, ntAt, rmsAt, Fin.sum_univ_one]
      exact Finset.sum_congr rfl fun i _ => mul_comm _ _

end Cert.Proof

end
-- ==== Proof.UpBwd.lean ====
/- The gradient that leaves the norm of a feed-forward layer: the gradients of the gate and of the value each go through
   their half of the weight, then together through the norm, and join the gradient of the residual; beside it the gradient
   of the norm's scale. -/
module

public import proofs.«01_k».proof.Defs
public import proofs.«01_k».proof.Proof.NormBwd
public import proofs.«01_k».proof.Proof.Gen.Kernel12Ideal.Value
public import proofs.«01_k».proof.Proof.Gen.Reference12Ideal.Run

@[expose] public section

set_option maxRecDepth 16384

noncomputable section

namespace Cert.Kernel12Ideal.Val

open Cert.Kernel12Ideal Cert.Kernel12Ideal.Gen Idealize.ShloMosaic Idealize.ShloMosaic.TcCoe Idealize.SL.Sem Cert.Prod

variable (m : (ℓ : Loc nD τ sig) → Buf (Elt Ideal) ℓ)

/-- The block indices of the nine windows at each point of the grid. -/
theorem idx_val : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![t.val, 0]
    ∧ win0_7.index t = ![t.val, 0] ∧ win0_8.index t = ![0, 0] :=
  (by decide +kernel : ∀ t : Fin grid0.N, _)

/-- The gradient of the scaled normed rows. -/
abbrev Z (c : Dev nD) : Fin 8192 → Fin 1024 → EReal :=
  halvesAt (m ((c : Thread nD τ).loc main_arg0)) (m ((c : Thread nD τ).loc main_arg1)) (m ((c : Thread nD τ).loc main_arg2))

/-- The rows that the norm reads. -/
abbrev X (c : Dev nD) : Mat .f32 8192 1024 := m ((c : Thread nD τ).loc main_arg3)

/-- The gradient of the rows. -/
abbrev G (c : Dev nD) : Vec Ideal S8192x1024 .f32 := fun y =>
  normBwdAt (Z m c) (X m c) (m ((c : Thread nD τ).loc main_arg4)) (m ((c : Thread nD τ).loc main_arg5)) (y 0) (y 1)

/-- The same in the short format. -/
abbrev Gb (c : Dev nD) : Vec Ideal S8192x1024 .bf16 := fun y =>
  normBwdAt (Z m c) (X m c) (m ((c : Thread nD τ).loc main_arg4)) (m ((c : Thread nD τ).loc main_arg5)) (y 0) (y 1)

/-- The gradient of the scale. -/
abbrev Gs (c : Dev nD) : Vec Ideal S1x1024 .f32 := fun y => scaleBwdAt (Z m c) (X m c) (y 1)

/-- The row of the arrays at which row `i` of point `t`'s blocks lies. -/
abbrev row (t : Fin cfg0.N) (i : Fin 512) : Fin 8192 := ⟨t.val * 512 + i.val, by have := lt_of_lt_of_eq t.isLt N_0; omega⟩

theorem blk0 (c : Dev nD) (t : Fin cfg0.N) (y : S512x2816.Idx) :
    iblk m c 0 t y = m ((c : Thread nD τ).loc main_arg0) (ix2 (row t (y 0)) (y 1)) := by
  blk_ext [iblk, V, idx_val t]

theorem blk1 (c : Dev nD) (t : Fin cfg0.N) (y : S512x2816.Idx) :
    iblk m c 1 t y = m ((c : Thread nD τ).loc main_arg1) (ix2 (row t (y 0)) (y 1)) := by
  blk_ext [iblk, V, idx_val t]

theorem blk2 (c : Dev nD) (t : Fin cfg0.N) (y : S1024x5632.Idx) :
    iblk m c 2 t y = m ((c : Thread nD τ).loc main_arg2) y := by
  blk_ext [iblk, V, idx_val t]

theorem blk3 (c : Dev nD) (t : Fin cfg0.N) (y : S512x1024.Idx) :
    iblk m c 3 t y = m ((c : Thread nD τ).loc main_arg3) (ix2 (row t (y 0)) (y 1)) := by
  blk_ext [iblk, V, idx_val t]

theorem blk4 (c : Dev nD) (t : Fin cfg0.N) (y : S1x1024.Idx) :
    iblk m c 4 t y = m ((c : Thread nD τ).loc main_arg4) (ix1 (y 1)) := by
  blk_simp [iblk, idx_val t]
  entry_read
  pointwise
  blk_ext [idx_val t]

theorem blk5 (c : Dev nD) (t : Fin cfg0.N) (y : S512x1024.Idx) :
    iblk m c 5 t y = m ((c : Thread nD τ).loc main_arg5) (ix2 (row t (y 0)) (y 1)) := by
  blk_ext [iblk, V, idx_val t]

theorem emb6 (t : Fin cfg0.N) (y : S512x1024.Idx) : ((cfg0.win 6).blk t).view.emb y = ix2 (row t (y 0)) (y 1) := by
  blk_ext [idx_val t]

theorem emb7 (t : Fin cfg0.N) (y : S512x1024.Idx) : ((cfg0.win 7).blk t).view.emb y = ix2 (row t (y 0)) (y 1) := by
  blk_ext [idx_val t]

theorem idx2_lt1 (y : S1024x2816.Idx) : (y 1).val < 2816 := (y 1).isLt

/-- The left half of the weight's columns, as a point loads it. -/
def wl (c : Dev nD) (t : Fin cfg0.N) : Vec Ideal S1024x2816 .bf16 :=
  View.ld (iblk m c 2 t) (Rect.unit (s := S1024x5632) ![0, 0] ![1024, 2816] inb_S1024x5632_S1024x2816_0_0)

/-- The right half. -/
def wr (c : Dev nD) (t : Fin cfg0.N) : Vec Ideal S1024x2816 .bf16 :=
  View.ld (iblk m c 2 t) (Rect.unit (s := S1024x5632) ![0, 2816] ![1024, 2816] inb_S1024x5632_S1024x2816_0_2816)

theorem wl_at (c : Dev nD) (t : Fin cfg0.N) (y : S1024x2816.Idx) :
    wl m c t y = m ((c : Thread nD τ).loc main_arg2) (ix2 (y 0) ⟨(y 1).val, lt_of_lt_of_le (idx2_lt1 y) (by decide)⟩) := by
  refine (blk2 m c t _).trans (congrArg _ ?_)
  blk_ext
  all_goals simp [LoadRect.idx, Rect.unit]

theorem wr_at (c : Dev nD) (t : Fin cfg0.N) (y : S1024x2816.Idx) :
    wr m c t y = m ((c : Thread nD τ).loc main_arg2) (ix2 (y 0) ⟨2816 + (y 1).val, by have := idx2_lt1 y; omega⟩) := by
  refine (blk2 m c t _).trans (congrArg _ ?_)
  blk_ext
  all_goals simp [LoadRect.idx, Rect.unit]

set_option maxHeartbeats 1600000 in
/-- An entry of the gradient, as a point makes it. -/
theorem entry (c : Dev nD) (t : Fin cfg0.N) (y : S512x1024.Idx) :
    k0_pay8 (iblk m c 0 t) (wl m c t) (iblk m c 1 t) (wr m c t) (iblk m c 3 t) (iblk m c 4 t) (iblk m c 5 t) y
      = normBwdAt (Z m c) (X m c) (m ((c : Thread nD τ).loc main_arg4)) (m ((c : Thread nD τ).loc main_arg5)) (row t (y 0)) (y 1) := by
  pointwise [k0_pay4, k0_pay5, k0_pay6, k0_pay8, X, normBwdAt, halvesAt, rmsAt]
  simp only [wl_at, wr_at, blk0, blk1, blk3, blk4, blk5]
  rfl

/-- What a point leaves in its block of gradients. -/
theorem point6 (c : Dev nD) (t : Fin cfg0.N) (y : S512x1024.Idx) :
    k0_pay8 (iblk m c 0 t) (wl m c t) (iblk m c 1 t) (wr m c t) (iblk m c 3 t) (iblk m c 4 t) (iblk m c 5 t) y
      = G m c (((cfg0.win 6).blk t).view.emb y) := by
  rw [emb6 t y]
  exact entry m c t y

/-- Shortening the format changes no entry. -/
theorem short (v : FVec Ideal S512x1024 .f32) (y : S512x1024.Idx) : k0_pay1 v y = v y := by
  pointwise [k0_pay1]

/-- What a point leaves in its block of the short gradients. -/
theorem point7 (c : Dev nD) (t : Fin cfg0.N) (y : S512x1024.Idx) :
    k0_pay1 (k0_pay8 (iblk m c 0 t) (wl m c t) (iblk m c 1 t) (wr m c t) (iblk m c 3 t) (iblk m c 4 t) (iblk m c 5 t)) y
      = Gb m c (((cfg0.win 7).blk t).view.emb y) := by
  rw [emb7 t y]
  exact (short _ y).trans (entry m c t y)

/-- What a point adds to the gradient of the scale: its rows' terms. -/
theorem part8 (c : Dev nD) (t : Fin cfg0.N) (j : S1x1024.Idx) :
    k0_pay3 (k0_pay7 (iblk m c 0 t) (wl m c t) (iblk m c 1 t) (wr m c t) (iblk m c 3 t)) (fun _ => 0) j
      = ∑ i : Fin 512, Z m c (row t i) (j 1) * (X m c (ix2 (row t i) (j 1)) * rmsAt (X m c) (row t i)) := by
  pointwise [k0_pay3, k0_pay4, k0_pay5, k0_pay6, k0_pay7, Z, X, halvesAt, rmsAt]
  simp only [wl_at, wr_at, blk0, blk1, blk3]
  rfl

/-- The first point fills the scale's gradient with zeros. -/
theorem zero8 (j : S1x1024.Idx) : k0_pay2 (F := Ideal) j = 0 := by
  pointwise! [k0_pay2]

/-- Each point adds its part to what the buffer held. -/
theorem pay8 (v : FVec Ideal S1x1024 .f32) (w : Vec Ideal S1x1024 .f32) (j : S1x1024.Idx) :
    k0_pay3 v w j = w j + k0_pay3 v (fun _ => 0) j := by
  pointwise [k0_pay3]

/-- The kernel leaves the gradient of the rows. -/
theorem final6 (c : Dev nD) : (dats m 0 c).arrAt 6 (cfgs 0).N = G m c := by
  refine (dats m 0 c).arrAt_eq_of_covers 6 _ (by decide +kernel) fun t hf y => ?_
  blk_simp; rw [after0_6]
  by_cases h : t.val % 16 = 0
  · rw [outsAt0_A m c t h]; dsimp only; frame_out; exact point6 m c t y
  · rw [outsAt0_B m c t h]; dsimp only; frame_out; exact point6 m c t y

/-- The kernel leaves the same in the short format. -/
theorem final7 (c : Dev nD) : (dats m 0 c).arrAt 7 (cfgs 0).N = Gb m c := by
  refine (dats m 0 c).arrAt_eq_of_covers 7 _ (by decide +kernel) fun t hf y => ?_
  blk_simp; rw [after0_7]
  by_cases h : t.val % 16 = 0
  · rw [outsAt0_A m c t h]; dsimp only; frame_out; exact point7 m c t y
  · rw [outsAt0_B m c t h]; dsimp only; frame_out; exact point7 m c t y

/-- The kernel leaves the gradient of the scale. -/
theorem final8 (c : Dev nD) : (dats m 0 c).arrAt 8 (cfgs 0).N = Gs m c := by
  refine (dats m 0 c).arrAt_eq_of_after_last 8 t0_15 (by decide +kernel) _ fun j => ?_
  blk_simp
  rw [after0_8, Pipeline.eq_sum_fin_of_reset_step_apply_last (fun n h => (outsAt0 m c n h).2.2) 16 (fun _ => 0) _
    (fun t h j => by rw [outsAt0_A m c t h]; frame_out; rw [pay8, zero8])
    (fun t h j => by rw [outsAt0_B m c t h]; frame_out; rw [pay8])
    (le_of_eq N_0) t0_15 rfl j, zero_add]
  refine (Finset.sum_congr rfl fun t _ => part8 m c t j).trans ?_
  refine Fin.sum_mul_add_congr fun s k hl => ?_
  rfl

end Cert.Kernel12Ideal.Val

namespace Cert.Proof

open Idealize.ShloMosaic Idealize.SL.Sem Cert.Prod

/-- The reference ends with its arguments unchanged; it declares no semaphore. -/
theorem frame_reference12 [Cert.Reference12Ideal.Facts] : Cert.quiescent_Reference12Ideal := fun m ρ _ =>
  (θ_run Cert.Reference12Ideal.defs _ _).mono (fun r h => ⟨fun c => (h c).2.2.2, Idealize.ShloMosaic.sem_eq_zero_of_no_sems (by decide) r.2⟩)
    (Cert.Reference12Ideal.Value.run (F := Ideal) m ρ)

/-- Kernel and reference leave equal results. -/
theorem algebraic12 : Cert.algebraic_Kernel12Ideal_Reference12Ideal := by
  intro m ρ m' ρ' _ hag
  refine ⟨fun c => Cert.Kernel12Ideal.Val.G m c, fun c => Cert.Kernel12Ideal.Val.Gb m c, fun c => Cert.Kernel12Ideal.Val.Gs m c, ?_, ?_⟩
  · exact (θ_run Cert.Kernel12Ideal.defs _ _).mono (fun r h c => ⟨(h c).1.trans (Cert.Kernel12Ideal.Val.final6 m c),
        (h c).2.1.trans (Cert.Kernel12Ideal.Val.final7 m c), (h c).2.2.1.trans (Cert.Kernel12Ideal.Val.final8 m c), (h c).2.2.2⟩)
      (Cert.Kernel12Ideal.Value.run_blocks (F := Ideal) m ρ)
  · refine (θ_run Cert.Reference12Ideal.defs _ _).mono
      (fun r h c => ⟨(h c).1.trans ?_, (h c).2.1.trans ?_, (h c).2.2.1.trans ?_, (h c).2.2.2⟩)
      (Cert.Reference12Ideal.Value.run (F := Ideal) m' ρ')
    all_goals
      obtain ⟨a0, a1, a2, a3, a4, a5⟩ := hag c
      try unfold Cert.Reference12Ideal.Value.res_main_v41
      try unfold Cert.Reference12Ideal.Value.res_main_v42
      rw [a0, a1, a2, a3]
      try rw [a4, a5]
      funext y
    · refine Eq.trans ?_ (normBwdAt_eq _ _ _ _ _ _).symm
      pointwise [Cert.Kernel12Ideal.Val.Z, Cert.Kernel12Ideal.Val.X, halvesAt, rmsAt, Fin.sum_univ_one]
    · refine Eq.trans ?_ (normBwdAt_eq _ _ _ _ _ _).symm
      pointwise [Cert.Kernel12Ideal.Val.Z, Cert.Kernel12Ideal.Val.X, halvesAt, rmsAt, Fin.sum_univ_one]
    · show _ = scaleBwdAt _ _ _
      pointwise [Cert.Kernel12Ideal.Val.Z, Cert.Kernel12Ideal.Val.X, scaleBwdAt, halvesAt, rmsAt, Fin.sum_univ_one]
      exact Finset.sum_congr rfl fun i _ => mul_comm _ _

end Cert.Proof

end
-- ==== Proof.Adam.lean ====
/- One entry of the optimiser's step, and of a gradient put together from its two halves. -/
module

public import proofs.«01_k».proof.Proof.Prod

@[expose] public section

noncomputable section

namespace Cert.Adam

open Idealize.ShloMosaic Cert.Prod

/-- The running mean of the gradient, moved on by the gradient `g`. -/
def newM (g m : Ideal .f32) : Ideal .f32 := Ideal.ofBits .f32 0x3F666666#32 * m + Ideal.ofBits .f32 0x3DCCCCCD#32 * g

/-- The running mean of the gradient's square, moved on by the gradient `g`. -/
def newV (g v : Ideal .f32) : Ideal .f32 := Ideal.ofBits .f32 0x3F7FBE77#32 * v + Ideal.ofBits .f32 0x3A83126F#32 * (g * g)

/-- The step of a weight `w`: the rescaled means' quotient and the weight decay, times the negated rate. -/
def delta (w g m v : Ideal .f32) : Ideal .f32 :=
  Ideal.ofBits .f32 0xBA83126F#32 *
    (Ideal.div (Ideal.div (newM g m) (Ideal.ofBits .f32 0x3F26BD02#32))
      (Ideal.sqrt (Ideal.div (newV g v) (Ideal.ofBits .f32 0x3C231ACC#32)) + Ideal.ofBits .f32 0x322BCC77#32)
      + Ideal.ofBits .f32 0x3C23D70A#32 * w)

/-- Column `r` of row `k` of a gradient given as two halves of its columns: half `c` is `a`, every other half is `b`. -/
def gradAt {n : Nat} (c : BitVec 32) (a b : Mat .f32 n 512) (k : Fin n) (r : Fin 1024) : Ideal .f32 :=
  Scalar.select (Scalar.cmpi .eq (BitVec.ofNat 32 (r.val / 512)) c)
    (a (ix2 k ⟨r.val % 512, Nat.mod_lt _ (by decide)⟩)) (b (ix2 k ⟨r.val % 512, Nat.mod_lt _ (by decide)⟩))

/-- The two halves told apart: the first is `a` if the word is zero, the second if it is one. -/
theorem gradAt_eq {n : Nat} (c : BitVec 32) (a b : Mat .f32 n 512) (k : Fin n) (r : Fin 1024) :
    (if h : r.val < 512 then
      Scalar.select (IntOp.cmpi .eq c 0#32) (a (ix2 k ⟨r.val, h⟩)) (b (ix2 k ⟨r.val, h⟩))
    else
      Scalar.select (IntOp.cmpi .eq c 1#32) (a (ix2 k ⟨r.val - 512, by omega⟩)) (b (ix2 k ⟨r.val - 512, by omega⟩))) = gradAt c a b k r := by
  have e : ∀ x : BitVec 32, IntOp.cmpi .eq c x = IntOp.cmpi .eq x c := fun x => congrArg BitVec.ofBool (BEq.comm (a := c) (b := x))
  unfold gradAt
  have hr := r.isLt
  split <;> rename_i h <;> rw [e]
  · rw [show r.val / 512 = 0 by omega]
    simp only [show r.val % 512 = r.val by omega]
    rfl
  · rw [show r.val / 512 = 1 by omega]
    simp only [show r.val % 512 = r.val - 512 by omega]
    rfl

/-- The entry that the body of point `h` of the halves' axis selects is the gradient's entry in that half. -/
theorem select_eq {n : Nat} (c : BitVec 32) (a b : Mat .f32 n 512) (k : Fin n) (h : Nat) (r : Fin 512) (hr : h * 512 + r.val < 1024) :
    Scalar.select (Scalar.cmpi .eq (BitVec.ofNat 32 h) c) (a (ix2 k r)) (b (ix2 k r)) = gradAt c a b k ⟨h * 512 + r.val, hr⟩ := by
  have hl := r.isLt
  have e1 : (h * 512 + r.val) / 512 = h := by omega
  have e2 : (⟨(h * 512 + r.val) % 512, Nat.mod_lt _ (by decide)⟩ : Fin 512) = r := Fin.ext (by show (h * 512 + r.val) % 512 = r.val; omega)
  unfold gradAt
  dsimp only
  rw [e1, e2]

end Cert.Adam

end
-- ==== Proof.AdamEvIn.lean ====
/- The optimiser's step of the even layer's input projection. -/
module

public import proofs.«01_k».proof.Defs
public import proofs.«01_k».proof.Proof.Adam
public import proofs.«01_k».proof.Proof.Gen.Kernel13Ideal.Frame
public import proofs.«01_k».proof.Proof.Gen.Kernel13.Frame
public import proofs.«01_k».proof.Proof.Gen.Reference13Ideal.Run

@[expose] public section

set_option maxRecDepth 16384

noncomputable section

namespace Cert.Kernel13Ideal.Val

open Cert.Kernel13Ideal Cert.Kernel13Ideal.Gen Idealize.ShloMosaic Idealize.ShloMosaic.TcCoe Idealize.SL.Sem Cert.Prod Cert.Adam

variable (m : (ℓ : Loc nD τ sig) → Buf (Elt Ideal) ℓ)

/-- The table's side condition asks nothing: no window's block index reads it. -/
theorem ok : Ok m := trivial

/-- The table at some contents: the windows' schedule doesn't depend on them. -/
abbrev some : (pcfg0 (F := Ideal)).Adm := ⟨fun | 0 => fun _ => (0#32 : BitVec 32), trivial⟩

/-- The half that a point works on. -/
theorem half_val : ∀ t : Fin grid0.N, (grid0.coords t 1).val = t.val % 2 := by decide +kernel

/-- The block indices of the windows at each point of the grid. -/
theorem half_idx : ∀ t : Fin grid0.N, cc0_transform_0 (grid0.coords t) = ![t.val / 2, 0] := by decide +kernel
/-- The same for the windows of the weight and of the two running means. -/
theorem weight_idx : ∀ t : Fin grid0.N, cc0_transform_2 (grid0.coords t) = ![0, t.val % 2, t.val / 2] := by decide +kernel

/-- The place in the gradient's halves of a block's entry. -/
def halfAt (t : Fin grid0.N) (y : S448x512.Idx) : S448x512.Idx :=
  ix2 (⟨t.val / 2 * 448 + (y 0).val, by have := (y 0).isLt; have := lt_of_lt_of_eq t.isLt N_0; simp only [S448x512] at *; simp at *; omega⟩ : Fin 448) (y 1)

/-- The place in the weight of a block's entry. -/
def weightAt (t : Fin grid0.N) (y : S1x512x448.Idx) : S1x1024x448.Idx :=
  ix3 (y 0) (⟨t.val % 2 * 512 + (y 1).val, by have := (y 1).isLt; simp only [S1x512x448] at *; simp at *; omega⟩ : Fin 1024)
    (⟨t.val / 2 * 448 + (y 2).val, by have := (y 2).isLt; have := lt_of_lt_of_eq t.isLt N_0; simp only [S1x512x448] at *; simp at *; omega⟩ : Fin 448)

/-- A block of a half lies where `halfAt` says, -/
theorem place_half (t : Fin grid0.N) (y : S448x512.Idx) :
    (((cfgM m (ok m)).win 0).blk t).view.emb y = halfAt t y := by
  funext a; apply Fin.ext
  fin_cases a
  · show cc0_transform_0 (grid0.coords t) 0 * 448 + 1 * (y 0).val = t.val / 2 * 448 + (y 0).val
    rw [half_idx, one_mul]; rfl
  · show cc0_transform_0 (grid0.coords t) 1 * 512 + 1 * (y 1).val = (y 1).val
    rw [half_idx, one_mul]; exact Nat.zero_add _

/-- and a block of the weight or of a mean where `weightAt` says. -/
theorem place_weight (t : Fin grid0.N) (y : S1x512x448.Idx) :
    (((cfgM m (ok m)).win 2).blk t).view.emb y = weightAt t y := by
  funext a; apply Fin.ext
  fin_cases a
  · show cc0_transform_2 (grid0.coords t) 0 * 1 + 1 * (y 0).val = (y 0).val
    rw [weight_idx, one_mul]; exact Nat.zero_add _
  · show cc0_transform_2 (grid0.coords t) 1 * 512 + 1 * (y 1).val = t.val % 2 * 512 + (y 1).val
    rw [weight_idx, one_mul]; rfl
  · show cc0_transform_2 (grid0.coords t) 2 * 448 + 1 * (y 2).val = t.val / 2 * 448 + (y 2).val
    rw [weight_idx, one_mul]; rfl

theorem place5 (t : Fin grid0.N) (y : S1x512x448.Idx) : (((cfgM m (ok m)).win 5).blk t).view.emb y = weightAt t y := place_weight m t y
theorem place6 (t : Fin grid0.N) (y : S1x512x448.Idx) : (((cfgM m (ok m)).win 6).blk t).view.emb y = weightAt t y := place_weight m t y
theorem place7 (t : Fin grid0.N) (y : S1x512x448.Idx) : (((cfgM m (ok m)).win 7).blk t).view.emb y = weightAt t y := place_weight m t y
theorem place8 (t : Fin grid0.N) (y : S1x512x448.Idx) : (((cfgM m (ok m)).win 8).blk t).view.emb y = weightAt t y := place_weight m t y

theorem blk0 (c : Dev nD) (t : Fin grid0.N) (y : S448x512.Idx) : iblk m (ok m) c 0 t y = m ((c : Thread nD τ).loc main_arg1) (halfAt t y) :=
  congrArg (m ((c : Thread nD τ).loc main_arg1)) (place_half m t y)
theorem blk1 (c : Dev nD) (t : Fin grid0.N) (y : S448x512.Idx) : iblk m (ok m) c 1 t y = m ((c : Thread nD τ).loc main_arg2) (halfAt t y) :=
  congrArg (m ((c : Thread nD τ).loc main_arg2)) (place_half m t y)
theorem blk2 (c : Dev nD) (t : Fin grid0.N) (y : S1x512x448.Idx) : iblk m (ok m) c 2 t y = m ((c : Thread nD τ).loc main_arg3) (weightAt t y) :=
  congrArg (m ((c : Thread nD τ).loc main_arg3)) (place_weight m t y)
theorem blk3 (c : Dev nD) (t : Fin grid0.N) (y : S1x512x448.Idx) : iblk m (ok m) c 3 t y = m ((c : Thread nD τ).loc main_arg4) (weightAt t y) :=
  congrArg (m ((c : Thread nD τ).loc main_arg4)) (place_weight m t y)
theorem blk4 (c : Dev nD) (t : Fin grid0.N) (y : S1x512x448.Idx) : iblk m (ok m) c 4 t y = m ((c : Thread nD τ).loc main_arg5) (weightAt t y) :=
  congrArg (m ((c : Thread nD τ).loc main_arg5)) (place_weight m t y)

/-- The gradient, put together from its halves and transposed. -/
abbrev G0 (c : Dev nD) : Vec Ideal S1x1024x448 .f32 := fun y =>
  gradAt (m ((c : Thread nD τ).loc main_arg0) (ix1 0)) (m ((c : Thread nD τ).loc main_arg1)) (m ((c : Thread nD τ).loc main_arg2)) (y 2) (y 1)
/-- The weight's step. -/
abbrev G1 (c : Dev nD) : Vec Ideal S1x1024x448 .f32 := fun y =>
  delta (m ((c : Thread nD τ).loc main_arg3) y) (G0 m c y) (m ((c : Thread nD τ).loc main_arg4) y) (m ((c : Thread nD τ).loc main_arg5) y)
/-- The gradient's running mean. -/
abbrev G2 (c : Dev nD) : Vec Ideal S1x1024x448 .f32 := fun y => newM (G0 m c y) (m ((c : Thread nD τ).loc main_arg4) y)
/-- The running mean of its square. -/
abbrev G3 (c : Dev nD) : Vec Ideal S1x1024x448 .f32 := fun y => newV (G0 m c y) (m ((c : Thread nD τ).loc main_arg5) y)

/-- The word in the table is the first argument. -/
theorem word (c : Dev nD) : (tbl m 0 (ix1 0) : BitVec 32) = m ((c : Thread nD τ).loc main_arg0) (ix1 0) := by
  obtain rfl : c = 0 := Subsingleton.elim _ _
  rfl

section
variable (c : Dev nD) (i : grid0.Coords)
variable (a3 : Memref sig .tc .vmem S448x512 .f32) (h3 : a3.IsWhole) (a4 : Memref sig .tc .vmem S448x512 .f32) (h4 : a4.IsWhole)
variable (a5 : Memref sig .tc .vmem S1x512x448 .f32) (h5 : a5.IsWhole) (a6 : Memref sig .tc .vmem S1x512x448 .f32) (h6 : a6.IsWhole)
variable (a7 : Memref sig .tc .vmem S1x512x448 .f32) (h7 : a7.IsWhole) (a8 : Memref sig .tc .vmem S1x512x448 .f32) (h8 : a8.IsWhole)
variable (a9 : Memref sig .tc .vmem S1x512x448 .f32) (h9 : a9.IsWhole) (a10 : Memref sig .tc .vmem S1x512x448 .f32) (h10 : a10.IsWhole)
variable (a11 : Memref sig .tc .vmem S1x512x448 .f32) (h11 : a11.IsWhole)
variable (x0 x1 : Vec Ideal S448x512 .f32) (x2 x3 x4 : Vec Ideal S1x512x448 .f32) (xt : TbBuf0 (F := Ideal) c tbM0_0)

/-- The gradient's block: the half that the point works on, transposed. -/
abbrev gradBlock (w : BitVec 32) (y : S1x512x448.Idx) : Ideal .f32 :=
  Scalar.select (Scalar.cmpi .eq (BitVec.ofNat 32 (i 1).val) w) (x0 (ix2 (y 2) (y 1))) (x1 (ix2 (y 2) (y 1)))

/-- The table has one word. -/
theorem read (j) : View.read (Elt Ideal) (View.whole main_arg0) xt j = xt (ix1 0) := by
  obtain rfl : j = ix1 0 := funext fun a => by fin_cases a; exact Subsingleton.elim (α := Fin 1) _ _
  rfl

theorem out0 (y) : out0_A_5 c i a3 h3 a4 h4 a5 h5 a6 h6 a7 h7 a8 h8 a9 h9 a10 h10 a11 h11 x0 x1 x2 x3 x4 xt y = gradBlock i x0 x1 (xt (ix1 0)) y := by
  frame_out
  pointwise [read, gradBlock, delta, newM, newV, k0_pay1, k0_pay5]
theorem out1 (y) : out0_A_6 c i a3 h3 a4 h4 a5 h5 a6 h6 a7 h7 a8 h8 a9 h9 a10 h10 a11 h11 x0 x1 x2 x3 x4 xt y
    = delta (x2 y) (gradBlock i x0 x1 (xt (ix1 0)) y) (x3 y) (x4 y) := by
  frame_out
  pointwise [read, gradBlock, delta, newM, newV, k0_pay2, k0_pay8, k0_pay9, k0_pay7, k0_pay6, k0_pay5]
theorem out2 (y) : out0_A_7 c i a3 h3 a4 h4 a5 h5 a6 h6 a7 h7 a8 h8 a9 h9 a10 h10 a11 h11 x0 x1 x2 x3 x4 xt y
    = newM (gradBlock i x0 x1 (xt (ix1 0)) y) (x3 y) := by
  frame_out
  pointwise [read, gradBlock, delta, newM, newV, k0_pay3, k0_pay6, k0_pay5]
theorem out3 (y) : out0_A_8 c i a3 h3 a4 h4 a5 h5 a6 h6 a7 h7 a8 h8 a9 h9 a10 h10 a11 h11 x0 x1 x2 x3 x4 xt y
    = newV (gradBlock i x0 x1 (xt (ix1 0)) y) (x4 y) := by
  frame_out
  pointwise [read, gradBlock, delta, newM, newV, k0_pay4, k0_pay7, k0_pay5]
end

/-- The gradient's entry in a point's block. -/
theorem key0 (c : Dev nD) (t : Fin grid0.N) (y : S1x512x448.Idx) :
    gradBlock (grid0.coords t) (iblk m (ok m) c 0 t) (iblk m (ok m) c 1 t) (tbl m 0 (ix1 0)) y = G0 m c (weightAt t y) := by
  show Scalar.select (Scalar.cmpi .eq (BitVec.ofNat 32 (grid0.coords t 1).val) (tbl m 0 (ix1 0)))
      (iblk m (ok m) c 0 t (ix2 (y 2) (y 1))) (iblk m (ok m) c 1 t (ix2 (y 2) (y 1))) = G0 m c (weightAt t y)
  rw [blk0, blk1, half_val]
  refine (congrArg (fun w : BitVec 32 => Scalar.select (Scalar.cmpi .eq _ w) _ _) (word m c)).trans ?_
  exact select_eq _ _ _ (weightAt t y 2) (t.val % 2) (y 1) (weightAt t y 1).isLt

theorem key1 (c : Dev nD) (t : Fin grid0.N) (y : S1x512x448.Idx) :
    delta (iblk m (ok m) c 2 t y) (gradBlock (grid0.coords t) (iblk m (ok m) c 0 t) (iblk m (ok m) c 1 t) (tbl m 0 (ix1 0)) y)
      (iblk m (ok m) c 3 t y) (iblk m (ok m) c 4 t y) = G1 m c (weightAt t y) := by
  rw [key0, blk2, blk3, blk4]
theorem key2 (c : Dev nD) (t : Fin grid0.N) (y : S1x512x448.Idx) :
    newM (gradBlock (grid0.coords t) (iblk m (ok m) c 0 t) (iblk m (ok m) c 1 t) (tbl m 0 (ix1 0)) y)
      (iblk m (ok m) c 3 t y) = G2 m c (weightAt t y) := by
  rw [key0, blk3]
theorem key3 (c : Dev nD) (t : Fin grid0.N) (y : S1x512x448.Idx) :
    newV (gradBlock (grid0.coords t) (iblk m (ok m) c 0 t) (iblk m (ok m) c 1 t) (tbl m 0 (ix1 0)) y)
      (iblk m (ok m) c 4 t y) = G3 m c (weightAt t y) := by
  rw [key0, blk4]

theorem final0 (c : Dev nD) : (dats m (ok m) 0 c).arrAt 5 (cfgM m (ok m)).N = G0 m c := by
  refine (dats m (ok m) 0 c).arrAt_eq_of_covers 5 _ (show ((cfg0 some).win 5).Covers by decide +kernel) fun t hf y => ?_
  blk_simp; rw [after0_5]; unfold outsAt0; dsimp only
  exact (out0 c (grid0.coords t) _ _ _ _ _ _ _ _ _ _ _ _ _ _ _ _ _ _ _ _ _ _ _ _ y).trans
    ((key0 m c t y).trans (congrArg (G0 m c) (place5 m t y)).symm)

theorem final1 (c : Dev nD) : (dats m (ok m) 0 c).arrAt 6 (cfgM m (ok m)).N = G1 m c := by
  refine (dats m (ok m) 0 c).arrAt_eq_of_covers 6 _ (show ((cfg0 some).win 6).Covers by decide +kernel) fun t hf y => ?_
  blk_simp; rw [after0_6]; unfold outsAt0; dsimp only
  exact (out1 c (grid0.coords t) _ _ _ _ _ _ _ _ _ _ _ _ _ _ _ _ _ _ _ _ _ _ _ _ y).trans
    ((key1 m c t y).trans (congrArg (G1 m c) (place6 m t y)).symm)

theorem final2 (c : Dev nD) : (dats m (ok m) 0 c).arrAt 7 (cfgM m (ok m)).N = G2 m c := by
  refine (dats m (ok m) 0 c).arrAt_eq_of_covers 7 _ (show ((cfg0 some).win 7).Covers by decide +kernel) fun t hf y => ?_
  blk_simp; rw [after0_7]; unfold outsAt0; dsimp only
  exact (out2 c (grid0.coords t) _ _ _ _ _ _ _ _ _ _ _ _ _ _ _ _ _ _ _ _ _ _ _ _ y).trans
    ((key2 m c t y).trans (congrArg (G2 m c) (place7 m t y)).symm)

theorem final3 (c : Dev nD) : (dats m (ok m) 0 c).arrAt 8 (cfgM m (ok m)).N = G3 m c := by
  refine (dats m (ok m) 0 c).arrAt_eq_of_covers 8 _ (show ((cfg0 some).win 8).Covers by decide +kernel) fun t hf y => ?_
  blk_simp; rw [after0_8]; unfold outsAt0; dsimp only
  exact (out3 c (grid0.coords t) _ _ _ _ _ _ _ _ _ _ _ _ _ _ _ _ _ _ _ _ _ _ _ _ y).trans
    ((key3 m c t y).trans (congrArg (G3 m c) (place8 m t y)).symm)

/-- The run, with the results named. -/
theorem run (ρ : Dev nD → PrngReg) : θ_run defs (onTc (τ := τ) (main (F := Ideal))) ⟨m, fun _ => 0, ρ⟩ fun r => ∀ c : Dev nD,
      r.2.mem ((c : Thread nD τ).loc main_v0_0) = G0 m c ∧ r.2.mem ((c : Thread nD τ).loc main_v0_1) = G1 m c
      ∧ r.2.mem ((c : Thread nD τ).loc main_v0_2) = G2 m c ∧ r.2.mem ((c : Thread nD τ).loc main_v0_3) = G3 m c :=
  (θ_run defs _ _).mono (fun r h c => ⟨((h c).1 5).trans (final0 m c), ((h c).1 6).trans (final1 m c),
    ((h c).1 7).trans (final2 m c), ((h c).1 8).trans (final3 m c)⟩) (run_main m ρ (ok m))

end Cert.Kernel13Ideal.Val

namespace Cert.Proof

open Idealize.ShloMosaic Idealize.SL.Sem Cert.Prod Cert.Adam

theorem frame_kernel13 [Cert.Kernel13.Facts] : Cert.quiescent_Kernel13 := fun m ρ _ => Cert.Kernel13.Gen.frame m ρ trivial
theorem frame_kernel13Ideal [Cert.Kernel13Ideal.Facts] : Cert.quiescent_Kernel13Ideal := fun m ρ _ => Cert.Kernel13Ideal.Gen.frame m ρ trivial

/-- The reference ends with its arguments unchanged; it declares no semaphore. -/
theorem frame_reference13 [Cert.Reference13Ideal.Facts] : Cert.quiescent_Reference13Ideal := fun m ρ _ =>
  (θ_run Cert.Reference13Ideal.defs _ _).mono (fun r h => ⟨fun c => (h c).2.2.2.2, Idealize.ShloMosaic.sem_eq_zero_of_no_sems (by decide) r.2⟩)
    (Cert.Reference13Ideal.Value.run (F := Ideal) m ρ)

/-- Kernel and reference leave equal results. -/
theorem algebraic13 : Cert.algebraic_Kernel13Ideal_Reference13Ideal := by
  intro m ρ m' ρ' _ hag
  refine ⟨fun c => Cert.Kernel13Ideal.Val.G0 m c, fun c => Cert.Kernel13Ideal.Val.G1 m c, fun c => Cert.Kernel13Ideal.Val.G2 m c, fun c => Cert.Kernel13Ideal.Val.G3 m c, ?_, ?_⟩
  · exact (θ_run Cert.Kernel13Ideal.defs _ _).mono (fun r h c => ⟨(h.1 c).1, (h.1 c).2.1, (h.1 c).2.2.1, (h.1 c).2.2.2, h.2 c⟩)
      (θ_run_and (Cert.Kernel13Ideal.Val.run m ρ) (Cert.Kernel13Ideal.Gen.unchanged m ρ (Cert.Kernel13Ideal.Val.ok m)))
  · refine (θ_run Cert.Reference13Ideal.defs _ _).mono (fun r h c => ⟨(h c).1.trans ?_, (h c).2.1.trans ?_, (h c).2.2.1.trans ?_, (h c).2.2.2.1.trans ?_, (h c).2.2.2.2⟩) (Cert.Reference13Ideal.Value.run (F := Ideal) m' ρ')
    all_goals
      obtain ⟨a0, a1, a2, a3, a4, a5⟩ := hag c
      have hg := fun y : Cert.Kernel13Ideal.S1x1024x448.Idx => gradAt_eq (m ((c.tc : Thread Cert.Kernel13Ideal.nD Cert.Kernel13Ideal.τ).loc Cert.Kernel13Ideal.main_arg0) (ix1 0))
        (m ((c.tc : Thread Cert.Kernel13Ideal.nD Cert.Kernel13Ideal.τ).loc Cert.Kernel13Ideal.main_arg1))
        (m ((c.tc : Thread Cert.Kernel13Ideal.nD Cert.Kernel13Ideal.τ).loc Cert.Kernel13Ideal.main_arg2)) (y 2) (y 1)
    · rw [a0, a1, a2]; funext y; pointwise; exact hg y
    · rw [a0, a1, a2, a3, a4, a5]; funext y; pointwise; exact congrArg (fun g => delta (m ((c.tc : Thread Cert.Kernel13Ideal.nD Cert.Kernel13Ideal.τ).loc Cert.Kernel13Ideal.main_arg3) y) g
        (m ((c.tc : Thread Cert.Kernel13Ideal.nD Cert.Kernel13Ideal.τ).loc Cert.Kernel13Ideal.main_arg4) y)
        (m ((c.tc : Thread Cert.Kernel13Ideal.nD Cert.Kernel13Ideal.τ).loc Cert.Kernel13Ideal.main_arg5) y)) (hg y)
    · rw [a0, a1, a2, a4]; funext y; pointwise; exact congrArg (fun g => newM g (m ((c.tc : Thread Cert.Kernel13Ideal.nD Cert.Kernel13Ideal.τ).loc Cert.Kernel13Ideal.main_arg4) y)) (hg y)
    · rw [a0, a1, a2, a5]; funext y; pointwise; exact congrArg (fun g => newV g (m ((c.tc : Thread Cert.Kernel13Ideal.nD Cert.Kernel13Ideal.τ).loc Cert.Kernel13Ideal.main_arg5) y)) (hg y)

end Cert.Proof

end
-- ==== Proof.AdamOdIn.lean ====
/- The optimiser's step of the odd layer's input projection. -/
module

public import proofs.«01_k».proof.Defs
public import proofs.«01_k».proof.Proof.Adam
public import proofs.«01_k».proof.Proof.Gen.Kernel14Ideal.Frame
public import proofs.«01_k».proof.Proof.Gen.Kernel14.Frame
public import proofs.«01_k».proof.Proof.Gen.Reference14Ideal.Run

@[expose] public section

set_option maxRecDepth 16384

noncomputable section

namespace Cert.Kernel14Ideal.Val

open Cert.Kernel14Ideal Cert.Kernel14Ideal.Gen Idealize.ShloMosaic Idealize.ShloMosaic.TcCoe Idealize.SL.Sem Cert.Prod Cert.Adam

variable (m : (ℓ : Loc nD τ sig) → Buf (Elt Ideal) ℓ)

/-- The table's side condition asks nothing: no window's block index reads it. -/
theorem ok : Ok m := trivial

/-- The table at some contents: the windows' schedule doesn't depend on them. -/
abbrev some : (pcfg0 (F := Ideal)).Adm := ⟨fun | 0 => fun _ => (0#32 : BitVec 32), trivial⟩

/-- The half that a point works on. -/
theorem half_val : ∀ t : Fin grid0.N, (grid0.coords t 1).val = t.val % 2 := by decide +kernel

/-- The block indices of the windows at each point of the grid. -/
theorem half_idx : ∀ t : Fin grid0.N, cc0_transform_0 (grid0.coords t) = ![t.val / 2, 0] := by decide +kernel
/-- The same for the windows of the weight and of the two running means. -/
theorem weight_idx : ∀ t : Fin grid0.N, cc0_transform_2 (grid0.coords t) = ![0, t.val % 2, t.val / 2] := by decide +kernel

/-- The place in the gradient's halves of a block's entry. -/
def halfAt (t : Fin grid0.N) (y : S128x512.Idx) : S768x512.Idx :=
  ix2 (⟨t.val / 2 * 128 + (y 0).val, by have := (y 0).isLt; have := lt_of_lt_of_eq t.isLt N_0; simp only [S128x512] at *; simp at *; omega⟩ : Fin 768) (y 1)

/-- The place in the weight of a block's entry. -/
def weightAt (t : Fin grid0.N) (y : S1x512x128.Idx) : S1x1024x768.Idx :=
  ix3 (y 0) (⟨t.val % 2 * 512 + (y 1).val, by have := (y 1).isLt; simp only [S1x512x128] at *; simp at *; omega⟩ : Fin 1024)
    (⟨t.val / 2 * 128 + (y 2).val, by have := (y 2).isLt; have := lt_of_lt_of_eq t.isLt N_0; simp only [S1x512x128] at *; simp at *; omega⟩ : Fin 768)

/-- A block of a half lies where `halfAt` says, -/
theorem place_half (t : Fin grid0.N) (y : S128x512.Idx) :
    (((cfgM m (ok m)).win 0).blk t).view.emb y = halfAt t y := by
  funext a; apply Fin.ext
  fin_cases a
  · show cc0_transform_0 (grid0.coords t) 0 * 128 + 1 * (y 0).val = t.val / 2 * 128 + (y 0).val
    rw [half_idx, one_mul]; rfl
  · show cc0_transform_0 (grid0.coords t) 1 * 512 + 1 * (y 1).val = (y 1).val
    rw [half_idx, one_mul]; exact Nat.zero_add _

/-- and a block of the weight or of a mean where `weightAt` says. -/
theorem place_weight (t : Fin grid0.N) (y : S1x512x128.Idx) :
    (((cfgM m (ok m)).win 2).blk t).view.emb y = weightAt t y := by
  funext a; apply Fin.ext
  fin_cases a
  · show cc0_transform_2 (grid0.coords t) 0 * 1 + 1 * (y 0).val = (y 0).val
    rw [weight_idx, one_mul]; exact Nat.zero_add _
  · show cc0_transform_2 (grid0.coords t) 1 * 512 + 1 * (y 1).val = t.val % 2 * 512 + (y 1).val
    rw [weight_idx, one_mul]; rfl
  · show cc0_transform_2 (grid0.coords t) 2 * 128 + 1 * (y 2).val = t.val / 2 * 128 + (y 2).val
    rw [weight_idx, one_mul]; rfl

theorem place5 (t : Fin grid0.N) (y : S1x512x128.Idx) : (((cfgM m (ok m)).win 5).blk t).view.emb y = weightAt t y := place_weight m t y
theorem place6 (t : Fin grid0.N) (y : S1x512x128.Idx) : (((cfgM m (ok m)).win 6).blk t).view.emb y = weightAt t y := place_weight m t y
theorem place7 (t : Fin grid0.N) (y : S1x512x128.Idx) : (((cfgM m (ok m)).win 7).blk t).view.emb y = weightAt t y := place_weight m t y
theorem place8 (t : Fin grid0.N) (y : S1x512x128.Idx) : (((cfgM m (ok m)).win 8).blk t).view.emb y = weightAt t y := place_weight m t y

theorem blk0 (c : Dev nD) (t : Fin grid0.N) (y : S128x512.Idx) : iblk m (ok m) c 0 t y = m ((c : Thread nD τ).loc main_arg1) (halfAt t y) :=
  congrArg (m ((c : Thread nD τ).loc main_arg1)) (place_half m t y)
theorem blk1 (c : Dev nD) (t : Fin grid0.N) (y : S128x512.Idx) : iblk m (ok m) c 1 t y = m ((c : Thread nD τ).loc main_arg2) (halfAt t y) :=
  congrArg (m ((c : Thread nD τ).loc main_arg2)) (place_half m t y)
theorem blk2 (c : Dev nD) (t : Fin grid0.N) (y : S1x512x128.Idx) : iblk m (ok m) c 2 t y = m ((c : Thread nD τ).loc main_arg3) (weightAt t y) :=
  congrArg (m ((c : Thread nD τ).loc main_arg3)) (place_weight m t y)
theorem blk3 (c : Dev nD) (t : Fin grid0.N) (y : S1x512x128.Idx) : iblk m (ok m) c 3 t y = m ((c : Thread nD τ).loc main_arg4) (weightAt t y) :=
  congrArg (m ((c : Thread nD τ).loc main_arg4)) (place_weight m t y)
theorem blk4 (c : Dev nD) (t : Fin grid0.N) (y : S1x512x128.Idx) : iblk m (ok m) c 4 t y = m ((c : Thread nD τ).loc main_arg5) (weightAt t y) :=
  congrArg (m ((c : Thread nD τ).loc main_arg5)) (place_weight m t y)

/-- The gradient, put together from its halves and transposed. -/
abbrev G0 (c : Dev nD) : Vec Ideal S1x1024x768 .f32 := fun y =>
  gradAt (m ((c : Thread nD τ).loc main_arg0) (ix1 0)) (m ((c : Thread nD τ).loc main_arg1)) (m ((c : Thread nD τ).loc main_arg2)) (y 2) (y 1)
/-- The weight's step. -/
abbrev G1 (c : Dev nD) : Vec Ideal S1x1024x768 .f32 := fun y =>
  delta (m ((c : Thread nD τ).loc main_arg3) y) (G0 m c y) (m ((c : Thread nD τ).loc main_arg4) y) (m ((c : Thread nD τ).loc main_arg5) y)
/-- The gradient's running mean. -/
abbrev G2 (c : Dev nD) : Vec Ideal S1x1024x768 .f32 := fun y => newM (G0 m c y) (m ((c : Thread nD τ).loc main_arg4) y)
/-- The running mean of its square. -/
abbrev G3 (c : Dev nD) : Vec Ideal S1x1024x768 .f32 := fun y => newV (G0 m c y) (m ((c : Thread nD τ).loc main_arg5) y)

/-- The word in the table is the first argument. -/
theorem word (c : Dev nD) : (tbl m 0 (ix1 0) : BitVec 32) = m ((c : Thread nD τ).loc main_arg0) (ix1 0) := by
  obtain rfl : c = 0 := Subsingleton.elim _ _
  rfl

section
variable (c : Dev nD) (i : grid0.Coords)
variable (a3 : Memref sig .tc .vmem S128x512 .f32) (h3 : a3.IsWhole) (a4 : Memref sig .tc .vmem S128x512 .f32) (h4 : a4.IsWhole)
variable (a5 : Memref sig .tc .vmem S1x512x128 .f32) (h5 : a5.IsWhole) (a6 : Memref sig .tc .vmem S1x512x128 .f32) (h6 : a6.IsWhole)
variable (a7 : Memref sig .tc .vmem S1x512x128 .f32) (h7 : a7.IsWhole) (a8 : Memref sig .tc .vmem S1x512x128 .f32) (h8 : a8.IsWhole)
variable (a9 : Memref sig .tc .vmem S1x512x128 .f32) (h9 : a9.IsWhole) (a10 : Memref sig .tc .vmem S1x512x128 .f32) (h10 : a10.IsWhole)
variable (a11 : Memref sig .tc .vmem S1x512x128 .f32) (h11 : a11.IsWhole)
variable (x0 x1 : Vec Ideal S128x512 .f32) (x2 x3 x4 : Vec Ideal S1x512x128 .f32) (xt : TbBuf0 (F := Ideal) c tbM0_0)

/-- The gradient's block: the half that the point works on, transposed. -/
abbrev gradBlock (w : BitVec 32) (y : S1x512x128.Idx) : Ideal .f32 :=
  Scalar.select (Scalar.cmpi .eq (BitVec.ofNat 32 (i 1).val) w) (x0 (ix2 (y 2) (y 1))) (x1 (ix2 (y 2) (y 1)))

/-- The table has one word. -/
theorem read (j) : View.read (Elt Ideal) (View.whole main_arg0) xt j = xt (ix1 0) := by
  obtain rfl : j = ix1 0 := funext fun a => by fin_cases a; exact Subsingleton.elim (α := Fin 1) _ _
  rfl

theorem out0 (y) : out0_A_5 c i a3 h3 a4 h4 a5 h5 a6 h6 a7 h7 a8 h8 a9 h9 a10 h10 a11 h11 x0 x1 x2 x3 x4 xt y = gradBlock i x0 x1 (xt (ix1 0)) y := by
  frame_out
  pointwise [read, gradBlock, delta, newM, newV, k0_pay1, k0_pay5]
theorem out1 (y) : out0_A_6 c i a3 h3 a4 h4 a5 h5 a6 h6 a7 h7 a8 h8 a9 h9 a10 h10 a11 h11 x0 x1 x2 x3 x4 xt y
    = delta (x2 y) (gradBlock i x0 x1 (xt (ix1 0)) y) (x3 y) (x4 y) := by
  frame_out
  pointwise [read, gradBlock, delta, newM, newV, k0_pay2, k0_pay8, k0_pay9, k0_pay7, k0_pay6, k0_pay5]
theorem out2 (y) : out0_A_7 c i a3 h3 a4 h4 a5 h5 a6 h6 a7 h7 a8 h8 a9 h9 a10 h10 a11 h11 x0 x1 x2 x3 x4 xt y
    = newM (gradBlock i x0 x1 (xt (ix1 0)) y) (x3 y) := by
  frame_out
  pointwise [read, gradBlock, delta, newM, newV, k0_pay3, k0_pay6, k0_pay5]
theorem out3 (y) : out0_A_8 c i a3 h3 a4 h4 a5 h5 a6 h6 a7 h7 a8 h8 a9 h9 a10 h10 a11 h11 x0 x1 x2 x3 x4 xt y
    = newV (gradBlock i x0 x1 (xt (ix1 0)) y) (x4 y) := by
  frame_out
  pointwise [read, gradBlock, delta, newM, newV, k0_pay4, k0_pay7, k0_pay5]
end

/-- The gradient's entry in a point's block. -/
theorem key0 (c : Dev nD) (t : Fin grid0.N) (y : S1x512x128.Idx) :
    gradBlock (grid0.coords t) (iblk m (ok m) c 0 t) (iblk m (ok m) c 1 t) (tbl m 0 (ix1 0)) y = G0 m c (weightAt t y) := by
  show Scalar.select (Scalar.cmpi .eq (BitVec.ofNat 32 (grid0.coords t 1).val) (tbl m 0 (ix1 0)))
      (iblk m (ok m) c 0 t (ix2 (y 2) (y 1))) (iblk m (ok m) c 1 t (ix2 (y 2) (y 1))) = G0 m c (weightAt t y)
  rw [blk0, blk1, half_val]
  refine (congrArg (fun w : BitVec 32 => Scalar.select (Scalar.cmpi .eq _ w) _ _) (word m c)).trans ?_
  exact select_eq _ _ _ (weightAt t y 2) (t.val % 2) (y 1) (weightAt t y 1).isLt

theorem key1 (c : Dev nD) (t : Fin grid0.N) (y : S1x512x128.Idx) :
    delta (iblk m (ok m) c 2 t y) (gradBlock (grid0.coords t) (iblk m (ok m) c 0 t) (iblk m (ok m) c 1 t) (tbl m 0 (ix1 0)) y)
      (iblk m (ok m) c 3 t y) (iblk m (ok m) c 4 t y) = G1 m c (weightAt t y) := by
  rw [key0, blk2, blk3, blk4]
theorem key2 (c : Dev nD) (t : Fin grid0.N) (y : S1x512x128.Idx) :
    newM (gradBlock (grid0.coords t) (iblk m (ok m) c 0 t) (iblk m (ok m) c 1 t) (tbl m 0 (ix1 0)) y)
      (iblk m (ok m) c 3 t y) = G2 m c (weightAt t y) := by
  rw [key0, blk3]
theorem key3 (c : Dev nD) (t : Fin grid0.N) (y : S1x512x128.Idx) :
    newV (gradBlock (grid0.coords t) (iblk m (ok m) c 0 t) (iblk m (ok m) c 1 t) (tbl m 0 (ix1 0)) y)
      (iblk m (ok m) c 4 t y) = G3 m c (weightAt t y) := by
  rw [key0, blk4]

theorem final0 (c : Dev nD) : (dats m (ok m) 0 c).arrAt 5 (cfgM m (ok m)).N = G0 m c := by
  refine (dats m (ok m) 0 c).arrAt_eq_of_covers 5 _ (show ((cfg0 some).win 5).Covers by decide +kernel) fun t hf y => ?_
  blk_simp; rw [after0_5]; unfold outsAt0; dsimp only
  exact (out0 c (grid0.coords t) _ _ _ _ _ _ _ _ _ _ _ _ _ _ _ _ _ _ _ _ _ _ _ _ y).trans
    ((key0 m c t y).trans (congrArg (G0 m c) (place5 m t y)).symm)

theorem final1 (c : Dev nD) : (dats m (ok m) 0 c).arrAt 6 (cfgM m (ok m)).N = G1 m c := by
  refine (dats m (ok m) 0 c).arrAt_eq_of_covers 6 _ (show ((cfg0 some).win 6).Covers by decide +kernel) fun t hf y => ?_
  blk_simp; rw [after0_6]; unfold outsAt0; dsimp only
  exact (out1 c (grid0.coords t) _ _ _ _ _ _ _ _ _ _ _ _ _ _ _ _ _ _ _ _ _ _ _ _ y).trans
    ((key1 m c t y).trans (congrArg (G1 m c) (place6 m t y)).symm)

theorem final2 (c : Dev nD) : (dats m (ok m) 0 c).arrAt 7 (cfgM m (ok m)).N = G2 m c := by
  refine (dats m (ok m) 0 c).arrAt_eq_of_covers 7 _ (show ((cfg0 some).win 7).Covers by decide +kernel) fun t hf y => ?_
  blk_simp; rw [after0_7]; unfold outsAt0; dsimp only
  exact (out2 c (grid0.coords t) _ _ _ _ _ _ _ _ _ _ _ _ _ _ _ _ _ _ _ _ _ _ _ _ y).trans
    ((key2 m c t y).trans (congrArg (G2 m c) (place7 m t y)).symm)

theorem final3 (c : Dev nD) : (dats m (ok m) 0 c).arrAt 8 (cfgM m (ok m)).N = G3 m c := by
  refine (dats m (ok m) 0 c).arrAt_eq_of_covers 8 _ (show ((cfg0 some).win 8).Covers by decide +kernel) fun t hf y => ?_
  blk_simp; rw [after0_8]; unfold outsAt0; dsimp only
  exact (out3 c (grid0.coords t) _ _ _ _ _ _ _ _ _ _ _ _ _ _ _ _ _ _ _ _ _ _ _ _ y).trans
    ((key3 m c t y).trans (congrArg (G3 m c) (place8 m t y)).symm)

/-- The run, with the results named. -/
theorem run (ρ : Dev nD → PrngReg) : θ_run defs (onTc (τ := τ) (main (F := Ideal))) ⟨m, fun _ => 0, ρ⟩ fun r => ∀ c : Dev nD,
      r.2.mem ((c : Thread nD τ).loc main_v0_0) = G0 m c ∧ r.2.mem ((c : Thread nD τ).loc main_v0_1) = G1 m c
      ∧ r.2.mem ((c : Thread nD τ).loc main_v0_2) = G2 m c ∧ r.2.mem ((c : Thread nD τ).loc main_v0_3) = G3 m c :=
  (θ_run defs _ _).mono (fun r h c => ⟨((h c).1 5).trans (final0 m c), ((h c).1 6).trans (final1 m c),
    ((h c).1 7).trans (final2 m c), ((h c).1 8).trans (final3 m c)⟩) (run_main m ρ (ok m))

end Cert.Kernel14Ideal.Val

namespace Cert.Proof

open Idealize.ShloMosaic Idealize.SL.Sem Cert.Prod Cert.Adam

theorem frame_kernel14 [Cert.Kernel14.Facts] : Cert.quiescent_Kernel14 := fun m ρ _ => Cert.Kernel14.Gen.frame m ρ trivial
theorem frame_kernel14Ideal [Cert.Kernel14Ideal.Facts] : Cert.quiescent_Kernel14Ideal := fun m ρ _ => Cert.Kernel14Ideal.Gen.frame m ρ trivial

/-- The reference ends with its arguments unchanged; it declares no semaphore. -/
theorem frame_reference14 [Cert.Reference14Ideal.Facts] : Cert.quiescent_Reference14Ideal := fun m ρ _ =>
  (θ_run Cert.Reference14Ideal.defs _ _).mono (fun r h => ⟨fun c => (h c).2.2.2.2, Idealize.ShloMosaic.sem_eq_zero_of_no_sems (by decide) r.2⟩)
    (Cert.Reference14Ideal.Value.run (F := Ideal) m ρ)

/-- Kernel and reference leave equal results. -/
theorem algebraic14 : Cert.algebraic_Kernel14Ideal_Reference14Ideal := by
  intro m ρ m' ρ' _ hag
  refine ⟨fun c => Cert.Kernel14Ideal.Val.G0 m c, fun c => Cert.Kernel14Ideal.Val.G1 m c, fun c => Cert.Kernel14Ideal.Val.G2 m c, fun c => Cert.Kernel14Ideal.Val.G3 m c, ?_, ?_⟩
  · exact (θ_run Cert.Kernel14Ideal.defs _ _).mono (fun r h c => ⟨(h.1 c).1, (h.1 c).2.1, (h.1 c).2.2.1, (h.1 c).2.2.2, h.2 c⟩)
      (θ_run_and (Cert.Kernel14Ideal.Val.run m ρ) (Cert.Kernel14Ideal.Gen.unchanged m ρ (Cert.Kernel14Ideal.Val.ok m)))
  · refine (θ_run Cert.Reference14Ideal.defs _ _).mono (fun r h c => ⟨(h c).1.trans ?_, (h c).2.1.trans ?_, (h c).2.2.1.trans ?_, (h c).2.2.2.1.trans ?_, (h c).2.2.2.2⟩) (Cert.Reference14Ideal.Value.run (F := Ideal) m' ρ')
    all_goals
      obtain ⟨a0, a1, a2, a3, a4, a5⟩ := hag c
      have hg := fun y : Cert.Kernel14Ideal.S1x1024x768.Idx => gradAt_eq (m ((c.tc : Thread Cert.Kernel14Ideal.nD Cert.Kernel14Ideal.τ).loc Cert.Kernel14Ideal.main_arg0) (ix1 0))
        (m ((c.tc : Thread Cert.Kernel14Ideal.nD Cert.Kernel14Ideal.τ).loc Cert.Kernel14Ideal.main_arg1))
        (m ((c.tc : Thread Cert.Kernel14Ideal.nD Cert.Kernel14Ideal.τ).loc Cert.Kernel14Ideal.main_arg2)) (y 2) (y 1)
    · rw [a0, a1, a2]; funext y; pointwise; exact hg y
    · rw [a0, a1, a2, a3, a4, a5]; funext y; pointwise; exact congrArg (fun g => delta (m ((c.tc : Thread Cert.Kernel14Ideal.nD Cert.Kernel14Ideal.τ).loc Cert.Kernel14Ideal.main_arg3) y) g
        (m ((c.tc : Thread Cert.Kernel14Ideal.nD Cert.Kernel14Ideal.τ).loc Cert.Kernel14Ideal.main_arg4) y)
        (m ((c.tc : Thread Cert.Kernel14Ideal.nD Cert.Kernel14Ideal.τ).loc Cert.Kernel14Ideal.main_arg5) y)) (hg y)
    · rw [a0, a1, a2, a4]; funext y; pointwise; exact congrArg (fun g => newM g (m ((c.tc : Thread Cert.Kernel14Ideal.nD Cert.Kernel14Ideal.τ).loc Cert.Kernel14Ideal.main_arg4) y)) (hg y)
    · rw [a0, a1, a2, a5]; funext y; pointwise; exact congrArg (fun g => newV g (m ((c.tc : Thread Cert.Kernel14Ideal.nD Cert.Kernel14Ideal.τ).loc Cert.Kernel14Ideal.main_arg5) y)) (hg y)

end Cert.Proof

end
-- ==== Proof.AdamOut.lean ====
/- The optimiser's step of an output projection. -/
module

public import proofs.«01_k».proof.Defs
public import proofs.«01_k».proof.Proof.Adam
public import proofs.«01_k».proof.Proof.Gen.Kernel15Ideal.Frame
public import proofs.«01_k».proof.Proof.Gen.Kernel15.Frame
public import proofs.«01_k».proof.Proof.Gen.Reference15Ideal.Run

@[expose] public section

set_option maxRecDepth 16384

noncomputable section

namespace Cert.Kernel15Ideal.Val

open Cert.Kernel15Ideal Cert.Kernel15Ideal.Gen Idealize.ShloMosaic Idealize.ShloMosaic.TcCoe Idealize.SL.Sem Cert.Prod Cert.Adam

variable (m : (ℓ : Loc nD τ sig) → Buf (Elt Ideal) ℓ)

/-- The table's side condition asks nothing: no window's block index reads it. -/
theorem ok : Ok m := trivial

/-- The table at some contents: the windows' schedule doesn't depend on them. -/
abbrev some : (pcfg0 (F := Ideal)).Adm := ⟨fun | 0 => fun _ => (0#32 : BitVec 32), trivial⟩

/-- The half that a point works on. -/
theorem half_val : ∀ t : Fin grid0.N, (grid0.coords t 1).val = t.val % 2 := by decide +kernel

/-- The block indices of the windows at each point of the grid. -/
theorem half_idx : ∀ t : Fin grid0.N, cc0_transform_0 (grid0.coords t) = ![t.val / 2, 0] := by decide +kernel
/-- The same for the windows of the weight and of the two running means. -/
theorem weight_idx : ∀ t : Fin grid0.N, cc0_transform_2 (grid0.coords t) = ![0, t.val / 2, t.val % 2] := by decide +kernel

/-- The place in the gradient's halves of a block's entry. -/
def halfAt (t : Fin grid0.N) (y : S256x512.Idx) : S256x512.Idx :=
  ix2 (⟨t.val / 2 * 256 + (y 0).val, by have := (y 0).isLt; have := lt_of_lt_of_eq t.isLt N_0; simp only [S256x512] at *; simp at *; omega⟩ : Fin 256) (y 1)

/-- The place in the weight of a block's entry. -/
def weightAt (t : Fin grid0.N) (y : S1x256x512.Idx) : S1x256x1024.Idx :=
  ix3 (y 0) (⟨t.val / 2 * 256 + (y 1).val, by have := (y 1).isLt; have := lt_of_lt_of_eq t.isLt N_0; simp only [S1x256x512] at *; simp at *; omega⟩ : Fin 256)
    (⟨t.val % 2 * 512 + (y 2).val, by have := (y 2).isLt; simp only [S1x256x512] at *; simp at *; omega⟩ : Fin 1024)

/-- A block of a half lies where `halfAt` says, -/
theorem place_half (t : Fin grid0.N) (y : S256x512.Idx) :
    (((cfgM m (ok m)).win 0).blk t).view.emb y = halfAt t y := by
  funext a; apply Fin.ext
  fin_cases a
  · show cc0_transform_0 (grid0.coords t) 0 * 256 + 1 * (y 0).val = t.val / 2 * 256 + (y 0).val
    rw [half_idx, one_mul]; rfl
  · show cc0_transform_0 (grid0.coords t) 1 * 512 + 1 * (y 1).val = (y 1).val
    rw [half_idx, one_mul]; exact Nat.zero_add _

/-- and a block of the weight or of a mean where `weightAt` says. -/
theorem place_weight (t : Fin grid0.N) (y : S1x256x512.Idx) :
    (((cfgM m (ok m)).win 2).blk t).view.emb y = weightAt t y := by
  funext a; apply Fin.ext
  fin_cases a
  · show cc0_transform_2 (grid0.coords t) 0 * 1 + 1 * (y 0).val = (y 0).val
    rw [weight_idx, one_mul]; exact Nat.zero_add _
  · show cc0_transform_2 (grid0.coords t) 1 * 256 + 1 * (y 1).val = t.val / 2 * 256 + (y 1).val
    rw [weight_idx, one_mul]; rfl
  · show cc0_transform_2 (grid0.coords t) 2 * 512 + 1 * (y 2).val = t.val % 2 * 512 + (y 2).val
    rw [weight_idx, one_mul]; rfl

theorem place5 (t : Fin grid0.N) (y : S1x256x512.Idx) : (((cfgM m (ok m)).win 5).blk t).view.emb y = weightAt t y := place_weight m t y
theorem place6 (t : Fin grid0.N) (y : S1x256x512.Idx) : (((cfgM m (ok m)).win 6).blk t).view.emb y = weightAt t y := place_weight m t y
theorem place7 (t : Fin grid0.N) (y : S1x256x512.Idx) : (((cfgM m (ok m)).win 7).blk t).view.emb y = weightAt t y := place_weight m t y
theorem place8 (t : Fin grid0.N) (y : S1x256x512.Idx) : (((cfgM m (ok m)).win 8).blk t).view.emb y = weightAt t y := place_weight m t y

theorem blk0 (c : Dev nD) (t : Fin grid0.N) (y : S256x512.Idx) : iblk m (ok m) c 0 t y = m ((c : Thread nD τ).loc main_arg1) (halfAt t y) :=
  congrArg (m ((c : Thread nD τ).loc main_arg1)) (place_half m t y)
theorem blk1 (c : Dev nD) (t : Fin grid0.N) (y : S256x512.Idx) : iblk m (ok m) c 1 t y = m ((c : Thread nD τ).loc main_arg2) (halfAt t y) :=
  congrArg (m ((c : Thread nD τ).loc main_arg2)) (place_half m t y)
theorem blk2 (c : Dev nD) (t : Fin grid0.N) (y : S1x256x512.Idx) : iblk m (ok m) c 2 t y = m ((c : Thread nD τ).loc main_arg3) (weightAt t y) :=
  congrArg (m ((c : Thread nD τ).loc main_arg3)) (place_weight m t y)
theorem blk3 (c : Dev nD) (t : Fin grid0.N) (y : S1x256x512.Idx) : iblk m (ok m) c 3 t y = m ((c : Thread nD τ).loc main_arg4) (weightAt t y) :=
  congrArg (m ((c : Thread nD τ).loc main_arg4)) (place_weight m t y)
theorem blk4 (c : Dev nD) (t : Fin grid0.N) (y : S1x256x512.Idx) : iblk m (ok m) c 4 t y = m ((c : Thread nD τ).loc main_arg5) (weightAt t y) :=
  congrArg (m ((c : Thread nD τ).loc main_arg5)) (place_weight m t y)

/-- The gradient, put together from its halves. -/
abbrev G0 (c : Dev nD) : Vec Ideal S1x256x1024 .f32 := fun y =>
  gradAt (m ((c : Thread nD τ).loc main_arg0) (ix1 0)) (m ((c : Thread nD τ).loc main_arg1)) (m ((c : Thread nD τ).loc main_arg2)) (y 1) (y 2)
/-- The weight's step. -/
abbrev G1 (c : Dev nD) : Vec Ideal S1x256x1024 .f32 := fun y =>
  delta (m ((c : Thread nD τ).loc main_arg3) y) (G0 m c y) (m ((c : Thread nD τ).loc main_arg4) y) (m ((c : Thread nD τ).loc main_arg5) y)
/-- The gradient's running mean. -/
abbrev G2 (c : Dev nD) : Vec Ideal S1x256x1024 .f32 := fun y => newM (G0 m c y) (m ((c : Thread nD τ).loc main_arg4) y)
/-- The running mean of its square. -/
abbrev G3 (c : Dev nD) : Vec Ideal S1x256x1024 .f32 := fun y => newV (G0 m c y) (m ((c : Thread nD τ).loc main_arg5) y)

/-- The word in the table is the first argument. -/
theorem word (c : Dev nD) : (tbl m 0 (ix1 0) : BitVec 32) = m ((c : Thread nD τ).loc main_arg0) (ix1 0) := by
  obtain rfl : c = 0 := Subsingleton.elim _ _
  rfl

section
variable (c : Dev nD) (i : grid0.Coords)
variable (a3 : Memref sig .tc .vmem S256x512 .f32) (h3 : a3.IsWhole) (a4 : Memref sig .tc .vmem S256x512 .f32) (h4 : a4.IsWhole)
variable (a5 : Memref sig .tc .vmem S1x256x512 .f32) (h5 : a5.IsWhole) (a6 : Memref sig .tc .vmem S1x256x512 .f32) (h6 : a6.IsWhole)
variable (a7 : Memref sig .tc .vmem S1x256x512 .f32) (h7 : a7.IsWhole) (a8 : Memref sig .tc .vmem S1x256x512 .f32) (h8 : a8.IsWhole)
variable (a9 : Memref sig .tc .vmem S1x256x512 .f32) (h9 : a9.IsWhole) (a10 : Memref sig .tc .vmem S1x256x512 .f32) (h10 : a10.IsWhole)
variable (a11 : Memref sig .tc .vmem S1x256x512 .f32) (h11 : a11.IsWhole)
variable (x0 x1 : Vec Ideal S256x512 .f32) (x2 x3 x4 : Vec Ideal S1x256x512 .f32) (xt : TbBuf0 (F := Ideal) c tbM0_0)

/-- The gradient's block: the half that the point works on. -/
abbrev gradBlock (w : BitVec 32) (y : S1x256x512.Idx) : Ideal .f32 :=
  Scalar.select (Scalar.cmpi .eq (BitVec.ofNat 32 (i 1).val) w) (x0 (ix2 (y 1) (y 2))) (x1 (ix2 (y 1) (y 2)))

/-- The table has one word. -/
theorem read (j) : View.read (Elt Ideal) (View.whole main_arg0) xt j = xt (ix1 0) := by
  obtain rfl : j = ix1 0 := funext fun a => by fin_cases a; exact Subsingleton.elim (α := Fin 1) _ _
  rfl

theorem out0 (y) : out0_A_5 c i a3 h3 a4 h4 a5 h5 a6 h6 a7 h7 a8 h8 a9 h9 a10 h10 a11 h11 x0 x1 x2 x3 x4 xt y = gradBlock i x0 x1 (xt (ix1 0)) y := by
  frame_out
  pointwise [read, gradBlock, delta, newM, newV, k0_pay1, k0_pay5]
theorem out1 (y) : out0_A_6 c i a3 h3 a4 h4 a5 h5 a6 h6 a7 h7 a8 h8 a9 h9 a10 h10 a11 h11 x0 x1 x2 x3 x4 xt y
    = delta (x2 y) (gradBlock i x0 x1 (xt (ix1 0)) y) (x3 y) (x4 y) := by
  frame_out
  pointwise [read, gradBlock, delta, newM, newV, k0_pay2, k0_pay8, k0_pay7, k0_pay6, k0_pay5]
theorem out2 (y) : out0_A_7 c i a3 h3 a4 h4 a5 h5 a6 h6 a7 h7 a8 h8 a9 h9 a10 h10 a11 h11 x0 x1 x2 x3 x4 xt y
    = newM (gradBlock i x0 x1 (xt (ix1 0)) y) (x3 y) := by
  frame_out
  pointwise [read, gradBlock, delta, newM, newV, k0_pay3, k0_pay6, k0_pay5]
theorem out3 (y) : out0_A_8 c i a3 h3 a4 h4 a5 h5 a6 h6 a7 h7 a8 h8 a9 h9 a10 h10 a11 h11 x0 x1 x2 x3 x4 xt y
    = newV (gradBlock i x0 x1 (xt (ix1 0)) y) (x4 y) := by
  frame_out
  pointwise [read, gradBlock, delta, newM, newV, k0_pay4, k0_pay7, k0_pay5]
end

/-- The gradient's entry in a point's block. -/
theorem key0 (c : Dev nD) (t : Fin grid0.N) (y : S1x256x512.Idx) :
    gradBlock (grid0.coords t) (iblk m (ok m) c 0 t) (iblk m (ok m) c 1 t) (tbl m 0 (ix1 0)) y = G0 m c (weightAt t y) := by
  show Scalar.select (Scalar.cmpi .eq (BitVec.ofNat 32 (grid0.coords t 1).val) (tbl m 0 (ix1 0)))
      (iblk m (ok m) c 0 t (ix2 (y 1) (y 2))) (iblk m (ok m) c 1 t (ix2 (y 1) (y 2))) = G0 m c (weightAt t y)
  rw [blk0, blk1, half_val]
  refine (congrArg (fun w : BitVec 32 => Scalar.select (Scalar.cmpi .eq _ w) _ _) (word m c)).trans ?_
  exact select_eq _ _ _ (weightAt t y 1) (t.val % 2) (y 2) (weightAt t y 2).isLt

theorem key1 (c : Dev nD) (t : Fin grid0.N) (y : S1x256x512.Idx) :
    delta (iblk m (ok m) c 2 t y) (gradBlock (grid0.coords t) (iblk m (ok m) c 0 t) (iblk m (ok m) c 1 t) (tbl m 0 (ix1 0)) y)
      (iblk m (ok m) c 3 t y) (iblk m (ok m) c 4 t y) = G1 m c (weightAt t y) := by
  rw [key0, blk2, blk3, blk4]
theorem key2 (c : Dev nD) (t : Fin grid0.N) (y : S1x256x512.Idx) :
    newM (gradBlock (grid0.coords t) (iblk m (ok m) c 0 t) (iblk m (ok m) c 1 t) (tbl m 0 (ix1 0)) y)
      (iblk m (ok m) c 3 t y) = G2 m c (weightAt t y) := by
  rw [key0, blk3]
theorem key3 (c : Dev nD) (t : Fin grid0.N) (y : S1x256x512.Idx) :
    newV (gradBlock (grid0.coords t) (iblk m (ok m) c 0 t) (iblk m (ok m) c 1 t) (tbl m 0 (ix1 0)) y)
      (iblk m (ok m) c 4 t y) = G3 m c (weightAt t y) := by
  rw [key0, blk4]

theorem final0 (c : Dev nD) : (dats m (ok m) 0 c).arrAt 5 (cfgM m (ok m)).N = G0 m c := by
  refine (dats m (ok m) 0 c).arrAt_eq_of_covers 5 _ (show ((cfg0 some).win 5).Covers by decide +kernel) fun t hf y => ?_
  blk_simp; rw [after0_5]; unfold outsAt0; dsimp only
  exact (out0 c (grid0.coords t) _ _ _ _ _ _ _ _ _ _ _ _ _ _ _ _ _ _ _ _ _ _ _ _ y).trans
    ((key0 m c t y).trans (congrArg (G0 m c) (place5 m t y)).symm)

theorem final1 (c : Dev nD) : (dats m (ok m) 0 c).arrAt 6 (cfgM m (ok m)).N = G1 m c := by
  refine (dats m (ok m) 0 c).arrAt_eq_of_covers 6 _ (show ((cfg0 some).win 6).Covers by decide +kernel) fun t hf y => ?_
  blk_simp; rw [after0_6]; unfold outsAt0; dsimp only
  exact (out1 c (grid0.coords t) _ _ _ _ _ _ _ _ _ _ _ _ _ _ _ _ _ _ _ _ _ _ _ _ y).trans
    ((key1 m c t y).trans (congrArg (G1 m c) (place6 m t y)).symm)

theorem final2 (c : Dev nD) : (dats m (ok m) 0 c).arrAt 7 (cfgM m (ok m)).N = G2 m c := by
  refine (dats m (ok m) 0 c).arrAt_eq_of_covers 7 _ (show ((cfg0 some).win 7).Covers by decide +kernel) fun t hf y => ?_
  blk_simp; rw [after0_7]; unfold outsAt0; dsimp only
  exact (out2 c (grid0.coords t) _ _ _ _ _ _ _ _ _ _ _ _ _ _ _ _ _ _ _ _ _ _ _ _ y).trans
    ((key2 m c t y).trans (congrArg (G2 m c) (place7 m t y)).symm)

theorem final3 (c : Dev nD) : (dats m (ok m) 0 c).arrAt 8 (cfgM m (ok m)).N = G3 m c := by
  refine (dats m (ok m) 0 c).arrAt_eq_of_covers 8 _ (show ((cfg0 some).win 8).Covers by decide +kernel) fun t hf y => ?_
  blk_simp; rw [after0_8]; unfold outsAt0; dsimp only
  exact (out3 c (grid0.coords t) _ _ _ _ _ _ _ _ _ _ _ _ _ _ _ _ _ _ _ _ _ _ _ _ y).trans
    ((key3 m c t y).trans (congrArg (G3 m c) (place8 m t y)).symm)

/-- The run, with the results named. -/
theorem run (ρ : Dev nD → PrngReg) : θ_run defs (onTc (τ := τ) (main (F := Ideal))) ⟨m, fun _ => 0, ρ⟩ fun r => ∀ c : Dev nD,
      r.2.mem ((c : Thread nD τ).loc main_v0_0) = G0 m c ∧ r.2.mem ((c : Thread nD τ).loc main_v0_1) = G1 m c
      ∧ r.2.mem ((c : Thread nD τ).loc main_v0_2) = G2 m c ∧ r.2.mem ((c : Thread nD τ).loc main_v0_3) = G3 m c :=
  (θ_run defs _ _).mono (fun r h c => ⟨((h c).1 5).trans (final0 m c), ((h c).1 6).trans (final1 m c),
    ((h c).1 7).trans (final2 m c), ((h c).1 8).trans (final3 m c)⟩) (run_main m ρ (ok m))

end Cert.Kernel15Ideal.Val

namespace Cert.Proof

open Idealize.ShloMosaic Idealize.SL.Sem Cert.Prod Cert.Adam

theorem frame_kernel15 [Cert.Kernel15.Facts] : Cert.quiescent_Kernel15 := fun m ρ _ => Cert.Kernel15.Gen.frame m ρ trivial
theorem frame_kernel15Ideal [Cert.Kernel15Ideal.Facts] : Cert.quiescent_Kernel15Ideal := fun m ρ _ => Cert.Kernel15Ideal.Gen.frame m ρ trivial

/-- The reference ends with its arguments unchanged; it declares no semaphore. -/
theorem frame_reference15 [Cert.Reference15Ideal.Facts] : Cert.quiescent_Reference15Ideal := fun m ρ _ =>
  (θ_run Cert.Reference15Ideal.defs _ _).mono (fun r h => ⟨fun c => (h c).2.2.2.2, Idealize.ShloMosaic.sem_eq_zero_of_no_sems (by decide) r.2⟩)
    (Cert.Reference15Ideal.Value.run (F := Ideal) m ρ)

/-- Kernel and reference leave equal results. -/
theorem algebraic15 : Cert.algebraic_Kernel15Ideal_Reference15Ideal := by
  intro m ρ m' ρ' _ hag
  refine ⟨fun c => Cert.Kernel15Ideal.Val.G0 m c, fun c => Cert.Kernel15Ideal.Val.G1 m c, fun c => Cert.Kernel15Ideal.Val.G2 m c, fun c => Cert.Kernel15Ideal.Val.G3 m c, ?_, ?_⟩
  · exact (θ_run Cert.Kernel15Ideal.defs _ _).mono (fun r h c => ⟨(h.1 c).1, (h.1 c).2.1, (h.1 c).2.2.1, (h.1 c).2.2.2, h.2 c⟩)
      (θ_run_and (Cert.Kernel15Ideal.Val.run m ρ) (Cert.Kernel15Ideal.Gen.unchanged m ρ (Cert.Kernel15Ideal.Val.ok m)))
  · refine (θ_run Cert.Reference15Ideal.defs _ _).mono (fun r h c => ⟨(h c).1.trans ?_, (h c).2.1.trans ?_, (h c).2.2.1.trans ?_, (h c).2.2.2.1.trans ?_, (h c).2.2.2.2⟩) (Cert.Reference15Ideal.Value.run (F := Ideal) m' ρ')
    all_goals
      obtain ⟨a0, a1, a2, a3, a4, a5⟩ := hag c
      have hg := fun y : Cert.Kernel15Ideal.S1x256x1024.Idx => gradAt_eq (m ((c.tc : Thread Cert.Kernel15Ideal.nD Cert.Kernel15Ideal.τ).loc Cert.Kernel15Ideal.main_arg0) (ix1 0))
        (m ((c.tc : Thread Cert.Kernel15Ideal.nD Cert.Kernel15Ideal.τ).loc Cert.Kernel15Ideal.main_arg1))
        (m ((c.tc : Thread Cert.Kernel15Ideal.nD Cert.Kernel15Ideal.τ).loc Cert.Kernel15Ideal.main_arg2)) (y 1) (y 2)
    · rw [a0, a1, a2]; funext y; pointwise; exact hg y
    · rw [a0, a1, a2, a3, a4, a5]; funext y; pointwise; exact congrArg (fun g => delta (m ((c.tc : Thread Cert.Kernel15Ideal.nD Cert.Kernel15Ideal.τ).loc Cert.Kernel15Ideal.main_arg3) y) g
        (m ((c.tc : Thread Cert.Kernel15Ideal.nD Cert.Kernel15Ideal.τ).loc Cert.Kernel15Ideal.main_arg4) y)
        (m ((c.tc : Thread Cert.Kernel15Ideal.nD Cert.Kernel15Ideal.τ).loc Cert.Kernel15Ideal.main_arg5) y)) (hg y)
    · rw [a0, a1, a2, a4]; funext y; pointwise; exact congrArg (fun g => newM g (m ((c.tc : Thread Cert.Kernel15Ideal.nD Cert.Kernel15Ideal.τ).loc Cert.Kernel15Ideal.main_arg4) y)) (hg y)
    · rw [a0, a1, a2, a5]; funext y; pointwise; exact congrArg (fun g => newV g (m ((c.tc : Thread Cert.Kernel15Ideal.nD Cert.Kernel15Ideal.τ).loc Cert.Kernel15Ideal.main_arg5) y)) (hg y)

end Cert.Proof

end
-- ==== Proof.AdamUp.lean ====
/- The optimiser's step of the first layer's up projection. -/
module

public import proofs.«01_k».proof.Defs
public import proofs.«01_k».proof.Proof.Adam
public import proofs.«01_k».proof.Proof.Gen.Kernel16Ideal.Frame
public import proofs.«01_k».proof.Proof.Gen.Kernel16.Frame
public import proofs.«01_k».proof.Proof.Gen.Reference16Ideal.Run

@[expose] public section

set_option maxRecDepth 16384

noncomputable section

namespace Cert.Kernel16Ideal.Val

open Cert.Kernel16Ideal Cert.Kernel16Ideal.Gen Idealize.ShloMosaic Idealize.ShloMosaic.TcCoe Idealize.SL.Sem Cert.Prod Cert.Adam

variable (m : (ℓ : Loc nD τ sig) → Buf (Elt Ideal) ℓ)

/-- The table's side condition asks nothing: no window's block index reads it. -/
theorem ok : Ok m := trivial

/-- The table at some contents: the windows' schedule doesn't depend on them. -/
abbrev some : (pcfg0 (F := Ideal)).Adm := ⟨fun | 0 => fun _ => (0#32 : BitVec 32), trivial⟩

/-- The half that a point works on. -/
theorem half_val : ∀ t : Fin grid0.N, (grid0.coords t 1).val = t.val % 2 := by decide +kernel

/-- The block indices of the windows at each point of the grid. -/
theorem half_idx : ∀ t : Fin grid0.N, cc0_transform_0 (grid0.coords t) = ![t.val / 2, 0] := by decide +kernel
/-- The same for the windows of the weight and of the two running means. -/
theorem weight_idx : ∀ t : Fin grid0.N, cc0_transform_2 (grid0.coords t) = ![0, t.val % 2, t.val / 2] := by decide +kernel

/-- The place in the gradient's halves of a block's entry. -/
def halfAt (t : Fin grid0.N) (y : S128x512.Idx) : S1408x512.Idx :=
  ix2 (⟨t.val / 2 * 128 + (y 0).val, by have := (y 0).isLt; have := lt_of_lt_of_eq t.isLt N_0; simp only [S128x512] at *; simp at *; omega⟩ : Fin 1408) (y 1)

/-- The place in the weight of a block's entry. -/
def weightAt (t : Fin grid0.N) (y : S1x512x128.Idx) : S2x1024x1408.Idx :=
  ix3 (0 : Fin 2) (⟨t.val % 2 * 512 + (y 1).val, by have := (y 1).isLt; simp only [S1x512x128] at *; simp at *; omega⟩ : Fin 1024)
    (⟨t.val / 2 * 128 + (y 2).val, by have := (y 2).isLt; have := lt_of_lt_of_eq t.isLt N_0; simp only [S1x512x128] at *; simp at *; omega⟩ : Fin 1408)

/-- A block of a half lies where `halfAt` says, -/
theorem place_half (t : Fin grid0.N) (y : S128x512.Idx) :
    (((cfgM m (ok m)).win 0).blk t).view.emb y = halfAt t y := by
  funext a; apply Fin.ext
  fin_cases a
  · show cc0_transform_0 (grid0.coords t) 0 * 128 + 1 * (y 0).val = t.val / 2 * 128 + (y 0).val
    rw [half_idx, one_mul]; rfl
  · show cc0_transform_0 (grid0.coords t) 1 * 512 + 1 * (y 1).val = (y 1).val
    rw [half_idx, one_mul]; exact Nat.zero_add _

/-- and a block of the weight or of a mean where `weightAt` says. -/
theorem place_weight (t : Fin grid0.N) (y : S1x512x128.Idx) :
    (((cfgM m (ok m)).win 2).blk t).view.emb y = weightAt t y := by
  funext a; apply Fin.ext
  fin_cases a
  · show cc0_transform_2 (grid0.coords t) 0 * 1 + 1 * (y 0).val = 0
    have h : (y 0).val < 1 := (y 0).isLt
    rw [weight_idx, one_mul, Nat.lt_one_iff.mp h]; rfl
  · show cc0_transform_2 (grid0.coords t) 1 * 512 + 1 * (y 1).val = t.val % 2 * 512 + (y 1).val
    rw [weight_idx, one_mul]; rfl
  · show cc0_transform_2 (grid0.coords t) 2 * 128 + 1 * (y 2).val = t.val / 2 * 128 + (y 2).val
    rw [weight_idx, one_mul]; rfl

theorem place5 (t : Fin grid0.N) (y : S1x512x128.Idx) : (((cfgM m (ok m)).win 5).blk t).view.emb y = weightAt t y := place_weight m t y
theorem place6 (t : Fin grid0.N) (y : S1x512x128.Idx) : (((cfgM m (ok m)).win 6).blk t).view.emb y = weightAt t y := place_weight m t y
theorem place7 (t : Fin grid0.N) (y : S1x512x128.Idx) : (((cfgM m (ok m)).win 7).blk t).view.emb y = weightAt t y := place_weight m t y
theorem place8 (t : Fin grid0.N) (y : S1x512x128.Idx) : (((cfgM m (ok m)).win 8).blk t).view.emb y = weightAt t y := place_weight m t y

theorem blk0 (c : Dev nD) (t : Fin grid0.N) (y : S128x512.Idx) : iblk m (ok m) c 0 t y = m ((c : Thread nD τ).loc main_arg1) (halfAt t y) :=
  (congrArg (V m c main_arg1) (place_half m t y)).trans (congrFun (V_main_arg1 m c) _)
theorem blk1 (c : Dev nD) (t : Fin grid0.N) (y : S128x512.Idx) : iblk m (ok m) c 1 t y = m ((c : Thread nD τ).loc main_arg2) (halfAt t y) :=
  (congrArg (V m c main_arg2) (place_half m t y)).trans (congrFun (V_main_arg2 m c) _)
theorem blk2 (c : Dev nD) (t : Fin grid0.N) (y : S1x512x128.Idx) : iblk m (ok m) c 2 t y = m ((c : Thread nD τ).loc main_arg3) (weightAt t y) :=
  (congrArg (V m c main_arg3) (place_weight m t y)).trans (congrFun (V_main_arg3 m c) _)
theorem blk3 (c : Dev nD) (t : Fin grid0.N) (y : S1x512x128.Idx) : iblk m (ok m) c 3 t y = m ((c : Thread nD τ).loc main_arg4) (weightAt t y) :=
  (congrArg (V m c main_arg4) (place_weight m t y)).trans (congrFun (V_main_arg4 m c) _)
theorem blk4 (c : Dev nD) (t : Fin grid0.N) (y : S1x512x128.Idx) : iblk m (ok m) c 4 t y = m ((c : Thread nD τ).loc main_arg5) (weightAt t y) :=
  (congrArg (V m c main_arg5) (place_weight m t y)).trans (congrFun (V_main_arg5 m c) _)

/-- The gradient, put together from its halves and transposed. -/
abbrev G0 (c : Dev nD) : Vec Ideal S2x1024x1408 .f32 := fun y =>
  gradAt (m ((c : Thread nD τ).loc main_arg0) (ix1 0)) (m ((c : Thread nD τ).loc main_arg1)) (m ((c : Thread nD τ).loc main_arg2)) (y 2) (y 1)
/-- The weight's step. -/
abbrev G1 (c : Dev nD) : Vec Ideal S2x1024x1408 .f32 := fun y =>
  delta (m ((c : Thread nD τ).loc main_arg3) y) (G0 m c y) (m ((c : Thread nD τ).loc main_arg4) y) (m ((c : Thread nD τ).loc main_arg5) y)
/-- The gradient's running mean. -/
abbrev G2 (c : Dev nD) : Vec Ideal S2x1024x1408 .f32 := fun y => newM (G0 m c y) (m ((c : Thread nD τ).loc main_arg4) y)
/-- The running mean of its square. -/
abbrev G3 (c : Dev nD) : Vec Ideal S2x1024x1408 .f32 := fun y => newV (G0 m c y) (m ((c : Thread nD τ).loc main_arg5) y)

/-- An array whose first layer is the one array's and whose other layer is the other's. -/
abbrev layers (a b : Vec Ideal S2x1024x1408 .f32) : Vec Ideal S2x1024x1408 .f32 := fun y => if (y 0).val = 0 then a y else b y

/-- The two layers told apart. -/
theorem layers_eq (a b : Vec Ideal S2x1024x1408 .f32) (y : S2x1024x1408.Idx) (g : Ideal .f32) (hg : g = a y)
    (p : ¬(y 0).val < 1 → 1 + ((y 0).val - 1) < 2) :
    (if h : (y 0).val < 1 then g else b (ix3 ⟨1 + ((y 0).val - 1), p h⟩ (y 1) (y 2))) = layers a b y := by
  show _ = if (y 0).val = 0 then a y else b y
  split <;> rename_i h
  · rw [if_pos (Nat.lt_one_iff.mp h), hg]
  · rw [if_neg (fun e => h (Nat.lt_one_iff.mpr e))]
    refine congrArg b (funext fun i => ?_)
    fin_cases i
    · exact Fin.ext (by show 1 + ((y 0).val - 1) = (y 0).val; omega)
    · rfl
    · rfl

/-- The arrays that the results start from are the arguments'. -/
theorem start0 (c : Dev nD) : V m c main_v0_0 = m ((c : Thread nD τ).loc main_arg6) := by entry_read; rfl
theorem start1 (c : Dev nD) : V m c main_v0_1 = m ((c : Thread nD τ).loc main_arg7) := by entry_read; rfl
theorem start2 (c : Dev nD) : V m c main_v0_2 = m ((c : Thread nD τ).loc main_arg8) := by entry_read; rfl
theorem start3 (c : Dev nD) : V m c main_v0_3 = m ((c : Thread nD τ).loc main_arg9) := by entry_read; rfl

/-- The word in the table is the first argument. -/
theorem word (c : Dev nD) : (tbl m 0 (ix1 0) : BitVec 32) = m ((c : Thread nD τ).loc main_arg0) (ix1 0) := by
  obtain rfl : c = 0 := Subsingleton.elim _ _
  exact congrFun (V_main_arg0 m 0) (ix1 0)

section
variable (c : Dev nD) (i : grid0.Coords)
variable (a3 : Memref sig .tc .vmem S128x512 .f32) (h3 : a3.IsWhole) (a4 : Memref sig .tc .vmem S128x512 .f32) (h4 : a4.IsWhole)
variable (a5 : Memref sig .tc .vmem S1x512x128 .f32) (h5 : a5.IsWhole) (a6 : Memref sig .tc .vmem S1x512x128 .f32) (h6 : a6.IsWhole)
variable (a7 : Memref sig .tc .vmem S1x512x128 .f32) (h7 : a7.IsWhole) (a8 : Memref sig .tc .vmem S1x512x128 .f32) (h8 : a8.IsWhole)
variable (a9 : Memref sig .tc .vmem S1x512x128 .f32) (h9 : a9.IsWhole) (a10 : Memref sig .tc .vmem S1x512x128 .f32) (h10 : a10.IsWhole)
variable (a11 : Memref sig .tc .vmem S1x512x128 .f32) (h11 : a11.IsWhole)
variable (x0 x1 : Vec Ideal S128x512 .f32) (x2 x3 x4 : Vec Ideal S1x512x128 .f32) (xt : TbBuf0 (F := Ideal) c tbM0_0)

/-- The gradient's block: the half that the point works on, transposed. -/
abbrev gradBlock (w : BitVec 32) (y : S1x512x128.Idx) : Ideal .f32 :=
  Scalar.select (Scalar.cmpi .eq (BitVec.ofNat 32 (i 1).val) w) (x0 (ix2 (y 2) (y 1))) (x1 (ix2 (y 2) (y 1)))

/-- The table has one word. -/
theorem read (j) : View.read (Elt Ideal) (View.whole main_arg0) xt j = xt (ix1 0) := by
  obtain rfl : j = ix1 0 := funext fun a => by fin_cases a; exact Subsingleton.elim (α := Fin 1) _ _
  rfl

theorem out0 (y) : out0_A_5 c i a3 h3 a4 h4 a5 h5 a6 h6 a7 h7 a8 h8 a9 h9 a10 h10 a11 h11 x0 x1 x2 x3 x4 xt y = gradBlock i x0 x1 (xt (ix1 0)) y := by
  frame_out
  pointwise [read, gradBlock, delta, newM, newV, k0_pay1, k0_pay5]
theorem out1 (y) : out0_A_6 c i a3 h3 a4 h4 a5 h5 a6 h6 a7 h7 a8 h8 a9 h9 a10 h10 a11 h11 x0 x1 x2 x3 x4 xt y
    = delta (x2 y) (gradBlock i x0 x1 (xt (ix1 0)) y) (x3 y) (x4 y) := by
  frame_out
  pointwise [read, gradBlock, delta, newM, newV, k0_pay2, k0_pay8, k0_pay9, k0_pay7, k0_pay6, k0_pay5]
theorem out2 (y) : out0_A_7 c i a3 h3 a4 h4 a5 h5 a6 h6 a7 h7 a8 h8 a9 h9 a10 h10 a11 h11 x0 x1 x2 x3 x4 xt y
    = newM (gradBlock i x0 x1 (xt (ix1 0)) y) (x3 y) := by
  frame_out
  pointwise [read, gradBlock, delta, newM, newV, k0_pay3, k0_pay6, k0_pay5]
theorem out3 (y) : out0_A_8 c i a3 h3 a4 h4 a5 h5 a6 h6 a7 h7 a8 h8 a9 h9 a10 h10 a11 h11 x0 x1 x2 x3 x4 xt y
    = newV (gradBlock i x0 x1 (xt (ix1 0)) y) (x4 y) := by
  frame_out
  pointwise [read, gradBlock, delta, newM, newV, k0_pay4, k0_pay7, k0_pay5]
end

/-- The gradient's entry in a point's block. -/
theorem key0 (c : Dev nD) (t : Fin grid0.N) (y : S1x512x128.Idx) :
    gradBlock (grid0.coords t) (iblk m (ok m) c 0 t) (iblk m (ok m) c 1 t) (tbl m 0 (ix1 0)) y = G0 m c (weightAt t y) := by
  show Scalar.select (Scalar.cmpi .eq (BitVec.ofNat 32 (grid0.coords t 1).val) (tbl m 0 (ix1 0)))
      (iblk m (ok m) c 0 t (ix2 (y 2) (y 1))) (iblk m (ok m) c 1 t (ix2 (y 2) (y 1))) = G0 m c (weightAt t y)
  rw [blk0, blk1, half_val]
  refine (congrArg (fun w : BitVec 32 => Scalar.select (Scalar.cmpi .eq _ w) _ _) (word m c)).trans ?_
  exact select_eq _ _ _ (weightAt t y 2) (t.val % 2) (y 1) (weightAt t y 1).isLt

theorem key1 (c : Dev nD) (t : Fin grid0.N) (y : S1x512x128.Idx) :
    delta (iblk m (ok m) c 2 t y) (gradBlock (grid0.coords t) (iblk m (ok m) c 0 t) (iblk m (ok m) c 1 t) (tbl m 0 (ix1 0)) y)
      (iblk m (ok m) c 3 t y) (iblk m (ok m) c 4 t y) = G1 m c (weightAt t y) := by
  rw [key0, blk2, blk3, blk4]
theorem key2 (c : Dev nD) (t : Fin grid0.N) (y : S1x512x128.Idx) :
    newM (gradBlock (grid0.coords t) (iblk m (ok m) c 0 t) (iblk m (ok m) c 1 t) (tbl m 0 (ix1 0)) y)
      (iblk m (ok m) c 3 t y) = G2 m c (weightAt t y) := by
  rw [key0, blk3]
theorem key3 (c : Dev nD) (t : Fin grid0.N) (y : S1x512x128.Idx) :
    newV (gradBlock (grid0.coords t) (iblk m (ok m) c 0 t) (iblk m (ok m) c 1 t) (tbl m 0 (ix1 0)) y)
      (iblk m (ok m) c 4 t y) = G3 m c (weightAt t y) := by
  rw [key0, blk4]

/-- The written blocks are the first layer's. -/
theorem first_layer (j : S2x1024x1408.Idx) : (j 0).val = 0 ↔ (((cfgM m (ok m)).win 5).cell j) (0 : Fin 3) = 0 := by
  show (j 0).val = 0 ↔ (j 0).val / 1 = 0
  rw [Nat.div_one]

theorem part0 (c : Dev nD) : (dats m (ok m) 0 c).arrAt 5 (cfgM m (ok m)).N = layers (G0 m c) (V m c main_v0_0) := by
  refine (dats m (ok m) 0 c).arrAt_eq_of_coversWhere 5 _ (fun β => β (0 : Fin 3) = 0)
    (show ((cfg0 some).win 5).CoversWhere (fun β => β (0 : Fin 3) = 0) by decide +kernel) (fun t hf y => ?_) (first_layer m)
  blk_simp; rw [after0_5]; unfold outsAt0; dsimp only
  exact (out0 c (grid0.coords t) _ _ _ _ _ _ _ _ _ _ _ _ _ _ _ _ _ _ _ _ _ _ _ _ y).trans
    ((key0 m c t y).trans (congrArg (G0 m c) (place5 m t y)).symm)
theorem final0 (c : Dev nD) : (dats m (ok m) 0 c).arrAt 5 (cfgM m (ok m)).N = layers (G0 m c) (m ((c : Thread nD τ).loc main_arg6)) := by
  rw [part0, start0]

theorem part1 (c : Dev nD) : (dats m (ok m) 0 c).arrAt 6 (cfgM m (ok m)).N = layers (G1 m c) (V m c main_v0_1) := by
  refine (dats m (ok m) 0 c).arrAt_eq_of_coversWhere 6 _ (fun β => β (0 : Fin 3) = 0)
    (show ((cfg0 some).win 6).CoversWhere (fun β => β (0 : Fin 3) = 0) by decide +kernel) (fun t hf y => ?_) (first_layer m)
  blk_simp; rw [after0_6]; unfold outsAt0; dsimp only
  exact (out1 c (grid0.coords t) _ _ _ _ _ _ _ _ _ _ _ _ _ _ _ _ _ _ _ _ _ _ _ _ y).trans
    ((key1 m c t y).trans (congrArg (G1 m c) (place6 m t y)).symm)
theorem final1 (c : Dev nD) : (dats m (ok m) 0 c).arrAt 6 (cfgM m (ok m)).N = layers (G1 m c) (m ((c : Thread nD τ).loc main_arg7)) := by
  rw [part1, start1]

theorem part2 (c : Dev nD) : (dats m (ok m) 0 c).arrAt 7 (cfgM m (ok m)).N = layers (G2 m c) (V m c main_v0_2) := by
  refine (dats m (ok m) 0 c).arrAt_eq_of_coversWhere 7 _ (fun β => β (0 : Fin 3) = 0)
    (show ((cfg0 some).win 7).CoversWhere (fun β => β (0 : Fin 3) = 0) by decide +kernel) (fun t hf y => ?_) (first_layer m)
  blk_simp; rw [after0_7]; unfold outsAt0; dsimp only
  exact (out2 c (grid0.coords t) _ _ _ _ _ _ _ _ _ _ _ _ _ _ _ _ _ _ _ _ _ _ _ _ y).trans
    ((key2 m c t y).trans (congrArg (G2 m c) (place7 m t y)).symm)
theorem final2 (c : Dev nD) : (dats m (ok m) 0 c).arrAt 7 (cfgM m (ok m)).N = layers (G2 m c) (m ((c : Thread nD τ).loc main_arg8)) := by
  rw [part2, start2]

theorem part3 (c : Dev nD) : (dats m (ok m) 0 c).arrAt 8 (cfgM m (ok m)).N = layers (G3 m c) (V m c main_v0_3) := by
  refine (dats m (ok m) 0 c).arrAt_eq_of_coversWhere 8 _ (fun β => β (0 : Fin 3) = 0)
    (show ((cfg0 some).win 8).CoversWhere (fun β => β (0 : Fin 3) = 0) by decide +kernel) (fun t hf y => ?_) (first_layer m)
  blk_simp; rw [after0_8]; unfold outsAt0; dsimp only
  exact (out3 c (grid0.coords t) _ _ _ _ _ _ _ _ _ _ _ _ _ _ _ _ _ _ _ _ _ _ _ _ y).trans
    ((key3 m c t y).trans (congrArg (G3 m c) (place8 m t y)).symm)
theorem final3 (c : Dev nD) : (dats m (ok m) 0 c).arrAt 8 (cfgM m (ok m)).N = layers (G3 m c) (m ((c : Thread nD τ).loc main_arg9)) := by
  rw [part3, start3]

/-- The run, with the results named. -/
theorem run (ρ : Dev nD → PrngReg) : θ_run defs (onTc (τ := τ) (main (F := Ideal))) ⟨m, fun _ => 0, ρ⟩ fun r => ∀ c : Dev nD,
      r.2.mem ((c : Thread nD τ).loc main_v0_0) = layers (G0 m c) (m ((c : Thread nD τ).loc main_arg6)) ∧ r.2.mem ((c : Thread nD τ).loc main_v0_1) = layers (G1 m c) (m ((c : Thread nD τ).loc main_arg7))
      ∧ r.2.mem ((c : Thread nD τ).loc main_v0_2) = layers (G2 m c) (m ((c : Thread nD τ).loc main_arg8)) ∧ r.2.mem ((c : Thread nD τ).loc main_v0_3) = layers (G3 m c) (m ((c : Thread nD τ).loc main_arg9)) :=
  (θ_run defs _ _).mono (fun r h c => ⟨((h c).1 5).trans (final0 m c), ((h c).1 6).trans (final1 m c),
    ((h c).1 7).trans (final2 m c), ((h c).1 8).trans (final3 m c)⟩) (run_main m ρ (ok m))

end Cert.Kernel16Ideal.Val

namespace Cert.Proof

open Idealize.ShloMosaic Idealize.SL.Sem Cert.Prod Cert.Adam

theorem frame_kernel16 [Cert.Kernel16.Facts] : Cert.quiescent_Kernel16 := fun m ρ _ => Cert.Kernel16.Gen.frame m ρ trivial
theorem frame_kernel16Ideal [Cert.Kernel16Ideal.Facts] : Cert.quiescent_Kernel16Ideal := fun m ρ _ => Cert.Kernel16Ideal.Gen.frame m ρ trivial

/-- The reference ends with its arguments unchanged; it declares no semaphore. -/
theorem frame_reference16 [Cert.Reference16Ideal.Facts] : Cert.quiescent_Reference16Ideal := fun m ρ _ =>
  (θ_run Cert.Reference16Ideal.defs _ _).mono (fun r h => ⟨fun c => (h c).2.2.2.2, Idealize.ShloMosaic.sem_eq_zero_of_no_sems (by decide) r.2⟩)
    (Cert.Reference16Ideal.Value.run (F := Ideal) m ρ)

/-- Kernel and reference leave equal results. -/
theorem algebraic16 : Cert.algebraic_Kernel16Ideal_Reference16Ideal := by
  intro m ρ m' ρ' _ hag
  refine ⟨fun c => Cert.Kernel16Ideal.Val.layers (Cert.Kernel16Ideal.Val.G0 m c) (m ((c.tc : Thread Cert.Kernel16Ideal.nD Cert.Kernel16Ideal.τ).loc Cert.Kernel16Ideal.main_arg6)), fun c => Cert.Kernel16Ideal.Val.layers (Cert.Kernel16Ideal.Val.G1 m c) (m ((c.tc : Thread Cert.Kernel16Ideal.nD Cert.Kernel16Ideal.τ).loc Cert.Kernel16Ideal.main_arg7)), fun c => Cert.Kernel16Ideal.Val.layers (Cert.Kernel16Ideal.Val.G2 m c) (m ((c.tc : Thread Cert.Kernel16Ideal.nD Cert.Kernel16Ideal.τ).loc Cert.Kernel16Ideal.main_arg8)), fun c => Cert.Kernel16Ideal.Val.layers (Cert.Kernel16Ideal.Val.G3 m c) (m ((c.tc : Thread Cert.Kernel16Ideal.nD Cert.Kernel16Ideal.τ).loc Cert.Kernel16Ideal.main_arg9)), ?_, ?_⟩
  · exact (θ_run Cert.Kernel16Ideal.defs _ _).mono (fun r h c => ⟨(h.1 c).1, (h.1 c).2.1, (h.1 c).2.2.1, (h.1 c).2.2.2, h.2 c⟩)
      (θ_run_and (Cert.Kernel16Ideal.Val.run m ρ) (Cert.Kernel16Ideal.Gen.unchanged m ρ (Cert.Kernel16Ideal.Val.ok m)))
  · refine (θ_run Cert.Reference16Ideal.defs _ _).mono (fun r h c => ⟨(h c).1.trans ?_, (h c).2.1.trans ?_, (h c).2.2.1.trans ?_, (h c).2.2.2.1.trans ?_, (h c).2.2.2.2⟩) (Cert.Reference16Ideal.Value.run (F := Ideal) m' ρ')
    all_goals
      obtain ⟨a0, a1, a2, a3, a4, a5, a6, a7, a8, a9⟩ := hag c
      have hg := fun y : Cert.Kernel16Ideal.S2x1024x1408.Idx => gradAt_eq (m ((c.tc : Thread Cert.Kernel16Ideal.nD Cert.Kernel16Ideal.τ).loc Cert.Kernel16Ideal.main_arg0) (ix1 0))
        (m ((c.tc : Thread Cert.Kernel16Ideal.nD Cert.Kernel16Ideal.τ).loc Cert.Kernel16Ideal.main_arg1))
        (m ((c.tc : Thread Cert.Kernel16Ideal.nD Cert.Kernel16Ideal.τ).loc Cert.Kernel16Ideal.main_arg2)) (y 2) (y 1)
    · rw [a0, a1, a2, a6]; funext y; pointwise; exact Cert.Kernel16Ideal.Val.layers_eq _ _ y _ (hg y) _
    · rw [a0, a1, a2, a3, a4, a5, a7]; funext y; pointwise; exact Cert.Kernel16Ideal.Val.layers_eq _ _ y _ (congrArg (fun g => delta (m ((c.tc : Thread Cert.Kernel16Ideal.nD Cert.Kernel16Ideal.τ).loc Cert.Kernel16Ideal.main_arg3) y) g
        (m ((c.tc : Thread Cert.Kernel16Ideal.nD Cert.Kernel16Ideal.τ).loc Cert.Kernel16Ideal.main_arg4) y)
        (m ((c.tc : Thread Cert.Kernel16Ideal.nD Cert.Kernel16Ideal.τ).loc Cert.Kernel16Ideal.main_arg5) y)) (hg y)) _
    · rw [a0, a1, a2, a4, a8]; funext y; pointwise; exact Cert.Kernel16Ideal.Val.layers_eq _ _ y _ (congrArg (fun g => newM g (m ((c.tc : Thread Cert.Kernel16Ideal.nD Cert.Kernel16Ideal.τ).loc Cert.Kernel16Ideal.main_arg4) y)) (hg y)) _
    · rw [a0, a1, a2, a5, a9]; funext y; pointwise; exact Cert.Kernel16Ideal.Val.layers_eq _ _ y _ (congrArg (fun g => newV g (m ((c.tc : Thread Cert.Kernel16Ideal.nD Cert.Kernel16Ideal.τ).loc Cert.Kernel16Ideal.main_arg5) y)) (hg y)) _

end Cert.Proof

end
-- ==== Proof.AdamDown.lean ====
/- The optimiser's step of the first layer's down projection. -/
module

public import proofs.«01_k».proof.Defs
public import proofs.«01_k».proof.Proof.Adam
public import proofs.«01_k».proof.Proof.Gen.Kernel17Ideal.Frame
public import proofs.«01_k».proof.Proof.Gen.Kernel17.Frame
public import proofs.«01_k».proof.Proof.Gen.Reference17Ideal.Run

@[expose] public section

set_option maxRecDepth 16384

noncomputable section

namespace Cert.Kernel17Ideal.Val

open Cert.Kernel17Ideal Cert.Kernel17Ideal.Gen Idealize.ShloMosaic Idealize.ShloMosaic.TcCoe Idealize.SL.Sem Cert.Prod Cert.Adam

variable (m : (ℓ : Loc nD τ sig) → Buf (Elt Ideal) ℓ)

/-- The table's side condition asks nothing: no window's block index reads it. -/
theorem ok : Ok m := trivial

/-- The table at some contents: the windows' schedule doesn't depend on them. -/
abbrev some : (pcfg0 (F := Ideal)).Adm := ⟨fun | 0 => fun _ => (0#32 : BitVec 32), trivial⟩

/-- The half that a point works on. -/
theorem half_val : ∀ t : Fin grid0.N, (grid0.coords t 1).val = t.val % 2 := by decide +kernel

/-- The block indices of the windows at each point of the grid. -/
theorem half_idx : ∀ t : Fin grid0.N, cc0_transform_0 (grid0.coords t) = ![t.val / 2, 0] := by decide +kernel
/-- The same for the windows of the weight and of the two running means. -/
theorem weight_idx : ∀ t : Fin grid0.N, cc0_transform_2 (grid0.coords t) = ![0, t.val / 2, t.val % 2] := by decide +kernel

/-- The place in the gradient's halves of a block's entry. -/
def halfAt (t : Fin grid0.N) (y : S352x512.Idx) : S704x512.Idx :=
  ix2 (⟨t.val / 2 * 352 + (y 0).val, by have := (y 0).isLt; have := lt_of_lt_of_eq t.isLt N_0; simp only [S352x512] at *; simp at *; omega⟩ : Fin 704) (y 1)

/-- The place in the weight of a block's entry. -/
def weightAt (t : Fin grid0.N) (y : S1x352x512.Idx) : S2x704x1024.Idx :=
  ix3 (0 : Fin 2) (⟨t.val / 2 * 352 + (y 1).val, by have := (y 1).isLt; have := lt_of_lt_of_eq t.isLt N_0; simp only [S1x352x512] at *; simp at *; omega⟩ : Fin 704)
    (⟨t.val % 2 * 512 + (y 2).val, by have := (y 2).isLt; simp only [S1x352x512] at *; simp at *; omega⟩ : Fin 1024)

/-- A block of a half lies where `halfAt` says, -/
theorem place_half (t : Fin grid0.N) (y : S352x512.Idx) :
    (((cfgM m (ok m)).win 0).blk t).view.emb y = halfAt t y := by
  funext a; apply Fin.ext
  fin_cases a
  · show cc0_transform_0 (grid0.coords t) 0 * 352 + 1 * (y 0).val = t.val / 2 * 352 + (y 0).val
    rw [half_idx, one_mul]; rfl
  · show cc0_transform_0 (grid0.coords t) 1 * 512 + 1 * (y 1).val = (y 1).val
    rw [half_idx, one_mul]; exact Nat.zero_add _

/-- and a block of the weight or of a mean where `weightAt` says. -/
theorem place_weight (t : Fin grid0.N) (y : S1x352x512.Idx) :
    (((cfgM m (ok m)).win 2).blk t).view.emb y = weightAt t y := by
  funext a; apply Fin.ext
  fin_cases a
  · show cc0_transform_2 (grid0.coords t) 0 * 1 + 1 * (y 0).val = 0
    have h : (y 0).val < 1 := (y 0).isLt
    rw [weight_idx, one_mul, Nat.lt_one_iff.mp h]; rfl
  · show cc0_transform_2 (grid0.coords t) 1 * 352 + 1 * (y 1).val = t.val / 2 * 352 + (y 1).val
    rw [weight_idx, one_mul]; rfl
  · show cc0_transform_2 (grid0.coords t) 2 * 512 + 1 * (y 2).val = t.val % 2 * 512 + (y 2).val
    rw [weight_idx, one_mul]; rfl

theorem place5 (t : Fin grid0.N) (y : S1x352x512.Idx) : (((cfgM m (ok m)).win 5).blk t).view.emb y = weightAt t y := place_weight m t y
theorem place6 (t : Fin grid0.N) (y : S1x352x512.Idx) : (((cfgM m (ok m)).win 6).blk t).view.emb y = weightAt t y := place_weight m t y
theorem place7 (t : Fin grid0.N) (y : S1x352x512.Idx) : (((cfgM m (ok m)).win 7).blk t).view.emb y = weightAt t y := place_weight m t y
theorem place8 (t : Fin grid0.N) (y : S1x352x512.Idx) : (((cfgM m (ok m)).win 8).blk t).view.emb y = weightAt t y := place_weight m t y

theorem blk0 (c : Dev nD) (t : Fin grid0.N) (y : S352x512.Idx) : iblk m (ok m) c 0 t y = m ((c : Thread nD τ).loc main_arg1) (halfAt t y) :=
  (congrArg (V m c main_arg1) (place_half m t y)).trans (congrFun (V_main_arg1 m c) _)
theorem blk1 (c : Dev nD) (t : Fin grid0.N) (y : S352x512.Idx) : iblk m (ok m) c 1 t y = m ((c : Thread nD τ).loc main_arg2) (halfAt t y) :=
  (congrArg (V m c main_arg2) (place_half m t y)).trans (congrFun (V_main_arg2 m c) _)
theorem blk2 (c : Dev nD) (t : Fin grid0.N) (y : S1x352x512.Idx) : iblk m (ok m) c 2 t y = m ((c : Thread nD τ).loc main_arg3) (weightAt t y) :=
  (congrArg (V m c main_arg3) (place_weight m t y)).trans (congrFun (V_main_arg3 m c) _)
theorem blk3 (c : Dev nD) (t : Fin grid0.N) (y : S1x352x512.Idx) : iblk m (ok m) c 3 t y = m ((c : Thread nD τ).loc main_arg4) (weightAt t y) :=
  (congrArg (V m c main_arg4) (place_weight m t y)).trans (congrFun (V_main_arg4 m c) _)
theorem blk4 (c : Dev nD) (t : Fin grid0.N) (y : S1x352x512.Idx) : iblk m (ok m) c 4 t y = m ((c : Thread nD τ).loc main_arg5) (weightAt t y) :=
  (congrArg (V m c main_arg5) (place_weight m t y)).trans (congrFun (V_main_arg5 m c) _)

/-- The gradient, put together from its halves. -/
abbrev G0 (c : Dev nD) : Vec Ideal S2x704x1024 .f32 := fun y =>
  gradAt (m ((c : Thread nD τ).loc main_arg0) (ix1 0)) (m ((c : Thread nD τ).loc main_arg1)) (m ((c : Thread nD τ).loc main_arg2)) (y 1) (y 2)
/-- The weight's step. -/
abbrev G1 (c : Dev nD) : Vec Ideal S2x704x1024 .f32 := fun y =>
  delta (m ((c : Thread nD τ).loc main_arg3) y) (G0 m c y) (m ((c : Thread nD τ).loc main_arg4) y) (m ((c : Thread nD τ).loc main_arg5) y)
/-- The gradient's running mean. -/
abbrev G2 (c : Dev nD) : Vec Ideal S2x704x1024 .f32 := fun y => newM (G0 m c y) (m ((c : Thread nD τ).loc main_arg4) y)
/-- The running mean of its square. -/
abbrev G3 (c : Dev nD) : Vec Ideal S2x704x1024 .f32 := fun y => newV (G0 m c y) (m ((c : Thread nD τ).loc main_arg5) y)

/-- An array whose first layer is the one array's and whose other layer is the other's. -/
abbrev layers (a b : Vec Ideal S2x704x1024 .f32) : Vec Ideal S2x704x1024 .f32 := fun y => if (y 0).val = 0 then a y else b y

/-- The two layers told apart. -/
theorem layers_eq (a b : Vec Ideal S2x704x1024 .f32) (y : S2x704x1024.Idx) (g : Ideal .f32) (hg : g = a y)
    (p : ¬(y 0).val < 1 → 1 + ((y 0).val - 1) < 2) :
    (if h : (y 0).val < 1 then g else b (ix3 ⟨1 + ((y 0).val - 1), p h⟩ (y 1) (y 2))) = layers a b y := by
  show _ = if (y 0).val = 0 then a y else b y
  split <;> rename_i h
  · rw [if_pos (Nat.lt_one_iff.mp h), hg]
  · rw [if_neg (fun e => h (Nat.lt_one_iff.mpr e))]
    refine congrArg b (funext fun i => ?_)
    fin_cases i
    · exact Fin.ext (by show 1 + ((y 0).val - 1) = (y 0).val; omega)
    · rfl
    · rfl

/-- The arrays that the results start from are the arguments'. -/
theorem start0 (c : Dev nD) : V m c main_v0_0 = m ((c : Thread nD τ).loc main_arg6) := by entry_read; rfl
theorem start1 (c : Dev nD) : V m c main_v0_1 = m ((c : Thread nD τ).loc main_arg7) := by entry_read; rfl
theorem start2 (c : Dev nD) : V m c main_v0_2 = m ((c : Thread nD τ).loc main_arg8) := by entry_read; rfl
theorem start3 (c : Dev nD) : V m c main_v0_3 = m ((c : Thread nD τ).loc main_arg9) := by entry_read; rfl

/-- The word in the table is the first argument. -/
theorem word (c : Dev nD) : (tbl m 0 (ix1 0) : BitVec 32) = m ((c : Thread nD τ).loc main_arg0) (ix1 0) := by
  obtain rfl : c = 0 := Subsingleton.elim _ _
  exact congrFun (V_main_arg0 m 0) (ix1 0)

section
variable (c : Dev nD) (i : grid0.Coords)
variable (a3 : Memref sig .tc .vmem S352x512 .f32) (h3 : a3.IsWhole) (a4 : Memref sig .tc .vmem S352x512 .f32) (h4 : a4.IsWhole)
variable (a5 : Memref sig .tc .vmem S1x352x512 .f32) (h5 : a5.IsWhole) (a6 : Memref sig .tc .vmem S1x352x512 .f32) (h6 : a6.IsWhole)
variable (a7 : Memref sig .tc .vmem S1x352x512 .f32) (h7 : a7.IsWhole) (a8 : Memref sig .tc .vmem S1x352x512 .f32) (h8 : a8.IsWhole)
variable (a9 : Memref sig .tc .vmem S1x352x512 .f32) (h9 : a9.IsWhole) (a10 : Memref sig .tc .vmem S1x352x512 .f32) (h10 : a10.IsWhole)
variable (a11 : Memref sig .tc .vmem S1x352x512 .f32) (h11 : a11.IsWhole)
variable (x0 x1 : Vec Ideal S352x512 .f32) (x2 x3 x4 : Vec Ideal S1x352x512 .f32) (xt : TbBuf0 (F := Ideal) c tbM0_0)

/-- The gradient's block: the half that the point works on. -/
abbrev gradBlock (w : BitVec 32) (y : S1x352x512.Idx) : Ideal .f32 :=
  Scalar.select (Scalar.cmpi .eq (BitVec.ofNat 32 (i 1).val) w) (x0 (ix2 (y 1) (y 2))) (x1 (ix2 (y 1) (y 2)))

/-- The table has one word. -/
theorem read (j) : View.read (Elt Ideal) (View.whole main_arg0) xt j = xt (ix1 0) := by
  obtain rfl : j = ix1 0 := funext fun a => by fin_cases a; exact Subsingleton.elim (α := Fin 1) _ _
  rfl

theorem out0 (y) : out0_A_5 c i a3 h3 a4 h4 a5 h5 a6 h6 a7 h7 a8 h8 a9 h9 a10 h10 a11 h11 x0 x1 x2 x3 x4 xt y = gradBlock i x0 x1 (xt (ix1 0)) y := by
  frame_out
  pointwise [read, gradBlock, delta, newM, newV, k0_pay1, k0_pay5]
theorem out1 (y) : out0_A_6 c i a3 h3 a4 h4 a5 h5 a6 h6 a7 h7 a8 h8 a9 h9 a10 h10 a11 h11 x0 x1 x2 x3 x4 xt y
    = delta (x2 y) (gradBlock i x0 x1 (xt (ix1 0)) y) (x3 y) (x4 y) := by
  frame_out
  pointwise [read, gradBlock, delta, newM, newV, k0_pay2, k0_pay8, k0_pay7, k0_pay6, k0_pay5]
theorem out2 (y) : out0_A_7 c i a3 h3 a4 h4 a5 h5 a6 h6 a7 h7 a8 h8 a9 h9 a10 h10 a11 h11 x0 x1 x2 x3 x4 xt y
    = newM (gradBlock i x0 x1 (xt (ix1 0)) y) (x3 y) := by
  frame_out
  pointwise [read, gradBlock, delta, newM, newV, k0_pay3, k0_pay6, k0_pay5]
theorem out3 (y) : out0_A_8 c i a3 h3 a4 h4 a5 h5 a6 h6 a7 h7 a8 h8 a9 h9 a10 h10 a11 h11 x0 x1 x2 x3 x4 xt y
    = newV (gradBlock i x0 x1 (xt (ix1 0)) y) (x4 y) := by
  frame_out
  pointwise [read, gradBlock, delta, newM, newV, k0_pay4, k0_pay7, k0_pay5]
end

/-- The gradient's entry in a point's block. -/
theorem key0 (c : Dev nD) (t : Fin grid0.N) (y : S1x352x512.Idx) :
    gradBlock (grid0.coords t) (iblk m (ok m) c 0 t) (iblk m (ok m) c 1 t) (tbl m 0 (ix1 0)) y = G0 m c (weightAt t y) := by
  show Scalar.select (Scalar.cmpi .eq (BitVec.ofNat 32 (grid0.coords t 1).val) (tbl m 0 (ix1 0)))
      (iblk m (ok m) c 0 t (ix2 (y 1) (y 2))) (iblk m (ok m) c 1 t (ix2 (y 1) (y 2))) = G0 m c (weightAt t y)
  rw [blk0, blk1, half_val]
  refine (congrArg (fun w : BitVec 32 => Scalar.select (Scalar.cmpi .eq _ w) _ _) (word m c)).trans ?_
  exact select_eq _ _ _ (weightAt t y 1) (t.val % 2) (y 2) (weightAt t y 2).isLt

theorem key1 (c : Dev nD) (t : Fin grid0.N) (y : S1x352x512.Idx) :
    delta (iblk m (ok m) c 2 t y) (gradBlock (grid0.coords t) (iblk m (ok m) c 0 t) (iblk m (ok m) c 1 t) (tbl m 0 (ix1 0)) y)
      (iblk m (ok m) c 3 t y) (iblk m (ok m) c 4 t y) = G1 m c (weightAt t y) := by
  rw [key0, blk2, blk3, blk4]
theorem key2 (c : Dev nD) (t : Fin grid0.N) (y : S1x352x512.Idx) :
    newM (gradBlock (grid0.coords t) (iblk m (ok m) c 0 t) (iblk m (ok m) c 1 t) (tbl m 0 (ix1 0)) y)
      (iblk m (ok m) c 3 t y) = G2 m c (weightAt t y) := by
  rw [key0, blk3]
theorem key3 (c : Dev nD) (t : Fin grid0.N) (y : S1x352x512.Idx) :
    newV (gradBlock (grid0.coords t) (iblk m (ok m) c 0 t) (iblk m (ok m) c 1 t) (tbl m 0 (ix1 0)) y)
      (iblk m (ok m) c 4 t y) = G3 m c (weightAt t y) := by
  rw [key0, blk4]

/-- The written blocks are the first layer's. -/
theorem first_layer (j : S2x704x1024.Idx) : (j 0).val = 0 ↔ (((cfgM m (ok m)).win 5).cell j) (0 : Fin 3) = 0 := by
  show (j 0).val = 0 ↔ (j 0).val / 1 = 0
  rw [Nat.div_one]

theorem part0 (c : Dev nD) : (dats m (ok m) 0 c).arrAt 5 (cfgM m (ok m)).N = layers (G0 m c) (V m c main_v0_0) := by
  refine (dats m (ok m) 0 c).arrAt_eq_of_coversWhere 5 _ (fun β => β (0 : Fin 3) = 0)
    (show ((cfg0 some).win 5).CoversWhere (fun β => β (0 : Fin 3) = 0) by decide +kernel) (fun t hf y => ?_) (first_layer m)
  blk_simp; rw [after0_5]; unfold outsAt0; dsimp only
  exact (out0 c (grid0.coords t) _ _ _ _ _ _ _ _ _ _ _ _ _ _ _ _ _ _ _ _ _ _ _ _ y).trans
    ((key0 m c t y).trans (congrArg (G0 m c) (place5 m t y)).symm)
theorem final0 (c : Dev nD) : (dats m (ok m) 0 c).arrAt 5 (cfgM m (ok m)).N = layers (G0 m c) (m ((c : Thread nD τ).loc main_arg6)) := by
  rw [part0, start0]

theorem part1 (c : Dev nD) : (dats m (ok m) 0 c).arrAt 6 (cfgM m (ok m)).N = layers (G1 m c) (V m c main_v0_1) := by
  refine (dats m (ok m) 0 c).arrAt_eq_of_coversWhere 6 _ (fun β => β (0 : Fin 3) = 0)
    (show ((cfg0 some).win 6).CoversWhere (fun β => β (0 : Fin 3) = 0) by decide +kernel) (fun t hf y => ?_) (first_layer m)
  blk_simp; rw [after0_6]; unfold outsAt0; dsimp only
  exact (out1 c (grid0.coords t) _ _ _ _ _ _ _ _ _ _ _ _ _ _ _ _ _ _ _ _ _ _ _ _ y).trans
    ((key1 m c t y).trans (congrArg (G1 m c) (place6 m t y)).symm)
theorem final1 (c : Dev nD) : (dats m (ok m) 0 c).arrAt 6 (cfgM m (ok m)).N = layers (G1 m c) (m ((c : Thread nD τ).loc main_arg7)) := by
  rw [part1, start1]

theorem part2 (c : Dev nD) : (dats m (ok m) 0 c).arrAt 7 (cfgM m (ok m)).N = layers (G2 m c) (V m c main_v0_2) := by
  refine (dats m (ok m) 0 c).arrAt_eq_of_coversWhere 7 _ (fun β => β (0 : Fin 3) = 0)
    (show ((cfg0 some).win 7).CoversWhere (fun β => β (0 : Fin 3) = 0) by decide +kernel) (fun t hf y => ?_) (first_layer m)
  blk_simp; rw [after0_7]; unfold outsAt0; dsimp only
  exact (out2 c (grid0.coords t) _ _ _ _ _ _ _ _ _ _ _ _ _ _ _ _ _ _ _ _ _ _ _ _ y).trans
    ((key2 m c t y).trans (congrArg (G2 m c) (place7 m t y)).symm)
theorem final2 (c : Dev nD) : (dats m (ok m) 0 c).arrAt 7 (cfgM m (ok m)).N = layers (G2 m c) (m ((c : Thread nD τ).loc main_arg8)) := by
  rw [part2, start2]

theorem part3 (c : Dev nD) : (dats m (ok m) 0 c).arrAt 8 (cfgM m (ok m)).N = layers (G3 m c) (V m c main_v0_3) := by
  refine (dats m (ok m) 0 c).arrAt_eq_of_coversWhere 8 _ (fun β => β (0 : Fin 3) = 0)
    (show ((cfg0 some).win 8).CoversWhere (fun β => β (0 : Fin 3) = 0) by decide +kernel) (fun t hf y => ?_) (first_layer m)
  blk_simp; rw [after0_8]; unfold outsAt0; dsimp only
  exact (out3 c (grid0.coords t) _ _ _ _ _ _ _ _ _ _ _ _ _ _ _ _ _ _ _ _ _ _ _ _ y).trans
    ((key3 m c t y).trans (congrArg (G3 m c) (place8 m t y)).symm)
theorem final3 (c : Dev nD) : (dats m (ok m) 0 c).arrAt 8 (cfgM m (ok m)).N = layers (G3 m c) (m ((c : Thread nD τ).loc main_arg9)) := by
  rw [part3, start3]

/-- The run, with the results named. -/
theorem run (ρ : Dev nD → PrngReg) : θ_run defs (onTc (τ := τ) (main (F := Ideal))) ⟨m, fun _ => 0, ρ⟩ fun r => ∀ c : Dev nD,
      r.2.mem ((c : Thread nD τ).loc main_v0_0) = layers (G0 m c) (m ((c : Thread nD τ).loc main_arg6)) ∧ r.2.mem ((c : Thread nD τ).loc main_v0_1) = layers (G1 m c) (m ((c : Thread nD τ).loc main_arg7))
      ∧ r.2.mem ((c : Thread nD τ).loc main_v0_2) = layers (G2 m c) (m ((c : Thread nD τ).loc main_arg8)) ∧ r.2.mem ((c : Thread nD τ).loc main_v0_3) = layers (G3 m c) (m ((c : Thread nD τ).loc main_arg9)) :=
  (θ_run defs _ _).mono (fun r h c => ⟨((h c).1 5).trans (final0 m c), ((h c).1 6).trans (final1 m c),
    ((h c).1 7).trans (final2 m c), ((h c).1 8).trans (final3 m c)⟩) (run_main m ρ (ok m))

end Cert.Kernel17Ideal.Val

namespace Cert.Proof

open Idealize.ShloMosaic Idealize.SL.Sem Cert.Prod Cert.Adam

theorem frame_kernel17 [Cert.Kernel17.Facts] : Cert.quiescent_Kernel17 := fun m ρ _ => Cert.Kernel17.Gen.frame m ρ trivial
theorem frame_kernel17Ideal [Cert.Kernel17Ideal.Facts] : Cert.quiescent_Kernel17Ideal := fun m ρ _ => Cert.Kernel17Ideal.Gen.frame m ρ trivial

/-- The reference ends with its arguments unchanged; it declares no semaphore. -/
theorem frame_reference17 [Cert.Reference17Ideal.Facts] : Cert.quiescent_Reference17Ideal := fun m ρ _ =>
  (θ_run Cert.Reference17Ideal.defs _ _).mono (fun r h => ⟨fun c => (h c).2.2.2.2, Idealize.ShloMosaic.sem_eq_zero_of_no_sems (by decide) r.2⟩)
    (Cert.Reference17Ideal.Value.run (F := Ideal) m ρ)

/-- Kernel and reference leave equal results. -/
theorem algebraic17 : Cert.algebraic_Kernel17Ideal_Reference17Ideal := by
  intro m ρ m' ρ' _ hag
  refine ⟨fun c => Cert.Kernel17Ideal.Val.layers (Cert.Kernel17Ideal.Val.G0 m c) (m ((c.tc : Thread Cert.Kernel17Ideal.nD Cert.Kernel17Ideal.τ).loc Cert.Kernel17Ideal.main_arg6)), fun c => Cert.Kernel17Ideal.Val.layers (Cert.Kernel17Ideal.Val.G1 m c) (m ((c.tc : Thread Cert.Kernel17Ideal.nD Cert.Kernel17Ideal.τ).loc Cert.Kernel17Ideal.main_arg7)), fun c => Cert.Kernel17Ideal.Val.layers (Cert.Kernel17Ideal.Val.G2 m c) (m ((c.tc : Thread Cert.Kernel17Ideal.nD Cert.Kernel17Ideal.τ).loc Cert.Kernel17Ideal.main_arg8)), fun c => Cert.Kernel17Ideal.Val.layers (Cert.Kernel17Ideal.Val.G3 m c) (m ((c.tc : Thread Cert.Kernel17Ideal.nD Cert.Kernel17Ideal.τ).loc Cert.Kernel17Ideal.main_arg9)), ?_, ?_⟩
  · exact (θ_run Cert.Kernel17Ideal.defs _ _).mono (fun r h c => ⟨(h.1 c).1, (h.1 c).2.1, (h.1 c).2.2.1, (h.1 c).2.2.2, h.2 c⟩)
      (θ_run_and (Cert.Kernel17Ideal.Val.run m ρ) (Cert.Kernel17Ideal.Gen.unchanged m ρ (Cert.Kernel17Ideal.Val.ok m)))
  · refine (θ_run Cert.Reference17Ideal.defs _ _).mono (fun r h c => ⟨(h c).1.trans ?_, (h c).2.1.trans ?_, (h c).2.2.1.trans ?_, (h c).2.2.2.1.trans ?_, (h c).2.2.2.2⟩) (Cert.Reference17Ideal.Value.run (F := Ideal) m' ρ')
    all_goals
      obtain ⟨a0, a1, a2, a3, a4, a5, a6, a7, a8, a9⟩ := hag c
      have hg := fun y : Cert.Kernel17Ideal.S2x704x1024.Idx => gradAt_eq (m ((c.tc : Thread Cert.Kernel17Ideal.nD Cert.Kernel17Ideal.τ).loc Cert.Kernel17Ideal.main_arg0) (ix1 0))
        (m ((c.tc : Thread Cert.Kernel17Ideal.nD Cert.Kernel17Ideal.τ).loc Cert.Kernel17Ideal.main_arg1))
        (m ((c.tc : Thread Cert.Kernel17Ideal.nD Cert.Kernel17Ideal.τ).loc Cert.Kernel17Ideal.main_arg2)) (y 1) (y 2)
    · rw [a0, a1, a2, a6]; funext y; pointwise; exact Cert.Kernel17Ideal.Val.layers_eq _ _ y _ (hg y) _
    · rw [a0, a1, a2, a3, a4, a5, a7]; funext y; pointwise; exact Cert.Kernel17Ideal.Val.layers_eq _ _ y _ (congrArg (fun g => delta (m ((c.tc : Thread Cert.Kernel17Ideal.nD Cert.Kernel17Ideal.τ).loc Cert.Kernel17Ideal.main_arg3) y) g
        (m ((c.tc : Thread Cert.Kernel17Ideal.nD Cert.Kernel17Ideal.τ).loc Cert.Kernel17Ideal.main_arg4) y)
        (m ((c.tc : Thread Cert.Kernel17Ideal.nD Cert.Kernel17Ideal.τ).loc Cert.Kernel17Ideal.main_arg5) y)) (hg y)) _
    · rw [a0, a1, a2, a4, a8]; funext y; pointwise; exact Cert.Kernel17Ideal.Val.layers_eq _ _ y _ (congrArg (fun g => newM g (m ((c.tc : Thread Cert.Kernel17Ideal.nD Cert.Kernel17Ideal.τ).loc Cert.Kernel17Ideal.main_arg4) y)) (hg y)) _
    · rw [a0, a1, a2, a5, a9]; funext y; pointwise; exact Cert.Kernel17Ideal.Val.layers_eq _ _ y _ (congrArg (fun g => newV g (m ((c.tc : Thread Cert.Kernel17Ideal.nD Cert.Kernel17Ideal.τ).loc Cert.Kernel17Ideal.main_arg5) y)) (hg y)) _

end Cert.Proof

end
-- ==== Proof.Conv.lean ====
/- The causal convolution of three taps that runs down the rows of a sequence, at natural-number indices: what a row of a
   block sees of the rows before it, be they rows of its own block or of the short block that goes before. -/
module

public import proofs.«01_k».proof.Proof.Prod
public import proofs.«01_k».proof.Proof.Final

@[expose] public section

noncomputable section

namespace Cert.Conv

open Idealize.ShloMosaic Cert.Prod Cert.KernelIdeal.Val

/-- What stands `s` rows before row `i` in its sequence of 4096 rows: 0 where the sequence has not begun. -/
def past (v : ℕ → ℕ → EReal) (s i d : ℕ) : EReal := if s ≤ i % 4096 then v (i - s) d else 0

/-- The convolution of `v` by the three rows of `w`, the last of which weighs the row itself, with the bias `b`. -/
def convAt {N : ℕ} (w : Mat .f32 3 N) (b : Mat .f32 1 N) (v : ℕ → ℕ → EReal) (i d : ℕ) : EReal :=
  at2 b 0 d + at2 w 0 d * past v 2 i d + at2 w 1 d * past v 1 i d + at2 w 2 d * v i d

theorem at2_congr {n0 n1 : ℕ} (X : (⟨2, ![n0, n1]⟩ : Shape).Idx → EReal) {a a' b b' : ℕ} (ha : a = a') (hb : b = b') :
    at2 X a b = at2 X a' b' := by rw [ha, hb]

/-- A row of a block of 512 reads `s` rows back in the block put under the 16 rows before it, the latter times a factor
    that is 0 where a sequence begins and else 1: it reads `s` rows back in its sequence. -/
theorem tap (v : ℕ → ℕ → EReal) (t a s d : ℕ) (ha : a < 512) (h0 : 0 < s) (hs : s ≤ 16) {K : EReal}
    (hK : K = if 0 < t % 8 then 1 else 0) {X : (16 + a + 528 - s) % 528 < 16 → EReal} {Y : ¬ (16 + a + 528 - s) % 528 < 16 → EReal}
    (hX : ∀ h, 0 < t → X h = v ((t * 32 - 1) * 16 + (16 + a + 528 - s) % 528) d)
    (hY : ∀ h, Y h = v (t * 512 + ((16 + a + 528 - s) % 528 - 16)) d) :
    (if h : (16 + a + 528 - s) % 528 < 16 then X h * K else Y h) = past v s (t * 512 + a) d := by
  unfold past
  split
  · rename_i h
    by_cases hk : 0 < t % 8
    · rw [if_pos (by omega), hK, if_pos hk, mul_one, hX h (by omega)]
      congr 1
      omega
    · rw [if_neg (by omega), hK, if_neg hk, mul_zero]
  · rename_i h
    rw [if_pos (by omega), hY h]
    congr 1
    omega

end Cert.Conv

end
-- ==== Proof.MixOut.lean ====
/- The end of an odd layer's mixer: the product of two thirds of the projected rows goes through the three-tap convolution
   within its sequence, times the last third, the gate; the result is projected and added to the residual. -/
module

public import proofs.«01_k».proof.Defs
public import proofs.«01_k».proof.Proof.Conv
public import proofs.«01_k».proof.Proof.Ref
public import proofs.«01_k».proof.Proof.Gen.Kernel18Ideal.Value
public import proofs.«01_k».proof.Proof.Gen.Reference18Ideal.Run

@[expose] public section

set_option maxRecDepth 16384

noncomputable section

namespace Cert.Kernel18Ideal.Val

open Cert.Kernel18Ideal Cert.Kernel18Ideal.Gen Idealize.ShloMosaic Idealize.ShloMosaic.TcCoe Idealize.SL.Sem Cert.Prod Cert.Conv Cert.KernelIdeal.Val

variable (m : (ℓ : Loc nD τ sig) → Buf (Elt Ideal) ℓ)

/-- The gated product that the convolution runs over. -/
def q (p : Mat .bf16 8192 3072) (i d : ℕ) : EReal := at2 p i (1024 + d) * at2 p i (2048 + d)

/-- The gate times the convolution. -/
def mixAt (p : Mat .bf16 8192 3072) (w : Mat .f32 3 1024) (b : Mat .f32 1 1024) (i d : ℕ) : EReal :=
  at2 p i d * convAt w b (q p) i d

/-- The factor of the rows before a block: 0 where a sequence begins, else 1. -/
theorem keep : ∀ t : Fin cfg0.N, k0_pay2 (F := Ideal) (grid0.coords t) = if 0 < t.val % 8 then 1 else 0 := by
  intro t
  pointwise [k0_pay2]
  refine (congrArg (fun n : ℤ => ((n : ℝ) : EReal)) (?_ : _ = if 0 < t.val % 8 then (1 : ℤ) else 0)).trans ?_
  · revert t
    decide +kernel
  · split <;> simp

/-- What one strip of 256 columns makes of the sums so far. -/
def acc (K : EReal) (v : FVec Ideal S512x1024 .f32) (A B G : Vec Ideal S512x256 .bf16) (C D : Vec Ideal S16x256 .bf16)
    (w : Vec Ideal S3x256 .f32) (b : Vec Ideal S1x256 .f32) (z : Vec Ideal S256x1024 .bf16) : FVec Ideal S512x1024 .f32 :=
  k0_pay18 v (k0_pay13 A B) (k0_pay15 (F := Ideal) K A B C D) w (k0_pay16 (F := Ideal) K A B C D w b) (k0_pay17 w) G z

/-- A strip adds its columns' terms to each sum. -/
theorem acc_at (p : Mat .bf16 8192 3072) (cw : Mat .f32 3 1024) (cb : Mat .f32 1 1024) (u : Mat .bf16 1024 1024) (t o : ℕ)
    {K : EReal} (hK : K = if 0 < t % 8 then 1 else 0) (v : FVec Ideal S512x1024 .f32) {A B G : Vec Ideal S512x256 .bf16}
    {C D : Vec Ideal S16x256 .bf16} {w : Vec Ideal S3x256 .f32} {b : Vec Ideal S1x256 .f32} {z : Vec Ideal S256x1024 .bf16}
    (hA : ∀ i j, A (ix2 i j) = at2 p (t * 512 + i.val) (1024 + (o + j.val)))
    (hB : ∀ i j, B (ix2 i j) = at2 p (t * 512 + i.val) (2048 + (o + j.val)))
    (hG : ∀ i j, G (ix2 i j) = at2 p (t * 512 + i.val) (0 + (o + j.val)))
    (hC : 0 < t → ∀ i j, C (ix2 i j) = at2 p ((t * 32 - 1) * 16 + i.val) (1024 + (o + j.val)))
    (hD : 0 < t → ∀ i j, D (ix2 i j) = at2 p ((t * 32 - 1) * 16 + i.val) (2048 + (o + j.val)))
    (hw : ∀ i j, w (ix2 i j) = at2 cw i.val (o + j.val)) (hb : ∀ i j, b (ix2 i j) = at2 cb i.val (o + j.val))
    (hz : ∀ i j, z (ix2 i j) = at2 u (o + i.val) j.val) (i : Fin 512) (j : Fin 1024) :
    acc K v A B G C D w b z (ix2 i j)
      = v (ix2 i j) + ∑ k : Fin 256, mixAt p cw cb (t * 512 + i.val) (o + k.val) * at2 u (o + k.val) j.val := by
  pointwise [acc, k0_pay13, k0_pay14, k0_pay15, k0_pay16, k0_pay17, k0_pay18]
  refine congrArg (v (ix2 i j) + ·) (Finset.sum_congr rfl fun k _ => ?_)
  rw [tap (q p) t i.val 1 (o + k.val) i.isLt (by decide) (by decide) hK, tap (q p) t i.val 2 (o + k.val) i.isLt (by decide) (by decide) hK]
  · rw [hA, hB, hG, hw, hw, hw, hb, hz, zero_add]
    rfl
  all_goals intro h
  · exact fun h0 => congrArg₂ (· * ·) (hC h0 _ _) (hD h0 _ _)
  · exact congrArg₂ (· * ·) (hA _ _) (hB _ _)
  · exact fun h0 => congrArg₂ (· * ·) (hC h0 _ _) (hD h0 _ _)
  · exact congrArg₂ (· * ·) (hA _ _) (hB _ _)

/-- The block indices of the seven windows at each point of the grid. -/
theorem idx_val : ∀ t : Fin cfg0.N, win0_0.index t = ![t.val, 0] ∧ win0_1.index t = ![t.val * 32 - 1, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

/-- The row of the arrays at which row `i` of point `t`'s blocks lies. -/
abbrev row (t : Fin cfg0.N) (i : Fin 512) : Fin 8192 := ⟨t.val * 512 + i.val, by have := lt_of_lt_of_eq t.isLt N_0; omega⟩

/-- The projected rows that the product, the gate and the convolution come from. -/
abbrev P (c : Dev nD) : Mat .bf16 8192 3072 := m ((c : Thread nD τ).loc main_arg0)
/-- The taps. -/
abbrev W (c : Dev nD) : Mat .f32 3 1024 := m ((c : Thread nD τ).loc main_arg1)
/-- The bias. -/
abbrev B (c : Dev nD) : Mat .f32 1 1024 := m ((c : Thread nD τ).loc main_arg2)
/-- The weight of the layer's last projection. -/
abbrev U (c : Dev nD) : Mat .bf16 1024 1024 := m ((c : Thread nD τ).loc main_arg3)
/-- The rows that the layer adds to. -/
abbrev R (c : Dev nD) : Mat .f32 8192 1024 := m ((c : Thread nD τ).loc main_arg4)

/-- The rows that leave the layer. -/
abbrev H (c : Dev nD) : Vec Ideal S8192x1024 .f32 := fun y =>
  R m c (ix2 (y 0) (y 1)) + ∑ d : Fin 1024, mixAt (P m c) (W m c) (B m c) (y 0).val d.val * at2 (U m c) d.val (y 1).val

theorem blk0 (c : Dev nD) (t : Fin cfg0.N) (y : S512x3072.Idx) : iblk m c 0 t y = P m c (ix2 (row t (y 0)) (y 1)) := by
  blk_ext [iblk, V, idx_val t]

/-- The row of the arrays at which row `i` lies of the short block before point `t`'s. -/
abbrev back (t : Fin cfg0.N) (i : Fin 16) : Fin 8192 :=
  ⟨(t.val * 32 - 1) * 16 + i.val, by have := lt_of_lt_of_eq t.isLt N_0; omega⟩

theorem blk1 (c : Dev nD) (t : Fin cfg0.N) (y : S16x3072.Idx) : iblk m c 1 t y = P m c (ix2 (back t (y 0)) (y 1)) := by
  blk_ext [iblk, V, idx_val t]

theorem blk2 (c : Dev nD) (t : Fin cfg0.N) (y : S3x1024.Idx) : iblk m c 2 t y = W m c y := by
  blk_ext [iblk, V, idx_val t]

theorem blk3 (c : Dev nD) (t : Fin cfg0.N) (y : S1x1024.Idx) : iblk m c 3 t y = B m c y := by
  blk_ext [iblk, V, idx_val t]

theorem blk4 (c : Dev nD) (t : Fin cfg0.N) (y : S1024x1024.Idx) : iblk m c 4 t y = U m c y := by
  blk_ext [iblk, V, idx_val t]

theorem blk5 (c : Dev nD) (t : Fin cfg0.N) (y : S512x1024.Idx) : iblk m c 5 t y = R m c (ix2 (row t (y 0)) (y 1)) := by
  blk_ext [iblk, V, idx_val t]

/-- A strip of a point's rows, read from column `n + o` on. -/
theorem ld0 (c : Dev nD) (t : Fin cfg0.N) (n o : ℕ) {o' : ℕ} (h : o' = n + o)
    (inb : ∀ a, (![0, o'] : Fin 2 → ℕ) a + S512x256.size a ≤ S512x3072.size a) (i : Fin 512) (j : Fin 256) :
    View.ld (iblk m c 0 t) (Rect.unit (s := S512x3072) ![0, o'] S512x256.size inb) (ix2 i j) = at2 (P m c) (t.val * 512 + i.val) (n + (o + j.val)) := by
  have hi : o' + 256 ≤ 3072 := inb 1
  refine (blk0 m c t _).trans (Eq.trans (congrArg _ ?_) (at2_eq (P m c) (row t i) ⟨o' + j.val, by omega⟩ rfl (by show o' + j.val = _; omega)))
  blk_ext
  all_goals simp [LoadRect.idx, Rect.unit]

/-- A strip of the rows that go before a point's. -/
theorem ld1 (c : Dev nD) (t : Fin cfg0.N) (n o : ℕ) {o' : ℕ} (h : o' = n + o)
    (inb : ∀ a, (![0, o'] : Fin 2 → ℕ) a + S16x256.size a ≤ S16x3072.size a) (i : Fin 16) (j : Fin 256) :
    View.ld (iblk m c 1 t) (Rect.unit (s := S16x3072) ![0, o'] S16x256.size inb) (ix2 i j)
      = at2 (P m c) ((t.val * 32 - 1) * 16 + i.val) (n + (o + j.val)) := by
  have hi : o' + 256 ≤ 3072 := inb 1
  have ht := lt_of_lt_of_eq t.isLt N_0
  refine (blk1 m c t _).trans (Eq.trans (congrArg _ ?_) (at2_eq (P m c) ⟨(t.val * 32 - 1) * 16 + i.val, by omega⟩ ⟨o' + j.val, by omega⟩ rfl (by show o' + j.val = _; omega)))
  blk_ext
  all_goals simp [LoadRect.idx, Rect.unit]

/-- A strip of the taps. -/
theorem ld2 (c : Dev nD) (t : Fin cfg0.N) (o : ℕ)
    (inb : ∀ a, (![0, o] : Fin 2 → ℕ) a + S3x256.size a ≤ S3x1024.size a) (i : Fin 3) (j : Fin 256) :
    View.ld (iblk m c 2 t) (Rect.unit (s := S3x1024) ![0, o] S3x256.size inb) (ix2 i j) = at2 (W m c) i.val (o + j.val) := by
  have hi : o + 256 ≤ 1024 := inb 1
  refine (blk2 m c t _).trans (Eq.trans (congrArg _ ?_) (at2_eq (W m c) i ⟨o + j.val, by omega⟩ rfl rfl))
  blk_ext
  all_goals simp [LoadRect.idx, Rect.unit]

/-- A strip of the bias. -/
theorem ld3 (c : Dev nD) (t : Fin cfg0.N) (o : ℕ)
    (inb : ∀ a, (![0, o] : Fin 2 → ℕ) a + S1x256.size a ≤ S1x1024.size a) (i : Fin 1) (j : Fin 256) :
    View.ld (iblk m c 3 t) (Rect.unit (s := S1x1024) ![0, o] S1x256.size inb) (ix2 i j) = at2 (B m c) i.val (o + j.val) := by
  have hi : o + 256 ≤ 1024 := inb 1
  refine (blk3 m c t _).trans (Eq.trans (congrArg _ ?_) (at2_eq (B m c) i ⟨o + j.val, by omega⟩ rfl rfl))
  blk_ext
  all_goals simp [LoadRect.idx, Rect.unit]

/-- A strip of the weight's rows. -/
theorem ld4 (c : Dev nD) (t : Fin cfg0.N) (o : ℕ)
    (inb : ∀ a, (![o, 0] : Fin 2 → ℕ) a + S256x1024.size a ≤ S1024x1024.size a) (i : Fin 256) (j : Fin 1024) :
    View.ld (iblk m c 4 t) (Rect.unit (s := S1024x1024) ![o, 0] S256x1024.size inb) (ix2 i j) = at2 (U m c) (o + i.val) j.val := by
  have hi : o + 256 ≤ 1024 := inb 0
  refine (blk4 m c t _).trans (Eq.trans (congrArg _ ?_) (at2_eq (U m c) ⟨o + i.val, by omega⟩ j rfl rfl))
  blk_ext
  all_goals simp [LoadRect.idx, Rect.unit]

theorem emb6 (t : Fin cfg0.N) (y : S512x1024.Idx) : ((cfg0.win 6).blk t).view.emb y = ix2 (row t (y 0)) (y 1) := by
  blk_ext [idx_val t]

/-- A strip from column `o` on adds its terms to the sums of point `t`. -/
theorem strip (c : Dev nD) (t : Fin cfg0.N) (o : ℕ) {oA oB oG : ℕ} (eA : oA = 1024 + o) (eB : oB = 2048 + o) (eG : oG = 0 + o)
    (v : FVec Ideal S512x1024 .f32) (iA iB iG iC iD iw ib iz) (i : Fin 512) (j : Fin 1024) :
    acc (k0_pay2 (F := Ideal) (grid0.coords t)) v
        (View.ld (iblk m c 0 t) (Rect.unit (s := S512x3072) ![0, oA] S512x256.size iA))
        (View.ld (iblk m c 0 t) (Rect.unit (s := S512x3072) ![0, oB] S512x256.size iB))
        (View.ld (iblk m c 0 t) (Rect.unit (s := S512x3072) ![0, oG] S512x256.size iG))
        (View.ld (iblk m c 1 t) (Rect.unit (s := S16x3072) ![0, oA] S16x256.size iC))
        (View.ld (iblk m c 1 t) (Rect.unit (s := S16x3072) ![0, oB] S16x256.size iD))
        (View.ld (iblk m c 2 t) (Rect.unit (s := S3x1024) ![0, o] S3x256.size iw))
        (View.ld (iblk m c 3 t) (Rect.unit (s := S1x1024) ![0, o] S1x256.size ib))
        (View.ld (iblk m c 4 t) (Rect.unit (s := S1024x1024) ![o, 0] S256x1024.size iz)) (ix2 i j)
      = v (ix2 i j) + ∑ k : Fin 256, mixAt (P m c) (W m c) (B m c) (t.val * 512 + i.val) (o + k.val) * at2 (U m c) (o + k.val) j.val :=
  acc_at (P m c) (W m c) (B m c) (U m c) t.val o (keep t) v (ld0 m c t 1024 o eA iA) (ld0 m c t 2048 o eB iB) (ld0 m c t 0 o eG iG)
    (fun _ => ld1 m c t 1024 o eA iC) (fun _ => ld1 m c t 2048 o eB iD) (ld2 m c t o iw) (ld3 m c t o ib) (ld4 m c t o iz) i j

/-- What a point leaves in its block. -/
theorem point (c : Dev nD) (t : Fin cfg0.N) (i : Fin 512) (j : Fin 1024) :
    out0_6 (grid0.coords t) (iblk m c 0 t) (iblk m c 1 t) (iblk m c 2 t) (iblk m c 3 t) (iblk m c 4 t) (iblk m c 5 t) (ix2 i j)
      = H m c (ix2 (row t i) j) := by
  unfold out0_6
  frame_out
  refine (strip m c t 768 (oA := 1792) (oB := 2816) (oG := 768) rfl rfl rfl _ _ _ _ _ _ _ _ _ i j).trans ?_
  refine (congrArg (· + _) ((strip m c t 512 (oA := 1536) (oB := 2560) (oG := 512) rfl rfl rfl _ _ _ _ _ _ _ _ _ i j).trans
    (congrArg (· + _) ((strip m c t 256 (oA := 1280) (oB := 2304) (oG := 256) rfl rfl rfl _ _ _ _ _ _ _ _ _ i j).trans
    (congrArg (· + _) (strip m c t 0 (oA := 1024) (oB := 2048) (oG := 0) rfl rfl rfl _ _ _ _ _ _ _ _ _ i j)))))).trans ?_
  have e : ∀ r a b c d : EReal, r + a + b + c + d = r + (a + b + c + d) := fun r a b c d => by simp only [add_assoc]
  rw [blk5]
  refine (e _ _ _ _ _).trans (congrArg (R m c (ix2 (row t i) j) + ·) ((Fin.sum_univ_four fun s : Fin 4 => ∑ k : Fin 256,
    mixAt (P m c) (W m c) (B m c) (t.val * 512 + i.val) (s.val * 256 + k.val) * at2 (U m c) (s.val * 256 + k.val) j.val).symm.trans ?_))
  exact Fin.sum_mul_add_congr fun s k hl => rfl

/-- The kernel leaves the rows that leave the layer. -/
theorem final6 (c : Dev nD) : (dats m 0 c).arrAt 6 (cfgs 0).N = H m c := by
  refine (dats m 0 c).arrAt_eq_of_covers 6 _ (by decide +kernel) fun t hf y => ?_
  blk_simp
  rw [after0_6, emb6 t y, eq_ix2 y]
  exact point m c t (y 0) (y 1)

end Cert.Kernel18Ideal.Val

namespace Cert.Reference18Ideal.Val

open Cert.Reference18Ideal Cert.Reference18Ideal.Gen Idealize.ShloMosaic Idealize.ShloMosaic.TcCoe Idealize.SL.Sem Idealize.ShloMosaic.StableHlo
open Cert.Prod Cert.Conv Cert.KernelIdeal.Val Cert.ReferenceIdeal.Val
open Cert.Kernel18Ideal.Val (q mixAt)

/-- The projected rows, sequence by sequence. -/
def seq (p : FVec Ideal S8192x3072 .bf16) : FVec Ideal S2x4096x3072 .bf16 := shapeCast _ p shapeCasts_S8192x3072_S2x4096x3072

theorem seq_at (p : FVec Ideal S8192x3072 .bf16) {b t d : ℕ} (hb : b < 2) (ht : t < 4096) (hd : d < 3072) :
    at3 (seq p) b t d = at2 p (b * 4096 + t) d := by
  refine (at3_eq (seq p) ⟨b, hb⟩ ⟨t, ht⟩ ⟨d, hd⟩ rfl rfl rfl).symm.trans (Eq.trans ?_ (at2_eq p ⟨b * 4096 + t, by omega⟩ ⟨d, hd⟩ rfl rfl))
  pointwise [seq]

/-- The gate times the convolution, sequence by sequence. -/
def mix (p : FVec Ideal S8192x3072 .bf16) (w : FVec Ideal S3x1024 .f32) (b : FVec Ideal S1x1024 .f32) : FVec Ideal S2x4096x1024 .f32 :=
  mulf (sb (seq p)) (cq (seq p) w b)

/-- Read by row of the batch, it is what the kernel makes. -/
theorem mix_at (p : FVec Ideal S8192x3072 .bf16) (w : FVec Ideal S3x1024 .f32) (b : FVec Ideal S1x1024 .f32) (n : Fin 2) (t : Fin 4096) (d : Fin 1024) :
    mix p w b (ix3 n t d) = mixAt p w b (n.val * 4096 + t.val) d.val := by
  have hs : ∀ r : ℕ, r < 4096 → aq (seq p) n.val r d.val = q p (n.val * 4096 + r) d.val := fun r hr => by
    unfold aq q
    rw [seq_at p n.isLt hr (by omega), seq_at p n.isLt hr (by omega)]
  have hp : ∀ s : ℕ, aqm (seq p) s n.val t.val d.val = past (q p) s (n.val * 4096 + t.val) d.val := fun s => by
    unfold aqm past
    by_cases h : s ≤ t.val
    · rw [if_pos h, if_pos (by omega), hs _ (by omega)]
      congr 1
      omega
    · rw [if_neg h, if_neg (by omega)]
  refine (congrArg₂ (· * ·) (sb_at (seq p) n t d) (cq_at (seq p) w b n t d)).trans ?_
  unfold acq mixAt convAt
  rw [seq_at p n.isLt t.isLt (by omega), hp, hp, hs _ t.isLt]

/-- The reference's result, over the gate times the convolution. -/
def out (p : FVec Ideal S8192x3072 .bf16) (w : FVec Ideal S3x1024 .f32) (b : FVec Ideal S1x1024 .f32) (u : FVec Ideal S1024x1024 .bf16)
    (r : FVec Ideal S8192x1024 .f32) : FVec Ideal S8192x1024 .f32 :=
  addf r (Host.dotGeneral dot_S8192x1024_S1024x1024_S8192x1024_1_0_0_1_n_n none
    (extf .f32 (truncf .bf16 (shapeCast _ (mix p w b) shapeCasts_S2x4096x1024_S8192x1024) bitsLt_bf16_f32) bitsLt_bf16_f32)
    (extf .f32 u bitsLt_bf16_f32))

theorem out_at (p : FVec Ideal S8192x3072 .bf16) (w : FVec Ideal S3x1024 .f32) (b : FVec Ideal S1x1024 .f32) (u : FVec Ideal S1024x1024 .bf16)
    (r : FVec Ideal S8192x1024 .f32) (i : Fin 8192) (j : Fin 1024) :
    out p w b u r (ix2 i j) = r (ix2 i j) + ∑ d : Fin 1024, mixAt p w b i.val d.val * at2 u d.val j.val := by
  pointwise [out]
  refine congrArg (r (ix2 i j) + ·) (Finset.sum_congr rfl fun d _ => ?_)
  rw [mix_at, at2_eq u d j rfl rfl]
  exact congrArg (mixAt p w b · d.val * at2 u d.val j.val) (Nat.div_add_mod' _ _)

end Cert.Reference18Ideal.Val

namespace Cert.Proof

open Idealize.ShloMosaic Idealize.SL.Sem Cert.Prod Cert.Conv Cert.KernelIdeal.Val

/-- The reference ends with its arguments unchanged; it declares no semaphore. -/
theorem frame_reference18 [Cert.Reference18Ideal.Facts] : Cert.quiescent_Reference18Ideal := fun m ρ _ =>
  (θ_run Cert.Reference18Ideal.defs _ _).mono (fun r h => ⟨fun c => (h c).2, Idealize.ShloMosaic.sem_eq_zero_of_no_sems (by decide) r.2⟩)
    (Cert.Reference18Ideal.Value.run (F := Ideal) m ρ)

/-- Kernel and reference leave equal results. -/
theorem algebraic18 : Cert.algebraic_Kernel18Ideal_Reference18Ideal := by
  intro m ρ m' ρ' _ hag
  refine ⟨fun c => Cert.Kernel18Ideal.Val.H m c, ?_, ?_⟩
  · exact (θ_run Cert.Kernel18Ideal.defs _ _).mono (fun r h c => ⟨(h c).1.trans (Cert.Kernel18Ideal.Val.final6 m c), (h c).2⟩)
      (Cert.Kernel18Ideal.Value.run_blocks (F := Ideal) m ρ)
  · refine (θ_run Cert.Reference18Ideal.defs _ _).mono (fun r h c => ⟨(h c).1.trans ?_, (h c).2⟩)
      (Cert.Reference18Ideal.Value.run (F := Ideal) m' ρ')
    obtain ⟨a0, a1, a2, a3, a4⟩ := hag c
    rw [a0, a1, a2, a3, a4]
    exact funext fun y => Eq.trans (congrArg _ (eq_ix2 y)) (Cert.Reference18Ideal.Val.out_at _ _ _ _ _ (y 0) (y 1))

end Cert.Proof

end
-- ==== Proof.DownLoss.lean ====
/- The second feed-forward layer with the loss at its end: the three-tap convolution down the rows, the gate's activation
   times the value, the projection joined to the residual, and from the rows so made the loss against the target, its
   gradient through the norm, the gradient of the norm's scale and the convolved rows. -/
module

public import proofs.«01_k».proof.Defs
public import proofs.«01_k».proof.Proof.Conv
public import proofs.«01_k».proof.Proof.NormBwd
public import proofs.«01_k».proof.Proof.Gen.Kernel19Ideal.Value
public import proofs.«01_k».proof.Proof.Gen.Reference19Ideal.Run

@[expose] public section

set_option maxRecDepth 16384

noncomputable section

namespace Cert.Kernel19Ideal.Val

open Cert.Kernel19Ideal Cert.Kernel19Ideal.Gen Idealize.ShloMosaic Idealize.ShloMosaic.TcCoe Idealize.SL.Sem Cert.Prod Cert.Conv Cert.KernelIdeal.Val

variable (m : (ℓ : Loc nD τ sig) → Buf (Elt Ideal) ℓ)

/-- The factor of the rows before a block: 0 where a sequence begins, else 1. -/
theorem keep : ∀ t : Fin cfg0.N, k0_pay1 (F := Ideal) (grid0.coords t) = if 0 < t.val % 8 then 1 else 0 := by
  intro t
  pointwise [k0_pay1]
  refine (congrArg (fun n : ℤ => ((n : ℝ) : EReal)) (?_ : _ = if 0 < t.val % 8 then (1 : ℤ) else 0)).trans ?_
  · revert t
    decide +kernel
  · split <;> simp

/-- A strip's convolution reads the rows of its own sequence. -/
theorem conv_at (p : Mat .bf16 8192 5632) (cw : Mat .f32 3 5632) (cb : Mat .f32 1 5632) (t o : ℕ)
    {K : EReal} (hK : K = if 0 < t % 8 then 1 else 0) {A : Vec Ideal S512x256 .bf16}
    {C : Vec Ideal S16x256 .bf16} {w : Vec Ideal S3x256 .f32} {b : Vec Ideal S1x256 .f32}
    (hA : ∀ i j, A (ix2 i j) = at2 p (t * 512 + i.val) (o + j.val))
    (hC : 0 < t → ∀ i j, C (ix2 i j) = at2 p ((t * 32 - 1) * 16 + i.val) (o + j.val))
    (hw : ∀ i j, w (ix2 i j) = at2 cw i.val (o + j.val)) (hb : ∀ i j, b (ix2 i j) = at2 cb i.val (o + j.val))
    (i : Fin 512) (j : Fin 256) :
    k0_pay3 (F := Ideal) K A C w b (ix2 i j) = convAt cw cb (at2 p) (t * 512 + i.val) (o + j.val) := by
  pointwise [k0_pay3]
  rw [tap (at2 p) t i.val 1 (o + j.val) i.isLt (by decide) (by decide) hK, tap (at2 p) t i.val 2 (o + j.val) i.isLt (by decide) (by decide) hK]
  · rw [hA, hw, hw, hw, hb]
    rfl
  all_goals intro h
  · exact fun h0 => hC h0 _ _
  · exact hA _ _
  · exact fun h0 => hC h0 _ _
  · exact hA _ _

/-- The activation of the gate times the value, at column `d`. -/
def actAt (p : Mat .bf16 8192 5632) (w : Mat .f32 3 5632) (b : Mat .f32 1 5632) (i d : ℕ) : EReal :=
  convAt w b (at2 p) i d * Ideal.div 1 (1 + Ideal.exp (-convAt w b (at2 p) i d)) * convAt w b (at2 p) i (2816 + d)

/-- A strip adds to each sum its columns' terms. -/
theorem acc_at (v : FVec Ideal S512x1024 .f32) (a b : FVec Ideal S512x256 .f32) (z : Vec Ideal S256x1024 .bf16) (i : Fin 512) (j : Fin 1024) :
    k0_pay97 v a b z (ix2 i j) = v (ix2 i j) + ∑ k : Fin 256, a (ix2 i k) * Ideal.div 1 (1 + Ideal.exp (-a (ix2 i k))) * b (ix2 i k) * z (ix2 k j) := by
  pointwise [k0_pay97]
  rfl

/-- The block indices of the windows at each point of the grid. -/
theorem idx_val : ∀ t : Fin cfg0.N, win0_0.index t = ![t.val, 0] ∧ win0_1.index t = ![t.val * 32 - 1, 0] ∧ win0_2.index t = ![0, 0]
    ∧ win0_3.index t = ![0, 0] ∧ win0_4.index t = ![0, 0] ∧ win0_5.index t = ![t.val, 0] ∧ win0_6.index t = ![0, 0]
    ∧ win0_7.index t = ![t.val, 0] ∧ win0_8.index t = ![t.val, 0] ∧ win0_9.index t = ![t.val, 0] ∧ win0_10.index t = ![0, 0]
    ∧ win0_11.index t = ![0, 0] ∧ win0_12.index t = ![t.val, 0] :=
  (by decide +kernel : ∀ t : Fin grid0.N, _)

/-- The row of the arrays at which row `i` of point `t`'s blocks lies. -/
abbrev row (t : Fin cfg0.N) (i : Fin 512) : Fin 8192 := ⟨t.val * 512 + i.val, by have := lt_of_lt_of_eq t.isLt N_0; omega⟩

/-- The row of the arrays at which row `i` lies of the short block before point `t`'s. -/
abbrev back (t : Fin cfg0.N) (i : Fin 16) : Fin 8192 :=
  ⟨(t.val * 32 - 1) * 16 + i.val, by have := lt_of_lt_of_eq t.isLt N_0; omega⟩

/-- The rows before the convolution. -/
abbrev P (c : Dev nD) : Mat .bf16 8192 5632 := m ((c : Thread nD τ).loc main_arg0)
/-- The taps. -/
abbrev W (c : Dev nD) : Mat .f32 3 5632 := m ((c : Thread nD τ).loc main_arg1)
/-- The bias. -/
abbrev B (c : Dev nD) : Mat .f32 1 5632 := m ((c : Thread nD τ).loc main_arg2)
/-- The weight of the layer's last projection. -/
abbrev U (c : Dev nD) : Mat .bf16 2816 1024 := m ((c : Thread nD τ).loc main_arg3)
/-- The rows that the layer adds to. -/
abbrev R (c : Dev nD) : Mat .f32 8192 1024 := m ((c : Thread nD τ).loc main_arg4)
/-- The norm's scale. -/
abbrev S (c : Dev nD) : FVec Ideal ⟨1, ![1024]⟩ .f32 := m ((c : Thread nD τ).loc main_arg5)
/-- The target. -/
abbrev T (c : Dev nD) : Mat .f32 8192 1024 := m ((c : Thread nD τ).loc main_arg6)

/-- The convolved rows in the short format. -/
abbrev Gc (c : Dev nD) : Vec Ideal S8192x5632 .bf16 := fun y => convAt (W m c) (B m c) (at2 (P m c)) (y 0).val (y 1).val

/-- An entry of the rows that leave a layer: the residual's plus the sum over the activation's columns. -/
def outAt (p : Mat .bf16 8192 5632) (w : Mat .f32 3 5632) (b : Mat .f32 1 5632) (u : Mat .bf16 2816 1024) (r : Mat .f32 8192 1024) :
    Mat .f32 8192 1024 := fun y => r (ix2 (y 0) (y 1)) + ∑ d : Fin 2816, actAt p w b (y 0).val d.val * at2 u d.val (y 1).val

/-- The rows that leave the layer. -/
abbrev X (c : Dev nD) : Mat .f32 8192 1024 := outAt (P m c) (W m c) (B m c) (U m c) (R m c)

theorem blk0 (c : Dev nD) (t : Fin cfg0.N) (y : S512x5632.Idx) : iblk m c 0 t y = P m c (ix2 (row t (y 0)) (y 1)) := by
  blk_ext [iblk, V, idx_val t]

theorem blk1 (c : Dev nD) (t : Fin cfg0.N) (y : S16x5632.Idx) : iblk m c 1 t y = P m c (ix2 (back t (y 0)) (y 1)) := by
  blk_ext [iblk, V, idx_val t]

theorem blk2 (c : Dev nD) (t : Fin cfg0.N) (y : S3x5632.Idx) : iblk m c 2 t y = W m c y := by
  blk_ext [iblk, V, idx_val t]

theorem blk3 (c : Dev nD) (t : Fin cfg0.N) (y : S1x5632.Idx) : iblk m c 3 t y = B m c y := by
  blk_ext [iblk, V, idx_val t]

theorem blk4 (c : Dev nD) (t : Fin cfg0.N) (y : S2816x1024.Idx) : iblk m c 4 t y = U m c y := by
  blk_ext [iblk, V, idx_val t]

theorem blk5 (c : Dev nD) (t : Fin cfg0.N) (y : S512x1024.Idx) : iblk m c 5 t y = R m c (ix2 (row t (y 0)) (y 1)) := by
  blk_ext [iblk, V, idx_val t]

theorem blk6 (c : Dev nD) (t : Fin cfg0.N) (y : S1x1024.Idx) : iblk m c 6 t y = S m c (ix1 (y 1)) := by
  blk_simp [iblk, idx_val t]
  entry_read
  pointwise
  blk_ext [idx_val t]

theorem blk7 (c : Dev nD) (t : Fin cfg0.N) (y : S512x1024.Idx) : iblk m c 7 t y = T m c (ix2 (row t (y 0)) (y 1)) := by
  blk_ext [iblk, V, idx_val t]

theorem emb8 (t : Fin cfg0.N) (y : S512x1024.Idx) : ((cfg0.win 8).blk t).view.emb y = ix2 (row t (y 0)) (y 1) := by
  blk_ext [idx_val t]

theorem emb9 (t : Fin cfg0.N) (y : S512x1024.Idx) : ((cfg0.win 9).blk t).view.emb y = ix2 (row t (y 0)) (y 1) := by
  blk_ext [idx_val t]

theorem emb12 (t : Fin cfg0.N) (y : S512x5632.Idx) : ((cfg0.win 12).blk t).view.emb y = ix2 (row t (y 0)) (y 1) := by
  blk_ext [idx_val t]

/-- A strip of 256 columns from `o` on, in bounds. -/
theorem inb (n o : ℕ) (h : o + 256 ≤ 5632) : ∀ a, (![0, o] : Fin 2 → ℕ) a + (![n, 256] : Fin 2 → ℕ) a ≤ (![n, 5632] : Fin 2 → ℕ) a := by
  intro a
  match a with
  | 0 => exact le_of_eq (Nat.zero_add n)
  | 1 => exact h

/-- A strip of 256 of the weight's rows from `o` on, in bounds. -/
theorem inbRow (o : ℕ) (h : o + 256 ≤ 2816) : ∀ a, (![o, 0] : Fin 2 → ℕ) a + S256x1024.size a ≤ S2816x1024.size a := by
  intro a
  match a with
  | 0 => exact h
  | 1 => exact le_refl 1024

/-- The convolution of a strip of columns, from the strips that point `t` loads. -/
def cv (c : Dev nD) (t : Fin cfg0.N) (o : ℕ) (h : o + 256 ≤ 5632) : FVec Ideal S512x256 .f32 :=
  k0_pay3 (F := Ideal) (k0_pay1 (F := Ideal) (grid0.coords t))
    (View.ld (iblk m c 0 t) (Rect.unit (s := S512x5632) ![0, o] ![512, 256] (inb 512 o h)))
    (View.ld (iblk m c 1 t) (Rect.unit (s := S16x5632) ![0, o] ![16, 256] (inb 16 o h)))
    (View.ld (iblk m c 2 t) (Rect.unit (s := S3x5632) ![0, o] ![3, 256] (inb 3 o h)))
    (View.ld (iblk m c 3 t) (Rect.unit (s := S1x5632) ![0, o] ![1, 256] (inb 1 o h)))

theorem cv_at (c : Dev nD) (t : Fin cfg0.N) (o : ℕ) (h : o + 256 ≤ 5632) (i : Fin 512) (j : Fin 256) :
    cv m c t o h (ix2 i j) = convAt (W m c) (B m c) (at2 (P m c)) (t.val * 512 + i.val) (o + j.val) := by
  refine conv_at (P m c) (W m c) (B m c) t.val o (keep t) (fun i j => ?_) (fun _ i j => ?_) (fun i j => ?_) (fun i j => ?_) i j
  · refine (blk0 m c t _).trans (Eq.trans (congrArg _ ?_) (at2_eq (P m c) (row t i) ⟨o + j.val, by omega⟩ rfl rfl))
    blk_ext
    all_goals simp [LoadRect.idx, Rect.unit]
  · refine (blk1 m c t _).trans (Eq.trans (congrArg _ ?_) (at2_eq (P m c) (back t i) ⟨o + j.val, by omega⟩ rfl rfl))
    blk_ext
    all_goals simp [LoadRect.idx, Rect.unit]
  · refine (blk2 m c t _).trans (Eq.trans (congrArg _ ?_) (at2_eq (W m c) i ⟨o + j.val, by omega⟩ rfl rfl))
    blk_ext
    all_goals simp [LoadRect.idx, Rect.unit]
  · refine (blk3 m c t _).trans (Eq.trans (congrArg _ ?_) (at2_eq (B m c) i ⟨o + j.val, by omega⟩ rfl rfl))
    blk_ext
    all_goals simp [LoadRect.idx, Rect.unit]

/-- A strip of the weight's rows. -/
def wr (c : Dev nD) (t : Fin cfg0.N) (o : ℕ) (h : o + 256 ≤ 2816) : Vec Ideal S256x1024 .bf16 :=
  View.ld (iblk m c 4 t) (Rect.unit (s := S2816x1024) ![o, 0] ![256, 1024] (inbRow o h))

theorem wr_at (c : Dev nD) (t : Fin cfg0.N) (o : ℕ) (h : o + 256 ≤ 2816) (i : Fin 256) (j : Fin 1024) :
    wr m c t o h (ix2 i j) = at2 (U m c) (o + i.val) j.val := by
  refine (blk4 m c t _).trans (Eq.trans (congrArg _ ?_) (at2_eq (U m c) ⟨o + i.val, by omega⟩ j rfl rfl))
  blk_ext
  all_goals simp [LoadRect.idx, Rect.unit]

/-- The sums after the first `n` strips. -/
def sums (c : Dev nD) (t : Fin cfg0.N) : (n : ℕ) → n ≤ 11 → FVec Ideal S512x1024 .f32
  | 0, _ => iblk m c 5 t
  | n + 1, h => k0_pay97 (sums c t n (by omega)) (cv m c t (n * 256) (by omega)) (cv m c t (2816 + n * 256) (by omega))
      (wr m c t (n * 256) (by omega))

theorem sums_at (c : Dev nD) (t : Fin cfg0.N) (i : Fin 512) (j : Fin 1024) (n : ℕ) (h : n ≤ 11) :
    sums m c t n h (ix2 i j) = R m c (ix2 (row t i) j) + ∑ s : Fin n, ∑ k : Fin 256,
      actAt (P m c) (W m c) (B m c) (t.val * 512 + i.val) (s.val * 256 + k.val) * at2 (U m c) (s.val * 256 + k.val) j.val := by
  induction n with
  | zero => exact (blk5 m c t (ix2 i j)).trans (by simp)
  | succ n ih =>
    refine (acc_at _ _ _ _ i j).trans ?_
    rw [ih (by omega), Fin.sum_univ_castSucc (n := n), add_assoc]
    refine congrArg (R m c (ix2 (row t i) j) + ·) (congrArg (Finset.sum Finset.univ _ + ·) (Finset.sum_congr rfl fun k _ => ?_))
    rw [cv_at, cv_at, wr_at, Nat.add_assoc]
    rfl

/-- After the eleventh strip they are the rows that leave the layer. -/
theorem sums_all (c : Dev nD) (t : Fin cfg0.N) (i : Fin 512) (j : Fin 1024) : sums m c t 11 (le_refl 11) (ix2 i j) = X m c (ix2 (row t i) j) := by
  refine (sums_at m c t i j 11 (le_refl 11)).trans (congrArg (R m c (ix2 (row t i) j) + ·) ?_)
  exact Fin.sum_mul_add_congr fun s k hl => rfl

/-- What a point stores of a strip's convolution is that part of the convolved rows. -/
theorem strip (c : Dev nD) (t : Fin cfg0.N) (o : ℕ) (h : o + 256 ≤ 5632) (x : S512x256.Idx) (y : S512x5632.Idx)
    (h0 : (y 0).val = (x 0).val) (h1 : (y 1).val = o + (x 1).val) : cv m c t o h x = Gc m c (ix2 (row t (y 0)) (y 1)) := by
  rw [eq_ix2 x]
  refine (cv_at m c t o h (x 0) (x 1)).trans ?_
  show _ = convAt _ _ _ (t.val * 512 + (y 0).val) (y 1).val
  rw [h0, h1]

/-! ## The norm, the loss and their gradients -/

/-- The scaled normed rows minus the target. -/
def errAt (x : Mat .f32 8192 1024) (g : FVec Ideal ⟨1, ![1024]⟩ .f32) (T : Mat .f32 8192 1024) (i : Fin 8192) (k : Fin 1024) : EReal :=
  normAt x g i k - T (ix2 i k)

/-- The gradient of the scaled normed rows: the difference over the row's length. -/
def gradAt (x : Mat .f32 8192 1024) (g : FVec Ideal ⟨1, ![1024]⟩ .f32) (T : Mat .f32 8192 1024) (i : Fin 8192) (k : Fin 1024) : EReal :=
  errAt x g T i k * Ideal.ofBits .f32 981467136#32

section
variable {v : FVec Ideal S512x1024 .f32} {a b : FVec Ideal S512x256 .f32} {z : Vec Ideal S256x1024 .bf16} {s : Vec Ideal S1x1024 .f32}
  {o : Vec Ideal S512x1024 .f32} {x : Mat .f32 8192 1024} {g : FVec Ideal ⟨1, ![1024]⟩ .f32} {T : Mat .f32 8192 1024} {ro : Fin 512 → Fin 8192}

theorem rms_at (hv : ∀ i j, k0_pay97 v a b z (ix2 i j) = x (ix2 (ro i) j)) (i : Fin 512) :
    k0_pay98 v a b z (ix2 i 0) = rmsAt x (ro i) := by
  pointwise [k0_pay98, rmsAt]
  simp only [hv]

theorem normed_at (hv : ∀ i j, k0_pay97 v a b z (ix2 i j) = x (ix2 (ro i) j)) (i : Fin 512) (j : Fin 1024) :
    k0_pay99 v a b z (ix2 i j) = x (ix2 (ro i) j) * rmsAt x (ro i) := by
  pointwise [k0_pay99]
  rw [hv, rms_at hv]

theorem err_at (hv : ∀ i j, k0_pay97 v a b z (ix2 i j) = x (ix2 (ro i) j)) (hs : ∀ y, s y = g (ix1 (y 1)))
    (ho : ∀ i j, o (ix2 i j) = T (ix2 (ro i) j)) (i : Fin 512) (j : Fin 1024) :
    k0_pay101 v a b z s o (ix2 i j) = errAt x g T (ro i) j := by
  pointwise [k0_pay101, k0_pay100, errAt, normAt]
  rw [normed_at hv, ho, hs]
  rfl

theorem grad_at (hv : ∀ i j, k0_pay97 v a b z (ix2 i j) = x (ix2 (ro i) j)) (hs : ∀ y, s y = g (ix1 (y 1)))
    (ho : ∀ i j, o (ix2 i j) = T (ix2 (ro i) j)) (i : Fin 512) (j : Fin 1024) :
    k0_pay102 v a b z s o (ix2 i j) = gradAt x g T (ro i) j := by
  pointwise [k0_pay102, gradAt]
  rw [err_at hv hs ho]

/-- What a point makes of its rows' gradient. -/
theorem back_at (hv : ∀ i j, k0_pay97 v a b z (ix2 i j) = x (ix2 (ro i) j)) (hs : ∀ y, s y = g (ix1 (y 1)))
    (ho : ∀ i j, o (ix2 i j) = T (ix2 (ro i) j)) (i : Fin 512) (j : Fin 1024) :
    k0_pay103 v a b z s o (ix2 i j) = normBwdAt (gradAt x g T) x g (fun _ => 0) (ro i) j := by
  pointwise [k0_pay103, k0_pay100, normBwdAt]
  simp only [normed_at hv, rms_at hv, grad_at hv hs ho, hs]
  rfl

/-- What a point adds to the gradient of the scale. -/
theorem scale_at (hv : ∀ i j, k0_pay97 v a b z (ix2 i j) = x (ix2 (ro i) j)) (hs : ∀ y, s y = g (ix1 (y 1)))
    (ho : ∀ i j, o (ix2 i j) = T (ix2 (ro i) j)) (w : Vec Ideal S1x1024 .f32) (j : Fin 1024) :
    k0_pay108 (k0_pay104 v a b z s o) w (ix2 0 j)
      = w (ix2 0 j) + ∑ i : Fin 512, gradAt x g T (ro i) j * (x (ix2 (ro i) j) * rmsAt x (ro i)) := by
  pointwise [k0_pay108, k0_pay104]
  simp only [normed_at hv, grad_at hv hs ho]

/-- What a point adds to the loss. -/
theorem loss_at (hv : ∀ i j, k0_pay97 v a b z (ix2 i j) = x (ix2 (ro i) j)) (hs : ∀ y, s y = g (ix1 (y 1)))
    (ho : ∀ i j, o (ix2 i j) = T (ix2 (ro i) j)) (w : Vec Ideal S1x1 .f32) (j : S1x1.Idx) :
    k0_pay109 (k0_pay101 v a b z s o) w j
      = w j + Ideal.ofBits .f32 973078528#32 * ∑ i : Fin 512, ∑ k : Fin 1024, errAt x g T (ro i) k * errAt x g T (ro i) k := by
  pointwise [k0_pay109]
  simp only [err_at hv hs ho]

end

/-- The gradient of the rows that leave the layer. -/
abbrev G (c : Dev nD) : Vec Ideal S8192x1024 .f32 := fun y =>
  normBwdAt (gradAt (X m c) (S m c) (T m c)) (X m c) (S m c) (fun _ => 0) (y 0) (y 1)

/-- The same in the short format. -/
abbrev Gb (c : Dev nD) : Vec Ideal S8192x1024 .bf16 := fun y =>
  normBwdAt (gradAt (X m c) (S m c) (T m c)) (X m c) (S m c) (fun _ => 0) (y 0) (y 1)

/-- The loss. -/
abbrev L (c : Dev nD) : Vec Ideal S1x1 .f32 := fun _ =>
  Ideal.ofBits .f32 973078528#32 * ∑ i : Fin 8192, ∑ k : Fin 1024, errAt (X m c) (S m c) (T m c) i k * errAt (X m c) (S m c) (T m c) i k

/-- The gradient of the scale. -/
abbrev Gs (c : Dev nD) : Vec Ideal S1x1024 .f32 := fun y => scaleBwdAt (gradAt (X m c) (S m c) (T m c)) (X m c) (y 1)

theorem target_at (c : Dev nD) (t : Fin cfg0.N) (i : Fin 512) (j : Fin 1024) : iblk m c 7 t (ix2 i j) = T m c (ix2 (row t i) j) :=
  blk7 m c t (ix2 i j)

/-- The sums before the last strip. -/
abbrev s10 (c : Dev nD) (t : Fin cfg0.N) : FVec Ideal S512x1024 .f32 := sums m c t 10 (by decide)
/-- The last strip's gate, value and rows of the weight. -/
abbrev ga (c : Dev nD) (t : Fin cfg0.N) : FVec Ideal S512x256 .f32 := cv m c t (10 * 256) (by decide)
abbrev gv (c : Dev nD) (t : Fin cfg0.N) : FVec Ideal S512x256 .f32 := cv m c t (2816 + 10 * 256) (by decide)
abbrev gw (c : Dev nD) (t : Fin cfg0.N) : Vec Ideal S256x1024 .bf16 := wr m c t (10 * 256) (by decide)

theorem point8 (c : Dev nD) (t : Fin cfg0.N) (y : S512x1024.Idx) :
    k0_pay103 (s10 m c t) (ga m c t) (gv m c t) (gw m c t) (iblk m c 6 t) (iblk m c 7 t) y = G m c (((cfg0.win 8).blk t).view.emb y) := by
  rw [emb8 t y]
  exact (congrArg _ (eq_ix2 y)).trans (back_at (sums_all m c t) (blk6 m c t) (target_at m c t) (y 0) (y 1))

theorem point9 (c : Dev nD) (t : Fin cfg0.N) (y : S512x1024.Idx) :
    k0_pay105 (k0_pay103 (s10 m c t) (ga m c t) (gv m c t) (gw m c t) (iblk m c 6 t) (iblk m c 7 t)) y = Gb m c (((cfg0.win 9).blk t).view.emb y) := by
  rw [emb9 t y]
  exact (congrArg (k0_pay103 (s10 m c t) (ga m c t) (gv m c t) (gw m c t) (iblk m c 6 t) (iblk m c 7 t)) (eq_ix2 y)).trans
    (back_at (sums_all m c t) (blk6 m c t) (target_at m c t) (y 0) (y 1))

/-- A point's part of the loss. -/
def lossPart (c : Dev nD) (t : Fin cfg0.N) : EReal := Ideal.ofBits .f32 973078528#32
  * ∑ i : Fin 512, ∑ k : Fin 1024, errAt (X m c) (S m c) (T m c) (row t i) k * errAt (X m c) (S m c) (T m c) (row t i) k

/-- A point's part of the gradient of the scale. -/
def scalePart (c : Dev nD) (t : Fin cfg0.N) (j : Fin 1024) : EReal :=
  ∑ i : Fin 512, gradAt (X m c) (S m c) (T m c) (row t i) j * (X m c (ix2 (row t i) j) * rmsAt (X m c) (row t i))

theorem point10 (c : Dev nD) (t : Fin cfg0.N) (w : Vec Ideal S1x1 .f32) (j : S1x1.Idx) :
    k0_pay109 (k0_pay101 (s10 m c t) (ga m c t) (gv m c t) (gw m c t) (iblk m c 6 t) (iblk m c 7 t)) w j = w j + lossPart m c t :=
  loss_at (sums_all m c t) (blk6 m c t) (target_at m c t) w j

theorem point11 (c : Dev nD) (t : Fin cfg0.N) (w : Vec Ideal S1x1024 .f32) (j : S1x1024.Idx) :
    k0_pay108 (k0_pay104 (s10 m c t) (ga m c t) (gv m c t) (gw m c t) (iblk m c 6 t) (iblk m c 7 t)) w j = w j + scalePart m c t (j 1) := by
  have e : j = ix2 (0 : Fin 1) (j 1) := (eq_ix2 j).trans (congrArg (ix2 · (j 1)) (Fin.eq_zero (j 0 : Fin 1)))
  rw [e]
  exact scale_at (sums_all m c t) (blk6 m c t) (target_at m c t) w (j 1)

theorem zero10 (j : S1x1.Idx) : k0_pay107 (F := Ideal) j = 0 := by
  pointwise! [k0_pay107]

theorem zero11 (j : S1x1024.Idx) : k0_pay106 (F := Ideal) j = 0 := by
  pointwise! [k0_pay106]

/-- The kernel leaves the gradient of the rows. -/
theorem final8 (c : Dev nD) : (dats m 0 c).arrAt 8 (cfgs 0).N = G m c := by
  refine (dats m 0 c).arrAt_eq_of_covers 8 _ (by decide +kernel) fun t hf y => ?_
  blk_simp; rw [after0_8]
  by_cases h : t.val % 16 = 0
  · rw [outsAt0_A m c t h]; dsimp only; frame_out; exact point8 m c t y
  · rw [outsAt0_B m c t h]; dsimp only; frame_out; exact point8 m c t y

/-- The kernel leaves the same in the short format. -/
theorem final9 (c : Dev nD) : (dats m 0 c).arrAt 9 (cfgs 0).N = Gb m c := by
  refine (dats m 0 c).arrAt_eq_of_covers 9 _ (by decide +kernel) fun t hf y => ?_
  blk_simp; rw [after0_9]
  by_cases h : t.val % 16 = 0
  · rw [outsAt0_A m c t h]; dsimp only; frame_out; exact point9 m c t y
  · rw [outsAt0_B m c t h]; dsimp only; frame_out; exact point9 m c t y

/-- The factor of the loss is a real number that is not negative. -/
theorem word_loss : Ideal.ofBits .f32 973078528#32 = ((1 / 2048 : ℝ) : EReal) := by
  simp [Ideal.ofBits, Ideal.ieee, -EReal.coe_mul, -EReal.coe_neg]; norm_num

/-- The kernel leaves the loss. -/
theorem final10 (c : Dev nD) : (dats m 0 c).arrAt 10 (cfgs 0).N = L m c := by
  refine (dats m 0 c).arrAt_eq_of_after_last 10 t0_15 (by decide +kernel) _ fun j => ?_
  blk_simp
  rw [after0_10, Pipeline.eq_sum_fin_of_reset_step_apply_last (fun n h => (outsAt0 m c n h).2.2.1) 16 (fun _ => 0) (fun t _ => lossPart m c t)
    (fun t h j => by rw [outsAt0_A m c t h]; frame_out; exact (point10 m c t _ j).trans (congrArg (· + _) (zero10 j)))
    (fun t h j => by rw [outsAt0_B m c t h]; frame_out; exact point10 m c t _ j)
    (le_of_eq N_0) t0_15 rfl j, zero_add]
  unfold lossPart L
  rw [word_loss]
  simp only [mul_comm ((1 / 2048 : ℝ) : EReal)]
  rw [sum_mul_real _ _ (by norm_num)]
  refine congrArg (· * _) ?_
  exact Fin.sum_mul_add_congr fun s k hl => rfl

/-- The kernel leaves the gradient of the scale. -/
theorem final11 (c : Dev nD) : (dats m 0 c).arrAt 11 (cfgs 0).N = Gs m c := by
  refine (dats m 0 c).arrAt_eq_of_after_last 11 t0_15 (by decide +kernel) _ fun j => ?_
  blk_simp
  rw [after0_11, Pipeline.eq_sum_fin_of_reset_step_apply_last (fun n h => (outsAt0 m c n h).2.2.2.1) 16 (fun _ => 0) (fun t j => scalePart m c t (j 1))
    (fun t h j => by rw [outsAt0_A m c t h]; frame_out; exact (point11 m c t _ j).trans (congrArg (· + _) (zero11 j)))
    (fun t h j => by rw [outsAt0_B m c t h]; frame_out; exact point11 m c t _ j)
    (le_of_eq N_0) t0_15 rfl j, zero_add]
  exact Fin.sum_mul_add_congr fun s k hl => rfl

/-- The kernel leaves the convolved rows. -/
theorem final12 (c : Dev nD) : (dats m 0 c).arrAt 12 (cfgs 0).N = Gc m c := by
  refine (dats m 0 c).arrAt_eq_of_covers 12 _ (by decide +kernel) fun t hf y => ?_
  blk_simp; rw [after0_12, emb12 t y]
  by_cases h : t.val % 16 = 0
  · rw [outsAt0_A m c t h]; dsimp only; frame_out
    canon_tiles x h
    all_goals first
      | exact strip m c t _ (by decide) x y h0 h1
      | exact strip m c t 0 (by decide) x y h0 (h1.trans (Nat.zero_add _).symm)
  · rw [outsAt0_B m c t h]; dsimp only; frame_out
    canon_tiles x h
    all_goals first
      | exact strip m c t _ (by decide) x y h0 h1
      | exact strip m c t 0 (by decide) x y h0 (h1.trans (Nat.zero_add _).symm)

end Cert.Kernel19Ideal.Val

namespace Cert.Reference19Ideal.Val

open Cert.Reference19Ideal Cert.Reference19Ideal.Gen Cert.Reference19Ideal.Value Idealize.ShloMosaic Idealize.ShloMosaic.TcCoe Idealize.SL.Sem
open Idealize.ShloMosaic.StableHlo Cert.Prod Cert.Conv Cert.KernelIdeal.Val
open Cert.Kernel19Ideal.Val (actAt outAt errAt gradAt)

/-- The rows, sequence by sequence. -/
def seq (p : FVec Ideal S8192x5632 .bf16) : FVec Ideal S2x4096x5632 .bf16 := shapeCast _ p shapeCasts_S8192x5632_S2x4096x5632

theorem seq_at (p : FVec Ideal S8192x5632 .bf16) (n : Fin 2) (t : Fin 4096) (d : Fin 5632) :
    seq p (ix3 n t d) = at2 p (n.val * 4096 + t.val) d.val := by
  refine Eq.trans ?_ (at2_eq p ⟨n.val * 4096 + t.val, by omega⟩ d rfl rfl)
  pointwise [seq]

variable (E : Valuation τ sig (Elt Ideal))

/-- The arguments. -/
abbrev P : FVec Ideal S8192x5632 .bf16 := E (Proc.devRef .tc main_arg0)
abbrev W : FVec Ideal S3x5632 .f32 := E (Proc.devRef .tc main_arg1)
abbrev B : FVec Ideal S1x5632 .f32 := E (Proc.devRef .tc main_arg2)
abbrev U : FVec Ideal S2816x1024 .bf16 := E (Proc.devRef .tc main_arg3)
abbrev R : FVec Ideal S8192x1024 .f32 := E (Proc.devRef .tc main_arg4)
abbrev S : FVec Ideal S1024 .f32 := E (Proc.devRef .tc main_arg5)
abbrev T : FVec Ideal S8192x1024 .f32 := E (Proc.devRef .tc main_arg6)

/-- The rows with two rows of zeros before each sequence. -/
theorem v4_at (n : Fin 2) (u : Fin 4098) (d : Fin 5632) :
    res_main_v4 E (ix3 n u d) = if 2 ≤ u.val then at2 (P E) (n.val * 4096 + (u.val - 2)) d.val else 0 := by
  by_cases h : u.val < 2
  · rw [if_neg (by omega)]
    pointwise [res_main_v4]
    rw [dif_pos h]
  · rw [if_pos (by omega)]
    refine Eq.trans ?_ (seq_at (P E) n ⟨u.val - 2, by omega⟩ d)
    pointwise [res_main_v4, seq]
    rw [dif_neg h]

theorem v30_at (i : Fin 8192) (d : Fin 5632) :
    res_main_v30 E (ix2 i d) = convAt (W E) (B E) (at2 (P E)) i.val d.val := by
  have e : ∀ (s : ℕ) (u : Fin 4098), s ≤ 2 → u.val + s = 2 + i.val % 4096 →
      res_main_v4 E (ix3 (⟨i.val / 4096, by omega⟩ : Fin 2) u d) = past (at2 (P E)) s i.val d.val := fun s u hs hu => by
    rw [v4_at]
    unfold past
    by_cases h : 2 ≤ u.val
    · rw [if_pos h, if_pos (by omega)]
      congr 1
      show i.val / 4096 * 4096 + _ = _
      omega
    · rw [if_neg h, if_neg (by omega)]
  have e0 : past (at2 (P E)) 0 i.val d.val = at2 (P E) i.val d.val := if_pos (Nat.zero_le _)
  pointwise [res_main_v30]
  rw [e 2 _ (le_refl 2) (Nat.add_comm _ _), e 1 _ (by decide) (by show 1 + i.val % 4096 + 1 = _; omega), e 0 _ (by decide) rfl, e0]
  change (B E (ix2 0 d) : EReal) + ((W E (ix2 0 d) : EReal) * _ + (W E (ix2 1 d) : EReal) * _ + (W E (ix2 2 d) : EReal) * _) = _
  unfold convAt
  rw [at2_eq (B E) 0 d rfl rfl, at2_eq (W E) 0 d rfl rfl, at2_eq (W E) 1 d rfl rfl, at2_eq (W E) 2 d rfl rfl]
  simp only [add_assoc]
  rfl

/-- The rows that leave the layer. -/
abbrev X : FVec Ideal S8192x1024 .f32 := outAt (P E) (W E) (B E) (U E) (R E)

theorem v39_at (i : Fin 8192) (j : Fin 1024) : res_main_v39 E (ix2 i j) = X E (ix2 i j) := by
  pointwise [res_main_v39, res_main_v31]
  refine congrArg (R E (ix2 i j) + ·) (Finset.sum_congr rfl fun d _ => ?_)
  rw [v30_at, v30_at]
  exact congrArg (_ * ·) (at2_eq (U E) d j rfl rfl)

theorem v46_at (i : Fin 8192) : res_main_v46 E (ix2 i 0)
    = Ideal.div (∑ k : Fin 1024, (X E (ix2 i k) : EReal) * X E (ix2 i k)) (Ideal.ofBits .f32 1149239296#32) + Ideal.ofBits .f32 897988541#32 := by
  pointwise [res_main_v46]
  simp only [v39_at]

theorem v47_at (i : Fin 8192) : res_main_v47 E (ix2 i 0) = rmsAt (X E) i := by
  pointwise [res_main_v47]
  rw [v46_at]
  rfl

theorem v52_at (i : Fin 8192) (k : Fin 1024) : res_main_v52 E (ix2 i k) = X E (ix2 i k) * rmsAt (X E) i := by
  pointwise [res_main_v52]
  rw [v39_at, v47_at]

theorem v56_at (i : Fin 8192) (k : Fin 1024) : res_main_v56 E (ix2 i k) = errAt (X E) (S E) (T E) i k := by
  pointwise [res_main_v56, res_main_v53]
  rw [v52_at]
  rfl

theorem word_half : Ideal.ofBits .f32 1056964608#32 = ((1 / 2 : ℝ) : EReal) := by
  simp [Ideal.ofBits, Ideal.ieee, -EReal.coe_mul, -EReal.coe_neg]; norm_num

theorem word_two : Ideal.ofBits .f32 1073741824#32 = ((2 : ℝ) : EReal) := by
  simp [Ideal.ofBits, Ideal.ieee, -EReal.coe_mul, -EReal.coe_neg]; norm_num

theorem word_inv : Ideal.ofBits .f32 981467136#32 = ((1 / 1024 : ℝ) : EReal) := by
  simp [Ideal.ofBits, Ideal.ieee, -EReal.coe_mul, -EReal.coe_neg]; norm_num

theorem div_len (z : EReal) : Ideal.div z ((1024 : ℝ) : EReal) = z * ((1024⁻¹ : ℝ) : EReal) := by
  rw [Ideal.div, if_neg (by norm_num), ← EReal.coe_inv]

/-- Half of twice the difference over the length is the difference times the length's reciprocal. -/
theorem v70_at (i : Fin 8192) (k : Fin 1024) : res_main_v70 E (ix2 i k) = gradAt (X E) (S E) (T E) i k := by
  pointwise [res_main_v70]
  rw [v56_at]
  unfold gradAt
  rw [word_half, word_len, word_two, word_inv, div_len, ← EReal.coe_mul, ← mul_assoc, ← EReal.coe_mul, mul_comm,
    show (1 / 2 * 1024⁻¹ * 2 : ℝ) = 1 / 1024 by norm_num]

theorem v75_at (i : Fin 8192) (k : Fin 1024) : res_main_v75 E (ix2 i k) = gradAt (X E) (S E) (T E) i k * S E (ix1 k) := by
  pointwise [res_main_v75, res_main_v53]
  rw [v70_at]

theorem v86_at (i : Fin 8192) (k : Fin 1024) : res_main_v86 E (ix2 i k)
    = Ideal.div ((∑ j : Fin 1024, X E (ix2 i j) * (gradAt (X E) (S E) (T E) i j * S E (ix1 j))) * (Ideal.ofBits .f32 3204448256#32 * Ideal.div (rmsAt (X E) i)
          (Ideal.div (∑ j : Fin 1024, (X E (ix2 i j) : EReal) * X E (ix2 i j)) (Ideal.ofBits .f32 1149239296#32) + Ideal.ofBits .f32 897988541#32)))
          (Ideal.ofBits .f32 1149239296#32) := by
  pointwise [res_main_v86, Fin.sum_univ_one]
  simp only [v39_at, v75_at]
  rw [v46_at, v47_at]

/-- The reference's gradient of the rows. -/
def grad : FVec Ideal S8192x1024 .f32 :=
  addf (addf (mulf (res_main_v75 E) (broadcastInDim S8192x1024 ![0, 1] bcast_S8192x1_S8192x1024_0_1 (res_main_v47 E)))
    (mulf (res_main_v39 E) (res_main_v86 E))) (mulf (res_main_v86 E) (res_main_v39 E))

theorem grad_at (i : Fin 8192) (k : Fin 1024) :
    grad E (ix2 i k) = normBwdAt (gradAt (X E) (S E) (T E)) (X E) (S E) (fun _ => 0) i k := by
  refine Eq.trans ?_ (normBwdAt_eq _ _ _ _ _ _).symm
  rw [zero_add]
  pointwise [grad]
  rw [v75_at, v47_at, v39_at, v86_at]

/-- The reference's loss. -/
def loss : FVec Ideal S1x1 .f32 :=
  shapeCast _ (mulf (constant S_ .f32 0x3F000000#32) (Host.reduceAdd (Host.divf (Host.reduceAdd (mulf (res_main_v56 E) (res_main_v56 E))
    (constant S_ .f32 0x00000000#32) reducesTo_S8192x1024_S8192_d1 h_S_) (broadcastInDim S8192 ![] bcast_S_S8192 (constant S_ .f32 0x44800000#32)))
    (constant S_ .f32 0x00000000#32) reducesTo_S8192_S_d0 h_S_)) shapeCasts_S_S1x1

theorem loss_at (y : S1x1.Idx) : loss E y = Ideal.ofBits .f32 973078528#32
    * ∑ i : Fin 8192, ∑ k : Fin 1024, errAt (X E) (S E) (T E) i k * errAt (X E) (S E) (T E) i k := by
  pointwise [loss]
  simp only [v56_at]
  rw [word_len, word_half, Cert.Kernel19Ideal.Val.word_loss]
  simp only [div_len]
  rw [sum_mul_real _ _ (by norm_num), mul_comm (Finset.sum _ _), ← mul_assoc, ← EReal.coe_mul]
  rw [show (1 / 2 * 1024⁻¹ : ℝ) = 1 / 2048 by norm_num]

/-- The reference's gradient of the scale. -/
def scale : FVec Ideal S1x1024 .f32 :=
  shapeCast _ (Host.reduceAdd (shapeCast _ (Host.reduceAdd (mulf (res_main_v52 E) (res_main_v70 E)) (constant S_ .f32 0x00000000#32)
    reducesTo_S8192x1024_S1024_d0 h_S_) shapeCasts_S1024_S1x1024) (constant S_ .f32 0x00000000#32) reducesTo_S1x1024_S1024_d0 h_S_)
    shapeCasts_S1024_S1x1024

theorem scale_at (k : Fin 1024) : scale E (ix2 0 k) = scaleBwdAt (gradAt (X E) (S E) (T E)) (X E) k := by
  pointwise [scale, Fin.sum_univ_one]
  simp only [v52_at, v70_at]
  exact Finset.sum_congr rfl fun i _ => mul_comm _ _

end Cert.Reference19Ideal.Val

namespace Cert.Proof

open Idealize.ShloMosaic Idealize.SL.Sem Cert.Prod Cert.Conv
open Cert.Kernel19Ideal.Val (outAt errAt gradAt)

/-- The reference ends with its arguments unchanged; it declares no semaphore. -/
theorem frame_reference19 [Cert.Reference19Ideal.Facts] : Cert.quiescent_Reference19Ideal := fun m ρ _ =>
  (θ_run Cert.Reference19Ideal.defs _ _).mono (fun r h => ⟨fun c => (h c).2.2.2.2.2, Idealize.ShloMosaic.sem_eq_zero_of_no_sems (by decide) r.2⟩)
    (Cert.Reference19Ideal.Value.run (F := Ideal) m ρ)

/-- Kernel and reference leave equal results. -/
theorem algebraic19 : Cert.algebraic_Kernel19Ideal_Reference19Ideal := by
  intro m ρ m' ρ' _ hag
  refine ⟨fun c => Cert.Kernel19Ideal.Val.G m c, fun c => Cert.Kernel19Ideal.Val.Gb m c, fun c => Cert.Kernel19Ideal.Val.L m c,
    fun c => Cert.Kernel19Ideal.Val.Gs m c, fun c => Cert.Kernel19Ideal.Val.Gc m c, ?_, ?_⟩
  · exact (θ_run Cert.Kernel19Ideal.defs _ _).mono (fun r h c => ⟨(h c).1.trans (Cert.Kernel19Ideal.Val.final8 m c),
        (h c).2.1.trans (Cert.Kernel19Ideal.Val.final9 m c), (h c).2.2.1.trans (Cert.Kernel19Ideal.Val.final10 m c),
        (h c).2.2.2.1.trans (Cert.Kernel19Ideal.Val.final11 m c), (h c).2.2.2.2.1.trans (Cert.Kernel19Ideal.Val.final12 m c), (h c).2.2.2.2.2⟩)
      (Cert.Kernel19Ideal.Value.run_blocks (F := Ideal) m ρ)
  · refine (θ_run Cert.Reference19Ideal.defs _ _).mono
      (fun r h c => ⟨(h c).1.trans ?_, (h c).2.1.trans ?_, (h c).2.2.1.trans ?_, (h c).2.2.2.1.trans ?_, (h c).2.2.2.2.1.trans ?_, (h c).2.2.2.2.2⟩)
      (Cert.Reference19Ideal.Value.run (F := Ideal) m' ρ')
    all_goals
      obtain ⟨a0, a1, a2, a3, a4, a5, a6⟩ := hag c
      have hP : Cert.Reference19Ideal.Val.P (StableHlo.launchContents m' c) = Cert.Kernel19Ideal.Val.P m c := a0
      have hW : Cert.Reference19Ideal.Val.W (StableHlo.launchContents m' c) = Cert.Kernel19Ideal.Val.W m c := a1
      have hB : Cert.Reference19Ideal.Val.B (StableHlo.launchContents m' c) = Cert.Kernel19Ideal.Val.B m c := a2
      have hU : Cert.Reference19Ideal.Val.U (StableHlo.launchContents m' c) = Cert.Kernel19Ideal.Val.U m c := a3
      have hR : Cert.Reference19Ideal.Val.R (StableHlo.launchContents m' c) = Cert.Kernel19Ideal.Val.R m c := a4
      have hS : Cert.Reference19Ideal.Val.S (StableHlo.launchContents m' c) = Cert.Kernel19Ideal.Val.S m c := a5
      have hT : Cert.Reference19Ideal.Val.T (StableHlo.launchContents m' c) = Cert.Kernel19Ideal.Val.T m c := a6
      have hX : Cert.Reference19Ideal.Val.X (StableHlo.launchContents m' c) = Cert.Kernel19Ideal.Val.X m c := by
        show outAt _ _ _ _ _ = _
        rw [hP, hW, hB, hU, hR]
      funext y
    · refine (congrArg _ (eq_ix2 y)).trans ((Cert.Reference19Ideal.Val.grad_at _ (y 0) (y 1)).trans ?_)
      rw [hX, hS, hT]
    · refine (congrArg (Cert.Reference19Ideal.Val.grad (StableHlo.launchContents m' c)) (eq_ix2 y)).trans
        ((Cert.Reference19Ideal.Val.grad_at _ (y 0) (y 1)).trans ?_)
      rw [hX, hS, hT]
    · refine (Cert.Reference19Ideal.Val.loss_at _ y).trans ?_
      rw [hX, hS, hT]
    · have e : y = ix2 (0 : Fin 1) (y 1) := (eq_ix2 y).trans (congrArg (ix2 · (y 1)) (Fin.eq_zero (y 0 : Fin 1)))
      refine (congrArg _ e).trans ((Cert.Reference19Ideal.Val.scale_at _ (y 1)).trans ?_)
      rw [hX, hS, hT]
    · refine (congrArg (Cert.Reference19Ideal.Value.res_main_v30 (StableHlo.launchContents m' c)) (eq_ix2 y)).trans
        ((Cert.Reference19Ideal.Val.v30_at _ (y 0) (y 1)).trans ?_)
      rw [hP, hW, hB]

end Cert.Proof

end
-- ==== Proof.SsmIn.lean ====
/- The drive of the state-space mixer: its input times the two parts of the discretised input matrix. -/
module

public import proofs.«01_k».proof.Defs
public import proofs.«01_k».proof.Proof.Prod
public import proofs.«01_k».proof.Proof.Gen.Kernel21Ideal.Value
public import proofs.«01_k».proof.Proof.Gen.Reference21Ideal.Run

@[expose] public section

set_option maxRecDepth 16384

noncomputable section

namespace Cert.Kernel21Ideal.Val

open Cert.Kernel21Ideal Cert.Kernel21Ideal.Gen Idealize.ShloMosaic Idealize.ShloMosaic.TcCoe Idealize.SL.Sem Cert.Prod

variable (m : (ℓ : Loc nD τ sig) → Buf (Elt Ideal) ℓ)

/-- The block indices of the four windows at each point of the grid. -/
theorem idx_val : ∀ t : Fin cfg0.N, win0_0.index t = ![t.val / 8, t.val % 8, 0] ∧ win0_1.index t = ![0, 0]
    ∧ win0_2.index t = ![t.val / 8, 0, t.val % 8, 0] ∧ win0_3.index t = ![t.val / 8, 0, t.val % 8, 0] :=
  (by decide +kernel : ∀ t : Fin grid0.N, _)

/-- The column of the matrix for state `p` of slab `j` of part `r`. -/
abbrev col (r : Fin 2) (j : Fin 8) (p : Fin 128) : Fin 2048 := ⟨(r.val * 8 + j.val) * 128 + p.val, by omega⟩

/-- The mixer's input, the first columns of the projection. -/
abbrev U (c : Dev nD) : FVec Ideal S2x4096x1792 .bf16 := m ((c : Thread nD τ).loc main_arg0)
/-- The discretised input matrix, its real and its imaginary part side by side. -/
abbrev M (c : Dev nD) : Mat .bf16 256 2048 := m ((c : Thread nD τ).loc main_arg1)

/-- A column of the mixer's input as one of the projection. -/
abbrev wide (h : Fin 256) : Fin 1792 := ⟨h.val, by omega⟩

/-- Part `r` of the drive. -/
abbrev G (r : Fin 2) (c : Dev nD) : Vec Ideal S2x8x4096x128 .f32 := fun y =>
  ∑ h : Fin 256, (U m c (ix3 (y 0) (y 2) (wide h)) : EReal) * M m c (ix2 h (col r (y 1) (y 3)))

/-- The sequence of point `t`. -/
abbrev bat (t : Fin cfg0.N) : Fin 2 := ⟨t.val / 8, by have := lt_of_lt_of_eq t.isLt N_0; omega⟩
/-- The position at which row `i` of point `t`'s blocks lies. -/
abbrev row (t : Fin cfg0.N) (i : Fin 512) : Fin 4096 := ⟨t.val % 8 * 512 + i.val, by omega⟩

theorem blk0 (c : Dev nD) (t : Fin cfg0.N) (y : S1x512x256.Idx) :
    iblk m c 0 t y = U m c (ix3 (bat t) (row t (y 1)) (wide (y 2))) := by
  blk_ext [iblk, V, idx_val t]

theorem blk1 (c : Dev nD) (t : Fin cfg0.N) (y : S256x2048.Idx) : iblk m c 1 t y = M m c y := by
  blk_ext [iblk, V, idx_val t]

theorem emb2 (t : Fin cfg0.N) (y : S1x8x512x128.Idx) :
    ((cfg0.win 2).blk t).view.emb y = ix4 (bat t) (y 1) (row t (y 2)) (y 3) := by
  blk_ext [idx_val t]

theorem emb3 (t : Fin cfg0.N) (y : S1x8x512x128.Idx) :
    ((cfg0.win 3).blk t).view.emb y = ix4 (bat t) (y 1) (row t (y 2)) (y 3) := by
  blk_ext [idx_val t]

/-- A term of a point's sum, for the slab `j` of the block and the matrix' column `o + p`, is the array's. -/
theorem term (r : Fin 2) (c : Dev nD) (t : Fin cfg0.N) {j : Fin 8} {i i' : Fin 512} {p : Fin 128} {q : Fin 2048} (hi : i.val = i'.val)
    (hq : q.val = (r.val * 8 + j.val) * 128 + p.val) (h : Fin 256) :
    HMul.hMul (α := EReal) (β := EReal) (γ := EReal) (iblk m c 0 t (ix3 0 i' h)) (iblk m c 1 t (ix2 h q))
      = U m c (ix3 (bat t) (row t i) (wide h)) * M m c (ix2 h (col r j p)) := by
  rw [blk0, blk1, ← Fin.ext hi, show q = col r j p from Fin.ext hq]
  rfl

set_option maxHeartbeats 1600000 in
/-- What a point leaves in its block of the real part. -/
theorem point2 (c : Dev nD) (t : Fin cfg0.N) (y : S1x8x512x128.Idx) :
    out0_2 (iblk m c 0 t) (iblk m c 1 t) y = G m 0 c (((cfg0.win 2).blk t).view.emb y) := by
  rw [emb2 t y]
  canon_tiles x h
  all_goals
    open_payloads
    pointwise [G]
    refine Finset.sum_congr rfl fun k _ => term m 0 c t h2 ?_ k
    simp only [Fin.val_zero, Fin.val_one]
    omega

set_option maxHeartbeats 1600000 in
/-- What a point leaves in its block of the imaginary part. -/
theorem point3 (c : Dev nD) (t : Fin cfg0.N) (y : S1x8x512x128.Idx) :
    out0_3 (iblk m c 0 t) (iblk m c 1 t) y = G m 1 c (((cfg0.win 3).blk t).view.emb y) := by
  rw [emb3 t y]
  canon_tiles x h
  all_goals
    open_payloads
    pointwise [G]
    refine Finset.sum_congr rfl fun k _ => term m 1 c t h2 ?_ k
    simp only [Fin.val_zero, Fin.val_one]
    omega

/-- The kernel leaves the real part. -/
theorem final2 (c : Dev nD) : (dats m 0 c).arrAt 2 (cfgs 0).N = G m 0 c := by
  refine (dats m 0 c).arrAt_eq_of_covers 2 _ (by decide +kernel) fun t hf y => ?_
  blk_simp; rw [after0_2]
  exact point2 m c t y

/-- The kernel leaves the imaginary part. -/
theorem final3 (c : Dev nD) : (dats m 0 c).arrAt 3 (cfgs 0).N = G m 1 c := by
  refine (dats m 0 c).arrAt_eq_of_covers 3 _ (by decide +kernel) fun t hf y => ?_
  blk_simp; rw [after0_3]
  exact point3 m c t y

end Cert.Kernel21Ideal.Val

namespace Cert.Proof

open Idealize.ShloMosaic Idealize.SL.Sem Cert.Prod

/-- The reference ends with its arguments unchanged; it declares no semaphore. -/
theorem frame_reference21 [Cert.Reference21Ideal.Facts] : Cert.quiescent_Reference21Ideal := fun m ρ _ =>
  (θ_run Cert.Reference21Ideal.defs _ _).mono (fun r h => ⟨fun c => (h c).2.2, Idealize.ShloMosaic.sem_eq_zero_of_no_sems (by decide) r.2⟩)
    (Cert.Reference21Ideal.Value.run (F := Ideal) m ρ)

/-- Kernel and reference leave equal results. -/
theorem algebraic21 : Cert.algebraic_Kernel21Ideal_Reference21Ideal := by
  intro m ρ m' ρ' _ hag
  refine ⟨fun c => Cert.Kernel21Ideal.Val.G m 0 c, fun c => Cert.Kernel21Ideal.Val.G m 1 c, ?_, ?_⟩
  · exact (θ_run Cert.Kernel21Ideal.defs _ _).mono (fun r h c => ⟨(h c).1.trans (Cert.Kernel21Ideal.Val.final2 m c),
        (h c).2.1.trans (Cert.Kernel21Ideal.Val.final3 m c), (h c).2.2⟩)
      (Cert.Kernel21Ideal.Value.run_blocks (F := Ideal) m ρ)
  · refine (θ_run Cert.Reference21Ideal.defs _ _).mono (fun r h c => ⟨(h c).1.trans ?_, (h c).2.1.trans ?_, (h c).2.2⟩)
      (Cert.Reference21Ideal.Value.run (F := Ideal) m' ρ')
    all_goals
      obtain ⟨a0, a1⟩ := hag c
      rw [a0, a1]
      funext y
      pointwise [Cert.Kernel21Ideal.Val.G]
      refine Finset.sum_congr rfl fun k _ => (mul_comm _ _).trans (congrArg₂ (· * ·) rfl (congrArg _ (congrArg (ix2 k) (Fin.ext ?_))))
      simp only [Fin.val_zero, Fin.val_one]
      omega

end Cert.Proof

end
-- ==== Proof.SsmOut.lean ====
/- The output of the state-space mixer: the states times the two parts of the output matrix, plus a multiple of the mixer's
   input, through gelu, times the logistic function of its own projection. -/
module

public import proofs.«01_k».proof.Defs
public import proofs.«01_k».proof.Proof.Prod
public import proofs.«01_k».proof.Proof.Gen.Kernel22Ideal.Value
public import proofs.«01_k».proof.Proof.Gen.Reference22Ideal.Run

@[expose] public section

set_option maxRecDepth 16384

noncomputable section

namespace Cert.Kernel22Ideal.Val

open Cert.Kernel22Ideal Cert.Kernel22Ideal.Gen Idealize.ShloMosaic Idealize.ShloMosaic.TcCoe Idealize.SL.Sem Cert.Prod

variable (m : (ℓ : Loc nD τ sig) → Buf (Elt Ideal) ℓ)

/-- One half, as the programs write it. -/
abbrev half : EReal := Ideal.ofBits .f32 1056964608#32
/-- The factor in gelu's hyperbolic tangent. -/
abbrev outer : EReal := Ideal.ofBits .f32 1061962282#32
/-- The factor of the cube in gelu. -/
abbrev inner : EReal := Ideal.ofBits .f32 1027024659#32

/-- Gelu, by its formula with the hyperbolic tangent. -/
def gelu (z : EReal) : EReal :=
  half * z * (1 + Ideal.tanh (outer * (z + inner * z * z * z)))

/-- The states of one position, slab after slab. -/
def cat (h : Vec Ideal S2x8x4096x128 .f32) (b : Fin 2) (s : Fin 4096) (q : ℕ) : EReal :=
  if hq : q < 1024 then h (ix4 b ⟨q / 128, by omega⟩ s ⟨q % 128, by omega⟩) else 0

theorem cat_eq (h : Vec Ideal S2x8x4096x128 .f32) (b : Fin 2) (s : Fin 4096) (j : Fin 8) (k : Fin 128) :
    cat h b s (j.val * 128 + k.val) = h (ix4 b j s k) := by
  unfold cat
  rw [dif_pos (by omega)]
  exact congrArg₂ (fun a b' => h (ix4 b a s b')) (Fin.ext (by show (j.val * 128 + k.val) / 128 = j.val; omega))
    (Fin.ext (by show (j.val * 128 + k.val) % 128 = k.val; omega))

/-- The kernel's first eight slabs, side by side. -/
theorem pay2_at {v0 v1 v2 v3 v4 v5 v6 v7 : Vec Ideal S1x1x512x128 .f32} {f : Fin 512 → ℕ → EReal}
    (h0 : ∀ i k, v0 (ix4 0 0 i k) = f i (0 * 128 + k.val)) (h1 : ∀ i k, v1 (ix4 0 0 i k) = f i (1 * 128 + k.val))
    (h2 : ∀ i k, v2 (ix4 0 0 i k) = f i (2 * 128 + k.val)) (h3 : ∀ i k, v3 (ix4 0 0 i k) = f i (3 * 128 + k.val))
    (h4 : ∀ i k, v4 (ix4 0 0 i k) = f i (4 * 128 + k.val)) (h5 : ∀ i k, v5 (ix4 0 0 i k) = f i (5 * 128 + k.val))
    (h6 : ∀ i k, v6 (ix4 0 0 i k) = f i (6 * 128 + k.val)) (h7 : ∀ i k, v7 (ix4 0 0 i k) = f i (7 * 128 + k.val))
    (i : Fin 512) (q : Fin 1024) : k0_pay2 v0 v1 v2 v3 v4 v5 v6 v7 (ix2 i q) = f i q.val := by
  pointwise [k0_pay2]
  split_ifs
  all_goals
    simp only [h0, h1, h2, h3, h4, h5, h6, h7]
    exact congrArg (f i) (by omega)

/-- The kernel's product of the slabs with the output matrix' real part, less that with its imaginary part. -/
theorem pay5_at {u : FVec Ideal S512x1024 .bf16} {v0 v1 v2 v3 v4 v5 v6 v7 : Vec Ideal S1x1x512x128 .f32}
    (C D : Vec Ideal S1024x256 .bf16) {f g : Fin 512 → ℕ → EReal} (hu : ∀ i q, u (ix2 i q) = g i q.val)
    (h0 : ∀ i k, v0 (ix4 0 0 i k) = f i (0 * 128 + k.val)) (h1 : ∀ i k, v1 (ix4 0 0 i k) = f i (1 * 128 + k.val))
    (h2 : ∀ i k, v2 (ix4 0 0 i k) = f i (2 * 128 + k.val)) (h3 : ∀ i k, v3 (ix4 0 0 i k) = f i (3 * 128 + k.val))
    (h4 : ∀ i k, v4 (ix4 0 0 i k) = f i (4 * 128 + k.val)) (h5 : ∀ i k, v5 (ix4 0 0 i k) = f i (5 * 128 + k.val))
    (h6 : ∀ i k, v6 (ix4 0 0 i k) = f i (6 * 128 + k.val)) (h7 : ∀ i k, v7 (ix4 0 0 i k) = f i (7 * 128 + k.val))
    (i : Fin 512) (d : Fin 256) : k0_pay5 u (k0_pay3 v0) v1 v2 v3 v4 v5 v6 v7 C D (ix2 i d)
      = (∑ q : Fin 1024, g i q.val * C (ix2 q d)) - ∑ q : Fin 1024, f i q.val * D (ix2 q d) := by
  pointwise [k0_pay3, k0_pay5]
  refine congrArg₂ (fun a b : EReal => a - b) (Finset.sum_congr rfl fun q _ => congrArg (fun a : EReal => a * _) (hu i q))
    (Finset.sum_congr rfl fun q _ => congrArg (fun a : EReal => a * _) ?_)
  split_ifs
  all_goals
    simp only [h0, h1, h2, h3, h4, h5, h6, h7]
    exact congrArg (f i) (by omega)

/-- Gelu of the values `z`, times the logistic function of its projection. -/
def gated (z : Fin 256 → EReal) (W : Mat .bf16 256 256) (B : Mat .f32 1 256) (h : Fin 256) : EReal :=
  gelu (z h) * Ideal.logistic ((∑ x : Fin 256, gelu (z x) * W (ix2 x h)) + B (ix2 0 h))

theorem gated_congr {z z' : Fin 256 → EReal} {W W' : Mat .bf16 256 256} {B B' : Mat .f32 1 256} (hz : ∀ x, z x = z' x)
    (hW : ∀ y, W y = W' y) (hB : ∀ y, B y = B' y) (h : Fin 256) : gated z W B h = gated z' W' B' h := by
  rw [funext hz, funext hW, funext hB]

/-- What the kernel makes of the product, the mixer's input and the gate's weights. -/
theorem pay1_at (p : Vec Ideal S1x512x256 .bf16) (s : FVec Ideal S512x256 .f32) (e : Vec Ideal S1x256 .f32) (w : Vec Ideal S256x256 .bf16)
    (b : Vec Ideal S1x256 .f32) (i : Fin 512) (h : Fin 256) :
    k0_pay1 (k0_pay4 p) s e w b (ix3 0 i h) = gated (fun x => s (ix2 i x) + e (ix2 0 x) * p (ix3 0 i x)) w b h := by
  pointwise [k0_pay1, k0_pay4]
  rfl

/-- The block indices of the nine windows at each point of the grid. -/
theorem idx_val : ∀ t : Fin cfg0.N, win0_0.index t = ![t.val / 8, 0, t.val % 8, 0] ∧ win0_1.index t = ![t.val / 8, 0, t.val % 8, 0]
    ∧ win0_2.index t = ![t.val / 8, t.val % 8, 0] ∧ win0_3.index t = ![0, 0] ∧ win0_4.index t = ![0, 0] ∧ win0_5.index t = ![0, 0]
    ∧ win0_6.index t = ![0, 0] ∧ win0_7.index t = ![0, 0] ∧ win0_8.index t = ![t.val / 8, t.val % 8, 0] :=
  (by decide +kernel : ∀ t : Fin grid0.N, _)

/-- The states' real parts. -/
abbrev X (c : Dev nD) : Vec Ideal S2x8x4096x128 .f32 := m ((c : Thread nD τ).loc main_arg0)
/-- The states' imaginary parts. -/
abbrev Y (c : Dev nD) : Vec Ideal S2x8x4096x128 .f32 := m ((c : Thread nD τ).loc main_arg1)
/-- The projection whose first columns are the mixer's input. -/
abbrev U (c : Dev nD) : FVec Ideal S2x4096x1792 .bf16 := m ((c : Thread nD τ).loc main_arg2)
/-- The output matrix' real part. -/
abbrev C (c : Dev nD) : Mat .bf16 1024 256 := m ((c : Thread nD τ).loc main_arg3)
/-- The output matrix' imaginary part. -/
abbrev D (c : Dev nD) : Mat .bf16 1024 256 := m ((c : Thread nD τ).loc main_arg4)
/-- The multiples of the mixer's input. -/
abbrev E (c : Dev nD) : Mat .f32 1 256 := m ((c : Thread nD τ).loc main_arg5)
/-- The gate's weight. -/
abbrev W (c : Dev nD) : Mat .bf16 256 256 := m ((c : Thread nD τ).loc main_arg6)
/-- The gate's bias. -/
abbrev B (c : Dev nD) : Mat .f32 1 256 := m ((c : Thread nD τ).loc main_arg7)

/-- A column of the mixer's input as one of the projection. -/
abbrev wide (h : Fin 256) : Fin 1792 := ⟨h.val, by omega⟩

/-- The output before gelu. -/
def pre (X Y : Vec Ideal S2x8x4096x128 .f32) (U : FVec Ideal S2x4096x1792 .bf16) (C D : Mat .bf16 1024 256) (E : Mat .f32 1 256)
    (b : Fin 2) (s : Fin 4096) (h : Fin 256) : EReal :=
  ((∑ q : Fin 1024, cat X b s q.val * C (ix2 q h)) - ∑ q : Fin 1024, cat Y b s q.val * D (ix2 q h))
    + E (ix2 0 h) * U (ix3 b s (wide h))

/-- The mixer's output. -/
abbrev G (c : Dev nD) : Vec Ideal S2x4096x256 .bf16 := fun y =>
  gated (pre (X m c) (Y m c) (U m c) (C m c) (D m c) (E m c) (y 0) (y 1)) (W m c) (B m c) (y 2)

/-- The sequence of point `t`. -/
abbrev bat (t : Fin cfg0.N) : Fin 2 := ⟨t.val / 8, by have := lt_of_lt_of_eq t.isLt N_0; omega⟩
/-- The position at which row `i` of point `t`'s blocks lies. -/
abbrev row (t : Fin cfg0.N) (i : Fin 512) : Fin 4096 := ⟨t.val % 8 * 512 + i.val, by omega⟩

theorem blk0 (c : Dev nD) (t : Fin cfg0.N) (y : S1x8x512x128.Idx) : iblk m c 0 t y = X m c (ix4 (bat t) (y 1) (row t (y 2)) (y 3)) := by
  blk_ext [iblk, V, idx_val t]

theorem blk1 (c : Dev nD) (t : Fin cfg0.N) (y : S1x8x512x128.Idx) : iblk m c 1 t y = Y m c (ix4 (bat t) (y 1) (row t (y 2)) (y 3)) := by
  blk_ext [iblk, V, idx_val t]

theorem blk2 (c : Dev nD) (t : Fin cfg0.N) (y : S1x512x256.Idx) : iblk m c 2 t y = U m c (ix3 (bat t) (row t (y 1)) (wide (y 2))) := by
  blk_ext [iblk, V, idx_val t]

theorem blk3 (c : Dev nD) (t : Fin cfg0.N) (y : S1024x256.Idx) : iblk m c 3 t y = C m c y := by
  blk_ext [iblk, V, idx_val t]

theorem blk4 (c : Dev nD) (t : Fin cfg0.N) (y : S1024x256.Idx) : iblk m c 4 t y = D m c y := by
  blk_ext [iblk, V, idx_val t]

theorem blk5 (c : Dev nD) (t : Fin cfg0.N) (y : S1x256.Idx) : iblk m c 5 t y = E m c y := by
  blk_ext [iblk, V, idx_val t]

theorem blk6 (c : Dev nD) (t : Fin cfg0.N) (y : S256x256.Idx) : iblk m c 6 t y = W m c y := by
  blk_ext [iblk, V, idx_val t]

theorem blk7 (c : Dev nD) (t : Fin cfg0.N) (y : S1x256.Idx) : iblk m c 7 t y = B m c y := by
  blk_ext [iblk, V, idx_val t]

theorem emb8 (t : Fin cfg0.N) (y : S1x512x256.Idx) : ((cfg0.win 8).blk t).view.emb y = ix3 (bat t) (row t (y 1)) (y 2) := by
  blk_ext [idx_val t]

/-- Slab `j` of a block of states `x` that holds the rows of `h`. -/
theorem slab (h : Vec Ideal S2x8x4096x128 .f32) (t : Fin cfg0.N) {x : Vec Ideal S1x8x512x128 .f32}
    (hx : ∀ y, x y = h (ix4 (bat t) (y 1) (row t (y 2)) (y 3))) (j : Fin 8)
    (inb : ∀ a, (![0, j.val, 0, 0] : Fin 4 → ℕ) a + S1x1x512x128.size a ≤ S1x8x512x128.size a) (i : Fin 512) (k : Fin 128) :
    View.ld x (Rect.unit (s := S1x8x512x128) ![0, j.val, 0, 0] S1x1x512x128.size inb) (ix4 0 0 i k)
      = cat h (bat t) (row t i) (j.val * 128 + k.val) := by
  rw [cat_eq]
  refine (hx _).trans (congrArg h ?_)
  blk_ext
  all_goals simp [LoadRect.idx, Rect.unit]

/-- The first coordinate in an output block is 0. -/
theorem flat (y : S1x512x256.Idx) : y = ix3 0 (y 1) (y 2) :=
  (eq_ix3 y).trans (congrArg (fun a => ix3 a (y 1) (y 2)) (Subsingleton.elim (α := Fin 1) _ _))

/-- What a point leaves in its block. -/
theorem point (c : Dev nD) (t : Fin cfg0.N) (i : Fin 512) (h : Fin 256) :
    out0_8 (iblk m c 0 t) (iblk m c 1 t) (iblk m c 2 t) (iblk m c 3 t) (iblk m c 4 t) (iblk m c 5 t) (iblk m c 6 t) (iblk m c 7 t) (ix3 0 i h)
      = G m c (ix3 (bat t) (row t i) h) := by
  unfold out0_8
  frame_out
  refine (pay1_at _ _ _ _ _ i h).trans (gated_congr (fun x => ?_) (blk6 m c t) (blk7 m c t) h)
  refine congrArg₂ (fun a b : EReal => a + b)
    ((pay5_at _ _ (f := fun i => cat (Y m c) (bat t) (row t i)) (g := fun i => cat (X m c) (bat t) (row t i))
      (pay2_at (slab (X m c) t (blk0 m c t) 0 _) (slab (X m c) t (blk0 m c t) 1 _) (slab (X m c) t (blk0 m c t) 2 _)
        (slab (X m c) t (blk0 m c t) 3 _) (slab (X m c) t (blk0 m c t) 4 _) (slab (X m c) t (blk0 m c t) 5 _)
        (slab (X m c) t (blk0 m c t) 6 _) (slab (X m c) t (blk0 m c t) 7 _))
      (slab (Y m c) t (blk1 m c t) 0 _) (slab (Y m c) t (blk1 m c t) 1 _) (slab (Y m c) t (blk1 m c t) 2 _)
      (slab (Y m c) t (blk1 m c t) 3 _) (slab (Y m c) t (blk1 m c t) 4 _) (slab (Y m c) t (blk1 m c t) 5 _)
      (slab (Y m c) t (blk1 m c t) 6 _) (slab (Y m c) t (blk1 m c t) 7 _) i x).trans ?_)
    (congrArg₂ (fun a b : EReal => a * b) (blk5 m c t _) (blk2 m c t _))
  exact congrArg₂ (fun a b : EReal => a - b) (Finset.sum_congr rfl fun q _ => congrArg (fun a : EReal => _ * a) (blk3 m c t _))
    (Finset.sum_congr rfl fun q _ => congrArg (fun a : EReal => _ * a) (blk4 m c t _))

/-- The kernel leaves the mixer's output. -/
theorem final8 (c : Dev nD) : (dats m 0 c).arrAt 8 (cfgs 0).N = G m c := by
  refine (dats m 0 c).arrAt_eq_of_covers 8 _ (by decide +kernel) fun t hf y => ?_
  blk_simp; rw [after0_8, emb8 t y]
  exact (congrArg _ (flat y)).trans (point m c t (y 1) (y 2))

end Cert.Kernel22Ideal.Val

namespace Cert.Reference22Ideal.Val

open Cert.Reference22Ideal Cert.Reference22Ideal.Gen Idealize.ShloMosaic Idealize.ShloMosaic.TcCoe Idealize.SL.Sem Cert.Prod

/-- The reference's output before gelu. -/
def pre (X Y : FVec Ideal S2x8x4096x128 .f32) (U : FVec Ideal S2x4096x1792 .bf16) (C D : FVec Ideal S1024x256 .bf16)
    (E : FVec Ideal S1x256 .f32) : FVec Ideal S2x4096x256 .f32 :=
  addf (subf (Host.dotGeneral dot_S2x8x4096x128_S8x128x256_S2x4096x256_13_01_02_2_n_n none X (shapeCast _ (extf .f32 C bitsLt_bf16_f32) shapeCasts_S1024x256_S8x128x256)) (Host.dotGeneral dot_S2x8x4096x128_S8x128x256_S2x4096x256_13_01_02_2_n_n none Y (shapeCast _ (extf .f32 D bitsLt_bf16_f32) shapeCasts_S1024x256_S8x128x256))) (mulf (broadcastInDim S2x4096x256 ![0, 1, 2] bcast_S1x1x256_S2x4096x256_0_1_2 (broadcastInDim S1x1x256 ![2] bcast_S256_S1x1x256_2 (shapeCast _ E shapeCasts_S1x256_S256))) (extf .f32 (extractStridedSlice S2x4096x256 ![0, 0, 0] U slices_S2x4096x1792_S2x4096x256_0_0_0) bitsLt_bf16_f32))

/-- The reference's gelu. -/
def act (z : FVec Ideal S2x4096x256 .f32) : FVec Ideal S2x4096x256 .f32 :=
  mulf z (mulf (broadcastInDim S2x4096x256 ![] bcast_S_S2x4096x256 (constant S_ .f32 0x3F000000#32)) (addf (broadcastInDim S2x4096x256 ![] bcast_S_S2x4096x256 (constant S_ .f32 0x3F800000#32)) (Host.tanh (mulf (broadcastInDim S2x4096x256 ![] bcast_S_S2x4096x256 (constant S_ .f32 0x3F4C422A#32)) (addf z (mulf (broadcastInDim S2x4096x256 ![] bcast_S_S2x4096x256 (constant S_ .f32 0x3D372713#32)) (mulf (mulf z z) z)))))))

/-- The reference's gate, on the values `z`. -/
def out (z : FVec Ideal S2x4096x256 .f32) (W : FVec Ideal S256x256 .bf16) (B : FVec Ideal S1x256 .f32) : FVec Ideal S2x4096x256 .bf16 :=
  truncf .bf16 (mulf z (Host.divf (broadcastInDim S2x4096x256 ![] bcast_S_S2x4096x256 (constant S_ .f32 0x3F800000#32)) (addf (broadcastInDim S2x4096x256 ![] bcast_S_S2x4096x256 (constant S_ .f32 0x3F800000#32)) (Host.exp (Host.negf (addf (Host.dotGeneral dot_S2x4096x256_S256x256_S2x4096x256_2_0_01_1_n_n none z (extf .f32 W bitsLt_bf16_f32)) (broadcastInDim S2x4096x256 ![0, 1, 2] bcast_S1x1x256_S2x4096x256_0_1_2 (broadcastInDim S1x1x256 ![2] bcast_S256_S1x1x256_2 (shapeCast _ B shapeCasts_S1x256_S256))))))))) bitsLt_bf16_f32

/-- A sum over the slabs of states and the states of a slab is one over all states. -/
theorem sum_cat (X : FVec Ideal S2x8x4096x128 .f32) (C : Mat .bf16 1024 256) (b : Fin 2) (s : Fin 4096) (h : Fin 256)
    {f : Fin 8 → Fin 128 → EReal} (hf : ∀ j k, f j k = C (ix2 ⟨j.val * 128 + k.val, by omega⟩ h)) :
    ∑ j : Fin 8, ∑ k : Fin 128, HMul.hMul (α := EReal) (β := EReal) (γ := EReal) (X (ix4 b j s k)) (f j k)
      = ∑ q : Fin 1024, HMul.hMul (α := EReal) (β := EReal) (γ := EReal) (Cert.Kernel22Ideal.Val.cat X b s q.val) (C (ix2 q h)) :=
  Fin.sum_mul_add_congr fun j k hl => by
    rw [hf, Cert.Kernel22Ideal.Val.cat_eq]

theorem pre_at (X Y : FVec Ideal S2x8x4096x128 .f32) (U : FVec Ideal S2x4096x1792 .bf16) (C D : Mat .bf16 1024 256)
    (E : Mat .f32 1 256) (b : Fin 2) (s : Fin 4096) (h : Fin 256) :
    pre X Y U C D E (ix3 b s h) = Cert.Kernel22Ideal.Val.pre X Y U C D E b s h := by
  pointwise [pre]
  refine congrArg₂ (fun a b : EReal => a + b) (congrArg₂ (fun a b : EReal => a - b) (sum_cat X C b s h fun j k => ?_)
    (sum_cat Y D b s h fun j k => ?_)) rfl
  all_goals rfl

theorem act_at (z : FVec Ideal S2x4096x256 .f32) (y : S2x4096x256.Idx) : act z y = Cert.Kernel22Ideal.Val.gelu (z y) := by
  pointwise [act]
  unfold Cert.Kernel22Ideal.Val.gelu
  simp only [mul_assoc]
  exact mul_left_comm _ _ _

theorem out_at (z : FVec Ideal S2x4096x256 .f32) (W : Mat .bf16 256 256) (B : Mat .f32 1 256) (b : Fin 2) (s : Fin 4096) (h : Fin 256) :
    out (act z) W B (ix3 b s h) = Cert.Kernel22Ideal.Val.gated (fun x => z (ix3 b s x)) W B h := by
  pointwise [out]
  simp only [act_at]
  rfl

end Cert.Reference22Ideal.Val

namespace Cert.Proof

open Idealize.ShloMosaic Idealize.SL.Sem Cert.Prod

/-- The reference ends with its arguments unchanged; it declares no semaphore. -/
theorem frame_reference22 [Cert.Reference22Ideal.Facts] : Cert.quiescent_Reference22Ideal := fun m ρ _ =>
  (θ_run Cert.Reference22Ideal.defs _ _).mono (fun r h => ⟨fun c => (h c).2, Idealize.ShloMosaic.sem_eq_zero_of_no_sems (by decide) r.2⟩)
    (Cert.Reference22Ideal.Value.run (F := Ideal) m ρ)

/-- Kernel and reference leave equal results. -/
theorem algebraic22 : Cert.algebraic_Kernel22Ideal_Reference22Ideal := by
  intro m ρ m' ρ' _ hag
  refine ⟨fun c => Cert.Kernel22Ideal.Val.G m c, ?_, ?_⟩
  · exact (θ_run Cert.Kernel22Ideal.defs _ _).mono (fun r h c => ⟨(h c).1.trans (Cert.Kernel22Ideal.Val.final8 m c), (h c).2⟩)
      (Cert.Kernel22Ideal.Value.run_blocks (F := Ideal) m ρ)
  · refine (θ_run Cert.Reference22Ideal.defs _ _).mono (fun r h c => ⟨(h c).1.trans ?_, (h c).2⟩)
      (Cert.Reference22Ideal.Value.run (F := Ideal) m' ρ')
    obtain ⟨a0, a1, a2, a3, a4, a5, a6, a7⟩ := hag c
    refine (?_ : _ = Cert.Reference22Ideal.Val.out (Cert.Reference22Ideal.Val.act (Cert.Reference22Ideal.Val.pre _ _ _ _ _ _)) _ _).trans
      (funext fun y => Eq.trans (congrArg _ (eq_ix3 y)) ((Cert.Reference22Ideal.Val.out_at _ _ _ (y 0) (y 1) (y 2)).trans
        (Cert.Kernel22Ideal.Val.gated_congr (fun x => Cert.Reference22Ideal.Val.pre_at _ _ _ _ _ _ (y 0) (y 1) x) (fun _ => rfl) (fun _ => rfl) (y 2))))
    unfold Cert.Reference22Ideal.Value.res_main_v40
    rw [a0, a1, a2, a3, a4, a5, a6, a7]
    rfl

end Cert.Proof

end
-- ==== Proof.SsmPrep.lean ====
/- The numbers of the discretised state space: the multiplier of the states and the factor of the input matrix. -/
module

public import proofs.«01_k».proof.Defs
public import proofs.«01_k».proof.Proof.Prod
public import proofs.«01_k».proof.Proof.Gen.Kernel23Ideal.Value
public import proofs.«01_k».proof.Proof.Gen.Reference23Ideal.Run

@[expose] public section

set_option maxRecDepth 16384

noncomputable section

namespace Cert.Kernel23Ideal.Val

open Cert.Kernel23Ideal Cert.Kernel23Ideal.Gen Idealize.ShloMosaic Idealize.ShloMosaic.TcCoe Idealize.SL.Sem Cert.Prod

variable (m : (ℓ : Loc nD τ sig) → Buf (Elt Ideal) ℓ)

/-- The real parts of the continuous multipliers. -/
abbrev A0 (c : Dev nD) : Mat .f32 16 64 := m ((c : Thread nD τ).loc main_arg0)
/-- Their imaginary parts. -/
abbrev A1 (c : Dev nD) : Mat .f32 16 64 := m ((c : Thread nD τ).loc main_arg1)
/-- The logarithms of the steps. -/
abbrev A2 (c : Dev nD) : Mat .f32 16 1 := m ((c : Thread nD τ).loc main_arg2)

/-- The real part of a continuous multiplier, below its bound. -/
def re (a : EReal) : EReal := min a (Ideal.ofBits .f32 0xB8D1B717#32)
/-- The real part of the discrete multiplier. -/
def mulRe (a b l : EReal) : EReal := Ideal.exp (re a * Ideal.exp l) * Ideal.cos (b * Ideal.exp l)
/-- The imaginary part of the discrete multiplier. -/
def mulIm (a b l : EReal) : EReal := Ideal.exp (re a * Ideal.exp l) * Ideal.sin (b * Ideal.exp l)
/-- The real part of the input matrix' factor. -/
def facRe (a b l : EReal) : EReal := Ideal.div ((mulRe a b l - 1) * re a + mulIm a b l * b) (re a * re a + b * b)
/-- The imaginary part of the input matrix' factor. -/
def facIm (a b l : EReal) : EReal := Ideal.div (mulIm a b l * re a - (mulRe a b l - 1) * b) (re a * re a + b * b)

/-- A function of the three arguments, entry by entry. -/
abbrev G (f : EReal → EReal → EReal → EReal) (c : Dev nD) : Vec Ideal S16x64 .f32 := fun y =>
  f (A0 m c (ix2 (y 0) (y 1))) (A1 m c (ix2 (y 0) (y 1))) (A2 m c (ix2 (y 0) 0))

/-- The block indices of the windows: every array is one block. -/
theorem idx_val : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

theorem blk0 (c : Dev nD) (t : Fin cfg0.N) (y : S16x64.Idx) : iblk m c 0 t y = A0 m c y := by
  blk_ext [iblk, V, idx_val t]

theorem blk1 (c : Dev nD) (t : Fin cfg0.N) (y : S16x64.Idx) : iblk m c 1 t y = A1 m c y := by
  blk_ext [iblk, V, idx_val t]

theorem blk2 (c : Dev nD) (t : Fin cfg0.N) (y : S16x1.Idx) : iblk m c 2 t y = A2 m c y := by
  blk_ext [iblk, V, idx_val t]

theorem emb3 (t : Fin cfg0.N) (y : S16x64.Idx) : ((cfg0.win 3).blk t).view.emb y = y := by
  blk_ext [idx_val t]

theorem emb4 (t : Fin cfg0.N) (y : S16x64.Idx) : ((cfg0.win 4).blk t).view.emb y = y := by
  blk_ext [idx_val t]

theorem emb5 (t : Fin cfg0.N) (y : S16x64.Idx) : ((cfg0.win 5).blk t).view.emb y = y := by
  blk_ext [idx_val t]

theorem emb6 (t : Fin cfg0.N) (y : S16x64.Idx) : ((cfg0.win 6).blk t).view.emb y = y := by
  blk_ext [idx_val t]

theorem point3 (c : Dev nD) (t : Fin cfg0.N) (y : S16x64.Idx) :
    out0_3 (iblk m c 0 t) (iblk m c 1 t) (iblk m c 2 t) y = G m mulRe c y := by
  unfold out0_3
  frame_out
  pointwise [k0_pay1, k0_pay2, k0_pay3, k0_pay4, k0_pay5, k0_pay6, k0_pay7, k0_pay8, k0_pay9]
  rw [blk0, blk1, blk2, eq_ix2 y]
  rfl

/-- The kernel leaves the discrete multipliers' real parts. -/
theorem final3 (c : Dev nD) : (dats m 0 c).arrAt 3 (cfgs 0).N = G m mulRe c := by
  refine (dats m 0 c).arrAt_eq_of_covers 3 _ (by decide +kernel) fun t hf y => ?_
  blk_simp; rw [after0_3, emb3 t y]
  exact point3 m c t y

theorem point4 (c : Dev nD) (t : Fin cfg0.N) (y : S16x64.Idx) :
    out0_4 (iblk m c 0 t) (iblk m c 1 t) (iblk m c 2 t) y = G m mulIm c y := by
  unfold out0_4
  frame_out
  pointwise [k0_pay1, k0_pay2, k0_pay3, k0_pay4, k0_pay5, k0_pay6, k0_pay7, k0_pay8, k0_pay9]
  rw [blk0, blk1, blk2, eq_ix2 y]
  rfl

/-- The kernel leaves their imaginary parts. -/
theorem final4 (c : Dev nD) : (dats m 0 c).arrAt 4 (cfgs 0).N = G m mulIm c := by
  refine (dats m 0 c).arrAt_eq_of_covers 4 _ (by decide +kernel) fun t hf y => ?_
  blk_simp; rw [after0_4, emb4 t y]
  exact point4 m c t y

theorem point5 (c : Dev nD) (t : Fin cfg0.N) (y : S16x64.Idx) :
    out0_5 (iblk m c 0 t) (iblk m c 1 t) (iblk m c 2 t) y = G m facRe c y := by
  unfold out0_5
  frame_out
  pointwise [k0_pay1, k0_pay2, k0_pay3, k0_pay4, k0_pay5, k0_pay6, k0_pay7, k0_pay8, k0_pay9]
  rw [blk0, blk1, blk2, eq_ix2 y]
  rfl

/-- The kernel leaves the factors' real parts. -/
theorem final5 (c : Dev nD) : (dats m 0 c).arrAt 5 (cfgs 0).N = G m facRe c := by
  refine (dats m 0 c).arrAt_eq_of_covers 5 _ (by decide +kernel) fun t hf y => ?_
  blk_simp; rw [after0_5, emb5 t y]
  exact point5 m c t y

theorem point6 (c : Dev nD) (t : Fin cfg0.N) (y : S16x64.Idx) :
    out0_6 (iblk m c 0 t) (iblk m c 1 t) (iblk m c 2 t) y = G m facIm c y := by
  unfold out0_6
  frame_out
  pointwise [k0_pay1, k0_pay2, k0_pay3, k0_pay4, k0_pay5, k0_pay6, k0_pay7, k0_pay8, k0_pay9]
  rw [blk0, blk1, blk2, eq_ix2 y]
  rfl

/-- The kernel leaves their imaginary parts. -/
theorem final6 (c : Dev nD) : (dats m 0 c).arrAt 6 (cfgs 0).N = G m facIm c := by
  refine (dats m 0 c).arrAt_eq_of_covers 6 _ (by decide +kernel) fun t hf y => ?_
  blk_simp; rw [after0_6, emb6 t y]
  exact point6 m c t y

end Cert.Kernel23Ideal.Val

namespace Cert.Proof

open Idealize.ShloMosaic Idealize.SL.Sem Cert.Prod

/-- The reference ends with its arguments unchanged; it declares no semaphore. -/
theorem frame_reference23 [Cert.Reference23Ideal.Facts] : Cert.quiescent_Reference23Ideal := fun m ρ _ =>
  (θ_run Cert.Reference23Ideal.defs _ _).mono (fun r h => ⟨fun c => (h c).2.2.2.2, Idealize.ShloMosaic.sem_eq_zero_of_no_sems (by decide) r.2⟩)
    (Cert.Reference23Ideal.Value.run (F := Ideal) m ρ)

/-- Kernel and reference leave equal results. -/
theorem algebraic23 : Cert.algebraic_Kernel23Ideal_Reference23Ideal := by
  intro m ρ m' ρ' _ hag
  refine ⟨fun c => Cert.Kernel23Ideal.Val.G m Cert.Kernel23Ideal.Val.mulRe c, fun c => Cert.Kernel23Ideal.Val.G m Cert.Kernel23Ideal.Val.mulIm c, fun c => Cert.Kernel23Ideal.Val.G m Cert.Kernel23Ideal.Val.facRe c, fun c => Cert.Kernel23Ideal.Val.G m Cert.Kernel23Ideal.Val.facIm c, ?_, ?_⟩
  · exact (θ_run Cert.Kernel23Ideal.defs _ _).mono (fun r h c => ⟨(h c).1.trans (Cert.Kernel23Ideal.Val.final3 m c), (h c).2.1.trans (Cert.Kernel23Ideal.Val.final4 m c), (h c).2.2.1.trans (Cert.Kernel23Ideal.Val.final5 m c), (h c).2.2.2.1.trans (Cert.Kernel23Ideal.Val.final6 m c), (h c).2.2.2.2⟩)
      (Cert.Kernel23Ideal.Value.run_blocks (F := Ideal) m ρ)
  · refine (θ_run Cert.Reference23Ideal.defs _ _).mono (fun r h c => ⟨(h c).1.trans ?_, (h c).2.1.trans ?_, (h c).2.2.1.trans ?_, (h c).2.2.2.1.trans ?_, (h c).2.2.2.2⟩)
      (Cert.Reference23Ideal.Value.run (F := Ideal) m' ρ')
    all_goals
      obtain ⟨a0, a1, a2⟩ := hag c
      rw [a0, a1, a2]
      funext y
      pointwise [Cert.Kernel23Ideal.Val.G]
      rw [eq_ix2 y]
      rfl

end Cert.Proof

end
-- ==== Proof.SsmMatrix.lean ====
/- The discretised input matrix, its real part beside its imaginary part. -/
module

public import proofs.«01_k».proof.Defs
public import proofs.«01_k».proof.Proof.Prod
public import proofs.«01_k».proof.Proof.Gen.Kernel24Ideal.Value
public import proofs.«01_k».proof.Proof.Gen.Reference24Ideal.Run

@[expose] public section

set_option maxRecDepth 16384

noncomputable section

namespace Cert.Kernel24Ideal.Val

open Cert.Kernel24Ideal Cert.Kernel24Ideal.Gen Idealize.ShloMosaic Idealize.ShloMosaic.TcCoe Idealize.SL.Sem Cert.Prod

variable (m : (ℓ : Loc nD τ sig) → Buf (Elt Ideal) ℓ)

/-- The factors' real parts. -/
abbrev A0 (c : Dev nD) : Mat .f32 1 1024 := m ((c : Thread nD τ).loc main_arg0)
/-- Their imaginary parts. -/
abbrev A1 (c : Dev nD) : Mat .f32 1 1024 := m ((c : Thread nD τ).loc main_arg1)
/-- The matrix' real part. -/
abbrev A2 (c : Dev nD) : Mat .f32 256 1024 := m ((c : Thread nD τ).loc main_arg2)
/-- Its imaginary part. -/
abbrev A3 (c : Dev nD) : Mat .f32 256 1024 := m ((c : Thread nD τ).loc main_arg3)

/-- An entry of the discretised matrix' real part. -/
def reAt (c : Dev nD) (i : Fin 256) (j : Fin 1024) : EReal :=
  A0 m c (ix2 0 j) * A2 m c (ix2 i j) - A1 m c (ix2 0 j) * A3 m c (ix2 i j)
/-- An entry of its imaginary part. -/
def imAt (c : Dev nD) (i : Fin 256) (j : Fin 1024) : EReal :=
  A0 m c (ix2 0 j) * A3 m c (ix2 i j) + A1 m c (ix2 0 j) * A2 m c (ix2 i j)

/-- The discretised matrix. -/
abbrev G (c : Dev nD) : Vec Ideal S256x2048 .bf16 := fun y =>
  if h : (y 1).val < 1024 then reAt m c (y 0) ⟨(y 1).val, h⟩
  else imAt m c (y 0) ⟨(y 1).val - 1024, by have : (y 1).val < 2048 := (y 1).isLt; omega⟩

/-- The block indices of the windows: every array is one block. -/
theorem idx_val : ∀ t : Fin cfg0.N, win0_0.index t = ![0, 0]
    ∧ win0_1.index t = ![0, 0]
    ∧ win0_2.index t = ![0, 0]
    ∧ win0_3.index t = ![0, 0]
    ∧ win0_4.index t = ![0, 0] :=
  (by decide +kernel : ∀ t : Fin grid0.N, _)

theorem blk0 (c : Dev nD) (t : Fin cfg0.N) (y : S1x1024.Idx) : iblk m c 0 t y = A0 m c y := by
  blk_ext [iblk, V, idx_val t]

theorem blk1 (c : Dev nD) (t : Fin cfg0.N) (y : S1x1024.Idx) : iblk m c 1 t y = A1 m c y := by
  blk_ext [iblk, V, idx_val t]

theorem blk2 (c : Dev nD) (t : Fin cfg0.N) (y : S256x1024.Idx) : iblk m c 2 t y = A2 m c y := by
  blk_ext [iblk, V, idx_val t]

theorem blk3 (c : Dev nD) (t : Fin cfg0.N) (y : S256x1024.Idx) : iblk m c 3 t y = A3 m c y := by
  blk_ext [iblk, V, idx_val t]

theorem emb4 (t : Fin cfg0.N) (y : S256x2048.Idx) : ((cfg0.win 4).blk t).view.emb y = y := by
  blk_ext [idx_val t]

/-- What the kernel leaves in its block. -/
theorem point (c : Dev nD) (t : Fin cfg0.N) (y : S256x2048.Idx) :
    out0_4 (iblk m c 0 t) (iblk m c 1 t) (iblk m c 2 t) (iblk m c 3 t) y = G m c y := by
  canon_tiles x h
  · open_payloads
    pointwise [G]
    rw [blk0, blk1, blk2, blk3, dif_neg (by omega)]
    refine Eq.trans (b := imAt m c (x 0) (x 1)) ?_ (congrArg₂ (imAt m c) (Fin.ext h0.symm) (Fin.ext ?_))
    · rw [eq_ix2 x]
      rfl
    · show (x 1).val = (y 1).val - 1024
      omega
  · open_payloads
    pointwise [G]
    rw [blk0, blk1, blk2, blk3, dif_pos (by omega)]
    refine Eq.trans (b := reAt m c (x 0) (x 1)) ?_ (congrArg₂ (reAt m c) (Fin.ext h0.symm) (Fin.ext ?_))
    · rw [eq_ix2 x]
      rfl
    · show (x 1).val = (y 1).val
      omega

/-- The kernel leaves the discretised matrix. -/
theorem final4 (c : Dev nD) : (dats m 0 c).arrAt 4 (cfgs 0).N = G m c := by
  refine (dats m 0 c).arrAt_eq_of_covers 4 _ (by decide +kernel) fun t hf y => ?_
  blk_simp; rw [after0_4, emb4 t y]
  exact point m c t y

end Cert.Kernel24Ideal.Val

namespace Cert.Proof

open Idealize.ShloMosaic Idealize.SL.Sem Cert.Prod

/-- The reference ends with its arguments unchanged; it declares no semaphore. -/
theorem frame_reference24 [Cert.Reference24Ideal.Facts] : Cert.quiescent_Reference24Ideal := fun m ρ _ =>
  (θ_run Cert.Reference24Ideal.defs _ _).mono (fun r h => ⟨fun c => (h c).2, Idealize.ShloMosaic.sem_eq_zero_of_no_sems (by decide) r.2⟩)
    (Cert.Reference24Ideal.Value.run (F := Ideal) m ρ)

/-- Kernel and reference leave equal results. -/
theorem algebraic24 : Cert.algebraic_Kernel24Ideal_Reference24Ideal := by
  intro m ρ m' ρ' _ hag
  refine ⟨fun c => Cert.Kernel24Ideal.Val.G m c, ?_, ?_⟩
  · exact (θ_run Cert.Kernel24Ideal.defs _ _).mono (fun r h c => ⟨(h c).1.trans (Cert.Kernel24Ideal.Val.final4 m c), (h c).2⟩)
      (Cert.Kernel24Ideal.Value.run_blocks (F := Ideal) m ρ)
  · refine (θ_run Cert.Reference24Ideal.defs _ _).mono (fun r h c => ⟨(h c).1.trans ?_, (h c).2⟩)
      (Cert.Reference24Ideal.Value.run (F := Ideal) m' ρ')
    all_goals
      obtain ⟨a0, a1, a2, a3⟩ := hag c
      rw [a0, a1, a2, a3]
      funext y
      pointwise [Cert.Kernel24Ideal.Val.G]
      rfl

end Cert.Proof

end
-- ==== Proof.SsmMatrixBwd.lean ====
/- The gradients of the input matrix and of its factor, from that of the discretised matrix. -/
module

public import proofs.«01_k».proof.Defs
public import proofs.«01_k».proof.Proof.Prod
public import proofs.«01_k».proof.Proof.Gen.Kernel25Ideal.Value
public import proofs.«01_k».proof.Proof.Gen.Reference25Ideal.Run

@[expose] public section

set_option maxRecDepth 16384

noncomputable section

namespace Cert.Kernel25Ideal.Val

open Cert.Kernel25Ideal Cert.Kernel25Ideal.Gen Idealize.ShloMosaic Idealize.ShloMosaic.TcCoe Idealize.SL.Sem Cert.Prod

variable (m : (ℓ : Loc nD τ sig) → Buf (Elt Ideal) ℓ)

/-- The gradient of the discretised matrix, the two parts side by side. -/
abbrev A0 (c : Dev nD) : Mat .f32 256 2048 := m ((c : Thread nD τ).loc main_arg0)
/-- The factors' real parts. -/
abbrev A1 (c : Dev nD) : Mat .f32 1 1024 := m ((c : Thread nD τ).loc main_arg1)
/-- Their imaginary parts. -/
abbrev A2 (c : Dev nD) : Mat .f32 1 1024 := m ((c : Thread nD τ).loc main_arg2)
/-- The matrix' real part. -/
abbrev A3 (c : Dev nD) : Mat .f32 256 1024 := m ((c : Thread nD τ).loc main_arg3)
/-- Its imaginary part. -/
abbrev A4 (c : Dev nD) : Mat .f32 256 1024 := m ((c : Thread nD τ).loc main_arg4)

/-- The gradient of the discretised matrix' real part. -/
abbrev gr (c : Dev nD) (i : Fin 256) (j : Fin 1024) : EReal := A0 m c (ix2 i ⟨j.val, by omega⟩)
/-- The gradient of its imaginary part. -/
abbrev gi (c : Dev nD) (i : Fin 256) (j : Fin 1024) : EReal := A0 m c (ix2 i ⟨1024 + j.val, by omega⟩)

/-- The gradient of the matrix' real part. -/
abbrev G5 (c : Dev nD) : Vec Ideal S256x1024 .f32 := fun y =>
  (A1 m c (ix2 0 (y 1)) * gr m c (y 0) (y 1) + A2 m c (ix2 0 (y 1)) * gi m c (y 0) (y 1) : EReal)
/-- The gradient of the matrix' imaginary part. -/
abbrev G6 (c : Dev nD) : Vec Ideal S256x1024 .f32 := fun y =>
  (A1 m c (ix2 0 (y 1)) * gi m c (y 0) (y 1) - A2 m c (ix2 0 (y 1)) * gr m c (y 0) (y 1) : EReal)
/-- The gradient of the factors' real parts. -/
abbrev G7 (c : Dev nD) : Vec Ideal S1x1024 .f32 := fun y =>
  ∑ x : Fin 256, (gr m c x (y 1) * A3 m c (ix2 x (y 1)) + gi m c x (y 1) * A4 m c (ix2 x (y 1)) : EReal)
/-- The gradient of the factors' imaginary parts. -/
abbrev G8 (c : Dev nD) : Vec Ideal S1x1024 .f32 := fun y =>
  ∑ x : Fin 256, (gi m c x (y 1) * A3 m c (ix2 x (y 1)) - gr m c x (y 1) * A4 m c (ix2 x (y 1)) : EReal)

/-- The block indices of the windows: every array is one block. -/
theorem idx_val : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0] :=
  (by decide +kernel : ∀ t : Fin grid0.N, _)

theorem blk0 (c : Dev nD) (t : Fin cfg0.N) (y : S256x2048.Idx) : iblk m c 0 t y = A0 m c y := by
  blk_ext [iblk, V, idx_val t]

theorem blk1 (c : Dev nD) (t : Fin cfg0.N) (y : S1x1024.Idx) : iblk m c 1 t y = A1 m c y := by
  blk_ext [iblk, V, idx_val t]

theorem blk2 (c : Dev nD) (t : Fin cfg0.N) (y : S1x1024.Idx) : iblk m c 2 t y = A2 m c y := by
  blk_ext [iblk, V, idx_val t]

theorem blk3 (c : Dev nD) (t : Fin cfg0.N) (y : S256x1024.Idx) : iblk m c 3 t y = A3 m c y := by
  blk_ext [iblk, V, idx_val t]

theorem blk4 (c : Dev nD) (t : Fin cfg0.N) (y : S256x1024.Idx) : iblk m c 4 t y = A4 m c y := by
  blk_ext [iblk, V, idx_val t]

theorem emb5 (t : Fin cfg0.N) (y : S256x1024.Idx) : ((cfg0.win 5).blk t).view.emb y = y := by
  blk_ext [idx_val t]

theorem emb6 (t : Fin cfg0.N) (y : S256x1024.Idx) : ((cfg0.win 6).blk t).view.emb y = y := by
  blk_ext [idx_val t]

theorem emb7 (t : Fin cfg0.N) (y : S1x1024.Idx) : ((cfg0.win 7).blk t).view.emb y = y := by
  blk_ext [idx_val t]

theorem emb8 (t : Fin cfg0.N) (y : S1x1024.Idx) : ((cfg0.win 8).blk t).view.emb y = y := by
  blk_ext [idx_val t]

theorem point5 (c : Dev nD) (t : Fin cfg0.N) (y : S256x1024.Idx) :
    out0_5 (iblk m c 0 t) (iblk m c 1 t) (iblk m c 2 t) (iblk m c 3 t) (iblk m c 4 t) y = G5 m c y := by
  unfold out0_5
  frame_out
  rw [eq_ix2 y]
  pointwise [k0_pay1, G5]
  simp only [blk0, blk1, blk2, blk3, blk4]
  try rfl

/-- The kernel leaves the gradient of the matrix' real part. -/
theorem final5 (c : Dev nD) : (dats m 0 c).arrAt 5 (cfgs 0).N = G5 m c := by
  refine (dats m 0 c).arrAt_eq_of_covers 5 _ (by decide +kernel) fun t hf y => ?_
  blk_simp; rw [after0_5, emb5 t y]
  exact point5 m c t y

theorem point6 (c : Dev nD) (t : Fin cfg0.N) (y : S256x1024.Idx) :
    out0_6 (iblk m c 0 t) (iblk m c 1 t) (iblk m c 2 t) (iblk m c 3 t) (iblk m c 4 t) y = G6 m c y := by
  unfold out0_6
  frame_out
  rw [eq_ix2 y]
  pointwise [k0_pay2, G6]
  simp only [blk0, blk1, blk2, blk3, blk4]
  try rfl

/-- The kernel leaves that of its imaginary part. -/
theorem final6 (c : Dev nD) : (dats m 0 c).arrAt 6 (cfgs 0).N = G6 m c := by
  refine (dats m 0 c).arrAt_eq_of_covers 6 _ (by decide +kernel) fun t hf y => ?_
  blk_simp; rw [after0_6, emb6 t y]
  exact point6 m c t y

theorem point7 (c : Dev nD) (t : Fin cfg0.N) (y : S1x1024.Idx) :
    out0_7 (iblk m c 0 t) (iblk m c 1 t) (iblk m c 2 t) (iblk m c 3 t) (iblk m c 4 t) y = G7 m c y := by
  unfold out0_7
  frame_out
  rw [eq_ix2 y]
  pointwise [k0_pay3, G7]
  simp only [blk0, blk1, blk2, blk3, blk4]
  try rfl

/-- The kernel leaves the gradient of the factors' real parts. -/
theorem final7 (c : Dev nD) : (dats m 0 c).arrAt 7 (cfgs 0).N = G7 m c := by
  refine (dats m 0 c).arrAt_eq_of_covers 7 _ (by decide +kernel) fun t hf y => ?_
  blk_simp; rw [after0_7, emb7 t y]
  exact point7 m c t y

theorem point8 (c : Dev nD) (t : Fin cfg0.N) (y : S1x1024.Idx) :
    out0_8 (iblk m c 0 t) (iblk m c 1 t) (iblk m c 2 t) (iblk m c 3 t) (iblk m c 4 t) y = G8 m c y := by
  unfold out0_8
  frame_out
  rw [eq_ix2 y]
  pointwise [k0_pay4, G8]
  simp only [blk0, blk1, blk2, blk3, blk4]
  try rfl

/-- The kernel leaves that of their imaginary parts. -/
theorem final8 (c : Dev nD) : (dats m 0 c).arrAt 8 (cfgs 0).N = G8 m c := by
  refine (dats m 0 c).arrAt_eq_of_covers 8 _ (by decide +kernel) fun t hf y => ?_
  blk_simp; rw [after0_8, emb8 t y]
  exact point8 m c t y

end Cert.Kernel25Ideal.Val

namespace Cert.Proof

open Idealize.ShloMosaic Idealize.SL.Sem Cert.Prod

/-- The reference ends with its arguments unchanged; it declares no semaphore. -/
theorem frame_reference25 [Cert.Reference25Ideal.Facts] : Cert.quiescent_Reference25Ideal := fun m ρ _ =>
  (θ_run Cert.Reference25Ideal.defs _ _).mono (fun r h => ⟨fun c => (h c).2.2.2.2, Idealize.ShloMosaic.sem_eq_zero_of_no_sems (by decide) r.2⟩)
    (Cert.Reference25Ideal.Value.run (F := Ideal) m ρ)

/-- Kernel and reference leave equal results. -/
theorem algebraic25 : Cert.algebraic_Kernel25Ideal_Reference25Ideal := by
  intro m ρ m' ρ' _ hag
  refine ⟨fun c => Cert.Kernel25Ideal.Val.G5 m c, fun c => Cert.Kernel25Ideal.Val.G6 m c, fun c => Cert.Kernel25Ideal.Val.G7 m c, fun c => Cert.Kernel25Ideal.Val.G8 m c, ?_, ?_⟩
  · exact (θ_run Cert.Kernel25Ideal.defs _ _).mono (fun r h c => ⟨(h c).1.trans (Cert.Kernel25Ideal.Val.final5 m c), (h c).2.1.trans (Cert.Kernel25Ideal.Val.final6 m c), (h c).2.2.1.trans (Cert.Kernel25Ideal.Val.final7 m c), (h c).2.2.2.1.trans (Cert.Kernel25Ideal.Val.final8 m c), (h c).2.2.2.2⟩)
      (Cert.Kernel25Ideal.Value.run_blocks (F := Ideal) m ρ)
  · refine (θ_run Cert.Reference25Ideal.defs _ _).mono (fun r h c => ⟨(h c).1.trans ?_, (h c).2.1.trans ?_, (h c).2.2.1.trans ?_, (h c).2.2.2.1.trans ?_, (h c).2.2.2.2⟩)
      (Cert.Reference25Ideal.Value.run (F := Ideal) m' ρ')
    all_goals
      obtain ⟨a0, a1, a2, a3, a4⟩ := hag c
      simp only [a0, a1, a2, a3, a4]
      funext y
      rw [eq_ix2 y]
      pointwise [Cert.Kernel25Ideal.Val.G5, Cert.Kernel25Ideal.Val.G6, Cert.Kernel25Ideal.Val.G7, Cert.Kernel25Ideal.Val.G8]
    · exact add_comm _ _
    · exact congrArg _ (mul_neg _ _)
    · exact (add_comm _ _).trans Finset.sum_add_distrib.symm
    · refine Finset.sum_add_distrib.symm.trans (Finset.sum_congr rfl fun x _ => congrArg _ (EReal.neg_mul _ _))

end Cert.Proof

end
-- ==== Proof.lean ====
/- The proof of the claims about the calls of the training step: for each call the frames of the kernel, of the kernel
   over the extended reals and of the reference, and the equation of the last two. -/
module

public import proofs.«01_k».proof.Proof.Gen.KernelIdeal.Value
public import proofs.«01_k».proof.Proof.Gen.ReferenceIdeal.Run
public import proofs.«01_k».proof.Proof.Gen.Kernel.Frame
public import proofs.«01_k».proof.Proof.Gen.KernelIdeal.Frame
public import proofs.«01_k».proof.Proof.OdActBwd
public import proofs.«01_k».proof.Proof.Gen.Kernel2.Frame
public import proofs.«01_k».proof.Proof.Gen.Kernel2Ideal.Value
public import proofs.«01_k».proof.Proof.Gen.Reference2Ideal.Run
public import proofs.«01_k».proof.Proof.DownInput
public import proofs.«01_k».proof.Proof.Gen.Kernel3.Frame
public import proofs.«01_k».proof.Proof.Gen.Kernel3Ideal.Value
public import proofs.«01_k».proof.Proof.Gen.Reference3Ideal.Run
public import proofs.«01_k».proof.Proof.DownWeight
public import proofs.«01_k».proof.Proof.Gen.Kernel4.Frame
public import proofs.«01_k».proof.Proof.Gen.Kernel4Ideal.Frame
public import proofs.«01_k».proof.Proof.Gen.Reference4Ideal.Run
public import proofs.«01_k».proof.Proof.UpWeight
public import proofs.«01_k».proof.Proof.Gen.Kernel5.Frame
public import proofs.«01_k».proof.Proof.Gen.Kernel5Ideal.Frame
public import proofs.«01_k».proof.Proof.Gen.Reference5Ideal.Run
public import proofs.«01_k».proof.Proof.InWeight
public import proofs.«01_k».proof.Proof.Gen.Kernel6.Frame
public import proofs.«01_k».proof.Proof.Gen.Kernel6Ideal.Value
public import proofs.«01_k».proof.Proof.Gen.Reference6Ideal.Run
public import proofs.«01_k».proof.Proof.NormUp
public import proofs.«01_k».proof.Proof.Gen.Kernel7.Frame
public import proofs.«01_k».proof.Proof.Gen.Kernel7Ideal.Value
public import proofs.«01_k».proof.Proof.Gen.Reference7Ideal.Run
public import proofs.«01_k».proof.Proof.NormIn
public import proofs.«01_k».proof.Proof.Gen.Kernel8.Frame
public import proofs.«01_k».proof.Proof.Gen.Kernel8Ideal.Value
public import proofs.«01_k».proof.Proof.Gen.Reference8Ideal.Run
public import proofs.«01_k».proof.Proof.OutInput
public import proofs.«01_k».proof.Proof.Gen.Kernel9.Frame
public import proofs.«01_k».proof.Proof.Gen.Kernel9Ideal.Value
public import proofs.«01_k».proof.Proof.Gen.Reference9Ideal.Run
public import proofs.«01_k».proof.Proof.OutWeight
public import proofs.«01_k».proof.Proof.Gen.Kernel10.Frame
public import proofs.«01_k».proof.Proof.Gen.Kernel10Ideal.Value
public import proofs.«01_k».proof.Proof.Gen.Reference10Ideal.Run
public import proofs.«01_k».proof.Proof.EvInWeight
public import proofs.«01_k».proof.Proof.Gen.Kernel11.Frame
public import proofs.«01_k».proof.Proof.Gen.Kernel11Ideal.Value
public import proofs.«01_k».proof.Proof.Gen.Reference11Ideal.Run
public import proofs.«01_k».proof.Proof.EvInBwd
public import proofs.«01_k».proof.Proof.Gen.Kernel12.Frame
public import proofs.«01_k».proof.Proof.Gen.Kernel12Ideal.Value
public import proofs.«01_k».proof.Proof.Gen.Reference12Ideal.Run
public import proofs.«01_k».proof.Proof.UpBwd
public import proofs.«01_k».proof.Proof.Gen.Kernel13.Frame
public import proofs.«01_k».proof.Proof.Gen.Kernel13Ideal.Frame
public import proofs.«01_k».proof.Proof.Gen.Reference13Ideal.Run
public import proofs.«01_k».proof.Proof.AdamEvIn
public import proofs.«01_k».proof.Proof.Gen.Kernel14.Frame
public import proofs.«01_k».proof.Proof.Gen.Kernel14Ideal.Frame
public import proofs.«01_k».proof.Proof.Gen.Reference14Ideal.Run
public import proofs.«01_k».proof.Proof.AdamOdIn
public import proofs.«01_k».proof.Proof.Gen.Kernel15.Frame
public import proofs.«01_k».proof.Proof.Gen.Kernel15Ideal.Frame
public import proofs.«01_k».proof.Proof.Gen.Reference15Ideal.Run
public import proofs.«01_k».proof.Proof.AdamOut
public import proofs.«01_k».proof.Proof.Gen.Kernel16.Frame
public import proofs.«01_k».proof.Proof.Gen.Kernel16Ideal.Frame
public import proofs.«01_k».proof.Proof.Gen.Reference16Ideal.Run
public import proofs.«01_k».proof.Proof.AdamUp
public import proofs.«01_k».proof.Proof.Gen.Kernel17.Frame
public import proofs.«01_k».proof.Proof.Gen.Kernel17Ideal.Frame
public import proofs.«01_k».proof.Proof.Gen.Reference17Ideal.Run
public import proofs.«01_k».proof.Proof.AdamDown
public import proofs.«01_k».proof.Proof.Gen.Kernel18.Frame
public import proofs.«01_k».proof.Proof.Gen.Kernel18Ideal.Value
public import proofs.«01_k».proof.Proof.Gen.Reference18Ideal.Run
public import proofs.«01_k».proof.Proof.MixOut
public import proofs.«01_k».proof.Proof.Gen.Kernel19.Frame
public import proofs.«01_k».proof.Proof.Gen.Kernel19Ideal.Value
public import proofs.«01_k».proof.Proof.Gen.Reference19Ideal.Run
public import proofs.«01_k».proof.Proof.DownLoss
public import proofs.«01_k».proof.Proof.Gen.Kernel21.Frame
public import proofs.«01_k».proof.Proof.Gen.Kernel21Ideal.Value
public import proofs.«01_k».proof.Proof.Gen.Reference21Ideal.Run
public import proofs.«01_k».proof.Proof.SsmIn
public import proofs.«01_k».proof.Proof.Gen.Kernel22.Frame
public import proofs.«01_k».proof.Proof.Gen.Kernel22Ideal.Value
public import proofs.«01_k».proof.Proof.Gen.Reference22Ideal.Run
public import proofs.«01_k».proof.Proof.SsmOut
public import proofs.«01_k».proof.Proof.Gen.Kernel23.Frame
public import proofs.«01_k».proof.Proof.Gen.Kernel23Ideal.Value
public import proofs.«01_k».proof.Proof.Gen.Reference23Ideal.Run
public import proofs.«01_k».proof.Proof.SsmPrep
public import proofs.«01_k».proof.Proof.Gen.Kernel24.Frame
public import proofs.«01_k».proof.Proof.Gen.Kernel24Ideal.Value
public import proofs.«01_k».proof.Proof.Gen.Reference24Ideal.Run
public import proofs.«01_k».proof.Proof.SsmMatrix
public import proofs.«01_k».proof.Proof.Gen.Kernel25.Frame
public import proofs.«01_k».proof.Proof.Gen.Kernel25Ideal.Value
public import proofs.«01_k».proof.Proof.Gen.Reference25Ideal.Run
public import proofs.«01_k».proof.Proof.SsmMatrixBwd
public import proofs.«01_k».proof.Defs
public import Idealize.ShloMosaic.Adequacy
public import Idealize.ShloMosaic.Init

@[expose] public section

noncomputable section

namespace Cert.Proof

open Idealize.ShloMosaic Idealize.SL.Sem

/-- Every claim of the certificate: the programs' facts, then their frames, then each call's two equations. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  frame_kernel13, frame_kernel13Ideal, frame_reference13,
  frame_kernel14, frame_kernel14Ideal, frame_reference14,
  frame_kernel15, frame_kernel15Ideal, frame_reference15,
  frame_kernel16, frame_kernel16Ideal, frame_reference16,
  frame_kernel17, frame_kernel17Ideal, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  fun m ρ _ => Cert.Kernel21.Gen.frame m ρ, fun m ρ _ => Cert.Kernel21Ideal.Gen.frame m ρ, frame_reference21,
  fun m ρ _ => Cert.Kernel22.Gen.frame m ρ, fun m ρ _ => Cert.Kernel22Ideal.Gen.frame m ρ, frame_reference22,
  fun m ρ _ => Cert.Kernel23.Gen.frame m ρ, fun m ρ _ => Cert.Kernel23Ideal.Gen.frame m ρ, frame_reference23,
  fun m ρ _ => Cert.Kernel24.Gen.frame m ρ, fun m ρ _ => Cert.Kernel24Ideal.Gen.frame m ρ, frame_reference24,
  fun m ρ _ => Cert.Kernel25.Gen.frame m ρ, fun m ρ _ => Cert.Kernel25Ideal.Gen.frame m ρ, frame_reference25,
  trivial, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16, trivial, algebraic17, trivial, algebraic18, trivial, algebraic19, trivial, algebraic21, trivial, algebraic22, trivial, algebraic23, trivial, algebraic24, trivial, algebraic25⟩

end Cert.Proof

end
